-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "dead" .f32 0xC3160A50#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)) (v4 : (c : Dev Cert.Kernel4Ideal.nD) → Buf (Elt Ideal) ((c.tc : Thread Cert.Kernel4Ideal.nD Cert.Kernel4Ideal.τ).loc Cert.Kernel4Ideal.main_v3_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_v3_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_v32) = v3 c
          ∧ r.2.mem ((c.tc : Thread Cert.Reference4Ideal.nD Cert.Reference4Ideal.τ).loc Cert.Reference4Ideal.main_v33) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)) (v4 : (c : Dev Cert.Kernel5Ideal.nD) → Buf (Elt Ideal) ((c.tc : Thread Cert.Kernel5Ideal.nD Cert.Kernel5Ideal.τ).loc Cert.Kernel5Ideal.main_v3_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_v3_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v34) = v2 c
          ∧ r.2.mem ((c.tc : Thread Cert.Reference5Ideal.nD Cert.Reference5Ideal.τ).loc Cert.Reference5Ideal.main_v35) = v3 c
          ∧ r.2.mem ((c.tc : Thread Cert.Reference5Ideal.nD Cert.Reference5Ideal.τ).loc Cert.Reference5Ideal.main_v37) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v31) = v2 c
          ∧ r.2.mem ((c.tc : Thread Cert.Reference6Ideal.nD Cert.Reference6Ideal.τ).loc Cert.Reference6Ideal.main_v32) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_qk.lean ====
abbrev S2x16384x1024 : Shape := ⟨3, ![2, 16384, 1024]⟩
abbrev S_ : Shape := ⟨0, ![]⟩

class Facts : Prop where
  bitsLt_bf16_f32 : FTy.bits .bf16 < FTy.bits .f32
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel

variable [Facts]

def fn {F : FTy → Type} [FloatOps F] (main_arg0 : FVec F S2x16384x1024 .bf16) (main_arg1 : FVec F S2x16384x1024 .bf16) (main_arg2 : FVec F S2x16384x1024 .bf16) : IVec S_ 1 :=
  let main_v0 : FVec F S2x16384x1024 .f32 := (extf .f32 · bitsLt_bf16_f32) main_arg0
  let main_v1 : FVec F S2x16384x1024 .f32 := Host.absf main_v0
  let main_cst : FVec F S_ .f32 := constant S_ .f32 0x7F800000#32
  let main_v2 : FVec F S2x16384x1024 .f32 := broadcastInDim S2x16384x1024 ![] bcast_S_S2x16384x1024 main_cst
  let main_v3 : IVec S2x16384x1024 1 := cmpf .olt main_v1 main_v2
  let main_c : IVec S_ 1 := constantI S_ 1 1#1
  let main_v4 : IVec S_ 1 := (fun x v => Host.reduce IntOp.andi x v reducesTo_S2x16384x1024_S_d0_1_2 h_S_) main_v3 main_c
  let main_v5 : FVec F S2x16384x1024 .f32 := (extf .f32 · bitsLt_bf16_f32) main_arg1
  let main_v6 : FVec F S2x16384x1024 .f32 := Host.absf main_v5
  let main_cst_0 : FVec F S_ .f32 := constant S_ .f32 0x7F800000#32
  let main_v7 : FVec F S2x16384x1024 .f32 := broadcastInDim S2x16384x1024 ![] bcast_S_S2x16384x1024 main_cst_0
  let main_v8 : IVec S2x16384x1024 1 := cmpf .olt main_v6 main_v7
  let main_c_1 : IVec S_ 1 := constantI S_ 1 1#1
  let main_v9 : IVec S_ 1 := (fun x v => Host.reduce IntOp.andi x v reducesTo_S2x16384x1024_S_d0_1_2 h_S_) main_v8 main_c_1
  let main_v10 : IVec S_ 1 := andi main_v4 main_v9
  main_v10
-- ==== Kernel.lean ====
abbrev S2x16384x1024 : Shape := ⟨3, ![2, 16384, 1024]⟩
abbrev S256x256 : Shape := ⟨2, ![256, 256]⟩
abbrev S1x256x512 : Shape := ⟨3, ![1, 256, 512]⟩
abbrev S1x16384x512 : Shape := ⟨3, ![1, 16384, 512]⟩
abbrev S256x1 : Shape := ⟨2, ![256, 1]⟩
abbrev S256x128 : Shape := ⟨2, ![256, 128]⟩
abbrev S1x256 : Shape := ⟨2, ![1, 256]⟩
abbrev S1x256x128 : Shape := ⟨3, ![1, 256, 128]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 9
  | .vmem => 7
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x1024, .bf16⟩
  | .hbm, ⟨3, _⟩ => ⟨S256x256, .i32⟩
  | .hbm, ⟨4, _⟩ => ⟨S256x256, .i32⟩
  | .hbm, ⟨5, _⟩ => ⟨S256x256, .i1⟩
  | .hbm, ⟨6, _⟩ => ⟨S256x256, .f32⟩
  | .hbm, ⟨7, _⟩ => ⟨S256x256, .bf16⟩
  | .hbm, ⟨8, _⟩ => ⟨S2x16384x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x16384x512, .bf16⟩
  | .local _ .vmem, ⟨3, _⟩ => ⟨S1x16384x512, .bf16⟩
  | .local _ .vmem, ⟨4, _⟩ => ⟨S256x256, .bf16⟩
  | .local _ .vmem, ⟨5, _⟩ => ⟨S1x256x512, .bf16⟩
  | .local _ .vmem, ⟨6, _⟩ => ⟨S1x256x512, .bf16⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨3, ![2, 2, 64], ![false, false, false]⟩

def k0_mult1 (arg8 : BitVec 32) : BitVec 32 :=
  let c256_i32_18 : BitVec 32 := 256#32
  let v45 : BitVec 32 := Scalar.muli arg8 c256_i32_18
  v45

def k0_off1 (arg8 : BitVec 32) : Fin 3 → Nat :=
  let c0_23 : Index := 0#32
  let c256_i32_18 : BitVec 32 := 256#32
  let v45 : BitVec 32 := Scalar.muli arg8 c256_i32_18
  let v46 : BitVec 32 := v45
  let v56 : Index := Scalar.indexCast v46
  let c0_24 : Index := 0#32
  ![0, v56.toNat, 0]
def k0_off2 (arg8 : BitVec 32) : Fin 3 → Nat :=
  let c0_44 : Index := 0#32
  let c256_i32_18 : BitVec 32 := 256#32
  let v45 : BitVec 32 := Scalar.muli arg8 c256_i32_18
  let v46 : BitVec 32 := v45
  let v105 : Index := Scalar.indexCast v46
  let c128_45 : Index := 128#32
  ![0, v105.toNat, 128]
def k0_off3 (arg8 : BitVec 32) : Fin 3 → Nat :=
  let c0_65 : Index := 0#32
  let c256_i32_18 : BitVec 32 := 256#32
  let v45 : BitVec 32 := Scalar.muli arg8 c256_i32_18
  let v46 : BitVec 32 := v45
  let v154 : Index := Scalar.indexCast v46
  let c256_66 : Index := 256#32
  ![0, v154.toNat, 256]
def k0_off4 (arg8 : BitVec 32) : Fin 3 → Nat :=
  let c0_86 : Index := 0#32
  let c256_i32_18 : BitVec 32 := 256#32
  let v45 : BitVec 32 := Scalar.muli arg8 c256_i32_18
  let v46 : BitVec 32 := v45
  let v203 : Index := Scalar.indexCast v46
  let c384_87 : Index := 384#32
  ![0, v203.toNat, 384]

def k0_chk1 (arg8 : BitVec 32) : Prop :=
  (256 ∣ (k0_mult1 arg8).toNat) ∧
  (∀ a, (k0_off1 arg8) a + S1x256x128.size a ≤ S1x16384x512.size a) ∧
  (∀ a, (k0_off2 arg8) a + S1x256x128.size a ≤ S1x16384x512.size a) ∧
  (∀ a, (k0_off3 arg8) a + S1x256x128.size a ≤ S1x16384x512.size a) ∧
  (∀ a, (k0_off4 arg8) a + S1x256x128.size a ≤ S1x16384x512.size a)
theorem k0_mult1_dvd : ∀ (arg8 : BitVec 32) (k0_hw1 : k0_chk1 arg8), 256 ∣ (k0_mult1 arg8).toNat := fun arg8 k0_hw1 => k0_hw1.1
theorem k0_off1_inb : ∀ (arg8 : BitVec 32) (k0_hw1 : k0_chk1 arg8), ∀ a, (k0_off1 arg8) a + S1x256x128.size a ≤ S1x16384x512.size a := fun arg8 k0_hw1 => k0_hw1.2.1
theorem k0_off2_inb : ∀ (arg8 : BitVec 32) (k0_hw1 : k0_chk1 arg8), ∀ a, (k0_off2 arg8) a + S1x256x128.size a ≤ S1x16384x512.size a := fun arg8 k0_hw1 => k0_hw1.2.2.1
theorem k0_off3_inb : ∀ (arg8 : BitVec 32) (k0_hw1 : k0_chk1 arg8), ∀ a, (k0_off3 arg8) a + S1x256x128.size a ≤ S1x16384x512.size a := fun arg8 k0_hw1 => k0_hw1.2.2.2.1
theorem k0_off4_inb : ∀ (arg8 : BitVec 32) (k0_hw1 : k0_chk1 arg8), ∀ a, (k0_off4 arg8) a + S1x256x128.size a ≤ S1x16384x512.size a := fun arg8 k0_hw1 => k0_hw1.2.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x16384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x16384x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "dead" => some ⊥
  | "log2e" => some (((Real.log 2)⁻¹ : ℝ) : EReal)
  | "scale_log2e" => some (((Real.sqrt 128)⁻¹ * (Real.log 2)⁻¹ : ℝ) : EReal)
  | _ => none
-- ==== ReferenceIdeal.lean ====
abbrev S2x16384x1024 : Shape := ⟨3, ![2, 16384, 1024]⟩
abbrev S2x16384x8x128 : Shape := ⟨4, ![2, 16384, 8, 128]⟩
abbrev S16384 : Shape := ⟨1, ![16384]⟩
abbrev S2x8x16384x16384 : Shape := ⟨4, ![2, 8, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S2x8x128x16384 : Shape := ⟨4, ![2, 8, 128, 16384]⟩

abbrev nBuf : Space → Nat
  | .hbm => 73
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x1024, .bf16⟩
  | .hbm, ⟨3, _⟩ => ⟨S2x16384x1024, .f32⟩
  | .hbm, ⟨4, _⟩ => ⟨S2x16384x8x128, .f32⟩
  | .hbm, ⟨5, _⟩ => ⟨S2x16384x1024, .f32⟩
  | .hbm, ⟨6, _⟩ => ⟨S2x16384x8x128, .f32⟩
  | .hbm, ⟨7, _⟩ => ⟨S2x16384x1024, .f32⟩
  | .hbm, ⟨8, _⟩ => ⟨S2x16384x8x128, .f32⟩
  | .hbm, ⟨9, _⟩ => ⟨S16384, .i32⟩
  | .hbm, ⟨10, _⟩ => ⟨S2x8x16384x16384, .f32⟩
  | .hbm, ⟨11, _⟩ => ⟨S_, .f32⟩
  | .hbm, ⟨12, _⟩ => ⟨S_, .f32⟩
  | .hbm, ⟨13, _⟩ => ⟨S2x8x16384x16384, .f32⟩
  | .hbm, ⟨14, _⟩ => ⟨S2x8x16384x16384, .f32⟩
  | .hbm, ⟨15, _⟩ => ⟨S1x16384, .i32⟩
  | .hbm, ⟨16, _⟩ => ⟨S16384x1, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S2x8x16384x16384, .f32⟩
  | .hbm, ⟨21, _⟩ => ⟨S2x8x16384x16384, .f32⟩
  | .hbm, ⟨22, _⟩ => ⟨S_, .f32⟩
  | .hbm, ⟨23, _⟩ => ⟨S2x8x16384x16384, .f32⟩
  | .hbm, ⟨24, _⟩ => ⟨S2x8x16384x16384, .f32⟩
  | .hbm, ⟨25, _⟩ => ⟨S2x8x16384x16384, .f32⟩
  | .hbm, ⟨26, _⟩ => ⟨S2x8x16384x16384, .f32⟩
  | .hbm, ⟨27, _⟩ => ⟨S2x8x16384x16384, .i1⟩
  | .hbm, ⟨28, _⟩ => ⟨S2x8x16384x16384, .f32⟩
  | .hbm, ⟨29, _⟩ => ⟨S2x8x16384x16384, .f32⟩
  | .hbm, ⟨30, _⟩ => ⟨S2x8x16384x16384, .f32⟩
  | .hbm, ⟨31, _⟩ => ⟨S2x8x16384x16384, .f32⟩
  | .hbm, ⟨32, _⟩ => ⟨S2x8x16384x16384, .f32⟩
  | .hbm, ⟨33, _⟩ => ⟨S2x8x16384x16384, .f32⟩
  | .hbm, ⟨34, _⟩ => ⟨S2x8x16384x16384, .f32⟩
  | .hbm, ⟨35, _⟩ => ⟨S2x8x16384x16384, .f32⟩
  | .hbm, ⟨36, _⟩ => ⟨S2x8x16384x16384, .f32⟩
  | .hbm, ⟨37, _⟩ => ⟨S_, .f32⟩
  | .hbm, ⟨38, _⟩ => ⟨S_, .f32⟩
  | .hbm, ⟨39, _⟩ => ⟨S2x8x16384x16384, .i1⟩
  | .hbm, ⟨40, _⟩ => ⟨S2x8x16384x16384, .f32⟩
  | .hbm, ⟨41, _⟩ => ⟨S2x8x16384x16384, .f32⟩
  | .hbm, ⟨42, _⟩ => ⟨S_, .f32⟩
  | .hbm, ⟨43, _⟩ => ⟨S_, .f32⟩
  | .hbm, ⟨44, _⟩ => ⟨S2x8x16384x16384, .f32⟩
  | .hbm, ⟨45, _⟩ => ⟨S2x8x16384x16384, .f32⟩
  | .hbm, ⟨46, _⟩ => ⟨S2x8x16384x16384, .f32⟩
  | .hbm, ⟨47, _⟩ => ⟨S_, .f32⟩
  | .hbm, ⟨48, _⟩ => ⟨S2x8x16384x16384, .f32⟩
  | .hbm, ⟨49, _⟩ => ⟨S2x8x16384x16384, .f32⟩
  | .hbm, ⟨50, _⟩ => ⟨S2x8x16384x16384, .f32⟩
  | .hbm, ⟨51, _⟩ => ⟨S2x8x16384x16384, .f32⟩
  | .hbm, ⟨52, _⟩ => ⟨S2x8x16384x16384, .i1⟩
  | .hbm, ⟨53, _⟩ => ⟨S2x8x16384x16384, .f32⟩
  | .hbm, ⟨54, _⟩ => ⟨S2x8x16384x16384, .f32⟩
  | .hbm, ⟨55, _⟩ => ⟨S2x8x16384x16384, .f32⟩
  | .hbm, ⟨56, _⟩ => ⟨S2x8x16384x16384, .f32⟩
  | .hbm, ⟨57, _⟩ => ⟨S2x8x16384x16384, .f32⟩
  | .hbm, ⟨58, _⟩ => ⟨S2x8x16384x16384, .f32⟩
  | .hbm, ⟨59, _⟩ => ⟨S2x8x16384x16384, .f32⟩
  | .hbm, ⟨60, _⟩ => ⟨S2x8x16384x16384, .f32⟩
  | .hbm, ⟨61, _⟩ => ⟨S2x8x16384x16384, .f32⟩
  | .hbm, ⟨62, _⟩ => ⟨S2x8x16384x16384, .f32⟩
  | .hbm, ⟨63, _⟩ => ⟨S2x8x16384x16384, .f32⟩
  | .hbm, ⟨64, _⟩ => ⟨S_, .f32⟩
  | .hbm, ⟨65, _⟩ => ⟨S_, .f32⟩
  | .hbm, ⟨66, _⟩ => ⟨S2x8x16384x16384, .i1⟩
  | .hbm, ⟨67, _⟩ => ⟨S2x8x16384x16384, .f32⟩
  | .hbm, ⟨68, _⟩ => ⟨S2x8x16384x16384, .f32⟩
  | .hbm, ⟨69, _⟩ => ⟨S2x8x128x16384, .f32⟩
  | .hbm, ⟨70, _⟩ => ⟨S2x16384x8x128, .f32⟩
  | .hbm, ⟨71, _⟩ => ⟨S2x16384x1024, .f32⟩
  | .hbm, ⟨72, _⟩ => ⟨S2x16384x1024, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x16384x2048 : Shape := ⟨3, ![2, 16384, 2048]⟩
abbrev S2x1x2048 : Shape := ⟨3, ![2, 1, 2048]⟩
abbrev S2048 : Shape := ⟨1, ![2048]⟩
abbrev S2048x4096 : Shape := ⟨2, ![2048, 4096]⟩
abbrev S1024x2048 : Shape := ⟨2, ![1024, 2048]⟩
abbrev S2048x2048 : Shape := ⟨2, ![2048, 2048]⟩
abbrev S1x2048 : Shape := ⟨2, ![1, 2048]⟩
abbrev S1x256x1024 : Shape := ⟨3, ![1, 256, 1024]⟩
abbrev S1x256x2048 : Shape := ⟨3, ![1, 256, 2048]⟩
abbrev S1x1x2048 : Shape := ⟨3, ![1, 1, 2048]⟩
abbrev S256x2048 : Shape := ⟨2, ![256, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S256x4096 : Shape := ⟨2, ![256, 4096]⟩
abbrev S256x1024 : Shape := ⟨2, ![256, 1024]⟩
abbrev S16x4096 : Shape := ⟨2, ![16, 4096]⟩

abbrev nBuf : Space → Nat
  | .hbm => 17
  | .vmem => 21
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x2048, .f32⟩
  | .hbm, ⟨3, _⟩ => ⟨S2x1x2048, .f32⟩
  | .hbm, ⟨4, _⟩ => ⟨S2x1x2048, .f32⟩
  | .hbm, ⟨5, _⟩ => ⟨S2x1x2048, .f32⟩
  | .hbm, ⟨6, _⟩ => ⟨S2048, .f32⟩
  | .hbm, ⟨7, _⟩ => ⟨S2048x4096, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S1x2048, .f32⟩
  | .hbm, ⟨12, _⟩ => ⟨S2048x4096, .bf16⟩
  | .hbm, ⟨13, _⟩ => ⟨S1024x2048, .bf16⟩
  | .hbm, ⟨14, _⟩ => ⟨S1024x2048, .bf16⟩
  | .hbm, ⟨15, _⟩ => ⟨S2048x2048, .bf16⟩
  | .hbm, ⟨16, _⟩ => ⟨S2x16384x2048, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x2048, .f32⟩
  | .local _ .vmem, ⟨5, _⟩ => ⟨S1x256x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S2048x4096, .bf16⟩
  | .local _ .vmem, ⟨14, _⟩ => ⟨S1024x2048, .bf16⟩
  | .local _ .vmem, ⟨15, _⟩ => ⟨S1024x2048, .bf16⟩
  | .local _ .vmem, ⟨16, _⟩ => ⟨S2048x2048, .bf16⟩
  | .local _ .vmem, ⟨17, _⟩ => ⟨S1x256x2048, .f32⟩
  | .local _ .vmem, ⟨18, _⟩ => ⟨S1x256x2048, .f32⟩
  | .local _ .vmem, ⟨19, _⟩ => ⟨S256x2048, .bf16⟩
  | .local _ .vmem, ⟨20, _⟩ => ⟨S256x2048, .bf16⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S2x16384x1024 : Shape := ⟨3, ![2, 16384, 1024]⟩
abbrev S2x16384x2048 : Shape := ⟨3, ![2, 16384, 2048]⟩
abbrev S2x1x2048 : Shape := ⟨3, ![2, 1, 2048]⟩
abbrev S2048 : Shape := ⟨1, ![2048]⟩
abbrev S2048x4096 : Shape := ⟨2, ![2048, 4096]⟩
abbrev S1024x2048 : Shape := ⟨2, ![1024, 2048]⟩
abbrev S2048x2048 : Shape := ⟨2, ![2048, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x4096 : Shape := ⟨3, ![2, 16384, 4096]⟩

abbrev nBuf : Space → Nat
  | .hbm => 56
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x2048, .f32⟩
  | .hbm, ⟨3, _⟩ => ⟨S2x1x2048, .f32⟩
  | .hbm, ⟨4, _⟩ => ⟨S2x1x2048, .f32⟩
  | .hbm, ⟨5, _⟩ => ⟨S2x1x2048, .f32⟩
  | .hbm, ⟨6, _⟩ => ⟨S2048, .f32⟩
  | .hbm, ⟨7, _⟩ => ⟨S2048x4096, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S2x16384x2048, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S2x16384x1, .f32⟩
  | .hbm, ⟨22, _⟩ => ⟨S2x16384x2048, .f32⟩
  | .hbm, ⟨23, _⟩ => ⟨S2x16384x2048, .f32⟩
  | .hbm, ⟨24, _⟩ => ⟨S1x1x2048, .f32⟩
  | .hbm, ⟨25, _⟩ => ⟨S2x16384x2048, .f32⟩
  | .hbm, ⟨26, _⟩ => ⟨S2x16384x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x16384x2048, .f32⟩
  | .hbm, ⟨31, _⟩ => ⟨S2x16384x2048, .f32⟩
  | .hbm, ⟨32, _⟩ => ⟨S2x16384x2048, .f32⟩
  | .hbm, ⟨33, _⟩ => ⟨S2x16384x2048, .f32⟩
  | .hbm, ⟨34, _⟩ => ⟨S2x16384x4096, .f32⟩
  | .hbm, ⟨35, _⟩ => ⟨S2x16384x4096, .f32⟩
  | .hbm, ⟨36, _⟩ => ⟨S2x16384x4096, .f32⟩
  | .hbm, ⟨37, _⟩ => ⟨S_, .f32⟩
  | .hbm, ⟨38, _⟩ => ⟨S2x16384x4096, .f32⟩
  | .hbm, ⟨39, _⟩ => ⟨S2x16384x4096, .f32⟩
  | .hbm, ⟨40, _⟩ => ⟨S_, .f32⟩
  | .hbm, ⟨41, _⟩ => ⟨S2x16384x4096, .f32⟩
  | .hbm, ⟨42, _⟩ => ⟨S2x16384x4096, .f32⟩
  | .hbm, ⟨43, _⟩ => ⟨S2x16384x2048, .f32⟩
  | .hbm, ⟨44, _⟩ => ⟨S2x16384x2048, .f32⟩
  | .hbm, ⟨45, _⟩ => ⟨S2x16384x1024, .f32⟩
  | .hbm, ⟨46, _⟩ => ⟨S2x16384x2048, .f32⟩
  | .hbm, ⟨47, _⟩ => ⟨S2x16384x2048, .f32⟩
  | .hbm, ⟨48, _⟩ => ⟨S2x16384x1024, .f32⟩
  | .hbm, ⟨49, _⟩ => ⟨S2x16384x2048, .f32⟩
  | .hbm, ⟨50, _⟩ => ⟨S2x16384x2048, .f32⟩
  | .hbm, ⟨51, _⟩ => ⟨S2x16384x2048, .f32⟩
  | .hbm, ⟨52, _⟩ => ⟨S2x16384x2048, .f32⟩
  | .hbm, ⟨53, _⟩ => ⟨S2x16384x2048, .f32⟩
  | .hbm, ⟨54, _⟩ => ⟨S2x16384x2048, .f32⟩
  | .hbm, ⟨55, _⟩ => ⟨S2x16384x2048, .f32⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Kernel3.lean ====
abbrev S2x16384x2048 : Shape := ⟨3, ![2, 16384, 2048]⟩
abbrev S2x1x2048 : Shape := ⟨3, ![2, 1, 2048]⟩
abbrev S2048 : Shape := ⟨1, ![2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S_ : Shape := ⟨0, ![]⟩
abbrev S2x2x5632 : Shape := ⟨3, ![2, 2, 5632]⟩
abbrev S1x2048 : Shape := ⟨2, ![1, 2048]⟩
abbrev S1x5632 : Shape := ⟨2, ![1, 5632]⟩
abbrev S2x11x2x512 : Shape := ⟨4, ![2, 11, 2, 512]⟩
abbrev S1x512x2048 : Shape := ⟨3, ![1, 512, 2048]⟩
abbrev S1x1x2048 : Shape := ⟨3, ![1, 1, 2048]⟩
abbrev S1x2x512 : Shape := ⟨3, ![1, 2, 512]⟩
abbrev S2048x512 : Shape := ⟨2, ![2048, 512]⟩
abbrev S3x512 : Shape := ⟨2, ![3, 512]⟩
abbrev S1x512 : Shape := ⟨2, ![1, 512]⟩
abbrev S512x2048 : Shape := ⟨2, ![512, 2048]⟩
abbrev S1x11x2x512 : Shape := ⟨4, ![1, 11, 2, 512]⟩
abbrev S1x520x512 : Shape := ⟨3, ![1, 520, 512]⟩
abbrev S11x1x2x512 : Shape := ⟨4, ![11, 1, 2, 512]⟩
abbrev S1x512x512 : Shape := ⟨3, ![1, 512, 512]⟩
abbrev S512x512 : Shape := ⟨2, ![512, 512]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S1x1x2x512 : Shape := ⟨4, ![1, 1, 2, 512]⟩
abbrev S1x32x512 : Shape := ⟨3, ![1, 32, 512]⟩
abbrev S32x512 : Shape := ⟨2, ![32, 512]⟩

abbrev nBuf : Space → Nat
  | .hbm => 19
  | .vmem => 32
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2x1x2048, .f32⟩
  | .hbm, ⟨4, _⟩ => ⟨S2048, .f32⟩
  | .hbm, ⟨5, _⟩ => ⟨S2048x11264, .f32⟩
  | .hbm, ⟨6, _⟩ => ⟨S3x5632, .f32⟩
  | .hbm, ⟨7, _⟩ => ⟨S5632, .f32⟩
  | .hbm, ⟨8, _⟩ => ⟨S5632x2048, .f32⟩
  | .hbm, ⟨9, _⟩ => ⟨S2048, .f32⟩
  | .hbm, ⟨10, _⟩ => ⟨S_, .f32⟩
  | .hbm, ⟨11, _⟩ => ⟨S2x2x5632, .f32⟩
  | .hbm, ⟨12, _⟩ => ⟨S1x2048, .f32⟩
  | .hbm, ⟨13, _⟩ => ⟨S1x2048, .f32⟩
  | .hbm, ⟨14, _⟩ => ⟨S2048x11264, .bf16⟩
  | .hbm, ⟨15, _⟩ => ⟨S1x5632, .f32⟩
  | .hbm, ⟨16, _⟩ => ⟨S5632x2048, .bf16⟩
  | .hbm, ⟨17, _⟩ => ⟨S2x16384x2048, .f32⟩
  | .hbm, ⟨18, _⟩ => ⟨S2x11x2x512, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2048, .f32⟩
  | .local _ .vmem, ⟨10, _⟩ => ⟨S1x2x512, .f32⟩
  | .local _ .vmem, ⟨11, _⟩ => ⟨S1x2x512, .f32⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S3x512, .f32⟩
  | .local _ .vmem, ⟨17, _⟩ => ⟨S3x512, .f32⟩
  | .local _ .vmem, ⟨18, _⟩ => ⟨S1x512, .f32⟩
  | .local _ .vmem, ⟨19, _⟩ => ⟨S1x512, .f32⟩
  | .local _ .vmem, ⟨20, _⟩ => ⟨S512x2048, .bf16⟩
  | .local _ .vmem, ⟨21, _⟩ => ⟨S512x2048, .bf16⟩
  | .local _ .vmem, ⟨22, _⟩ => ⟨S1x512x2048, .f32⟩
  | .local _ .vmem, ⟨23, _⟩ => ⟨S1x512x2048, .f32⟩
  | .local _ .vmem, ⟨24, _⟩ => ⟨S1x11x2x512, .f32⟩
  | .local _ .vmem, ⟨25, _⟩ => ⟨S1x11x2x512, .f32⟩
  | .local _ .vmem, ⟨26, _⟩ => ⟨S512x2048, .bf16⟩
  | .local _ .vmem, ⟨27, _⟩ => ⟨S512x2048, .f32⟩
  | .local _ .vmem, ⟨28, _⟩ => ⟨S1x520x512, .f32⟩
  | .local _ .vmem, ⟨29, _⟩ => ⟨S11x1x2x512, .f32⟩
  | .local _ .vmem, ⟨30, _⟩ => ⟨S1x512x512, .f32⟩
  | .local _ .vmem, ⟨31, _⟩ => ⟨S512x512, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨3, ![2, 32, 11], ![false, false, false]⟩

def k0_cond3 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def k0_off1 (i : grid0.Coords) : Fin 4 → Nat :=
  let arg2 : BitVec 32 := BitVec.ofNat 32 (i 2).val
  let v496 : Index := Scalar.indexCast arg2
  let c0_200 : Index := 0#32
  let c0_201 : Index := 0#32
  let c0_202 : Index := 0#32
  ![v496.toNat, 0, 0, 0]
def k0_off2 (i : grid0.Coords) : Fin 4 → Nat :=
  let arg2 : BitVec 32 := BitVec.ofNat 32 (i 2).val
  let v25 : Index := Scalar.indexCast arg2
  let c0_18 : Index := 0#32
  let c0_19 : Index := 0#32
  let c0_20 : Index := 0#32
  ![v25.toNat, 0, 0, 0]
def k0_off3 (i : grid0.Coords) : Fin 4 → Nat :=
  let c0_21 : Index := 0#32
  let arg2 : BitVec 32 := BitVec.ofNat 32 (i 2).val
  let v29 : Index := Scalar.indexCast arg2
  let c0_22 : Index := 0#32
  let c0_23 : Index := 0#32
  ![0, v29.toNat, 0, 0]
def k0_cond4 (i : grid0.Coords) : BitVec 1 :=
  let arg2 : BitVec 32 := BitVec.ofNat 32 (i 2).val
  let c10_i32 : BitVec 32 := 10#32
  let v493 : BitVec 1 := Scalar.cmpi .eq arg2 c10_i32
  let v494 : BitVec 32 := Scalar.extui v493
  let c0_i32_199 : BitVec 32 := 0#32
  let v495 : BitVec 1 := Scalar.cmpi .ne v494 c0_i32_199
  v495

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x11x2x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]
-- ==== Reference3Ideal.lean ====
abbrev S2x16384x2048 : Shape := ⟨3, ![2, 16384, 2048]⟩
abbrev S2x1x2048 : Shape := ⟨3, ![2, 1, 2048]⟩
abbrev S2048 : Shape := ⟨1, ![2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S_ : Shape := ⟨0, ![]⟩
abbrev S2x2x5632 : Shape := ⟨3, ![2, 2, 5632]⟩
abbrev S2x16384 : Shape := ⟨2, ![2, 16384]⟩
abbrev S2x16384x1 : Shape := ⟨3, ![2, 16384, 1]⟩
abbrev S1x1x2048 : Shape := ⟨3, ![1, 1, 2048]⟩
abbrev S2x16384x11264 : Shape := ⟨3, ![2, 16384, 11264]⟩
abbrev S2x16384x5632 : Shape := ⟨3, ![2, 16384, 5632]⟩
abbrev S2x16386x5632 : Shape := ⟨3, ![2, 16386, 5632]⟩
abbrev S1x5632 : Shape := ⟨2, ![1, 5632]⟩
abbrev S1x1x5632 : Shape := ⟨3, ![1, 1, 5632]⟩
abbrev S2x2x11x512 : Shape := ⟨4, ![2, 2, 11, 512]⟩
abbrev S2x11x2x512 : Shape := ⟨4, ![2, 11, 2, 512]⟩

abbrev nBuf : Space → Nat
  | .hbm => 95
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2x1x2048, .f32⟩
  | .hbm, ⟨4, _⟩ => ⟨S2048, .f32⟩
  | .hbm, ⟨5, _⟩ => ⟨S2048x11264, .f32⟩
  | .hbm, ⟨6, _⟩ => ⟨S3x5632, .f32⟩
  | .hbm, ⟨7, _⟩ => ⟨S5632, .f32⟩
  | .hbm, ⟨8, _⟩ => ⟨S5632x2048, .f32⟩
  | .hbm, ⟨9, _⟩ => ⟨S2048, .f32⟩
  | .hbm, ⟨10, _⟩ => ⟨S_, .f32⟩
  | .hbm, ⟨11, _⟩ => ⟨S2x2x5632, .f32⟩
  | .hbm, ⟨12, _⟩ => ⟨S2x16384x2048, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x2048, .f32⟩
  | .hbm, ⟨24, _⟩ => ⟨S2x16384x2048, .f32⟩
  | .hbm, ⟨25, _⟩ => ⟨S1x1x2048, .f32⟩
  | .hbm, ⟨26, _⟩ => ⟨S2x16384x2048, .f32⟩
  | .hbm, ⟨27, _⟩ => ⟨S2x16384x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x16384x2048, .f32⟩
  | .hbm, ⟨32, _⟩ => ⟨S2x16384x2048, .f32⟩
  | .hbm, ⟨33, _⟩ => ⟨S2x16384x2048, .f32⟩
  | .hbm, ⟨34, _⟩ => ⟨S2x16384x2048, .f32⟩
  | .hbm, ⟨35, _⟩ => ⟨S2x16384x11264, .f32⟩
  | .hbm, ⟨36, _⟩ => ⟨S2x16384x5632, .f32⟩
  | .hbm, ⟨37, _⟩ => ⟨S2x16384x5632, .f32⟩
  | .hbm, ⟨38, _⟩ => ⟨S2x16386x5632, .f32⟩
  | .hbm, ⟨39, _⟩ => ⟨S1x5632, .f32⟩
  | .hbm, ⟨40, _⟩ => ⟨S5632, .f32⟩
  | .hbm, ⟨41, _⟩ => ⟨S2x16384x5632, .f32⟩
  | .hbm, ⟨42, _⟩ => ⟨S1x1x5632, .f32⟩
  | .hbm, ⟨43, _⟩ => ⟨S2x16384x5632, .f32⟩
  | .hbm, ⟨44, _⟩ => ⟨S2x16384x5632, .f32⟩
  | .hbm, ⟨45, _⟩ => ⟨S1x1x5632, .f32⟩
  | .hbm, ⟨46, _⟩ => ⟨S2x16384x5632, .f32⟩
  | .hbm, ⟨47, _⟩ => ⟨S2x16384x5632, .f32⟩
  | .hbm, ⟨48, _⟩ => ⟨S1x5632, .f32⟩
  | .hbm, ⟨49, _⟩ => ⟨S5632, .f32⟩
  | .hbm, ⟨50, _⟩ => ⟨S2x16384x5632, .f32⟩
  | .hbm, ⟨51, _⟩ => ⟨S1x1x5632, .f32⟩
  | .hbm, ⟨52, _⟩ => ⟨S2x16384x5632, .f32⟩
  | .hbm, ⟨53, _⟩ => ⟨S2x16384x5632, .f32⟩
  | .hbm, ⟨54, _⟩ => ⟨S2x16384x5632, .f32⟩
  | .hbm, ⟨55, _⟩ => ⟨S1x5632, .f32⟩
  | .hbm, ⟨56, _⟩ => ⟨S5632, .f32⟩
  | .hbm, ⟨57, _⟩ => ⟨S2x16384x5632, .f32⟩
  | .hbm, ⟨58, _⟩ => ⟨S1x1x5632, .f32⟩
  | .hbm, ⟨59, _⟩ => ⟨S2x16384x5632, .f32⟩
  | .hbm, ⟨60, _⟩ => ⟨S2x16384x5632, .f32⟩
  | .hbm, ⟨61, _⟩ => ⟨S2x16384x5632, .f32⟩
  | .hbm, ⟨62, _⟩ => ⟨S2x16384x5632, .f32⟩
  | .hbm, ⟨63, _⟩ => ⟨S2x16384x5632, .f32⟩
  | .hbm, ⟨64, _⟩ => ⟨S_, .f32⟩
  | .hbm, ⟨65, _⟩ => ⟨S2x16384x5632, .f32⟩
  | .hbm, ⟨66, _⟩ => ⟨S2x16384x5632, .f32⟩
  | .hbm, ⟨67, _⟩ => ⟨S_, .f32⟩
  | .hbm, ⟨68, _⟩ => ⟨S2x16384x5632, .f32⟩
  | .hbm, ⟨69, _⟩ => ⟨S2x16384x5632, .f32⟩
  | .hbm, ⟨70, _⟩ => ⟨S2x16384x5632, .f32⟩
  | .hbm, ⟨71, _⟩ => ⟨S2x16384x5632, .f32⟩
  | .hbm, ⟨72, _⟩ => ⟨S2x16384x2048, .f32⟩
  | .hbm, ⟨73, _⟩ => ⟨S2x16384x2048, .f32⟩
  | .hbm, ⟨74, _⟩ => ⟨S2x16384x2048, .f32⟩
  | .hbm, ⟨75, _⟩ => ⟨S2x16384x2048, .f32⟩
  | .hbm, ⟨76, _⟩ => ⟨S2x2x5632, .f32⟩
  | .hbm, ⟨77, _⟩ => ⟨S2x2x11x512, .f32⟩
  | .hbm, ⟨78, _⟩ => ⟨S2x11x2x512, .f32⟩
  | .hbm, ⟨79, _⟩ => ⟨S2x16384x2048, .f32⟩
  | .hbm, ⟨80, _⟩ => ⟨S_, .f32⟩
  | .hbm, ⟨81, _⟩ => ⟨S2x16384, .f32⟩
  | .hbm, ⟨82, _⟩ => ⟨S2x16384x1, .f32⟩
  | .hbm, ⟨83, _⟩ => ⟨S_, .f32⟩
  | .hbm, ⟨84, _⟩ => ⟨S2x16384x1, .f32⟩
  | .hbm, ⟨85, _⟩ => ⟨S2x16384x1, .f32⟩
  | .hbm, ⟨86, _⟩ => ⟨S_, .f32⟩
  | .hbm, ⟨87, _⟩ => ⟨S2x16384x1, .f32⟩
  | .hbm, ⟨88, _⟩ => ⟨S2x16384x1, .f32⟩
  | .hbm, ⟨89, _⟩ => ⟨S2x16384x1, .f32⟩
  | .hbm, ⟨90, _⟩ => ⟨S2x16384x2048, .f32⟩
  | .hbm, ⟨91, _⟩ => ⟨S2x16384x2048, .f32⟩
  | .hbm, ⟨92, _⟩ => ⟨S1x1x2048, .f32⟩
  | .hbm, ⟨93, _⟩ => ⟨S2x16384x2048, .f32⟩
  | .hbm, ⟨94, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_4 : Ref sig .tc := ⟨.hbm, 80, rfl⟩
abbrev main_v57 : Ref sig .tc := ⟨.hbm, 81, rfl⟩
abbrev main_v58 : Ref sig .tc := ⟨.hbm, 82, rfl⟩
abbrev main_cst_5 : Ref sig .tc := ⟨.hbm, 83, rfl⟩
abbrev main_v59 : Ref sig .tc := ⟨.hbm, 84, rfl⟩
abbrev main_v60 : Ref sig .tc := ⟨.hbm, 85, rfl⟩
abbrev main_cst_6 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== Kernel4.lean ====
abbrev S2x16384x2048 : Shape := ⟨3, ![2, 16384, 2048]⟩
abbrev S2x1x2048 : Shape := ⟨3, ![2, 1, 2048]⟩
abbrev S2048 : Shape := ⟨1, ![2048]⟩
abbrev S2048x7248 : Shape := ⟨2, ![2048, 7248]⟩
abbrev S1x2048 : Shape := ⟨2, ![1, 2048]⟩
abbrev S2048x3072 : Shape := ⟨2, ![2048, 3072]⟩
abbrev S2x16384x1024 : Shape := ⟨3, ![2, 16384, 1024]⟩
abbrev S2x16384x8x128 : Shape := ⟨4, ![2, 16384, 8, 128]⟩
abbrev S1x512x2048 : Shape := ⟨3, ![1, 512, 2048]⟩
abbrev S1x1x2048 : Shape := ⟨3, ![1, 1, 2048]⟩
abbrev S2048x1024 : Shape := ⟨2, ![2048, 1024]⟩
abbrev S1x512x1024 : Shape := ⟨3, ![1, 512, 1024]⟩
abbrev S1x512x8x128 : Shape := ⟨4, ![1, 512, 8, 128]⟩
abbrev S512x2048 : Shape := ⟨2, ![512, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S512x1024 : Shape := ⟨2, ![512, 1024]⟩
abbrev S512x8x128 : Shape := ⟨3, ![512, 8, 128]⟩

abbrev nBuf : Space → Nat
  | .hbm => 13
  | .vmem => 20
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2048, .f32⟩
  | .hbm, ⟨4, _⟩ => ⟨S2048x7248, .f32⟩
  | .hbm, ⟨5, _⟩ => ⟨S2048x7248, .bf16⟩
  | .hbm, ⟨6, _⟩ => ⟨S1x2048, .f32⟩
  | .hbm, ⟨7, _⟩ => ⟨S2048x3072, .bf16⟩
  | .hbm, ⟨8, _⟩ => ⟨S2x16384x1024, .bf16⟩
  | .hbm, ⟨9, _⟩ => ⟨S2x16384x8x128, .f32⟩
  | .hbm, ⟨10, _⟩ => ⟨S2x16384x1024, .bf16⟩
  | .hbm, ⟨11, _⟩ => ⟨S2x16384x8x128, .f32⟩
  | .hbm, ⟨12, _⟩ => ⟨S2x16384x1024, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x8x128, .f32⟩
  | .local _ .vmem, ⟨12, _⟩ => ⟨S1x512x8x128, .f32⟩
  | .local _ .vmem, ⟨13, _⟩ => ⟨S1x512x1024, .bf16⟩
  | .local _ .vmem, ⟨14, _⟩ => ⟨S1x512x1024, .bf16⟩
  | .local _ .vmem, ⟨15, _⟩ => ⟨S1x512x8x128, .f32⟩
  | .local _ .vmem, ⟨16, _⟩ => ⟨S1x512x8x128, .f32⟩
  | .local _ .vmem, ⟨17, _⟩ => ⟨S1x512x1024, .bf16⟩
  | .local _ .vmem, ⟨18, _⟩ => ⟨S1x512x1024, .bf16⟩
  | .local _ .vmem, ⟨19, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 32, 3], ![false, false, false]⟩

def k0_cond2 (i : grid0.Coords) : BitVec 1 :=
  let arg2 : BitVec 32 := BitVec.ofNat 32 (i 2).val
  let c0_i32_4 : BitVec 32 := 0#32
  let v7 : BitVec 1 := Scalar.cmpi .eq arg2 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg2 : BitVec 32 := BitVec.ofNat 32 (i 2).val
  let c1_i32_7 : BitVec 32 := 1#32
  let v13 : BitVec 1 := Scalar.cmpi .eq arg2 c1_i32_7
  let v14 : BitVec 32 := Scalar.extui v13
  let c0_i32_8 : BitVec 32 := 0#32
  let v15 : BitVec 1 := Scalar.cmpi .ne v14 c0_i32_8
  v15

def k0_cond5 (i : grid0.Coords) : BitVec 1 :=
  let arg2 : BitVec 32 := BitVec.ofNat 32 (i 2).val
  let c2_i32 : BitVec 32 := 2#32
  let v16 : BitVec 1 := Scalar.cmpi .eq arg2 c2_i32
  let v17 : BitVec 32 := Scalar.extui v16
  let c0_i32_9 : BitVec 32 := 0#32
  let v18 : BitVec 1 := Scalar.cmpi .ne v17 c0_i32_9
  v18

def k0_cond6 (i : grid0.Coords) : BitVec 1 :=
  let arg2 : BitVec 32 := BitVec.ofNat 32 (i 2).val
  let c2_i32_10 : BitVec 32 := 2#32
  let v19 : BitVec 1 := Scalar.cmpi .eq arg2 c2_i32_10
  let v20 : BitVec 32 := Scalar.extui v19
  let c0_i32_11 : BitVec 32 := 0#32
  let v21 : BitVec 1 := Scalar.cmpi .ne v20 c0_i32_11
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference4Ideal.lean ====
abbrev S2x16384x2048 : Shape := ⟨3, ![2, 16384, 2048]⟩
abbrev S2x1x2048 : Shape := ⟨3, ![2, 1, 2048]⟩
abbrev S2048 : Shape := ⟨1, ![2048]⟩
abbrev S2048x7248 : Shape := ⟨2, ![2048, 7248]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x7248 : Shape := ⟨3, ![2, 16384, 7248]⟩
abbrev S2x16384x1024 : Shape := ⟨3, ![2, 16384, 1024]⟩
abbrev S2x16384x64 : Shape := ⟨3, ![2, 16384, 64]⟩
abbrev S2x16384x16 : Shape := ⟨3, ![2, 16384, 16]⟩
abbrev S2x16384x8x128 : Shape := ⟨4, ![2, 16384, 8, 128]⟩

abbrev nBuf : Space → Nat
  | .hbm => 43
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2048, .f32⟩
  | .hbm, ⟨4, _⟩ => ⟨S2048x7248, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x16384x2048, .f32⟩
  | .hbm, ⟨25, _⟩ => ⟨S2x16384x2048, .f32⟩
  | .hbm, ⟨26, _⟩ => ⟨S2x16384x2048, .f32⟩
  | .hbm, ⟨27, _⟩ => ⟨S2x16384x2048, .f32⟩
  | .hbm, ⟨28, _⟩ => ⟨S2x16384x7248, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x64, .f32⟩
  | .hbm, ⟨37, _⟩ => ⟨S2x16384x16, .f32⟩
  | .hbm, ⟨38, _⟩ => ⟨S2x16384x1024, .bf16⟩
  | .hbm, ⟨39, _⟩ => ⟨S2x16384x8x128, .f32⟩
  | .hbm, ⟨40, _⟩ => ⟨S2x16384x1024, .bf16⟩
  | .hbm, ⟨41, _⟩ => ⟨S2x16384x8x128, .f32⟩
  | .hbm, ⟨42, _⟩ => ⟨S2x16384x1024, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Kernel5.lean ====
abbrev S2x16384x2048 : Shape := ⟨3, ![2, 16384, 2048]⟩
abbrev S2x1x2048 : Shape := ⟨3, ![2, 1, 2048]⟩
abbrev S2048 : Shape := ⟨1, ![2048]⟩
abbrev S2048x7248 : Shape := ⟨2, ![2048, 7248]⟩
abbrev S1x2048 : Shape := ⟨2, ![1, 2048]⟩
abbrev S2048x3072 : Shape := ⟨2, ![2048, 3072]⟩
abbrev S2x1024x16384 : Shape := ⟨3, ![2, 1024, 16384]⟩
abbrev S2x16384x8x128 : Shape := ⟨4, ![2, 16384, 8, 128]⟩
abbrev S2x16384x1024 : Shape := ⟨3, ![2, 16384, 1024]⟩
abbrev S1x512x2048 : Shape := ⟨3, ![1, 512, 2048]⟩
abbrev S1x1x2048 : Shape := ⟨3, ![1, 1, 2048]⟩
abbrev S2048x1024 : Shape := ⟨2, ![2048, 1024]⟩
abbrev S1x1024x512 : Shape := ⟨3, ![1, 1024, 512]⟩
abbrev S1x512x8x128 : Shape := ⟨4, ![1, 512, 8, 128]⟩
abbrev S1x512x1024 : Shape := ⟨3, ![1, 512, 1024]⟩
abbrev S512x2048 : Shape := ⟨2, ![512, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S512x1024 : Shape := ⟨2, ![512, 1024]⟩
abbrev S1024x512 : Shape := ⟨2, ![1024, 512]⟩
abbrev S512x8x128 : Shape := ⟨3, ![512, 8, 128]⟩

abbrev nBuf : Space → Nat
  | .hbm => 13
  | .vmem => 20
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2048, .f32⟩
  | .hbm, ⟨4, _⟩ => ⟨S2048x7248, .f32⟩
  | .hbm, ⟨5, _⟩ => ⟨S2048x7248, .bf16⟩
  | .hbm, ⟨6, _⟩ => ⟨S1x2048, .f32⟩
  | .hbm, ⟨7, _⟩ => ⟨S2048x3072, .bf16⟩
  | .hbm, ⟨8, _⟩ => ⟨S2x1024x16384, .bf16⟩
  | .hbm, ⟨9, _⟩ => ⟨S2x16384x8x128, .f32⟩
  | .hbm, ⟨10, _⟩ => ⟨S2x16384x1024, .bf16⟩
  | .hbm, ⟨11, _⟩ => ⟨S2x16384x8x128, .f32⟩
  | .hbm, ⟨12, _⟩ => ⟨S2x1024x16384, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512x8x128, .f32⟩
  | .local _ .vmem, ⟨12, _⟩ => ⟨S1x512x8x128, .f32⟩
  | .local _ .vmem, ⟨13, _⟩ => ⟨S1x512x1024, .bf16⟩
  | .local _ .vmem, ⟨14, _⟩ => ⟨S1x512x1024, .bf16⟩
  | .local _ .vmem, ⟨15, _⟩ => ⟨S1x512x8x128, .f32⟩
  | .local _ .vmem, ⟨16, _⟩ => ⟨S1x512x8x128, .f32⟩
  | .local _ .vmem, ⟨17, _⟩ => ⟨S1x1024x512, .bf16⟩
  | .local _ .vmem, ⟨18, _⟩ => ⟨S1x1024x512, .bf16⟩
  | .local _ .vmem, ⟨19, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 32, 3], ![false, false, false]⟩

def k0_cond2 (i : grid0.Coords) : BitVec 1 :=
  let arg2 : BitVec 32 := BitVec.ofNat 32 (i 2).val
  let c0_i32_4 : BitVec 32 := 0#32
  let v7 : BitVec 1 := Scalar.cmpi .eq arg2 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg2 : BitVec 32 := BitVec.ofNat 32 (i 2).val
  let c1_i32_7 : BitVec 32 := 1#32
  let v13 : BitVec 1 := Scalar.cmpi .eq arg2 c1_i32_7
  let v14 : BitVec 32 := Scalar.extui v13
  let c0_i32_8 : BitVec 32 := 0#32
  let v15 : BitVec 1 := Scalar.cmpi .ne v14 c0_i32_8
  v15

def k0_cond5 (i : grid0.Coords) : BitVec 1 :=
  let arg2 : BitVec 32 := BitVec.ofNat 32 (i 2).val
  let c2_i32 : BitVec 32 := 2#32
  let v16 : BitVec 1 := Scalar.cmpi .eq arg2 c2_i32
  let v17 : BitVec 32 := Scalar.extui v16
  let c0_i32_9 : BitVec 32 := 0#32
  let v18 : BitVec 1 := Scalar.cmpi .ne v17 c0_i32_9
  v18

def k0_cond6 (i : grid0.Coords) : BitVec 1 :=
  let arg2 : BitVec 32 := BitVec.ofNat 32 (i 2).val
  let c2_i32_10 : BitVec 32 := 2#32
  let v19 : BitVec 1 := Scalar.cmpi .eq arg2 c2_i32_10
  let v20 : BitVec 32 := Scalar.extui v19
  let c0_i32_11 : BitVec 32 := 0#32
  let v21 : BitVec 1 := Scalar.cmpi .ne v20 c0_i32_11
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference5Ideal.lean ====
abbrev S2x16384x2048 : Shape := ⟨3, ![2, 16384, 2048]⟩
abbrev S2x1x2048 : Shape := ⟨3, ![2, 1, 2048]⟩
abbrev S2048 : Shape := ⟨1, ![2048]⟩
abbrev S2048x7248 : Shape := ⟨2, ![2048, 7248]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x7248 : Shape := ⟨3, ![2, 16384, 7248]⟩
abbrev S2x16384x1024 : Shape := ⟨3, ![2, 16384, 1024]⟩
abbrev S2x16384x64 : Shape := ⟨3, ![2, 16384, 64]⟩
abbrev S2x16384x16 : Shape := ⟨3, ![2, 16384, 16]⟩
abbrev S2x1024x16384 : Shape := ⟨3, ![2, 1024, 16384]⟩
abbrev S2x16384x8x128 : Shape := ⟨4, ![2, 16384, 8, 128]⟩

abbrev nBuf : Space → Nat
  | .hbm => 48
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2048, .f32⟩
  | .hbm, ⟨4, _⟩ => ⟨S2048x7248, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x16384x2048, .f32⟩
  | .hbm, ⟨25, _⟩ => ⟨S2x16384x2048, .f32⟩
  | .hbm, ⟨26, _⟩ => ⟨S2x16384x2048, .f32⟩
  | .hbm, ⟨27, _⟩ => ⟨S2x16384x2048, .f32⟩
  | .hbm, ⟨28, _⟩ => ⟨S2x16384x7248, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x64, .f32⟩
  | .hbm, ⟨37, _⟩ => ⟨S2x16384x16, .f32⟩
  | .hbm, ⟨38, _⟩ => ⟨S_, .f32⟩
  | .hbm, ⟨39, _⟩ => ⟨S2x16384x1024, .f32⟩
  | .hbm, ⟨40, _⟩ => ⟨S2x16384x1024, .f32⟩
  | .hbm, ⟨41, _⟩ => ⟨S2x16384x1024, .bf16⟩
  | .hbm, ⟨42, _⟩ => ⟨S2x1024x16384, .bf16⟩
  | .hbm, ⟨43, _⟩ => ⟨S2x16384x8x128, .f32⟩
  | .hbm, ⟨44, _⟩ => ⟨S2x16384x1024, .bf16⟩
  | .hbm, ⟨45, _⟩ => ⟨S2x16384x8x128, .f32⟩
  | .hbm, ⟨46, _⟩ => ⟨S2x16384x1024, .bf16⟩
  | .hbm, ⟨47, _⟩ => ⟨S2x1024x16384, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel6.lean ====
abbrev S2x16384x2048 : Shape := ⟨3, ![2, 16384, 2048]⟩
abbrev S2x1x2048 : Shape := ⟨3, ![2, 1, 2048]⟩
abbrev S2048 : Shape := ⟨1, ![2048]⟩
abbrev S2048x7248 : Shape := ⟨2, ![2048, 7248]⟩
abbrev S1x2048 : Shape := ⟨2, ![1, 2048]⟩
abbrev S2048x1104 : Shape := ⟨2, ![2048, 1104]⟩
abbrev S_ : Shape := ⟨0, ![]⟩
abbrev S2048x2048 : Shape := ⟨2, ![2048, 2048]⟩
abbrev S2x1024x16384 : Shape := ⟨3, ![2, 1024, 16384]⟩
abbrev S2x16384x64 : Shape := ⟨3, ![2, 16384, 64]⟩
abbrev S2x16x16384 : Shape := ⟨3, ![2, 16, 16384]⟩
abbrev S1x512x2048 : Shape := ⟨3, ![1, 512, 2048]⟩
abbrev S1x1x2048 : Shape := ⟨3, ![1, 1, 2048]⟩
abbrev S2048x1024 : Shape := ⟨2, ![2048, 1024]⟩
abbrev S1x1024x512 : Shape := ⟨3, ![1, 1024, 512]⟩
abbrev S1x512x64 : Shape := ⟨3, ![1, 512, 64]⟩
abbrev S1x16x512 : Shape := ⟨3, ![1, 16, 512]⟩
abbrev S512x2048 : Shape := ⟨2, ![512, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S512x1024 : Shape := ⟨2, ![512, 1024]⟩
abbrev S1024x512 : Shape := ⟨2, ![1024, 512]⟩
abbrev S512x64 : Shape := ⟨2, ![512, 64]⟩
abbrev S512x128 : Shape := ⟨2, ![512, 128]⟩
abbrev S128x512 : Shape := ⟨2, ![128, 512]⟩
abbrev S16x512 : Shape := ⟨2, ![16, 512]⟩

abbrev nBuf : Space → Nat
  | .hbm => 15
  | .vmem => 18
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2048, .f32⟩
  | .hbm, ⟨4, _⟩ => ⟨S2048x7248, .f32⟩
  | .hbm, ⟨5, _⟩ => ⟨S2048x7248, .bf16⟩
  | .hbm, ⟨6, _⟩ => ⟨S1x2048, .f32⟩
  | .hbm, ⟨7, _⟩ => ⟨S2048x1104, .bf16⟩
  | .hbm, ⟨8, _⟩ => ⟨S_, .i32⟩
  | .hbm, ⟨9, _⟩ => ⟨S_, .bf16⟩
  | .hbm, ⟨10, _⟩ => ⟨S2048x2048, .bf16⟩
  | .hbm, ⟨11, _⟩ => ⟨S2x1024x16384, .bf16⟩
  | .hbm, ⟨12, _⟩ => ⟨S2x16384x64, .f32⟩
  | .hbm, ⟨13, _⟩ => ⟨S2x16384x64, .bf16⟩
  | .hbm, ⟨14, _⟩ => ⟨S2x16x16384, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512x64, .f32⟩
  | .local _ .vmem, ⟨12, _⟩ => ⟨S1x512x64, .f32⟩
  | .local _ .vmem, ⟨13, _⟩ => ⟨S1x512x64, .bf16⟩
  | .local _ .vmem, ⟨14, _⟩ => ⟨S1x512x64, .bf16⟩
  | .local _ .vmem, ⟨15, _⟩ => ⟨S1x16x512, .f32⟩
  | .local _ .vmem, ⟨16, _⟩ => ⟨S1x16x512, .f32⟩
  | .local _ .vmem, ⟨17, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 32, 2], ![false, false, false]⟩

def k0_cond2 (i : grid0.Coords) : BitVec 1 :=
  let arg2 : BitVec 32 := BitVec.ofNat 32 (i 2).val
  let c0_i32_4 : BitVec 32 := 0#32
  let v7 : BitVec 1 := Scalar.cmpi .eq arg2 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg2 : BitVec 32 := BitVec.ofNat 32 (i 2).val
  let c1_i32_7 : BitVec 32 := 1#32
  let v13 : BitVec 1 := Scalar.cmpi .eq arg2 c1_i32_7
  let v14 : BitVec 32 := Scalar.extui v13
  let c0_i32_8 : BitVec 32 := 0#32
  let v15 : BitVec 1 := Scalar.cmpi .ne v14 c0_i32_8
  v15

def k0_cond5 (i : grid0.Coords) : BitVec 1 :=
  let arg2 : BitVec 32 := BitVec.ofNat 32 (i 2).val
  let c1_i32_9 : BitVec 32 := 1#32
  let v16 : BitVec 1 := Scalar.cmpi .eq arg2 c1_i32_9
  let v17 : BitVec 32 := Scalar.extui v16
  let c0_i32_10 : BitVec 32 := 0#32
  let v18 : BitVec 1 := Scalar.cmpi .ne v17 c0_i32_10
  v18

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference6Ideal.lean ====
abbrev S2x16384x2048 : Shape := ⟨3, ![2, 16384, 2048]⟩
abbrev S2x1x2048 : Shape := ⟨3, ![2, 1, 2048]⟩
abbrev S2048 : Shape := ⟨1, ![2048]⟩
abbrev S2048x7248 : Shape := ⟨2, ![2048, 7248]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x7248 : Shape := ⟨3, ![2, 16384, 7248]⟩
abbrev S2x16384x1024 : Shape := ⟨3, ![2, 16384, 1024]⟩
abbrev S2x16384x64 : Shape := ⟨3, ![2, 16384, 64]⟩
abbrev S2x16384x16 : Shape := ⟨3, ![2, 16384, 16]⟩
abbrev S2x1024x16384 : Shape := ⟨3, ![2, 1024, 16384]⟩
abbrev S2x16x16384 : Shape := ⟨3, ![2, 16, 16384]⟩

abbrev nBuf : Space → Nat
  | .hbm => 42
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2048, .f32⟩
  | .hbm, ⟨4, _⟩ => ⟨S2048x7248, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x16384x2048, .f32⟩
  | .hbm, ⟨25, _⟩ => ⟨S2x16384x2048, .f32⟩
  | .hbm, ⟨26, _⟩ => ⟨S2x16384x2048, .f32⟩
  | .hbm, ⟨27, _⟩ => ⟨S2x16384x2048, .f32⟩
  | .hbm, ⟨28, _⟩ => ⟨S2x16384x7248, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x64, .f32⟩
  | .hbm, ⟨37, _⟩ => ⟨S2x16384x16, .f32⟩
  | .hbm, ⟨38, _⟩ => ⟨S2x16384x1024, .bf16⟩
  | .hbm, ⟨39, _⟩ => ⟨S2x1024x16384, .bf16⟩
  | .hbm, ⟨40, _⟩ => ⟨S2x16384x64, .bf16⟩
  | .hbm, ⟨41, _⟩ => ⟨S2x16x16384, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Proof.Ideal.Trip.lean ====
/-
  One trip of the kernel's loop over the key blocks, and the whole loop, as functions of the blocks that
  the body finds in its buffers; and the loop's triple: the printed loop, entered with `n` key blocks to
  go, returns what `runLoop n` computes and leaves the buffers as they were.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The slabs that a trip reads -/

/-- Where head `h`'s slab of the query block sits: row `y 1`, column `128 h + y 2`. -/
def qIx (h : Fin 4) (y : S1x256x128.Idx) : S1x256x512.Idx
  | 0 => y 0
  | 1 => y 1
  | 2 => ⟨128 * h.val + (y 2).val, by have h2 : (y 2).val < 128 := (y 2).isLt; have := h.isLt; show _ < 512; omega⟩

/-- Where head `h`'s slab of key (or value) block `j` sits: row `256 j + y 1`, column `128 h + y 2`. -/
def kIx (j : Fin 64) (h : Fin 4) (y : S1x256x128.Idx) : S1x16384x512.Idx
  | 0 => y 0
  | 1 => ⟨256 * j.val + (y 1).val, by have h1 : (y 1).val < 256 := (y 1).isLt; have := j.isLt; show _ < 16384; omega⟩
  | 2 => ⟨128 * h.val + (y 2).val, by have h2 : (y 2).val < 128 := (y 2).isLt; have := h.isLt; show _ < 512; omega⟩

/-- Head `h`'s slab of the query block. -/
def qSlab (x0 : Vec F S1x256x512 .bf16) (h : Fin 4) : Vec F S1x256x128 .bf16 := fun y => x0 (qIx h y)

/-- Head `h`'s slab of block `j` of the keys or the values. -/
def kSlab (x1 : Vec F S1x16384x512 .bf16) (j : Fin 64) (h : Fin 4) : Vec F S1x256x128 .bf16 := fun y => x1 (kIx j h y)

/-! ## The loop as a function -/

/-- What the loop carries besides the block's number: whether to go on, and per head the running sum of
    the logarithms of what is kept and the weighted sum of the values. -/
structure Carry (F : FTy → Type) where
  go : BitVec 1
  cum : Fin 4 → FVec F S256x1 .f32
  acc : Fin 4 → FVec F S256x128 .f32

/-- The largest of the four heads' running sums, over all the rows. -/
def topCum (c0 c1 c2 c3 : FVec F S256x1 .f32) : FVec F S1 .f32 :=
  multiReduction .maximumf [1, 2] S1
    (shapeCast S1x256x1 (maximumf (maximumf (maximumf c0 c1) c2) c3) shapeCasts_S256x1_S1x256x1)
    0xFF800000#32 reduces_S1x256x1_S1 (.inl rfl) rfl

/-- One trip, over key block `j`: `v4` the rows' positions, `v25` the strict upper triangle's mask. -/
def trip (v4 : IVec S256x1 32) (v25 : FVec F S256x256 .bf16) (x0 : Vec F S1x256x512 .bf16)
    (x1 x2 : Vec F S1x16384x512 .bf16) (j : Fin 64) (s : Carry F) : Carry F :=
  let w : BitVec 32 := BitVec.ofNat 32 j.val
  let cum' : Fin 4 → FVec F S256x1 .f32 := fun h => k0_pay17 (s.cum h) (k0_pay14 v4 w (qSlab x0 h) (kSlab x1 j h))
  { go := Scalar.cmpf .ogt (k0_pay4 (topCum (cum' 0) (cum' 1) (cum' 2) (cum' 3))) (Named.named κ "dead" 0xC3160A50#32)
    cum := cum'
    acc := fun h => k0_pay16 (s.acc h) (k0_pay11 v4 w) (k0_pay12 (qSlab x0 h) (kSlab x1 j h)) (k0_pay13 (qSlab x0 h) (kSlab x1 j h))
      (k0_pay15 v4 v25 w (s.cum h) (qSlab x0 h) (kSlab x1 j h)) (kSlab x2 j h) }

/-- The loop with `n` blocks to go, the last of them first. -/
def runLoop (v4 : IVec S256x1 32) (v25 : FVec F S256x256 .bf16) (x0 : Vec F S1x256x512 .bf16)
    (x1 x2 : Vec F S1x16384x512 .bf16) : (n : ℕ) → n ≤ 64 → Carry F → Carry F
  | 0, _, s => s
  | n + 1, hn, s =>
    if s.go = 1#1 then runLoop v4 v25 x0 x1 x2 n (by omega) (trip v4 v25 x0 x1 x2 ⟨n, by omega⟩ s) else s

/-! ## The four heads' values are one function

The printed parts cut the four heads' code at different places; head by head it is head 0's. -/

section Heads

variable (v4 : IVec S256x1 32) (w : BitVec 32) (v25 : FVec F S256x256 .bf16) (cum : FVec F S256x1 .f32)
  (acc : FVec F S256x128 .f32) (q k v : Vec F S1x256x128 .bf16)

theorem cum_head1 : k0_pay23 cum (k0_pay20 (k0_pay11 v4 w) q k) = k0_pay17 cum (k0_pay14 v4 w q k) := rfl

theorem cum_head2 : k0_pay28 cum (k0_pay11 v4 w) (k0_pay24 q k) (k0_pay25 q k) (Scalar.ofBits .f32 0x00000000#32)
    = k0_pay17 cum (k0_pay14 v4 w q k) := rfl

theorem cum_head3 : k0_pay35 cum (k0_pay11 v4 w) (k0_pay29 q k) (k0_pay30 q k) k0_pay31
    = k0_pay17 cum (k0_pay14 v4 w q k) := rfl

theorem acc_head1 : k0_pay22 v25 cum acc (k0_pay11 v4 w) (k0_pay18 q k) (k0_pay19 q k) (k0_pay20 (k0_pay11 v4 w) q k)
      (k0_pay21 (k0_pay11 v4 w) q k) v
    = k0_pay16 acc (k0_pay11 v4 w) (k0_pay12 q k) (k0_pay13 q k) (k0_pay15 v4 v25 w cum q k) v := rfl

theorem acc_head2 : k0_pay27 v25 cum acc (k0_pay11 v4 w) (k0_pay24 q k) (k0_pay25 q k) (Scalar.ofBits .f32 0x00000000#32) v
    = k0_pay16 acc (k0_pay11 v4 w) (k0_pay12 q k) (k0_pay13 q k) (k0_pay15 v4 v25 w cum q k) v := rfl

theorem acc_head3 : k0_pay34 v25 cum acc (k0_pay11 v4 w) (k0_pay29 q k) (k0_pay30 q k) k0_pay31 v
    = k0_pay16 acc (k0_pay11 v4 w) (k0_pay12 q k) (k0_pay13 q k) (k0_pay15 v4 v25 w cum q k) v := rfl

theorem top_heads (c0 c1 c2 c3 : FVec F S256x1 .f32) :
    k0_pay36 c3 (k0_pay11 v4 w) c0 c1 c2 (k0_pay29 q k) (k0_pay30 q k) k0_pay31
      = topCum c0 c1 c2 (k0_pay17 c3 (k0_pay14 v4 w q k)) := rfl

end Heads

/-! ## The loop's triple -/

/-- The values that the printed loop returns. -/
abbrev St (F : FTy → Type) : Type :=
  BitVec 32 × BitVec 1 × FVec F S256x1 .f32 × FVec F S256x1 .f32 × FVec F S256x1 .f32 × FVec F S256x1 .f32
    × FVec F S256x128 .f32 × FVec F S256x128 .f32 × FVec F S256x128 .f32 × FVec F S256x128 .f32

/-- A carry and a block number as the tuple that the loop returns. -/
abbrev tup (w : BitVec 32) (s : Carry F) : St F :=
  (w, s.go, s.cum 0, s.cum 1, s.cum 2, s.cum 3, s.acc 0, s.acc 1, s.acc 2, s.acc 3)

/-- A block number below 64 passes the body's check of its offsets. -/
theorem chk_of_lt : ∀ j : Fin 64, k0_chk1 (BitVec.ofNat 32 j.val) := by decide +kernel

theorem off_eq : ∀ j : Fin 64, k0_off1 (BitVec.ofNat 32 j.val) = ![0, 256 * j.val, 0]
    ∧ k0_off2 (BitVec.ofNat 32 j.val) = ![0, 256 * j.val, 128]
    ∧ k0_off3 (BitVec.ofNat 32 j.val) = ![0, 256 * j.val, 256]
    ∧ k0_off4 (BitVec.ofNat 32 j.val) = ![0, 256 * j.val, 384] := by decide +kernel

/-- A load of head `h`'s columns of the query block reads its slab. -/
theorem ld_q (h : Fin 4) (x0 : Vec F S1x256x512 .bf16) (off : Fin 3 → ℕ) (inb) (hoff : off = ![0, 0, 128 * h.val]) :
    View.ld x0 (Rect.unit (s := S1x256x512) off S1x256x128.size inb) = qSlab x0 h := by
  subst hoff
  funext y
  refine View.ld_unit_apply_of x0 _ _ _ y (qIx h y) fun a => ?_
  match a with
  | 0 => show (y 0).val = 0 + (y 0).val; omega
  | 1 => show (y 1).val = 0 + (y 1).val; omega
  | 2 => rfl

/-- A load of head `h`'s columns of block `j` reads its slab. -/
theorem ld_k (j : Fin 64) (h : Fin 4) (x1 : Vec F S1x16384x512 .bf16) (off : Fin 3 → ℕ) (inb)
    (hoff : off = ![0, 256 * j.val, 128 * h.val]) :
    View.ld x1 (Rect.unit (s := S1x16384x512) off S1x256x128.size inb) = kSlab x1 j h := by
  subst hoff
  funext y
  refine View.ld_unit_apply_of x1 _ _ _ y (kIx j h y) fun a => ?_
  match a with
  | 0 => show (y 0).val = 0 + (y 0).val; omega
  | 1 => rfl
  | 2 => rfl

/-- The loop stops at once where the block number is -1. -/
theorem cond_stop (g : BitVec 1) : ¬ Scalar.andi (Scalar.cmpi .sge (BitVec.ofNat 32 0 - 1#32) 0#32) g = 1#1 := by
  revert g; decide

/-- At a block number below 64 the loop goes on where the carried flag says so. -/
theorem cond_go : ∀ (j : Fin 64) (g : BitVec 1), Scalar.andi (Scalar.cmpi .sge (BitVec.ofNat 32 j.val) 0#32) g = g := by
  decide +kernel

theorem word_pred (n : ℕ) : BitVec.ofNat 32 (n + 1) - 1#32 = BitVec.ofNat 32 n := by
  rw [BitVec.ofNat_add, BitVec.add_sub_cancel]

set_option maxHeartbeats 2000000 in
/-- THE LOOP'S TRIPLE: with the query, key and value blocks in the buffers, the printed loop at the number of the
    last of `n` blocks returns `runLoop n` and leaves the buffers as they were. By induction on `n`: the loop's
    call of itself is met at the variant below. -/
theorem loop_run (c : Dev nD) (i : grid0.Coords) (v4 : IVec S256x1 32) (arg3 : Memref sig .tc .vmem S1x256x512 .bf16) (harg3 : arg3.IsWhole)
    (arg4 : Memref sig .tc .vmem S1x16384x512 .bf16) (harg4 : arg4.IsWhole) (v25 : FVec F S256x256 .bf16)
    (arg5 : Memref sig .tc .vmem S1x16384x512 .bf16) (harg5 : arg5.IsWhole)
    (x0 : Vec F S1x256x512 .bf16) (x1 x2 : Vec F S1x16384x512 .bf16) (E : Set ℕ) (n : ℕ) :
    ∀ (hn : n ≤ 64) (s : Carry F) (K : St F → sProp 𝕄),
    iprop(owns (c : Thread nD τ) arg3 fullShare x0 ∗ owns (c : Thread nD τ) arg4 fullShare x1 ∗ owns (c : Thread nD τ) arg5 fullShare x2
        ∗ (∀ w, iprop(owns (c : Thread nD τ) arg3 fullShare x0 ∗ owns (c : Thread nD τ) arg4 fullShare x1 ∗ owns (c : Thread nD τ) arg5 fullShare x2)
            -∗ K (tup w (runLoop v4 v25 x0 x1 x2 n hn s))))
      ⊢ wp frame (wpE (defs₀ (F := F)) Variants.nat c (some n)) E
          (cc0_while1 i v4 arg3 harg3 arg4 harg4 v25 arg5 harg5 (BitVec.ofNat 32 n - 1#32) s.go
            (s.cum 0) (s.cum 1) (s.cum 2) (s.cum 3) (s.acc 0) (s.acc 1) (s.acc 2) (s.acc 3)) K := by
  induction n with
  | zero =>
    intro hn s K
    simp only [cc0_while1_eq_skeleton]; unfold cc0_while1_skel
    rw [if_neg (cond_stop s.go)]
    iintro ⟨H0, H1, H2, Hk⟩
    sl_step
    have hr : runLoop v4 v25 x0 x1 x2 0 hn s = s := by rw [runLoop]
    rw [hr]
    iapply Hk $$ %(BitVec.ofNat 32 0 - 1#32)
    isplitl [H0]; · iexact H0
    isplitl [H1]; · iexact H1
    iexact H2
  | succ n ih =>
    intro hn s K
    have hlt : n < 64 := hn
    rw [word_pred]
    have hw : k0_chk1 (BitVec.ofNat 32 n) := chk_of_lt ⟨n, by omega⟩
    simp only [cc0_while1_eq_skeleton]; unfold cc0_while1_skel
    simp only [k0_part2_eq_skeleton, k0_part3_eq_skeleton, k0_part4_eq_skeleton, k0_part5_eq_skeleton, k0_part6_eq_skeleton]
    by_cases hg : s.go = 1#1
    · rw [if_pos ((cond_go ⟨n, by omega⟩ s.go).trans hg)]
      unfold owns
      iintro ⟨⟨%f0, %hf0, H0⟩, ⟨%f1, %hf1, H1⟩, ⟨%f2, %hf2, H2⟩, Hk⟩
      sl_exec
      have ho := off_eq ⟨n, by omega⟩
      have q0 := fun inb => ld_q 0 x0 ![0, 0, 0] inb rfl
      have q1 := fun inb => ld_q 1 x0 ![0, 0, 128] inb rfl
      have q2 := fun inb => ld_q 2 x0 ![0, 0, 256] inb rfl
      have q3 := fun inb => ld_q 3 x0 ![0, 0, 384] inb rfl
      have k0 := fun (x : Vec F S1x16384x512 .bf16) inb => ld_k ⟨n, by omega⟩ 0 x (k0_off1 (BitVec.ofNat 32 n)) inb ho.1
      have k1 := fun (x : Vec F S1x16384x512 .bf16) inb => ld_k ⟨n, by omega⟩ 1 x (k0_off2 (BitVec.ofNat 32 n)) inb ho.2.1
      have k2 := fun (x : Vec F S1x16384x512 .bf16) inb => ld_k ⟨n, by omega⟩ 2 x (k0_off3 (BitVec.ofNat 32 n)) inb ho.2.2.1
      have k3 := fun (x : Vec F S1x16384x512 .bf16) inb => ld_k ⟨n, by omega⟩ 3 x (k0_off4 (BitVec.ofNat 32 n)) inb ho.2.2.2
      delta loop_run.sl.r loop_run.sl.r_1 loop_run.sl.r_2 loop_run.sl.r_3 loop_run.sl.r_4 loop_run.sl.r_5 loop_run.sl.r_6 loop_run.sl.r_7 loop_run.sl.r_8 loop_run.sl.r_9 loop_run.sl.r_10 loop_run.sl.r_11 loop_run.sl.r_12 loop_run.sl.r_13 loop_run.sl.r_14 loop_run.sl.r_15 loop_run.sl.r_16 loop_run.sl.r_17 loop_run.sl.r_18 loop_run.sl.r_19 loop_run.sl.r_20 loop_run.sl.r_21
      simp only [View.readAt_eq_ld, hf0, hf1, hf2, q0, q1, q2, q3, k0, k1, k2, k3]
      delta loop_run.sl.v253 loop_run.sl.cst_72
      simp only [cum_head1, cum_head2, cum_head3, acc_head1, acc_head2, acc_head3, top_heads]
      iapply (wp_call Variants.nat (c : Thread nD τ) (some (n + 1)) E n (fun u hu => by cases hu; exact Nat.lt_succ_self n))
      have hr : runLoop v4 v25 x0 x1 x2 (n + 1) hn s
          = runLoop v4 v25 x0 x1 x2 n (Nat.le_of_succ_le hn) (trip v4 v25 x0 x1 x2 ⟨n, hlt⟩ s) := by rw [runLoop, if_pos hg]
      rw [hr]
      have hstep := ih (Nat.le_of_succ_le hn) (trip v4 v25 x0 x1 x2 ⟨n, hlt⟩ s)
        (fun r => wp frame (wpE' (defs₀ (F := F)) Variants.nat c (some (n + 1)) PendingWaitsCtx.empty) E (Prog.ret r) K)
      iapply hstep
      isplitl [H0]; · unfold owns; iexists _; isplitr; · ipureintro; exact hf0
                      iexact H0
      isplitl [H1]; · unfold owns; iexists _; isplitr; · ipureintro; exact hf1
                      iexact H1
      isplitl [H2]; · unfold owns; iexists _; isplitr; · ipureintro; exact hf2
                      iexact H2
      iintro %w H
      sl_step
      iapply Hk $$ %w
      iexact H
    · rw [if_neg (fun h => hg ((cond_go ⟨n, by omega⟩ s.go).symm.trans h))]
      iintro ⟨H0, H1, H2, Hk⟩
      sl_step
      have hr : runLoop v4 v25 x0 x1 x2 (n + 1) hn s = s := by rw [runLoop, if_neg hg]
      rw [hr]
      iapply Hk $$ %(BitVec.ofNat 32 n)
      isplitl [H0]; · iexact H0
      isplitl [H1]; · iexact H1
      iexact H2

end Cert.KernelIdeal.Run

end
-- ==== Proof.Ideal.Body.lean ====
/-
  The kernel's body at one grid point: what its four stores leave in the output block, as a function of the blocks
  in its buffers, and the body's triple.
-/
module

public import proofs.«01_k».proof.Proof.Ideal.Trip

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The carry that the loop is entered with: nothing kept yet, nothing summed yet. -/
def start : Carry F where
  go := 1#1
  cum := fun _ => k0_pay7
  acc := fun _ => k0_pay8

theorem row_lt (i : grid0.Coords) : (i 2).val + 1 ≤ 64 := (i 2).isLt

/-- What the loop ends with at the grid point `i`: it walks the key blocks from the query block's own down to the first. -/
def fin (i : grid0.Coords) (x0 : Vec F S1x256x512 .bf16) (x1 x2 : Vec F S1x16384x512 .bf16) (x3 : Vec F S256x256 .bf16) : Carry F :=
  runLoop (k0_pay5 i) (k0_pay6 x3) x0 x1 x2 ((i 2).val + 1) (row_lt i) start

/-- The four stores of the body, the last first: the heads' weighted sums, side by side. -/
def pieces (i : grid0.Coords) (x0 : Vec F S1x256x512 .bf16) (x1 x2 : Vec F S1x16384x512 .bf16) (x3 : Vec F S256x256 .bf16) :
    List (View.Piece (Elt F) S1x256x512 .bf16) :=
  [⟨Rect.unit (s := S1x256x512) ![0, 0, 384] S1x256x128.size inb_S1x256x512_S1x256x128_0_0_384, k0_pay9 ((fin i x0 x1 x2 x3).acc 3)⟩,
    ⟨Rect.unit (s := S1x256x512) ![0, 0, 256] S1x256x128.size inb_S1x256x512_S1x256x128_0_0_256, k0_pay9 ((fin i x0 x1 x2 x3).acc 2)⟩,
    ⟨Rect.unit (s := S1x256x512) ![0, 0, 128] S1x256x128.size inb_S1x256x512_S1x256x128_0_0_128, k0_pay9 ((fin i x0 x1 x2 x3).acc 1)⟩,
    ⟨Rect.unit (s := S1x256x512) ![0, 0, 0] S1x256x128.size inb_S1x256x512_S1x256x128_0_0_0, k0_pay9 ((fin i x0 x1 x2 x3).acc 0)⟩]

/-- The stores tile the output block. -/
theorem pieces_cover (i : grid0.Coords) (x0 : Vec F S1x256x512 .bf16) (x1 x2 : Vec F S1x16384x512 .bf16) (x3 : Vec F S256x256 .bf16)
    (y : S1x256x512.Idx) : ∃ pc ∈ pieces i x0 x1 x2 x3, y ∈ pc.1.set :=
  View.cover_of_tiledL (pieces i x0 x1 x2 x3) S1x256x128.size (by sl_kernel_rfl) y

/-- The output block after the body. -/
def outBlk (i : grid0.Coords) (x0 : Vec F S1x256x512 .bf16) (x1 x2 : Vec F S1x16384x512 .bf16) (x3 : Vec F S256x256 .bf16) :
    Vec F S1x256x512 .bf16 := View.canon (pieces i x0 x1 x2 x3)

theorem ld_u (x3 : Vec F S256x256 .bf16) (inb) : View.ld x3 (Rect.unit (s := S256x256) ![0, 0] ![256, 256] inb) = x3 :=
  View.ld_unit_zero (by funext a; fin_cases a <;> rfl) inb x3

set_option maxHeartbeats 2000000 in
/-- THE BODY'S TRIPLE: on whole buffers that hold the query, key and value blocks and the triangle, the body leaves
    them as they were and the output's buffer at `outBlk`. -/
theorem body_run (c : Dev nD) (i : grid0.Coords) (arg3 : Memref sig .tc .vmem S1x256x512 .bf16) (harg3 : arg3.IsWhole)
    (arg4 : Memref sig .tc .vmem S1x16384x512 .bf16) (harg4 : arg4.IsWhole)
    (arg5 : Memref sig .tc .vmem S1x16384x512 .bf16) (harg5 : arg5.IsWhole)
    (arg6 : Memref sig .tc .vmem S256x256 .bf16) (harg6 : arg6.IsWhole)
    (arg7 : Memref sig .tc .vmem S1x256x512 .bf16) (harg7 : arg7.IsWhole)
    (x0 : Vec F S1x256x512 .bf16) (x1 x2 : Vec F S1x16384x512 .bf16) (x3 : Vec F S256x256 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (outBlk i x0 x1 x2 x3)) -∗ K ⟨⟩))
      ⊢ wp frame (wpE (defs₀ (F := F)) Variants.nat c none) E
          (cc0_sb_attn i arg3 harg3 arg4 harg4 arg5 harg5 arg6 harg6 arg7 harg7) K := by
  simp only [cc0_sb_attn_eq_skeleton]; unfold cc0_sb_attn_skel
  simp only [k0_part1_eq_skeleton]
  unfold owns
  iintro ⟨H0, H1, H2, ⟨%f3, %hf3, H3⟩, ⟨%d4, %f4, -, H4⟩, Hk⟩
  sl_exec
  simp only [View.readAt_eq_ld, hf3, ld_u]
  have hword : body_run.sl.v23 i = BitVec.ofNat 32 ((i 2).val + 1) - 1#32 := by
    delta body_run.sl.v23 body_run.sl.v22 body_run.sl.v21 body_run.sl.v20 body_run.sl.v19 body_run.sl.v18 body_run.sl.v12 body_run.sl.v11 body_run.sl.v10 body_run.sl.v9 body_run.sl.v8 body_run.sl.v7 body_run.sl.v6 body_run.sl.v5 body_run.sl.v1 body_run.sl.v0
    generalize (i 2) = j
    revert j
    decide +kernel
  rw [hword]
  iapply (wp_call Variants.nat (c : Thread nD τ) none E ((i 2).val + 1) (fun u hu => by cases hu))
  iapply (loop_run c i (k0_pay5 i) arg3 harg3 arg4 harg4 (k0_pay6 x3) arg5 harg5 x0 x1 x2 E ((i 2).val + 1) (row_lt i) start)
  unfold owns
  isplitl [H0]; · iexact H0
  isplitl [H1]; · iexact H1
  isplitl [H2]; · iexact H2
  iintro %w ⟨H0, H1, H2⟩
  sl_exec
  sl_step
  iapply Hk
  isplitl [H0]; · iexact H0
  isplitl [H1]; · iexact H1
  isplitl [H2]; · iexact H2
  isplitl [H3]
  · iexists _; isplitr
    · ipureintro; exact hf3
    iexact H3
  iexists _; isplitr
  swap; · iexact H4
  ipureintro
  exact View.read_writes_eq_canon arg7.view f4 (pieces i x0 x1 x2 x3) (pieces_cover i x0 x1 x2 x3)

end Cert.KernelIdeal.Run

end
-- ==== Proof.Ideal.Frame.lean ====
/-
  The launch: the pipeline's proof data over the body's triple, the run of @main, the frame, and what the result
  array holds at the end.
-/
module

public import proofs.«01_k».proof.Proof.Ideal.Body
public import Idealize.ShloMosaic.Lib.Claim
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the host operations that build the triangle. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

/-- @main is the host operations, then the region. -/
theorem hmain : Pipeline.HMain (Ix := Unit) (Name := ℕ) (U := UR sig nD τ) (Lvl := ℕ) (cfgs (F := F)) 0 defs₀ Variants.nat m (main (F := F)) (V m) :=
  Pipeline.hmain_prefix (cfgs (F := F)) 0 defs₀ Variants.nat m main hostOps0 hostOps0_sub host_fresh main_chain

/-- A buffer that is none of the five that the host operations write is found by the region as launched. -/
theorem V_kept (c : Dev nD) (b : Ref sig .tc) (h0 : b ≠ main_v0) (h1 : b ≠ main_v1) (h2 : b ≠ main_v2) (h3 : b ≠ main_v3)
    (h4 : b ≠ main_v4) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4⟩))

theorem V_arg0 (c : Dev nD) : V m c main_arg0 = m ((c : Thread nD τ).loc main_arg0) :=
  V_kept m c _ (by decide) (by decide) (by decide) (by decide) (by decide)
theorem V_arg1 (c : Dev nD) : V m c main_arg1 = m ((c : Thread nD τ).loc main_arg1) :=
  V_kept m c _ (by decide) (by decide) (by decide) (by decide) (by decide)
theorem V_arg2 (c : Dev nD) : V m c main_arg2 = m ((c : Thread nD τ).loc main_arg2) :=
  V_kept m c _ (by decide) (by decide) (by decide) (by decide) (by decide)

/-! ## The proof data -/

/-- Window `w`'s block at point `t`, of its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the output's buffer holds after the body at point `t`. -/
def outAt (c : Dev nD) (t : Fin (cfg0 (F := F)).N) : Vec F S1x256x512 .bf16 :=
  outBlk (grid0.coords t) (iblk m c 0 t) (iblk m c 1 t) (iblk m c 2 t) (iblk m c 3 t)

/-- The proof data: the arrays as the region finds them; after the body each input's buffer at its block, the
    output's at `outAt`; nothing owed, full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = iblk m c 3 t := by dsimp only [dats]; rfl
theorem after_4 (c : Dev nD) (t : Fin (cfg0 (F := F)).N) : (dats m 0 c).after 4 t = outAt m c t := by dsimp only [dats]; rfl

/-- Each input's buffer holds its block at every point. -/
theorem before_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)

/-! ## The body obligation -/

abbrev ms (w : Fin (cfg0 (F := F)).W) (t : Fin (cfg0 (F := F)).N) := ((cfg0 (F := F)).win w).stage ((cfg0 (F := F)).slots t w)

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms (F := F) 0 t) fullShare ((dats m 0 c).before 0 t d))
    ∗ (∃ d, owns (c : Thread nD τ) (ms (F := F) 1 t) fullShare ((dats m 0 c).before 1 t d))
    ∗ (∃ d, owns (c : Thread nD τ) (ms (F := F) 2 t) fullShare ((dats m 0 c).before 2 t d))
    ∗ (∃ d, owns (c : Thread nD τ) (ms (F := F) 3 t) fullShare ((dats m 0 c).before 3 t d))
    ∗ (∃ d, owns (c : Thread nD τ) (ms (F := F) 4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms (F := F) 0 t) fullShare ((dats m 0 c).after 0 t)
    ∗ owns (c : Thread nD τ) (ms (F := F) 1 t) fullShare ((dats m 0 c).after 1 t)
    ∗ owns (c : Thread nD τ) (ms (F := F) 2 t) fullShare ((dats m 0 c).after 2 t)
    ∗ owns (c : Thread nD τ) (ms (F := F) 3 t) fullShare ((dats m 0 c).after 3 t)
    ∗ owns (c : Thread nD τ) (ms (F := F) 4 t) fullShare ((dats m 0 c).after 4 t))

/-- The body at any point, from its triple. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  unfold outAt
  iintro ⟨HΦ, Ho, ⟨%d0, H0⟩, ⟨%d1, H1⟩, ⟨%d2, H2⟩, ⟨%d3, H3⟩, ⟨%d4, H4⟩⟩
  iapply (body_run c (grid0.coords t) _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs_row]
  exact triple_restated (sound_body m c t) rfl .rfl fun _ => .rfl

/-! ## The run and the frame -/

set_option backward.isDefEq.respectTransparency.types false in
/-- THE RUN, and every semaphore counter at zero at its end. -/
theorem run_quiescent : θ_run defs (onTc (τ := τ) (main (F := F))) (s₀ m ρ)
    (fun r => (Pipeline.FramePost (cfgs (F := F)) (dats m) 0 (V m)) r ∧ r.2.sem = fun _ => 0) :=
  Pipeline.θ_run_frame (Q' := _) (cfgs (F := F)) (dats m) (0 : Fin 1) launch0 defs₀ Variants.nat m ρ main
    (hbody := fun c => (body_obligation m c).loose) (hshare := fun c => (dats m 0 c).share_full fun _ => rfl)
    (howed := fun _ _ => rfl) (V := V m) (hmain := hmain m) (hA := A_eq m) (hΦ := fun _ _ => rfl)

/-- The run with the result array named, the arguments unchanged and the counters at zero. -/
theorem run_main : θ_run defs (onTc (τ := τ) (main (F := F))) ⟨m, fun _ => 0, ρ⟩ fun r => (∀ c : Dev nD,
      r.2.mem ((c : Thread nD τ).loc main_v5) = (dats m 0 c).arrAt 4 (cfg0 (F := F)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0 :=
  (θ_run defs _ _).mono (fun r h => ⟨fun c => ⟨(h.1 c).1 4,
      ((h.1 c).1 0).trans (((dats m 0 c).arrAt_in 0 rfl _).trans ((A_eq m c 0).trans (V_arg0 m c))),
      ((h.1 c).1 1).trans (((dats m 0 c).arrAt_in 1 rfl _).trans ((A_eq m c 1).trans (V_arg1 m c))),
      ((h.1 c).1 2).trans (((dats m 0 c).arrAt_in 2 rfl _).trans ((A_eq m c 2).trans (V_arg2 m c)))⟩, h.2⟩)
    (run_quiescent m ρ)

/-- THE FRAME: the arguments end unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_main m ρ)

end Cert.KernelIdeal.Run

end
-- ==== Proof.Sb.Spec.lean ====
/-
  The stick-breaking weights of one query over real scores, as functions of the key's position: what both
  programs compute, in natural logarithms.
-/
module

public import Idealize.ShloMosaic.PureOps.Ideal
public import Idealize.ShloMosaic.PureOps.Ideal.Laws

@[expose] public section

noncomputable section

namespace Cert.Sb

open Finset

/-- How many positions a batch row has. -/
abbrev len : ℕ := 16384

/-- The logarithm of `1 + exp x`. -/
def softplus (x : ℝ) : ℝ := max x 0 + Real.log (1 + Real.exp (-|x|))

/-- The logarithm of what the key at `c` leaves of the stick, for the query at `p`; a key that is not before
    the query leaves all of it. -/
def logKeep (s : ℕ → ℝ) (p c : ℕ) : ℝ := if c < p then -softplus (s c) else 0

/-- What the keys from `n` on leave. -/
def tail (s : ℕ → ℝ) (p n : ℕ) : ℝ := ∑ c ∈ Ico n len, logKeep s p c

/-- The weight of the key at `c`. -/
def weight (s : ℕ → ℝ) (p c : ℕ) : ℝ := if c < p then Real.exp (-softplus (-s c) + tail s p (c + 1)) else 0

/-- The weighted sum of the values of the keys from `n` on. -/
def mix (s : ℕ → ℝ) (v : ℕ → EReal) (p n : ℕ) : EReal := ∑ c ∈ Ico n len, (weight s p c : EReal) * v c

/-- A sum over the columns of one block of 256 is a sum over a segment. -/
theorem sum_block {M : Type} [AddCommMonoid M] (f : ℕ → M) (n : ℕ) :
    ∑ c : Fin 256, f (n + c.val) = ∑ c ∈ Ico n (n + 256), f c := by
  rw [sum_Ico_eq_sum_range, Nat.add_sub_cancel_left, sum_range]

theorem tail_block (s : ℕ → ℝ) (p : ℕ) (j : Fin 64) :
    tail s p (256 * j.val) = (∑ c : Fin 256, logKeep s p (256 * j.val + c.val)) + tail s p (256 * (j.val + 1)) := by
  have hj := j.isLt
  rw [sum_block, tail, tail, mul_add, mul_one]
  exact (sum_Ico_consecutive _ (by omega) (by unfold len; omega)).symm

theorem mix_block (s : ℕ → ℝ) (v : ℕ → EReal) (p : ℕ) (j : Fin 64) :
    mix s v p (256 * j.val)
      = (∑ c : Fin 256, (weight s p (256 * j.val + c.val) : EReal) * v (256 * j.val + c.val)) + mix s v p (256 * (j.val + 1)) := by
  have hj := j.isLt
  rw [sum_block (fun c => (weight s p c : EReal) * v c), mix, mix, mul_add, mul_one]
  exact (sum_Ico_consecutive _ (by omega) (by unfold len; omega)).symm

/-- What the keys after `c` leave: those of `c`'s block, then those of the blocks after. -/
theorem tail_within (s : ℕ → ℝ) (p : ℕ) (j : Fin 64) (c : Fin 256) :
    tail s p (256 * j.val + c.val + 1)
      = tail s p (256 * (j.val + 1)) + ∑ k : Fin 256, (if c < k then logKeep s p (256 * j.val + k.val) else 0) := by
  have hj := j.isLt
  have hc := c.isLt
  have h : ∑ k : Fin 256, (if c < k then logKeep s p (256 * j.val + k.val) else 0)
      = ∑ k ∈ Ico (256 * j.val + c.val + 1) (256 * j.val + 256), logKeep s p k := by
    have := sum_block (fun k => if 256 * j.val + c.val < k then logKeep s p k else 0) (256 * j.val)
    have h2 : ∀ k : Fin 256, (if 256 * j.val + c.val < 256 * j.val + k.val then logKeep s p (256 * j.val + k.val) else 0)
        = if c < k then logKeep s p (256 * j.val + k.val) else 0 := fun k => by
      refine if_congr ?_ rfl rfl
      show _ ↔ c.val < k.val; omega
    rw [← sum_congr rfl fun k _ => h2 k, this, ← sum_filter]
    refine sum_congr ?_ fun _ _ => rfl
    ext k; simp only [mem_filter, mem_Ico]; omega
  rw [h, add_comm (tail s p _), tail, tail, mul_add, mul_one]
  exact (sum_Ico_consecutive _ (by omega) (by unfold len; omega)).symm

/-- Keys that are not before the query leave everything and weigh nothing. -/
theorem tail_of_le (s : ℕ → ℝ) (p n : ℕ) (h : p ≤ n) : tail s p n = 0 :=
  sum_eq_zero fun c hc => if_neg (by have := (mem_Ico.mp hc).1; omega)

theorem mix_of_le (s : ℕ → ℝ) (v : ℕ → EReal) (p n : ℕ) (h : p ≤ n) : mix s v p n = 0 :=
  sum_eq_zero fun c hc => by
    rw [weight, if_neg (by have := (mem_Ico.mp hc).1; omega), EReal.coe_zero, zero_mul]

/-- The scores of a query against the keys of its batch row and head, by the key's position. -/
def scoreOf (q : Fin 128 → ℝ) (k : Fin len → Fin 128 → ℝ) (c : ℕ) : ℝ :=
  if h : c < len then (∑ d, q d * k ⟨c, h⟩ d) / Real.sqrt 128 else 0

/-- One column of the values, by the key's position. -/
def valOf (v : Fin len → EReal) (c : ℕ) : EReal := if h : c < len then v ⟨c, h⟩ else 0

theorem scoreOf_of_lt (q : Fin 128 → ℝ) (k : Fin len → Fin 128 → ℝ) (c : Fin len) :
    scoreOf q k c.val = (∑ d, q d * k c d) / Real.sqrt 128 := dif_pos c.isLt

theorem valOf_of_lt (v : Fin len → EReal) (c : Fin len) : valOf v c.val = v c := dif_pos c.isLt

/-- THE ATTENTION of the query at `p`, in one column: its weighted sum of the values of all the keys. -/
def attend (q : Fin 128 → ℝ) (k : Fin len → Fin 128 → ℝ) (v : Fin len → EReal) (p : ℕ) : EReal :=
  mix (scoreOf q k) (valOf v) p 0

end Cert.Sb

end
-- ==== Proof.Sb.Real.lean ====
/-
  Extended reals that are real: sums, maxima, powers of two and logarithms.
-/
module

public import Idealize.ShloMosaic.PureOps.Ideal
public import Idealize.ShloMosaic.PureOps.Ideal.Laws

@[expose] public section

noncomputable section

namespace Cert.Sb

open Idealize.ShloMosaic Finset

/-- A finite sum of reals, taken among the extended reals, is the real sum. -/
theorem coe_sum {ι : Type} (t : Finset ι) (f : ι → ℝ) : ∑ i ∈ t, (f i : EReal) = ((∑ i ∈ t, f i : ℝ) : EReal) := by
  classical
  induction t using Finset.induction_on with
  | empty => rw [sum_empty, sum_empty, EReal.coe_zero]
  | insert a t ha ih => rw [sum_insert ha, sum_insert ha, ih, EReal.coe_add]

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

theorem log_two_pos : 0 < Real.log 2 := Real.log_pos one_lt_two

/-- A power of two of a quotient by `log 2` is an exponential. -/
theorem exp2_div (x : ℝ) : Ideal.exp2 ((x / Real.log 2 : ℝ) : EReal) = ((Real.exp x : ℝ) : EReal) := by
  rw [Ideal.exp2_coe]
  congr 1
  show (2 : ℝ) ^ (x / Real.log 2) = _
  rw [Real.rpow_def_of_pos two_pos, mul_div_cancel₀ x log_two_pos.ne']

/-- The logarithm of a positive real. -/
theorem log_pos_coe {x : ℝ} (h : 0 < x) : Ideal.log (x : EReal) = ((Real.log x : ℝ) : EReal) := by
  rw [Ideal.log_coe, if_neg (not_le.mpr h)]

/-- A real's absolute value, as the programs take it. -/
theorem abs_coe (x : ℝ) : max (x : EReal) (-(x : EReal)) = ((|x| : ℝ) : EReal) := by
  rw [← EReal.coe_neg, coe_max]; rfl

theorem max_div (x : ℝ) : max (x / Real.log 2) 0 = max x 0 / Real.log 2 := by
  rcases le_total x 0 with h | h
  · rw [max_eq_right h, max_eq_right (div_nonpos_of_nonpos_of_nonneg h log_two_pos.le), zero_div]
  · rw [max_eq_left h, max_eq_left (div_nonneg h log_two_pos.le)]

theorem min_div (x : ℝ) : min (x / Real.log 2) 0 = min x 0 / Real.log 2 := by
  rcases le_total x 0 with h | h
  · rw [min_eq_left h, min_eq_left (div_nonpos_of_nonpos_of_nonneg h log_two_pos.le)]
  · rw [min_eq_right h, min_eq_right (div_nonneg h log_two_pos.le), zero_div]

end Cert.Sb

end
-- ==== Proof.Sb.Row.lean ====
/-
  What one trip of the kernel's loop does to one row of one head, over the extended reals, where the row's
  scores are real: its running sum and its weighted sum take in one more block of keys.
-/
module

public import proofs.«01_k».proof.Proof.Ideal.Trip
public import proofs.«01_k».proof.Proof.Sb.Spec
public import proofs.«01_k».proof.Proof.Sb.Real
public import Idealize.ShloMosaic.Lib.Pointwise

@[expose] public section

set_option maxRecDepth 16384

noncomputable section

namespace Cert.KernelIdeal.Run

open Cert.KernelIdeal Cert.KernelIdeal.Gen Cert.Sb
open Idealize.ShloMosaic Idealize.ShloMosaic.TcCoe

/-- The two named constants that a trip reads, at the ideal instance. -/
theorem named_scale : Named.named (F := Ideal) (φ := .f32) κ "scale_log2e" 0x3E0293EE#32
    = (((Real.sqrt 128)⁻¹ * (Real.log 2)⁻¹ : ℝ) : EReal) :=
  IdealRules.named_const.ideal_named_scalar (φ := .f32) κ "scale_log2e" 0x3E0293EE#32 _ rfl

theorem named_log2e : Named.named (F := Ideal) (φ := .f32) κ "log2e" 0x3FB8AA3B#32 = (((Real.log 2)⁻¹ : ℝ) : EReal) :=
  IdealRules.named_const.ideal_named_scalar (φ := .f32) κ "log2e" 0x3FB8AA3B#32 _ rfl

theorem named_dead : Named.named (F := Ideal) (φ := .f32) κ "dead" 0xC3160A50#32 = ⊥ :=
  IdealRules.named_const.ideal_named_scalar (φ := .f32) κ "dead" 0xC3160A50#32 _ rfl

/-- The row's positions: row `r` of query block `i` is query `256 i + r`. -/
theorem pos_apply (i : grid0.Coords) (r : Fin 256) : k0_pay5 i (ix2 r 0) = BitVec.ofNat 32 (256 * (i 2).val + r.val) := by
  pointwise [k0_pay5]
  generalize (i 2).val = n
  show 0#32 + BitVec.ofNat 32 n * 256#32 + BitVec.ofNat 32 r.val = _
  rw [BitVec.zero_add, ← BitVec.ofNat_mul, ← BitVec.ofNat_add, Nat.mul_comm]

/-- The mask: the key is before the query. -/
theorem mask_apply (v4 : IVec S256x1 32) (j : Fin 64) (p : ℕ) (hp : p < 16384) (r c : Fin 256) (h : v4 (ix2 r 0) = BitVec.ofNat 32 p) :
    k0_pay11 v4 (BitVec.ofNat 32 j.val) (ix2 r c) = BitVec.ofBool (decide (256 * j.val + c.val < p)) := by
  pointwise [k0_pay11]
  rw [h]
  have hw : IntOp.addi (Scalar.muli (BitVec.ofNat 32 j.val) 256#32) (BitVec.ofNat 32 c.val) = BitVec.ofNat 32 (256 * j.val + c.val) := by
    show BitVec.ofNat 32 j.val * 256#32 + BitVec.ofNat 32 c.val = _
    rw [← BitVec.ofNat_mul, ← BitVec.ofNat_add, Nat.mul_comm]
  rw [hw]
  have hj := j.isLt
  have hc := c.isLt
  simp (disch := omega) only [hlo_ix]

/-- A score of the block: the product of a query and a key, scaled. -/
theorem score_apply (q k : Vec Ideal S1x256x128 .bf16) (r c : Fin 256) (qr kr : Fin 128 → ℝ)
    (hq : ∀ d : Fin 128, q (ix3 0 r d) = (qr d : EReal)) (hk : ∀ d : Fin 128, k (ix3 0 c d) = (kr d : EReal)) :
    k0_pay12 q k (ix2 r c) = (((∑ d : Fin 128, qr d * kr d) / Real.sqrt 128 / Real.log 2 : ℝ) : EReal) := by
  pointwise [k0_pay12]
  rw [Finset.sum_congr rfl fun d _ => (by rw [hq, hk, ← EReal.coe_mul] : q (ix3 0 r d) * k (ix3 0 c d) = ((qr d * kr d : ℝ) : EReal)),
    coe_sum]
  rw [named_scale]
  rw [← EReal.coe_mul]
  congr 1
  rw [div_eq_mul_inv, div_eq_mul_inv, mul_assoc]

section Row

variable (v4 : IVec S256x1 32) (u : FVec Ideal S256x256 .bf16) (j : Fin 64) (p : ℕ) (r : Fin 256)
  (q k v : Vec Ideal S1x256x128 .bf16) (s : ℕ → ℝ) (w : Fin 128 → ℕ → EReal) (cum : FVec Ideal S256x1 .f32) (acc : FVec Ideal S256x128 .f32)

theorem decay_apply (c : Fin 256) (hz : k0_pay12 q k (ix2 r c) = ((s (256 * j.val + c.val) / Real.log 2 : ℝ) : EReal)) :
    k0_pay13 q k (ix2 r c) = ((Real.log (1 + Real.exp (-|s (256 * j.val + c.val)|)) / Real.log 2 : ℝ) : EReal) := by
  pointwise [k0_pay13]
  rw [hz]
  generalize s (256 * j.val + c.val) = x
  show Ideal.log (1 + Ideal.exp2 (0 - max _ (-_))) * _ = _
  rw [abs_coe, abs_div, abs_of_pos log_two_pos, zero_sub, ← EReal.coe_neg, ← neg_div, exp2_div, ← EReal.coe_one, ← EReal.coe_add,
    log_pos_coe (by positivity)]
  rw [named_log2e]
  rw [← EReal.coe_mul, div_eq_mul_inv]

theorem keep_apply (c : Fin 256) (hm : k0_pay11 v4 (BitVec.ofNat 32 j.val) (ix2 r c) = BitVec.ofBool (decide (256 * j.val + c.val < p)))
    (hz : k0_pay12 q k (ix2 r c) = ((s (256 * j.val + c.val) / Real.log 2 : ℝ) : EReal)) :
    k0_pay14 v4 (BitVec.ofNat 32 j.val) q k (ix2 r c) = ((logKeep s p (256 * j.val + c.val) / Real.log 2 : ℝ) : EReal) := by
  pointwise [k0_pay14]
  rw [hm, hz, decay_apply j r q k s c hz]
  unfold logKeep softplus
  generalize s (256 * j.val + c.val) = x
  rw [← EReal.coe_zero, coe_max, max_div, ← EReal.coe_add, ← EReal.coe_sub, ← add_div, zero_sub]
  by_cases h : 256 * j.val + c.val < p
  · rw [if_pos h, decide_eq_true h, ← neg_div]; rfl
  · rw [if_neg h, decide_eq_false h, zero_div]; rfl

variable (hu : ∀ a b : Fin 256, u (ix2 a b) = if b < a then 1 else 0) (hp : p < 16384) (h4 : v4 (ix2 r 0) = BitVec.ofNat 32 p)
  (hz : ∀ c : Fin 256, k0_pay12 q k (ix2 r c) = ((s (256 * j.val + c.val) / Real.log 2 : ℝ) : EReal))
  (hv : ∀ (d : Fin 128) (c : Fin 256), v (ix3 0 c d) = w d (256 * j.val + c.val))
  (hcum : cum (ix2 r 0) = ((tail s p (256 * (j.val + 1)) / Real.log 2 : ℝ) : EReal))
  (hacc : ∀ d : Fin 128, acc (ix2 r d) = mix s (w d) p (256 * (j.val + 1)))

include hp h4 hz hcum in
/-- The row's running sum takes in the block. -/
theorem cum_step : k0_pay17 cum (k0_pay14 v4 (BitVec.ofNat 32 j.val) q k) (ix2 r 0) = ((tail s p (256 * j.val) / Real.log 2 : ℝ) : EReal) := by
  pointwise [k0_pay17]
  rw [hcum, Finset.sum_congr rfl fun c _ => keep_apply v4 j p r q k s c (mask_apply v4 j p hp r c h4) (hz c), coe_sum, ← EReal.coe_add,
    tail_block, ← Finset.sum_div, ← add_div, add_comm]

include hu hp h4 hz hcum in
/-- What the keys after `c` leave, in the row. -/
theorem after_apply (c : Fin 256) : k0_pay15 v4 u (BitVec.ofNat 32 j.val) cum q k (ix2 r c)
    = ((tail s p (256 * j.val + c.val + 1) / Real.log 2 : ℝ) : EReal) := by
  pointwise [k0_pay15]
  have hk := fun x : Fin 256 => keep_apply v4 j p r q k s x (mask_apply v4 j p hp r x h4) (hz x)
  simp only [hk, hu, hcum]
  have h1 : ∀ x : Fin 256, ((logKeep s p (256 * j.val + x.val) / Real.log 2 : ℝ) : EReal) * (if c < x then 1 else 0)
      = (((if c < x then logKeep s p (256 * j.val + x.val) else 0) / Real.log 2 : ℝ) : EReal) := fun x => by
    split
    · rw [mul_one]
    · rw [mul_zero, zero_div, EReal.coe_zero]
  have h2 : ∀ x : Fin 256, (((logKeep s p (256 * j.val + x.val) / Real.log 2 : ℝ) : EReal) - ((logKeep s p (256 * j.val + x.val) / Real.log 2 : ℝ) : EReal))
      * (if c < x then 1 else 0) = 0 := fun x => by
    rw [← EReal.coe_sub, sub_self, EReal.coe_zero, zero_mul]
  simp only [h1, h2]
  rw [Finset.sum_const_zero, add_zero, coe_sum, ← EReal.coe_add, tail_within, ← Finset.sum_div, ← add_div]

include hu hp h4 hz hv hcum hacc in
/-- The row's weighted sum takes in the block. -/
theorem acc_step (d : Fin 128) :
    k0_pay16 acc (k0_pay11 v4 (BitVec.ofNat 32 j.val)) (k0_pay12 q k) (k0_pay13 q k) (k0_pay15 v4 u (BitVec.ofNat 32 j.val) cum q k) v (ix2 r d)
      = mix s (w d) p (256 * j.val) := by
  pointwise [k0_pay16]
  rw [hacc, mix_block, add_comm]
  refine congrArg (· + _) (Finset.sum_congr rfl fun c _ => ?_)
  rw [mask_apply v4 j p hp r c h4, hz, decay_apply j r q k s c (hz c), after_apply v4 u j p r q k s cum hu hp h4 hz hcum, hv]
  unfold weight
  by_cases h : 256 * j.val + c.val < p
  · rw [if_pos h, decide_eq_true h]
    refine congrArg (· * _) ?_
    generalize tail s p (256 * j.val + c.val + 1) = t
    generalize s (256 * j.val + c.val) = x
    show Ideal.exp2 _ = _
    rw [← EReal.coe_zero, coe_min, min_div, ← EReal.coe_sub, ← EReal.coe_add, ← sub_div, ← add_div, exp2_div]
    congr 3
    unfold softplus
    rw [abs_neg, neg_add, ← sub_eq_add_neg]
    congr 1
    rw [← min_neg_neg, neg_neg, neg_zero]
  · rw [if_neg h, decide_eq_false h, EReal.coe_zero, zero_mul]; rfl

end Row

/-- Running sums that are real do not stop the loop. -/
theorem go_of_real (c0 c1 c2 c3 : FVec Ideal S256x1 .f32) (h : c3 (ix2 0 0) ≠ ⊥) :
    Scalar.cmpf .ogt (k0_pay4 (topCum c0 c1 c2 c3)) (Named.named (F := Ideal) (φ := .f32) κ "dead" 0xC3160A50#32) = 1#1 := by
  rw [named_dead]
  have hlt : ⊥ < k0_pay4 (topCum c0 c1 c2 c3) := by
    pointwise [k0_pay4, topCum]
    refine (Finset.lt_fold_max _).mpr (Or.inr ⟨(0, 0), Finset.mem_univ _, ?_⟩)
    exact lt_max_of_lt_right (bot_lt_iff_ne_bot.mpr h)
  show Ideal.cmp .ogt _ _ = _
  unfold Ideal.cmp
  rw [decide_eq_true hlt]; rfl

end Cert.KernelIdeal.Run

end
-- ==== Proof.Sb.Loop.lean ====
/-
  What the kernel's loop leaves in a row of a head, over the extended reals, where queries and keys are real:
  the flag never stops it, and the weighted sum is that of all the keys. Then the output block of a grid point.
-/
module

public import proofs.«01_k».proof.Proof.Ideal.Body
public import proofs.«01_k».proof.Proof.Sb.Row

@[expose] public section

set_option maxRecDepth 16384

noncomputable section

namespace Cert.KernelIdeal.Run

open Cert.KernelIdeal Cert.KernelIdeal.Gen Cert.Sb
open Idealize.ShloMosaic Idealize.ShloMosaic.TcCoe

section Loop

variable (v4 : IVec S256x1 32) (u : FVec Ideal S256x256 .bf16) (x0 : Vec Ideal S1x256x512 .bf16) (x1 x2 : Vec Ideal S1x16384x512 .bf16)
  (p : Fin 256 → ℕ) (s : Fin 4 → Fin 256 → ℕ → ℝ) (w : Fin 4 → Fin 128 → ℕ → EReal)
  (hu : ∀ a b : Fin 256, u (ix2 a b) = if b < a then 1 else 0) (hp : ∀ r, p r < 16384) (h4 : ∀ r, v4 (ix2 r 0) = BitVec.ofNat 32 (p r))
  (hz : ∀ (j : Fin 64) (h : Fin 4) (r c : Fin 256), k0_pay12 (qSlab x0 h) (kSlab x1 j h) (ix2 r c)
    = ((s h r (256 * j.val + c.val) / Real.log 2 : ℝ) : EReal))
  (hv : ∀ (j : Fin 64) (h : Fin 4) (d : Fin 128) (c : Fin 256), kSlab x2 j h (ix3 0 c d) = w h d (256 * j.val + c.val))

include hu hp h4 hz hv in
/-- With `n` blocks to go and the later blocks' sums taken, the loop ends with the sums over all the blocks. -/
theorem loop_acc (n : ℕ) : ∀ (hn : n ≤ 64) (t : Carry Ideal), t.go = 1#1
    → (∀ h r, t.cum h (ix2 r 0) = ((tail (s h r) (p r) (256 * n) / Real.log 2 : ℝ) : EReal))
    → (∀ h r d, t.acc h (ix2 r d) = mix (s h r) (w h d) (p r) (256 * n))
    → ∀ h r d, (runLoop v4 u x0 x1 x2 n hn t).acc h (ix2 r d) = mix (s h r) (w h d) (p r) 0 := by
  induction n with
  | zero => intro hn t _ _ hacc h r d; rw [runLoop]; exact hacc h r d
  | succ n ih =>
    intro hn t hgo hcum hacc h r d
    rw [runLoop, if_pos hgo]
    have hc : ∀ h r, (trip v4 u x0 x1 x2 ⟨n, hn⟩ t).cum h (ix2 r 0) = ((tail (s h r) (p r) (256 * n) / Real.log 2 : ℝ) : EReal) :=
      fun h r => cum_step v4 ⟨n, hn⟩ (p r) r (qSlab x0 h) (kSlab x1 ⟨n, hn⟩ h) (s h r) (t.cum h) (hp r) (h4 r) (hz ⟨n, hn⟩ h r) (hcum h r)
    refine ih _ _ (go_of_real _ _ _ _ ?_) hc (fun h r d => ?_) h r d
    · exact (hc 3 0).trans_ne (EReal.coe_ne_bot _)
    · exact acc_step v4 u ⟨n, hn⟩ (p r) r (qSlab x0 h) (kSlab x1 ⟨n, hn⟩ h) (kSlab x2 ⟨n, hn⟩ h) (s h r) (w h) (t.cum h) (t.acc h) hu (hp r) (h4 r)
        (hz ⟨n, hn⟩ h r) (hv ⟨n, hn⟩ h) (hcum h r) (hacc h r) d

end Loop

/-- THE OUTPUT BLOCK of grid point `i`, over real queries and keys, before its rounding: at row `r` and column `128 h + d`, the attention of
    query `256 i + r` with head `h`'s columns. -/
theorem outBlk_apply (i : grid0.Coords) (x0 : Vec Ideal S1x256x512 .bf16) (x1 x2 : Vec Ideal S1x16384x512 .bf16) (x3 : Vec Ideal S256x256 .bf16)
    (Q : S1x256x512.Idx → ℝ) (K : S1x16384x512.Idx → ℝ) (hQ : ∀ y, x0 y = (Q y : EReal)) (hK : ∀ y, x1 y = (K y : EReal))
    (hu : ∀ a b : Fin 256, x3 (ix2 a b) = if b < a then 1 else 0) (h : Fin 4) (r : Fin 256) (d : Fin 128) :
    (fin i x0 x1 x2 x3).acc h (ix2 r d)
      = attend (fun e => Q (qIx h (ix3 0 r e))) (fun c e => K (ix3 0 c ⟨128 * h.val + e.val, by omega⟩))
          (fun c => x2 (ix3 0 c ⟨128 * h.val + d.val, by omega⟩)) (256 * (i 2).val + r.val) := by
  have hi : (i 2).val < 64 := (i 2).isLt
  have hix : ∀ (j : Fin 64) (h : Fin 4) (c : Fin 256) (e : Fin 128), kIx j h (ix3 0 c e)
      = ix3 0 (⟨256 * j.val + c.val, by omega⟩ : Fin 16384) (⟨128 * h.val + e.val, by omega⟩ : Fin 512) := fun j h c e => by
    funext a
    match a with
    | 0 => rfl
    | 1 => rfl
    | 2 => rfl
  refine loop_acc (k0_pay5 i) (k0_pay6 x3) x0 x1 x2 (fun r => 256 * (i 2).val + r.val)
    (fun h r => scoreOf (fun e => Q (qIx h (ix3 0 r e))) (fun c e => K (ix3 0 c ⟨128 * h.val + e.val, by omega⟩)))
    (fun h d => valOf (fun c => x2 (ix3 0 c ⟨128 * h.val + d.val, by omega⟩)))
    (fun a b => ?_) (fun r => ?_) (fun r => pos_apply i r) (fun j h r c => ?_) (fun j h d c => ?_) ((i 2).val + 1) (row_lt i) start rfl
    (fun h r => ?_) (fun h r d => ?_) h r d
  · rw [← hu]; pointwise [k0_pay6]
  · have := r.isLt; show 256 * (i 2).val + r.val < 16384; omega
  · rw [score_apply (qSlab x0 h) (kSlab x1 j h) r c (fun e => Q (qIx h (ix3 0 r e)))
      (fun e => K (ix3 0 ⟨256 * j.val + c.val, by omega⟩ ⟨128 * h.val + e.val, by omega⟩)) (fun e => hQ _)
      (fun e => (hK _).trans (by rw [hix]))]
    exact congrArg (fun z : ℝ => ((z / Real.log 2 : ℝ) : EReal)) (scoreOf_of_lt (fun e => Q (qIx h (ix3 0 r e)))
      (fun c e => K (ix3 0 c ⟨128 * h.val + e.val, by omega⟩)) (⟨256 * j.val + c.val, show 256 * j.val + c.val < 16384 by omega⟩ : Fin len)).symm
  · show x2 (kIx j h (ix3 0 c d)) = _
    rw [hix]
    exact (valOf_of_lt (fun c => x2 (ix3 0 c ⟨128 * h.val + d.val, by omega⟩)) (⟨256 * j.val + c.val, show 256 * j.val + c.val < 16384 by omega⟩ : Fin len)).symm
  · rw [tail_of_le _ _ _ (by have := r.isLt; omega), zero_div, EReal.coe_zero]
    show k0_pay7 (F := Ideal) (ix2 r 0) = 0
    pointwise [k0_pay7]
  · rw [mix_of_le _ _ _ _ (by have := r.isLt; omega)]
    show k0_pay8 (F := Ideal) (ix2 r d) = 0
    pointwise [k0_pay8]

end Cert.KernelIdeal.Run

end
-- ==== Proof.Sb.Attn.lean ====
/-
  The attention of a whole layer call as one function of the query, key and value arrays: what both programs are
  compared with.
-/
module

public import Idealize.ShloMosaic.Lib.Pointwise
public import proofs.«01_k».proof.Proof.Sb.Spec

@[expose] public section

noncomputable section

namespace Cert.Sb

open Idealize.ShloMosaic

/-- The shape of the queries, the keys, the values and the result: batch row, position, and the heads' columns side by side. -/
abbrev Arr : Shape := ⟨3, ![2, 16384, 1024]⟩

/-- Column `e` of the head that column `col` belongs to. -/
def headCol (col : Fin 1024) (e : Fin 128) : Fin 1024 := ⟨128 * (col.val / 128) + e.val, by omega⟩

/-- THE LAYER'S ATTENTION: at batch row `b`, position `p` and column `col`, the attention of the query there with the
    keys of its batch row and head, in the values' column `col`. -/
def attn (q k v : Arr.Idx → EReal) (b : Fin 2) (p : Fin 16384) (col : Fin 1024) : EReal :=
  attend (fun e => (q (ix3 b p (headCol col e))).toReal) (fun c e => (k (ix3 b c (headCol col e))).toReal)
    (fun c => v (ix3 b c col)) p.val

/-- The result array. -/
def attnArr (q k v : Arr.Idx → EReal) : Arr.Idx → EReal := fun i => attn q k v (i 0) (i 1) (i 2)

end Cert.Sb

end
-- ==== Proof.Sb.Array.lean ====
/-
  The idealized kernel's result array: the triangle that the host operations build, the blocks at coordinates, and the
  array at the end of the run.
-/
module

public import Idealize.ShloMosaic.Lib.Pipeline.ValueKit
public import proofs.«01_k».proof.Proof.Ideal.Frame
public import proofs.«01_k».proof.Proof.Sb.Loop
public import proofs.«01_k».proof.Proof.Sb.Attn

@[expose] public section

set_option maxRecDepth 16384

noncomputable section

namespace Cert.KernelIdeal.Run

open Cert.KernelIdeal Cert.KernelIdeal.Gen Cert.Sb
open Idealize.ShloMosaic Idealize.ShloMosaic.TcCoe
open Idealize.ShloMosaic.Pipeline (Dat Cfg Window)

variable (m : (ℓ : Loc nD τ sig) → Buf (Elt Ideal) ℓ)

/-- The triangle that the host operations build: one strictly below the diagonal. -/
theorem V_triangle (c : Dev nD) (a b : Fin 256) : @Eq EReal (V m c main_v4 (ix2 a b)) (if b < a then 1 else 0) := by
  have h : V m c main_v4 = (truncf .bf16 (uitofp (F := Ideal) .f32 (cmpi .sgt (iotaInDim S256x256 32 0) (iotaInDim S256x256 32 1))) bitsLt_bf16_f32) := by
    simp only [V, hostOps0]
    after_results_simp <;> rfl
  rw [h]
  pointwise
  have ha := a.isLt
  have hb := b.isLt
  by_cases hab : b < a
  · have hw : IntOp.cmpi .sgt (BitVec.ofNat 32 a.val) (BitVec.ofNat 32 b.val) = 1#1 := by
      have : b.val < a.val := hab
      simp (disch := omega) only [hlo_ix]
      simp [this]
    rw [hw, if_pos hab]
    show (((1#1 : BitVec 1).toNat : ℝ) : EReal) = 1
    norm_num
  · have hw : IntOp.cmpi .sgt (BitVec.ofNat 32 a.val) (BitVec.ofNat 32 b.val) = 0#1 := by
      have : ¬ b.val < a.val := hab
      simp (disch := omega) only [hlo_ix]
      simp [this]
    rw [hw, if_neg hab]
    show (((0#1 : BitVec 1).toNat : ℝ) : EReal) = 0
    norm_num

/-- Each window's block at a grid point: batch row, query block and group of four heads. -/
theorem index_facts (t : Fin (cfg0 (F := Ideal)).N) :
    win0_0.index t 0 = (grid0.coords t 0).val ∧ win0_0.index t 1 = (grid0.coords t 2).val ∧ win0_0.index t 2 = (grid0.coords t 1).val
    ∧ win0_1.index t 0 = (grid0.coords t 0).val ∧ win0_1.index t 1 = 0 ∧ win0_1.index t 2 = (grid0.coords t 1).val
    ∧ win0_2.index t 0 = (grid0.coords t 0).val ∧ win0_2.index t 1 = 0 ∧ win0_2.index t 2 = (grid0.coords t 1).val
    ∧ win0_4.index t 0 = (grid0.coords t 0).val ∧ win0_4.index t 1 = (grid0.coords t 2).val ∧ win0_4.index t 2 = (grid0.coords t 1).val := by
  revert t; decide +kernel

/-- The triangle's block is the whole triangle at every grid point. -/
theorem index_facts_triangle (t : Fin (cfg0 (F := Ideal)).N) : win0_3.index t 0 = 0 ∧ win0_3.index t 1 = 0 := by
  revert t; decide +kernel

/-- One store of grid point `t`, at an element: the attention of the query there. -/
theorem piece_apply (c : Dev nD) (hq : ∀ y, (m ((c : Thread nD τ).loc main_arg0) : Arr.Idx → EReal) y = (((m ((c : Thread nD τ).loc main_arg0) : Arr.Idx → EReal) y).toReal : EReal))
    (hk : ∀ y, (m ((c : Thread nD τ).loc main_arg1) : Arr.Idx → EReal) y = (((m ((c : Thread nD τ).loc main_arg1) : Arr.Idx → EReal) y).toReal : EReal))
    (t : Fin (cfg0 (F := Ideal)).N) (h : Fin 4) (x : S1x256x128.Idx) (y : S1x256x512.Idx) (h1 : (y 1).val = (x 1).val) (h2 : (y 2).val = 128 * h.val + (x 2).val) :
    k0_pay9 ((fin (grid0.coords t) (iblk m c 0 t) (iblk m c 1 t) (iblk m c 2 t) (iblk m c 3 t)).acc h) x
      = attnArr (m ((c : Thread nD τ).loc main_arg0)) (m ((c : Thread nD τ).loc main_arg1)) (m ((c : Thread nD τ).loc main_arg2)) ((win0_4.blk t).view.emb y) := by
  have hx : x = ix3 0 (x 1) (x 2) := by
    funext a
    match a with
    | 0 => exact Subsingleton.elim (α := Fin 1) _ _
    | 1 => rfl
    | 2 => rfl
  generalize hA : (fin (grid0.coords t) (iblk m c 0 t) (iblk m c 1 t) (iblk m c 2 t) (iblk m c 3 t)).acc h = A
  have hp : k0_pay9 A x = A (ix2 (x 1) (x 2)) := by
    rw [hx]; generalize x 1 = r, x 2 = d; pointwise [k0_pay9]
  rw [hp, ← hA]
  rw [outBlk_apply (grid0.coords t) (iblk m c 0 t) (iblk m c 1 t) (iblk m c 2 t) (iblk m c 3 t) (fun y => (iblk m c 0 t y : EReal).toReal)
    (fun y => (iblk m c 1 t y : EReal).toReal) (fun y => hq _) (fun y => hk _) (fun a b => ?_) h (x 1) (x 2)]
  · obtain ⟨e00, e01, e02, e10, e11, e12, e20, e21, e22, e40, e41, e42⟩ := index_facts t
    have hy0 : (y 0).val = 0 := by have : (y 0).val < 1 := (y 0).isLt; omega
    have hx2 : (x 2).val < 128 := (x 2).isLt
    have hx1 : (x 1).val < 256 := (x 1).isLt
    have hh := h.isLt
    have E0 : ((win0_4.blk t).view.emb y 0).val = (grid0.coords t 0).val := by blk_simp; rw [e40]
    have E1 : ((win0_4.blk t).view.emb y 1).val = (grid0.coords t 2).val * 256 + (x 1).val := by blk_simp; rw [e41, h1]
    have E2 : ((win0_4.blk t).view.emb y 2).val = (grid0.coords t 1).val * 512 + (128 * h.val + (x 2).val) := by blk_simp; rw [e42, h2]
    have E3 (e : Fin 128) : (grid0.coords t 1).val * 512 + (128 * h.val + e.val) = (headCol ((win0_4.blk t).view.emb y 2) e).val := by
      show _ = 128 * (((win0_4.blk t).view.emb y 2).val / 128) + e.val
      rw [E2]; omega
    unfold attnArr attn
    congr 1
    · funext e
      blk_simp [iblk]
      rw [V_arg0]
      refine congrArg (fun i => EReal.toReal (m ((c : Thread nD τ).loc main_arg0) i)) (funext fun a => Fin.ext ?_)
      match a with
      | 0 => refine Eq.trans ?_ E0.symm; blk_simp; rw [e00]
      | 1 => refine Eq.trans ?_ E1.symm; blk_simp; rw [e01]; rfl
      | 2 => refine Eq.trans ?_ (E3 e); blk_simp; rw [e02]; rfl
    · funext k e
      blk_simp [iblk]
      rw [V_arg1]
      refine congrArg (fun i => EReal.toReal (m ((c : Thread nD τ).loc main_arg1) i)) (funext fun a => Fin.ext ?_)
      match a with
      | 0 => refine Eq.trans ?_ E0.symm; blk_simp; rw [e10]; rfl
      | 1 => blk_simp; rw [e11]; show 0 * 16384 + k.val = k.val; omega
      | 2 => refine Eq.trans ?_ (E3 e); blk_simp; rw [e12]
    · funext k
      blk_simp [iblk]
      rw [V_arg2]
      refine congrArg (m ((c : Thread nD τ).loc main_arg2)) (funext fun a => Fin.ext ?_)
      match a with
      | 0 => refine Eq.trans ?_ E0.symm; blk_simp; rw [e20]; rfl
      | 1 => blk_simp; rw [e21]; show 0 * 16384 + k.val = k.val; omega
      | 2 => refine Eq.trans ?_ E2.symm; blk_simp; rw [e22]
    · refine Eq.trans ?_ E1.symm
      omega
  · obtain ⟨e30, e31⟩ := index_facts_triangle t
    rw [← V_triangle m c a b]
    blk_simp [iblk]
    refine congrArg (V m c main_v4) (funext fun k => Fin.ext ?_)
    match k with
    | 0 => blk_simp; rw [e30]; show 0 * 256 + a.val = a.val; omega
    | 1 => blk_simp; rw [e31]; show 0 * 256 + b.val = b.val; omega

/-- The array at the end. -/
theorem array_eq (c : Dev nD) (hq : ∀ y, (m ((c : Thread nD τ).loc main_arg0) : Arr.Idx → EReal) y = (((m ((c : Thread nD τ).loc main_arg0) : Arr.Idx → EReal) y).toReal : EReal))
    (hk : ∀ y, (m ((c : Thread nD τ).loc main_arg1) : Arr.Idx → EReal) y = (((m ((c : Thread nD τ).loc main_arg1) : Arr.Idx → EReal) y).toReal : EReal)) :
    (dats m 0 c).arrAt 4 (cfg0 (F := Ideal)).N
      = attnArr (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after_4]
  unfold outAt outBlk pieces
  canon_tiles x h using pieces_cover ..
  · exact piece_apply m c hq hk t 3 x y h1 h2
  · exact piece_apply m c hq hk t 2 x y h1 h2
  · exact piece_apply m c hq hk t 1 x y h1 h2
  · exact piece_apply m c hq hk t 0 x y h1 (by rw [h2]; show (x 2).val = 128 * 0 + (x 2).val; omega)

end Cert.KernelIdeal.Run

end
-- ==== Proof.Sb.Window.lean ====
/-
  The reference's running sum from the right, over the extended reals: at a position, the sum of the entries from
  there on.
-/
module

public import Idealize.ShloMosaic.Lib.Pointwise
public import proofs.«01_k».proof.Proof.Sb.Real

@[expose] public section

noncomputable section

namespace Cert.Sb

open Idealize.ShloMosaic
open Finset

/-- A left fold of additions over the numbers below `M` is their sum. -/
theorem foldl_add_sum (M : ℕ) (g : Fin M → EReal) (z : EReal) :
    (List.finRange M).foldl (fun r n => r + g n) z = z + ∑ n, g n := by
  have h : ∀ (l : List (Fin M)) (z : EReal), l.foldl (fun r n => r + g n) z = z + (l.map g).sum := fun l => by
    induction l with
    | nil => intro z; simp
    | cons a l ih => intro z; rw [List.foldl_cons, ih, List.map_cons, List.sum_cons, add_assoc]
  rw [h, Fin.sum_univ_def]

/-- The last coordinate of a window's position, where the window is one wide on the other axes. -/
theorem window_last (N : ℕ) (n : Fin (⟨4, ![1, 1, 1, N]⟩ : Shape).numel) (a : Fin 4) :
    ((⟨4, ![1, 1, 1, N]⟩ : Shape).rowMajor.symm n a).val = if a = 3 then n.val else 0 := by
  have h := Shape.rowMajor_val_four ((⟨4, ![1, 1, 1, N]⟩ : Shape).rowMajor.symm n)
  rw [Equiv.apply_symm_apply] at h
  have h0 : ((⟨4, ![1, 1, 1, N]⟩ : Shape).rowMajor.symm n 0).val < 1 := ((⟨4, ![1, 1, 1, N]⟩ : Shape).rowMajor.symm n 0).isLt
  have h1 : ((⟨4, ![1, 1, 1, N]⟩ : Shape).rowMajor.symm n 1).val < 1 := ((⟨4, ![1, 1, 1, N]⟩ : Shape).rowMajor.symm n 1).isLt
  have h2 : ((⟨4, ![1, 1, 1, N]⟩ : Shape).rowMajor.symm n 2).val < 1 := ((⟨4, ![1, 1, 1, N]⟩ : Shape).rowMajor.symm n 2).isLt
  have e0 := Nat.lt_one_iff.mp h0
  have e1 := Nat.lt_one_iff.mp h1
  have e2 := Nat.lt_one_iff.mp h2
  rw [e0, e1, e2] at h
  simp only [Nat.zero_mul, Nat.zero_add] at h
  match a with
  | 0 => exact e0
  | 1 => exact e1
  | 2 => exact e2
  | 3 => exact h.symm

/-- THE RUNNING SUM FROM THE RIGHT, along the last of four axes: a window as long as the axis, padded high by one less. -/
theorem revCumsum {A B C N Nm1 : ℕ} (hN : Nm1 + 1 = N) (x : FVec Ideal ⟨4, ![A, B, C, N]⟩ .f32) (init : FVec Ideal ⟨0, ![]⟩ .f32) (hi : ∀ y, init y = 0)
    (h : (⟨4, ![A, B, C, N]⟩ : Shape).ReduceWindows (![1, 1, 1, N] : Fin 4 → ℕ) ![1, 1, 1, 1] ![0, 0, 0, 0] ![0, 0, 0, Nm1] ⟨4, ![A, B, C, N]⟩)
    (hu : 0 < (⟨0, ![]⟩ : Shape).numel) (f : ℕ → ℝ) (a : Fin A) (b : Fin B) (c : Fin C) (hx : ∀ k : Fin N, x (ix4 a b c k) = (f k.val : EReal)) (k : Fin N) :
    Host.reduceWindowAdd ![1, 1, 1, N] ![1, 1, 1, 1] ![0, 0, 0, 0] ![0, 0, 0, Nm1] x init h hu (ix4 a b c k)
      = ((∑ n ∈ Ico k.val N, f n : ℝ) : EReal) := by
  have hk := k.isLt
  have ha := a.isLt
  have hb := b.isLt
  have hc := c.isLt
  show Ideal.hostReduceWindowAdd (s := ⟨4, ![A, B, C, N]⟩) ![1, 1, 1, N] ![1, 1, 1, 1] ![0, 0, 0, 0] ![0, 0, 0, Nm1] h x (init (Shape.Idx.first hu)) (ix4 a b c k) = _
  unfold Ideal.hostReduceWindowAdd Host.reduceWindow
  rw [hi]
  refine (foldl_add_sum _ _ _).trans ?_
  rw [zero_add]
  have hM : (⟨4, ![1, 1, 1, N]⟩ : Shape).numel = N := by
    unfold Shape.numel
    refine (Fin.prod_univ_four _).trans ?_
    show 1 * 1 * 1 * N = N
    omega
  refine (sum_congr (g := fun n : Fin (⟨4, ![1, 1, 1, N]⟩ : Shape).numel => if k.val + n.val < N then (f (k.val + n.val) : EReal) else 0)
    rfl fun n _ => ?_).trans ?_
  · show _ = if k.val + n.val < N then (f (k.val + n.val) : EReal) else 0
    have w0 := window_last N n 0
    have w1 := window_last N n 1
    have w2 := window_last N n 2
    have w3 := window_last N n 3
    rw [if_neg (by decide)] at w0 w1 w2
    rw [if_pos rfl] at w3
    by_cases hlt : k.val + n.val < N
    · rw [if_pos hlt, dif_pos]
      · refine Eq.trans (congrArg x (funext fun e => Fin.ext ?_)) (hx ⟨k.val + n.val, hlt⟩)
        match e with
        | 0 => show a.val * 1 + _ - 0 = a.val; rw [w0]; omega
        | 1 => show b.val * 1 + _ - 0 = b.val; rw [w1]; omega
        | 2 => show c.val * 1 + _ - 0 = c.val; rw [w2]; omega
        | 3 => show k.val * 1 + _ - 0 = k.val + n.val; rw [w3]; omega
      · intro e
        match e with
        | 0 => show 0 ≤ a.val * 1 + _ ∧ a.val * 1 + _ - 0 < A; rw [w0]; omega
        | 1 => show 0 ≤ b.val * 1 + _ ∧ b.val * 1 + _ - 0 < B; rw [w1]; omega
        | 2 => show 0 ≤ c.val * 1 + _ ∧ c.val * 1 + _ - 0 < C; rw [w2]; omega
        | 3 => show 0 ≤ k.val * 1 + _ ∧ k.val * 1 + _ - 0 < N; rw [w3]; omega
    · rw [if_neg hlt, dif_neg]
      intro hin
      have h3 : k.val * 1 + ((⟨4, ![1, 1, 1, N]⟩ : Shape).rowMajor.symm n 3).val - 0 < N := (hin 3).2
      rw [w3] at h3
      omega
  rw [Fin.sum_univ_eq_sum_range (fun n => if k.val + n < N then (f (k.val + n) : EReal) else 0), hM, ← coe_sum, sum_Ico_eq_sum_range]
  rw [← sum_filter]
  refine sum_congr ?_ fun _ _ => rfl
  ext n; simp only [mem_filter, mem_range]; omega

end Cert.Sb

end
-- ==== Proof.Sb.Ref.lean ====
/-
  The reference's result at an element, over real queries and keys: the layer's attention.
-/
module

public import Idealize.ShloMosaic.Lib.Pointwise
public import Idealize.ShloMosaic.Lib.WordCmp
public import proofs.«01_k».proof.Proof.Gen.ReferenceIdeal.Run
public import proofs.«01_k».proof.Proof.Sb.Window
public import proofs.«01_k».proof.Proof.Sb.Attn

@[expose] public section

set_option maxRecDepth 16384

noncomputable section

namespace Cert.ReferenceIdeal.Value

open Cert.ReferenceIdeal Cert.ReferenceIdeal.Gen Cert.Sb
open Idealize.ShloMosaic Idealize.ShloMosaic.TcCoe

/-- The scores of every query against every key, by batch row and head. -/
def scores (q k : FVec Ideal S2x16384x1024 .bf16) : FVec Ideal S2x8x16384x16384 .f32 :=
  Host.divf (Host.dotGeneral dot_S2x16384x8x128_S2x16384x8x128_S2x8x16384x16384_3_3_1_1_02_02 none
      (shapeCast _ (extf .f32 q bitsLt_bf16_f32) shapeCasts_S2x16384x1024_S2x16384x8x128)
      (shapeCast _ (extf .f32 k bitsLt_bf16_f32) shapeCasts_S2x16384x1024_S2x16384x8x128))
    (broadcastInDim S2x8x16384x16384 ![] bcast_S_S2x8x16384x16384 (Host.sqrt (constant S_ .f32 0x43000000#32)))

/-- Which keys are before which queries. -/
def before : IVec S2x8x16384x16384 1 :=
  broadcastInDim S2x8x16384x16384 ![2, 3] bcast_S16384x16384_S2x8x16384x16384_2_3
    (cmpi .slt (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))

/-- Zero everywhere. -/
def zeros : FVec Ideal S2x8x16384x16384 .f32 := broadcastInDim S2x8x16384x16384 ![] bcast_S_S2x8x16384x16384 (constant S_ .f32 0x00000000#32)

/-- The logarithm of one plus the exponential, as the reference spells it. -/
def softplusOf (x : FVec Ideal S2x8x16384x16384 .f32) : FVec Ideal S2x8x16384x16384 .f32 :=
  select (cmpf .une (subf x zeros) (subf x zeros)) (addf x zeros)
    (addf (maximumf x zeros) (Host.log1p (Host.exp (Host.negf (Host.absf (subf x zeros))))))

/-- What each key leaves of the stick, in logarithms. -/
def keepOf (z : FVec Ideal S2x8x16384x16384 .f32) : FVec Ideal S2x8x16384x16384 .f32 :=
  select before (Host.negf (softplusOf (Host.negf (Host.negf z)))) zeros

/-- The weights. -/
def weightOf (z : FVec Ideal S2x8x16384x16384 .f32) : FVec Ideal S2x8x16384x16384 .f32 :=
  select before (Host.exp (addf (Host.negf (softplusOf (Host.negf z)))
    (subf (Host.reduceWindowAdd ![1, 1, 1, 16384] ![1, 1, 1, 1] ![0, 0, 0, 0] ![0, 0, 0, 16383] (keepOf z)
      (broadcastInDim S_ ![] bcast_S_S_ (constant S_ .f32 0x00000000#32))
      reduceWindows_S2x8x16384x16384_S2x8x16384x16384_w1s1p0_0_w1s1p0_0_w1s1p0_0_w16384s1p0_16383 h_S_) (keepOf z)))) zeros

/-- The weighted sums of the values. -/
def sumOf (v : FVec Ideal S2x16384x1024 .bf16) (a : FVec Ideal S2x8x16384x16384 .f32) : FVec Ideal S2x16384x1024 .bf16 :=
  truncf .bf16 (shapeCast _ (transpose S2x16384x8x128 [0, 3, 1, 2]
    (Host.dotGeneral dot_S2x16384x8x128_S2x8x16384x16384_S2x8x128x16384_1_3_3_2_02_01 none
      (shapeCast _ (extf .f32 v bitsLt_bf16_f32) shapeCasts_S2x16384x1024_S2x16384x8x128) a)
    transposes_S2x8x128x16384_S2x16384x8x128_0_3_1_2) shapeCasts_S2x16384x8x128_S2x16384x1024) bitsLt_bf16_f32

/-- The reference's result is these, composed. -/
theorem res_eq (m : (ℓ : Loc nD τ sig) → Buf (Elt Ideal) ℓ) (c : Dev nD) :
    res_main_v28 m c = sumOf (m ((c.tc : Thread nD τ).loc main_arg2))
      (weightOf (scores (m ((c.tc : Thread nD τ).loc main_arg0)) (m ((c.tc : Thread nD τ).loc main_arg1)))) := rfl

/-- A column's head. -/
def head (col : Fin 1024) : Fin 8 := ⟨col.val / 128, by omega⟩

/-- The literal 128. -/
theorem lit_128 : Ideal.ofBits .f32 0x43000000#32 = ((128 : ℝ) : EReal) := by
  simp [Ideal.ofBits, Ideal.ieee, -EReal.coe_mul]; norm_num

/-- A score, where the query and the key are real. -/
theorem scores_apply (q k : FVec Ideal S2x16384x1024 .bf16) (b : Fin 2) (col : Fin 1024) (p c : Fin 16384) (qr kr : Fin 128 → ℝ)
    (hq : ∀ e, q (ix3 b p (headCol col e)) = (qr e : EReal)) (hk : ∀ e, k (ix3 b c (headCol col e)) = (kr e : EReal)) :
    scores q k (ix4 b (head col) p c) = (((∑ e, qr e * kr e) / Real.sqrt 128 : ℝ) : EReal) := by
  pointwise [scores]
  have hc (e : Fin 128) (h : (head col).val * 128 + e.val < 1024) : (⟨(head col).val * 128 + e.val, h⟩ : Fin 1024) = headCol col e :=
    Fin.ext (by show col.val / 128 * 128 + e.val = 128 * (col.val / 128) + e.val; omega)
  rw [Finset.sum_congr rfl fun e _ => by rw [hc e, hq, hk, ← EReal.coe_mul], coe_sum, lit_128, Ideal.sqrt_coe,
    if_neg (by norm_num), Ideal.div_coe (Real.sqrt_ne_zero'.mpr (by norm_num)), ← EReal.coe_mul, mul_one_div]

/-- The mask: the key is before the query. -/
theorem before_apply (b : Fin 2) (h : Fin 8) (p c : Fin 16384) : before (ix4 b h p c) = BitVec.ofBool (decide (c.val < p.val)) := by
  have hc := c.isLt
  have hp := p.isLt
  pointwise [before]
  simp (disch := omega) only [hlo_ix]

theorem zeros_apply (i) : zeros i = 0 := by
  show Ideal.ofBits .f32 0x00000000#32 = 0
  simp

/-- At a real the reference's logarithm of one plus the exponential is `softplus`. -/
theorem softplusOf_apply (x : FVec Ideal S2x8x16384x16384 .f32) (i) (r : ℝ) (h : x i = (r : EReal)) : softplusOf x i = ((softplus r : ℝ) : EReal) := by
  have e : softplusOf x i = Scalar.select (Ideal.cmp .une (x i - zeros i) (x i - zeros i)) (x i + zeros i)
      (max (x i) (zeros i) + Ideal.log1p (Ideal.exp (-(max (x i - zeros i) (-(x i - zeros i)))))) := rfl
  have hs : Ideal.cmp .une ((r : EReal) - 0) ((r : EReal) - 0) = 0#1 := by
    rw [Ideal.cmp, decide_eq_false (not_not.mpr rfl)]; rfl
  rw [e, zeros_apply, h, hs]
  show max (r : EReal) 0 + Ideal.log (1 + Ideal.exp _) = _
  rw [sub_zero, abs_coe, ← EReal.coe_neg, Ideal.exp_coe, ← EReal.coe_one, ← EReal.coe_zero, coe_max, ← EReal.coe_add,
    log_pos_coe (by positivity), ← EReal.coe_add]
  rfl

section Row

variable (z : FVec Ideal S2x8x16384x16384 .f32) (b : Fin 2) (h : Fin 8) (p : Fin 16384) (s : ℕ → ℝ) (hz : ∀ c : Fin 16384, z (ix4 b h p c) = (s c.val : EReal))

include hz in
/-- What a key leaves of the stick. -/
theorem keepOf_apply (c : Fin 16384) : keepOf z (ix4 b h p c) = ((logKeep s p.val c.val : ℝ) : EReal) := by
  have e : keepOf z (ix4 b h p c) = Scalar.select (before (ix4 b h p c)) (-(softplusOf (Host.negf (Host.negf z)) (ix4 b h p c))) (zeros (ix4 b h p c)) := rfl
  rw [e, zeros_apply, before_apply, softplusOf_apply (Host.negf (Host.negf z)) (ix4 b h p c) (s c.val) (by
    show -(-(z (ix4 b h p c))) = _
    rw [hz, neg_neg])]
  unfold logKeep
  by_cases hc : c.val < p.val
  · rw [if_pos hc, decide_eq_true hc]; rfl
  · rw [if_neg hc, decide_eq_false hc]; rfl

include hz in
/-- What the keys from `c` on leave, less what `c` leaves, is what the keys after `c` leave. -/
theorem weightOf_apply (c : Fin 16384) : weightOf z (ix4 b h p c) = ((weight s p.val c.val : ℝ) : EReal) := by
  have e : weightOf z (ix4 b h p c) = Scalar.select (before (ix4 b h p c))
      (Ideal.exp (-(softplusOf (Host.negf z) (ix4 b h p c))
        + (Host.reduceWindowAdd ![1, 1, 1, 16384] ![1, 1, 1, 1] ![0, 0, 0, 0] ![0, 0, 0, 16383] (keepOf z)
      (broadcastInDim S_ ![] bcast_S_S_ (constant S_ .f32 0x00000000#32))
      reduceWindows_S2x8x16384x16384_S2x8x16384x16384_w1s1p0_0_w1s1p0_0_w1s1p0_0_w16384s1p0_16383 h_S_ (ix4 b h p c) - keepOf z (ix4 b h p c))))
      (zeros (ix4 b h p c)) := rfl
  rw [e, revCumsum rfl (keepOf z) _ (fun y => by show Ideal.ofBits .f32 0x00000000#32 = 0; simp) _ _ (logKeep s p.val) b h p
    (keepOf_apply z b h p s hz) c, keepOf_apply z b h p s hz, zeros_apply, before_apply,
    softplusOf_apply (Host.negf z) (ix4 b h p c) (-s c.val) (by
      show -(z (ix4 b h p c)) = _
      rw [hz, EReal.coe_neg])]
  have ht : ∑ n ∈ Finset.Ico c.val 16384, logKeep s p.val n = logKeep s p.val c.val + tail s p.val (c.val + 1) := by
    unfold tail
    rw [Finset.sum_eq_sum_Ico_succ_bot c.isLt]
  rw [ht, ← EReal.coe_sub, ← EReal.coe_neg, ← EReal.coe_add, Ideal.exp_coe, add_sub_cancel_left]
  unfold weight
  by_cases hc : c.val < p.val
  · rw [if_pos hc, decide_eq_true hc]; rfl
  · rw [if_neg hc, decide_eq_false hc]; rfl

end Row

/-- A result's element: the weighted sum of the values' column. -/
theorem sumOf_apply (v : FVec Ideal S2x16384x1024 .bf16) (a : FVec Ideal S2x8x16384x16384 .f32) (b : Fin 2) (p : Fin 16384) (col : Fin 1024) :
    sumOf v a (ix3 b p col) = ∑ c : Fin 16384, v (ix3 b c col) * a (ix4 b (head col) p c) := by
  pointwise [sumOf]
  rfl

/-- The reference's result at an element, over real queries and keys. -/
theorem reference_apply (q k v : FVec Ideal S2x16384x1024 .bf16) (hq : ∀ y, q y = (EReal.toReal (q y) : EReal)) (hk : ∀ y, k y = (EReal.toReal (k y) : EReal))
    (b : Fin 2) (p : Fin 16384) (col : Fin 1024) : sumOf v (weightOf (scores q k)) (ix3 b p col) = attn q k v b p col := by
  rw [sumOf_apply]
  unfold attn attend mix
  rw [← Finset.range_eq_Ico, Finset.sum_range]
  refine Finset.sum_congr rfl fun c _ => ?_
  rw [valOf_of_lt, weightOf_apply (scores q k) b (head col) p _ (fun c => (scores_apply q k b col p c _ _ (fun e => hq _) (fun e => hk _)).trans
    (congrArg _ (scoreOf_of_lt (fun e => EReal.toReal (q (ix3 b p (headCol col e)))) (fun c e => EReal.toReal (k (ix3 b c (headCol col e)))) c).symm)), mul_comm]

/-- THE REFERENCE'S RESULT, over real queries and keys, is the layer's attention. -/
theorem reference_eq (m : (ℓ : Loc nD τ sig) → Buf (Elt Ideal) ℓ) (c : Dev nD) (q k v : Arr.Idx → EReal) (h0 : m ((c.tc : Thread nD τ).loc main_arg0) = q)
    (h1 : m ((c.tc : Thread nD τ).loc main_arg1) = k) (h2 : m ((c.tc : Thread nD τ).loc main_arg2) = v) (hq : ∀ y, q y = (EReal.toReal (q y) : EReal))
    (hk : ∀ y, k y = (EReal.toReal (k y) : EReal)) : res_main_v28 m c = attnArr q k v := by
  rw [res_eq, h0, h1, h2]
  funext y
  have hy : y = ix3 (y 0) (y 1) (y 2) := by
    funext a
    match a with
    | 0 => rfl
    | 1 => rfl
    | 2 => rfl
  exact (congrArg (sumOf v (weightOf (scores q k))) hy).trans (reference_apply q k v hq hk (y 0) (y 1) (y 2))

end Cert.ReferenceIdeal.Value

end
-- ==== Proof.Sb.Pre.lean ====
/-
  The precondition read: every query and every key is a real number.
-/
module

public import Idealize.ShloMosaic.Lib.Pointwise
public import Idealize.ShloMosaic.Lib.ReduceAll
public import proofs.«01_k».proof.Pre_finite_qk
public import proofs.«01_k».proof.Proof.Sb.Attn

@[expose] public section

noncomputable section

namespace Cert.Sb

open Idealize.ShloMosaic Cert.Pre_finite_qk

/-- A number whose absolute value is below infinity is a real. -/
theorem real_of_abs_lt (x : EReal) (h : max x (-x) < ⊤) : x = (x.toReal : EReal) :=
  (EReal.coe_toReal (fun e => by rw [e] at h; simp at h) (fun e => by rw [e] at h; simp at h)).symm

/-- One of the two tests: where it holds of the whole array, every entry is a real. -/
theorem real_of_test [Facts] (x : FVec Ideal S2x16384x1024 .bf16) (init : IVec S_ 1)
    (h : Host.reduce IntOp.andi (cmpf (F := Ideal) .olt (Host.absf (extf .f32 x Facts.bitsLt_bf16_f32))
      (broadcastInDim S2x16384x1024 ![] Facts.bcast_S_S2x16384x1024 (constant S_ .f32 0x7F800000#32))) init
        Facts.reducesTo_S2x16384x1024_S_d0_1_2 Facts.h_S_ ix0 = 1#1) (y : S2x16384x1024.Idx) : x y = (EReal.toReal (x y) : EReal) := by
  haveI : Subsingleton S_.Idx := ⟨fun a b => funext fun k => k.elim0⟩
  have hy := Host.reduce_andi_all _ _ _ _ _ h y
  refine real_of_abs_lt _ ?_
  have e : cmpf (F := Ideal) .olt (Host.absf (extf .f32 x Facts.bitsLt_bf16_f32))
      (broadcastInDim S2x16384x1024 ![] Facts.bcast_S_S2x16384x1024 (constant S_ .f32 0x7F800000#32)) y
      = Ideal.cmp .olt (max (x y) (-(x y))) (Ideal.ofBits .f32 0x7F800000#32) := rfl
  rw [e] at hy
  refine lt_of_lt_of_le (b := Ideal.ofBits .f32 0x7F800000#32) ?_ le_top
  by_contra hn
  rw [Ideal.cmp, decide_eq_false hn] at hy
  exact absurd hy (by decide)

theorem real_of_pre [Facts] (q k v : FVec Ideal S2x16384x1024 .bf16) (h : fn (F := Ideal) q k v = fun _ => 1#1) :
    (∀ y, q y = (EReal.toReal (q y) : EReal)) ∧ (∀ y, k y = (EReal.toReal (k y) : EReal)) := by
  have h0 := congrFun h ix0
  unfold fn at h0
  have h1 := IntOp.andi_eq_one.mp h0
  exact ⟨real_of_test q _ h1.1, real_of_test k _ h1.2⟩

end Cert.Sb

end
-- ==== Proof.Mrg.Body.lean ====
/-
  The gated merge: what the body leaves in its output block, as the two scratch blocks (the normalised, modulated
  rows; the merged rows) and the product over them, and each at an element.
-/
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Mrg

open Idealize.ShloMosaic

/-- One row scaled by the inverse of its root mean square and by `g`, then modulated. -/
def normAt (x g sc sh : Fin 2048 → EReal) (d : Fin 2048) : EReal :=
  x d * Ideal.rsqrt (Ideal.div (∑ k, x k * x k) (Ideal.ofBits FTy.f32 1157627904#32) + Ideal.ofBits FTy.f32 897988541#32) * g d * (1 + sc d) + sh d

/-- The gated sum of two branches at an element: `l`, `r` the two gates, `a`, `b` the two branches. -/
def gateAt (l r a b : EReal) : EReal := Ideal.logistic l * a + Ideal.logistic r * b

/-- One element of the layer's mixing of its two branches: the row `x` normalised and modulated gives the gates, the gates
    weigh the branches' projections, and their sum, projected and scaled by `gt`, is added to `x`. -/
def mergeAt (osb osa : Fin 1024 → EReal) (x sh sc gt g : Fin 2048 → EReal) (wg : Fin 2048 → Fin 4096 → EReal)
    (wsb wsa : Fin 1024 → Fin 2048 → EReal) (wo : Fin 2048 → Fin 2048 → EReal) (d : Fin 2048) : EReal :=
  x d + gt d * ∑ k : Fin 2048, gateAt (∑ z, normAt x g sc sh z * wg z ⟨k.val, by omega⟩) (∑ z, normAt x g sc sh z * wg z ⟨2048 + k.val, by omega⟩)
    (∑ z, osb z * wsb z k) (∑ z, osa z * wsa z k) * wo k d

end Cert.Mrg

namespace Cert.Kernel2Ideal.Run

open Cert.Kernel2Ideal Cert.Kernel2Ideal.Gen Cert.Mrg
open Idealize.ShloMosaic Idealize.ShloMosaic.TcCoe
open Idealize.ShloMosaic.Pipeline (Dat Cfg Window)

variable (m : (ℓ : Loc nD τ sig) → Buf (Elt Ideal) ℓ)

/-- The first scratch block after its sixteen stores of sixteen rows each. -/
def hid (x : Vec Ideal S1x256x2048 .f32) (g : Vec Ideal S1x2048 .f32) (sc sh : Vec Ideal S1x1x2048 .f32) : Vec Ideal S256x2048 .bf16 :=
  View.canon [
    ⟨Rect.unit ![240, 0] ![16, 2048] inb_S256x2048_S16x2048_240_0, k0_pay27 (k0_pay1 g) (k0_pay2 sc) (k0_pay3 sh) (View.ld x (Rect.unit ![0, 240, 0] ![1, 16, 2048] inb_S1x256x2048_S1x16x2048_0_240_0))⟩,
    ⟨Rect.unit ![224, 0] ![16, 2048] inb_S256x2048_S16x2048_224_0, k0_pay26 (k0_pay25 (k0_pay1 g) (k0_pay2 sc) (k0_pay3 sh) (View.ld x (Rect.unit ![0, 224, 0] ![1, 16, 2048] inb_S1x256x2048_S1x16x2048_0_224_0)))⟩,
    ⟨Rect.unit ![208, 0] ![16, 2048] inb_S256x2048_S16x2048_208_0, k0_pay24 (k0_pay1 g) (k0_pay2 sc) (k0_pay3 sh) (View.ld x (Rect.unit ![0, 208, 0] ![1, 16, 2048] inb_S1x256x2048_S1x16x2048_0_208_0))⟩,
    ⟨Rect.unit ![192, 0] ![16, 2048] inb_S256x2048_S16x2048_192_0, k0_pay23 (k0_pay22 (k0_pay1 g) (k0_pay2 sc) (k0_pay3 sh) (View.ld x (Rect.unit ![0, 192, 0] ![1, 16, 2048] inb_S1x256x2048_S1x16x2048_0_192_0)))⟩,
    ⟨Rect.unit ![176, 0] ![16, 2048] inb_S256x2048_S16x2048_176_0, k0_pay21 (k0_pay1 g) (k0_pay2 sc) (k0_pay3 sh) (View.ld x (Rect.unit ![0, 176, 0] ![1, 16, 2048] inb_S1x256x2048_S1x16x2048_0_176_0))⟩,
    ⟨Rect.unit ![160, 0] ![16, 2048] inb_S256x2048_S16x2048_160_0, k0_pay20 (k0_pay1 g) (k0_pay2 sc) (k0_pay3 sh) (View.ld x (Rect.unit ![0, 160, 0] ![1, 16, 2048] inb_S1x256x2048_S1x16x2048_0_160_0))⟩,
    ⟨Rect.unit ![144, 0] ![16, 2048] inb_S256x2048_S16x2048_144_0, k0_pay19 (k0_pay1 g) (k0_pay2 sc) (k0_pay3 sh) (View.ld x (Rect.unit ![0, 144, 0] ![1, 16, 2048] inb_S1x256x2048_S1x16x2048_0_144_0))⟩,
    ⟨Rect.unit ![128, 0] ![16, 2048] inb_S256x2048_S16x2048_128_0, k0_pay18 (k0_pay1 g) (k0_pay2 sc) (k0_pay3 sh) (View.ld x (Rect.unit ![0, 128, 0] ![1, 16, 2048] inb_S1x256x2048_S1x16x2048_0_128_0))⟩,
    ⟨Rect.unit ![112, 0] ![16, 2048] inb_S256x2048_S16x2048_112_0, k0_pay17 (k0_pay1 g) (k0_pay2 sc) (k0_pay3 sh) (View.ld x (Rect.unit ![0, 112, 0] ![1, 16, 2048] inb_S1x256x2048_S1x16x2048_0_112_0))⟩,
    ⟨Rect.unit ![96, 0] ![16, 2048] inb_S256x2048_S16x2048_96_0, k0_pay16 (k0_pay1 g) (k0_pay2 sc) (k0_pay3 sh) (View.ld x (Rect.unit ![0, 96, 0] ![1, 16, 2048] inb_S1x256x2048_S1x16x2048_0_96_0))⟩,
    ⟨Rect.unit ![80, 0] ![16, 2048] inb_S256x2048_S16x2048_80_0, k0_pay15 (k0_pay1 g) (k0_pay2 sc) (k0_pay3 sh) (k0_pay13 (View.ld x (Rect.unit ![0, 80, 0] ![1, 16, 2048] inb_S1x256x2048_S1x16x2048_0_80_0))) (k0_pay14 (View.ld x (Rect.unit ![0, 80, 0] ![1, 16, 2048] inb_S1x256x2048_S1x16x2048_0_80_0)))⟩,
    ⟨Rect.unit ![64, 0] ![16, 2048] inb_S256x2048_S16x2048_64_0, k0_pay12 (k0_pay1 g) (k0_pay2 sc) (k0_pay3 sh) (View.ld x (Rect.unit ![0, 64, 0] ![1, 16, 2048] inb_S1x256x2048_S1x16x2048_0_64_0))⟩,
    ⟨Rect.unit ![48, 0] ![16, 2048] inb_S256x2048_S16x2048_48_0, k0_pay11 (k0_pay1 g) (k0_pay2 sc) (k0_pay3 sh) (k0_pay9 (View.ld x (Rect.unit ![0, 48, 0] ![1, 16, 2048] inb_S1x256x2048_S1x16x2048_0_48_0))) (k0_pay10 (View.ld x (Rect.unit ![0, 48, 0] ![1, 16, 2048] inb_S1x256x2048_S1x16x2048_0_48_0)))⟩,
    ⟨Rect.unit ![32, 0] ![16, 2048] inb_S256x2048_S16x2048_32_0, k0_pay8 (k0_pay1 g) (k0_pay2 sc) (k0_pay3 sh) (View.ld x (Rect.unit ![0, 32, 0] ![1, 16, 2048] inb_S1x256x2048_S1x16x2048_0_32_0))⟩,
    ⟨Rect.unit ![16, 0] ![16, 2048] inb_S256x2048_S16x2048_16_0, k0_pay7 (k0_pay1 g) (k0_pay2 sc) (k0_pay3 sh) (k0_pay5 (View.ld x (Rect.unit ![0, 16, 0] ![1, 16, 2048] inb_S1x256x2048_S1x16x2048_0_16_0))) (k0_pay6 (View.ld x (Rect.unit ![0, 16, 0] ![1, 16, 2048] inb_S1x256x2048_S1x16x2048_0_16_0))) (FloatOps.ofBits FTy.f32 1157627904#32)⟩,
    ⟨Rect.unit ![0, 0] ![16, 2048] inb_S256x2048_S16x2048_0_0, k0_pay4 g sc sh (View.ld x (Rect.unit ![0, 0, 0] ![1, 16, 2048] inb_S1x256x2048_S1x16x2048_0_0_0))⟩]

/-- The second scratch block after its sixteen stores of sixteen rows each. -/
def mrg (gm : Vec Ideal S256x4096 .f32) (a : Vec Ideal S256x2048 .f32) (b : Vec Ideal S256x1024 .bf16) (w : Vec Ideal S1024x2048 .bf16) : Vec Ideal S256x2048 .bf16 :=
  View.canon [
    ⟨Rect.unit ![240, 0] ![16, 2048] inb_S256x2048_S16x2048_240_0, k0_pay53 gm a (k0_pay31 b w)⟩,
    ⟨Rect.unit ![224, 0] ![16, 2048] inb_S256x2048_S16x2048_224_0, k0_pay52 (k0_pay51 gm a (k0_pay31 b w))⟩,
    ⟨Rect.unit ![208, 0] ![16, 2048] inb_S256x2048_S16x2048_208_0, k0_pay50 gm a (k0_pay31 b w)⟩,
    ⟨Rect.unit ![192, 0] ![16, 2048] inb_S256x2048_S16x2048_192_0, k0_pay49 gm a (k0_pay31 b w)⟩,
    ⟨Rect.unit ![176, 0] ![16, 2048] inb_S256x2048_S16x2048_176_0, k0_pay48 gm a (k0_pay31 b w)⟩,
    ⟨Rect.unit ![160, 0] ![16, 2048] inb_S256x2048_S16x2048_160_0, k0_pay47 (k0_pay46 gm a (k0_pay31 b w))⟩,
    ⟨Rect.unit ![144, 0] ![16, 2048] inb_S256x2048_S16x2048_144_0, k0_pay45 gm a (k0_pay31 b w)⟩,
    ⟨Rect.unit ![128, 0] ![16, 2048] inb_S256x2048_S16x2048_128_0, k0_pay44 gm a (k0_pay31 b w)⟩,
    ⟨Rect.unit ![112, 0] ![16, 2048] inb_S256x2048_S16x2048_112_0, k0_pay43 a (k0_pay31 b w) (k0_pay42 gm)⟩,
    ⟨Rect.unit ![96, 0] ![16, 2048] inb_S256x2048_S16x2048_96_0, k0_pay41 gm a (k0_pay31 b w)⟩,
    ⟨Rect.unit ![80, 0] ![16, 2048] inb_S256x2048_S16x2048_80_0, k0_pay40 gm a (k0_pay31 b w)⟩,
    ⟨Rect.unit ![64, 0] ![16, 2048] inb_S256x2048_S16x2048_64_0, k0_pay39 gm a (k0_pay31 b w)⟩,
    ⟨Rect.unit ![48, 0] ![16, 2048] inb_S256x2048_S16x2048_48_0, k0_pay38 (k0_pay31 b w) (k0_pay36 gm a) (k0_pay37 gm)⟩,
    ⟨Rect.unit ![32, 0] ![16, 2048] inb_S256x2048_S16x2048_32_0, k0_pay34 gm a b w⟩,
    ⟨Rect.unit ![16, 0] ![16, 2048] inb_S256x2048_S16x2048_16_0, k0_pay33 gm a b w⟩,
    ⟨Rect.unit ![0, 0] ![16, 2048] inb_S256x2048_S16x2048_0_0, k0_pay32 gm a b w⟩]

/-- What a grid point leaves in the output block. -/
theorem outs_eq (c : Dev nD) (t : Fin cfg0.N) :
    outsAt0 m c t = k0_pay54 (mrg (k0_pay28 (hid (iblk m c 2 t) (iblk m c 6 t) (iblk m c 3 t) (iblk m c 4 t)) (iblk m c 7 t))
      (k0_pay29 (iblk m c 0 t) (iblk m c 8 t)) (k0_pay30 (iblk m c 1 t)) (iblk m c 9 t)) (iblk m c 10 t) (iblk m c 2 t) (iblk m c 5 t) := by
  unfold outsAt0 out0_A_11
  rw [View.read_writes_eq_canon _ _ _ (fun _ => cover0_A_11 ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  simp (disch := decide) only [View.ld_unit_lit', View.canon_cons_unit_lit', View.readCov_eq_canon']
  have whole_eq (L : List (View.Piece (Elt Ideal) S256x2048 FTy.bf16.elt)) : (fun j => View.canon L ((Rect.unit (s := S256x2048) ![0, 0] ![256, 2048] inb_S256x2048_S256x2048_0_0).toLoadRect.idx j)) = View.canon L :=
    View.ld_unit_lit' inb_S256x2048_S256x2048_0_0 (View.canon L) (by decide)
  simp only [whole_eq]
  rfl

/-- The normalisation of sixteen rows at an element. -/
theorem pay8_apply (x : Vec Ideal S1x16x2048 .f32) (g : Vec Ideal S1x2048 .f32) (sc sh : Vec Ideal S1x1x2048 .f32) (r : Fin 16) (d : Fin 2048) :
    k0_pay8 (k0_pay1 g) (k0_pay2 sc) (k0_pay3 sh) x (ix2 r d) = normAt (fun k => x (ix3 0 r k)) (fun k => g (ix2 0 k)) (fun k => sc (ix3 0 0 k)) (fun k => sh (ix3 0 0 k)) d := by
  pointwise [k0_pay8, k0_pay1, k0_pay2, k0_pay3]
  rfl

/-- One store of sixteen normalised rows at the element it puts at row `r`, column `d` of the block. -/
theorem hid_piece (x : Vec Ideal S1x256x2048 .f32) (g : Vec Ideal S1x2048 .f32) (sc sh : Vec Ideal S1x1x2048 .f32) (r : Fin 256) (d : Fin 2048)
    (o : ℕ) (inb : ∀ a, (![0, o, 0] : Fin 3 → ℕ) a + (![1, 16, 2048] : Fin 3 → ℕ) a ≤ S1x256x2048.size a) (z : S16x2048.Idx) (h0 : r.val = o + (z 0).val) (h1 : d.val = (z 1).val) :
    k0_pay8 (k0_pay1 g) (k0_pay2 sc) (k0_pay3 sh) (View.ld x (Rect.unit ![0, o, 0] ![1, 16, 2048] inb)) z
      = normAt (fun k => x (ix3 0 r k)) (fun k => g (ix2 0 k)) (fun k => sc (ix3 0 0 k)) (fun k => sh (ix3 0 0 k)) d := by
  have hz : z = ix2 (z 0) (z 1) := by funext a; match a with | 0 => rfl | 1 => rfl
  refine (congrArg (k0_pay8 _ _ _ _) hz).trans ((pay8_apply _ g sc sh (z 0) (z 1)).trans ?_)
  have e1 : z 1 = d := Fin.ext h1.symm
  have e2 : (fun k => View.ld x (Rect.unit ![0, o, 0] ![1, 16, 2048] inb) (ix3 0 (z 0) k)) = fun k => x (ix3 0 r k) := by
    funext k
    refine congrArg x (funext fun a => Fin.ext ?_)
    match a with
    | 0 => rfl
    | 1 => show o + 1 * (z 0).val = r.val; omega
    | 2 => show 0 + 1 * k.val = k.val; omega
  rw [e2]
  exact congrArg _ e1

/-- The normalised rows at an element. -/
theorem hid_apply (x : Vec Ideal S1x256x2048 .f32) (g : Vec Ideal S1x2048 .f32) (sc sh : Vec Ideal S1x1x2048 .f32) (r : Fin 256) (d : Fin 2048) :
    hid x g sc sh (ix2 r d) = normAt (fun k => x (ix3 0 r k)) (fun k => g (ix2 0 k)) (fun k => sc (ix3 0 0 k)) (fun k => sh (ix3 0 0 k)) d := by
  unfold hid
  canon_tiles z h
  all_goals first
    | exact hid_piece x g sc sh r d _ _ z h0 h1
    | exact hid_piece x g sc sh r d 0 _ z (by rw [Nat.zero_add]; exact h0) h1

/-- The merged rows at an element. -/
theorem mrg_apply (gm : Vec Ideal S256x4096 .f32) (a : Vec Ideal S256x2048 .f32) (b : Vec Ideal S256x1024 .bf16) (w : Vec Ideal S1024x2048 .bf16) (r : Fin 256) (d : Fin 2048) :
    mrg gm a b w (ix2 r d) = gateAt (gm (ix2 r ⟨d.val, by omega⟩)) (gm (ix2 r ⟨2048 + d.val, by omega⟩)) (a (ix2 r d)) (k0_pay31 b w (ix2 r d)) := by
  unfold mrg
  canon_tiles z h
  all_goals
    have hz : z = ix2 (z 0) (z 1) := by funext a; match a with | 0 => rfl | 1 => rfl
    have hd : z 1 = d := Fin.ext h1.symm
    have h2 := Fin.ext (a := r) (b := ⟨_, Nat.lt_of_le_of_lt (Nat.le_of_eq h0.symm) r.isLt⟩) h0
    refine (congrArg _ hz).trans ?_
    rw [h2, hd]
    clear h2 hz hd h1 z1_lt
    revert h0 z0_lt
    generalize z 0 = q
    intro z0_lt h0
    pointwise [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53]
    rfl

end Cert.Kernel2Ideal.Run
-- ==== Proof.Mrg.Array.lean ====
/-
  The gated merge's result array: the grid point's block at an element, and the array at the end of the run.
-/
module

public import proofs.«01_k».proof.Proof.Mrg.Body

@[expose] public section

set_option maxRecDepth 16384

noncomputable section

namespace Cert.Kernel2Ideal.Run

open Cert.Kernel2Ideal Cert.Kernel2Ideal.Gen Cert.Mrg
open Idealize.ShloMosaic Idealize.ShloMosaic.TcCoe
open Idealize.ShloMosaic.Pipeline (Dat Cfg Window)

variable (m : (ℓ : Loc nD τ sig) → Buf (Elt Ideal) ℓ)

/-- The output block at an element. -/
theorem block_apply (osb osa : Vec Ideal S1x256x1024 .bf16) (x : Vec Ideal S1x256x2048 .f32) (sc sh gt : Vec Ideal S1x1x2048 .f32) (g : Vec Ideal S1x2048 .f32)
    (wg : Vec Ideal S2048x4096 .bf16) (wsb wsa : Vec Ideal S1024x2048 .bf16) (wo : Vec Ideal S2048x2048 .bf16) (r : Fin 256) (d : Fin 2048) :
    k0_pay54 (mrg (k0_pay28 (hid x g sc sh) wg) (k0_pay29 osb wsb) (k0_pay30 osa) wsa) wo x gt (ix3 0 r d)
      = mergeAt (fun k => osb (ix3 0 r k)) (fun k => osa (ix3 0 r k)) (fun k => x (ix3 0 r k)) (fun k => sh (ix3 0 0 k)) (fun k => sc (ix3 0 0 k))
          (fun k => gt (ix3 0 0 k)) (fun k => g (ix2 0 k)) (fun a b => wg (ix2 a b)) (fun a b => wsb (ix2 a b)) (fun a b => wsa (ix2 a b)) (fun a b => wo (ix2 a b)) d := by
  pointwise [k0_pay54]
  simp only [mrg_apply]
  pointwise [k0_pay28, k0_pay29, k0_pay30, k0_pay31]
  simp only [hid_apply]
  rfl

/-- Each window's block at a grid point: batch row and group of 256 rows; the modulation by batch row; the weights whole. -/
theorem index_facts (t : Fin cfg0.N) :
    (win0_0.index t 0 = (grid0.coords t 0).val ∧ win0_0.index t 1 = (grid0.coords t 1).val ∧ win0_0.index t 2 = 0)
    ∧ (win0_1.index t 0 = (grid0.coords t 0).val ∧ win0_1.index t 1 = (grid0.coords t 1).val ∧ win0_1.index t 2 = 0)
    ∧ (win0_2.index t 0 = (grid0.coords t 0).val ∧ win0_2.index t 1 = (grid0.coords t 1).val ∧ win0_2.index t 2 = 0)
    ∧ (win0_3.index t 0 = (grid0.coords t 0).val ∧ win0_3.index t 1 = 0 ∧ win0_3.index t 2 = 0)
    ∧ (win0_4.index t 0 = (grid0.coords t 0).val ∧ win0_4.index t 1 = 0 ∧ win0_4.index t 2 = 0)
    ∧ (win0_5.index t 0 = (grid0.coords t 0).val ∧ win0_5.index t 1 = 0 ∧ win0_5.index t 2 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = (grid0.coords t 0).val ∧ win0_11.index t 1 = (grid0.coords t 1).val ∧ win0_11.index t 2 = 0) := by
  revert t; decide +kernel

/-- The norm's weights as the host lays them out. -/
theorem V_w6 (c : Dev nD) (i : Fin 1) (j : Fin 2048) : V m c main_v0 (ix2 i j) = m ((c : Thread nD τ).loc main_arg6) (ix1 j) := by
  have h : V m c main_v0 = broadcastInDim S1x2048 ![1] bcast_S2048_S1x2048_1 (m ((c : Thread nD τ).loc main_arg6)) := by
    simp only [V, hostOps0]
    after_results_simp <;> rfl
  rw [h]
  pointwise

/-- The host's cast of an argument is, over the reals, the argument. -/
theorem V_w7 (c : Dev nD) : V m c main_v1 = (m ((c : Thread nD τ).loc main_arg7) : S2048x4096.Idx → EReal) := by
  have h : V m c main_v1 = truncf (F := Ideal) .bf16 (m ((c : Thread nD τ).loc main_arg7)) bitsLt_bf16_f32 := by
    simp only [V, hostOps0]
    after_results_simp <;> rfl
  rw [h]
  rfl

/-- The host's cast of an argument is, over the reals, the argument. -/
theorem V_w8 (c : Dev nD) : V m c main_v2 = (m ((c : Thread nD τ).loc main_arg8) : S1024x2048.Idx → EReal) := by
  have h : V m c main_v2 = truncf (F := Ideal) .bf16 (m ((c : Thread nD τ).loc main_arg8)) bitsLt_bf16_f32 := by
    simp only [V, hostOps0]
    after_results_simp <;> rfl
  rw [h]
  rfl

/-- The host's cast of an argument is, over the reals, the argument. -/
theorem V_w9 (c : Dev nD) : V m c main_v3 = (m ((c : Thread nD τ).loc main_arg9) : S1024x2048.Idx → EReal) := by
  have h : V m c main_v3 = truncf (F := Ideal) .bf16 (m ((c : Thread nD τ).loc main_arg9)) bitsLt_bf16_f32 := by
    simp only [V, hostOps0]
    after_results_simp <;> rfl
  rw [h]
  rfl

/-- The host's cast of an argument is, over the reals, the argument. -/
theorem V_w10 (c : Dev nD) : V m c main_v4 = (m ((c : Thread nD τ).loc main_arg10) : S2048x2048.Idx → EReal) := by
  have h : V m c main_v4 = truncf (F := Ideal) .bf16 (m ((c : Thread nD τ).loc main_arg10)) bitsLt_bf16_f32 := by
    simp only [V, hostOps0]
    after_results_simp <;> rfl
  rw [h]
  rfl

/-- The result array as a function of the arguments. -/
def mergeArr (osb osa : S2x16384x1024.Idx → EReal) (x : S2x16384x2048.Idx → EReal) (sh sc gt : S2x1x2048.Idx → EReal) (g : S2048.Idx → EReal)
    (wg : S2048x4096.Idx → EReal) (wsb wsa : S1024x2048.Idx → EReal) (wo : S2048x2048.Idx → EReal) : S2x16384x2048.Idx → EReal := fun i =>
  mergeAt (fun k => osb (ix3 (i 0) (i 1) k)) (fun k => osa (ix3 (i 0) (i 1) k)) (fun k => x (ix3 (i 0) (i 1) k)) (fun k => sh (ix3 (i 0) 0 k)) (fun k => sc (ix3 (i 0) 0 k))
    (fun k => gt (ix3 (i 0) 0 k)) (fun k => g (ix1 k)) (fun a b => wg (ix2 a b)) (fun a b => wsb (ix2 a b)) (fun a b => wsa (ix2 a b)) (fun a b => wo (ix2 a b)) (i 2)

/-- The array at the end. -/
theorem array_eq (c : Dev nD) :
    (dats m 0 c).arrAt 11 cfg0.N
      = mergeArr (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  refine (dats m 0 c).arrAt_eq_of_covers 11 _ (by decide +kernel) fun t hf y => ?_
  blk_simp
  rw [after0_11, outs_eq]
  obtain ⟨⟨e00, e01, e02⟩, ⟨e10, e11, e12⟩, ⟨e20, e21, e22⟩, ⟨e30, e31, e32⟩, ⟨e40, e41, e42⟩, ⟨e50, e51, e52⟩, ⟨e60, e61⟩, ⟨e70, e71⟩, ⟨e80, e81⟩, ⟨e90, e91⟩, ⟨e100, e101⟩, ⟨e110, e111, e112⟩⟩ := index_facts t
  have hy0 : (y 0).val = 0 := by have : (y 0).val < 1 := (y 0).isLt; omega
  have E0 : ((win0_11.blk t).view.emb y 0).val = (grid0.coords t 0).val := by blk_simp; rw [e110]
  have E1 : ((win0_11.blk t).view.emb y 1).val = (grid0.coords t 1).val * 256 + (y 1).val := by blk_simp; rw [e111]
  have E2 : ((win0_11.blk t).view.emb y 2).val = (y 2).val := by blk_simp; rw [e112]; omega
  have hy : y = ix3 0 (y 1) (y 2) := by
    funext a
    match a with
    | 0 => exact Fin.ext hy0
    | 1 => rfl
    | 2 => rfl
  refine (congrArg _ hy).trans ((block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (y 1) (y 2)).trans ?_)
  unfold mergeArr
  congr 1
  · funext k
    blk_simp [iblk]
    rw [V_main_arg0]
    refine congrArg (m ((c : Thread nD τ).loc main_arg0)) (funext fun a => Fin.ext ?_)
    match a with
    | 0 => refine Eq.trans ?_ E0.symm; blk_simp; rw [e00]; rfl
    | 1 => refine Eq.trans ?_ E1.symm; blk_simp; rw [e01]
    | 2 => blk_simp; rw [e02]; show 0 * _ + k.val = k.val; omega
  · funext k
    blk_simp [iblk]
    rw [V_main_arg1]
    refine congrArg (m ((c : Thread nD τ).loc main_arg1)) (funext fun a => Fin.ext ?_)
    match a with
    | 0 => refine Eq.trans ?_ E0.symm; blk_simp; rw [e10]; rfl
    | 1 => refine Eq.trans ?_ E1.symm; blk_simp; rw [e11]
    | 2 => blk_simp; rw [e12]; show 0 * _ + k.val = k.val; omega
  · funext k
    blk_simp [iblk]
    rw [V_main_arg2]
    refine congrArg (m ((c : Thread nD τ).loc main_arg2)) (funext fun a => Fin.ext ?_)
    match a with
    | 0 => refine Eq.trans ?_ E0.symm; blk_simp; rw [e20]; rfl
    | 1 => refine Eq.trans ?_ E1.symm; blk_simp; rw [e21]
    | 2 => blk_simp; rw [e22]; show 0 * _ + k.val = k.val; omega
  · funext k
    blk_simp [iblk]
    rw [V_main_arg3]
    refine congrArg (m ((c : Thread nD τ).loc main_arg3)) (funext fun a => Fin.ext ?_)
    match a with
    | 0 => refine Eq.trans ?_ E0.symm; blk_simp; rw [e40]; rfl
    | 1 => blk_simp; rw [e41]; rfl
    | 2 => blk_simp; rw [e42]; show 0 * _ + k.val = k.val; omega
  · funext k
    blk_simp [iblk]
    rw [V_main_arg4]
    refine congrArg (m ((c : Thread nD τ).loc main_arg4)) (funext fun a => Fin.ext ?_)
    match a with
    | 0 => refine Eq.trans ?_ E0.symm; blk_simp; rw [e30]; rfl
    | 1 => blk_simp; rw [e31]; rfl
    | 2 => blk_simp; rw [e32]; show 0 * _ + k.val = k.val; omega
  · funext k
    blk_simp [iblk]
    rw [V_main_arg5]
    refine congrArg (m ((c : Thread nD τ).loc main_arg5)) (funext fun a => Fin.ext ?_)
    match a with
    | 0 => refine Eq.trans ?_ E0.symm; blk_simp; rw [e50]; rfl
    | 1 => blk_simp; rw [e51]; rfl
    | 2 => blk_simp; rw [e52]; show 0 * _ + k.val = k.val; omega
  · funext k
    blk_simp [iblk]
    have hi : (win0_6.blk t).view.emb (ix2 (0 : Fin 1) k) = ix2 ((win0_6.blk t).view.emb (ix2 (0 : Fin 1) k) 0) ((win0_6.blk t).view.emb (ix2 (0 : Fin 1) k) 1) := by
      funext a; match a with | 0 => rfl | 1 => rfl
    refine (congrArg (V m c main_v0) hi).trans ((V_w6 m c _ _).trans ?_)
    refine congrArg (m ((c : Thread nD τ).loc main_arg6)) (funext fun a => Fin.ext ?_)
    match a with
    | 0 => blk_simp; rw [e61]; show 0 * _ + k.val = k.val; omega
  · funext a b
    blk_simp [iblk]
    refine (congrFun (V_w7 m c) _).trans ?_
    refine congrArg (m ((c : Thread nD τ).loc main_arg7)) (funext fun k => Fin.ext ?_)
    match k with
    | 0 => blk_simp; rw [e70]; show 0 * _ + a.val = a.val; omega
    | 1 => blk_simp; rw [e71]; show 0 * _ + b.val = b.val; omega
  · funext a b
    blk_simp [iblk]
    refine (congrFun (V_w8 m c) _).trans ?_
    refine congrArg (m ((c : Thread nD τ).loc main_arg8)) (funext fun k => Fin.ext ?_)
    match k with
    | 0 => blk_simp; rw [e80]; show 0 * _ + a.val = a.val; omega
    | 1 => blk_simp; rw [e81]; show 0 * _ + b.val = b.val; omega
  · funext a b
    blk_simp [iblk]
    refine (congrFun (V_w9 m c) _).trans ?_
    refine congrArg (m ((c : Thread nD τ).loc main_arg9)) (funext fun k => Fin.ext ?_)
    match k with
    | 0 => blk_simp; rw [e90]; show 0 * _ + a.val = a.val; omega
    | 1 => blk_simp; rw [e91]; show 0 * _ + b.val = b.val; omega
  · funext a b
    blk_simp [iblk]
    refine (congrFun (V_w10 m c) _).trans ?_
    refine congrArg (m ((c : Thread nD τ).loc main_arg10)) (funext fun k => Fin.ext ?_)
    match k with
    | 0 => blk_simp; rw [e100]; show 0 * _ + a.val = a.val; omega
    | 1 => blk_simp; rw [e101]; show 0 * _ + b.val = b.val; omega
  · exact Fin.ext E2.symm

end Cert.Kernel2Ideal.Run
-- ==== Proof.Mrg.Ref.lean ====
/-
  The gated merge's reference at an element.
-/
module

public import Idealize.ShloMosaic.Lib.Pointwise
public import proofs.«01_k».proof.Proof.Gen.Reference2Ideal.Run
public import proofs.«01_k».proof.Proof.Mrg.Array

@[expose] public section

set_option maxRecDepth 16384

noncomputable section

namespace Cert.Reference2Ideal.Value

open Cert.Reference2Ideal Cert.Reference2Ideal.Gen Cert.Mrg
open Idealize.ShloMosaic Idealize.ShloMosaic.TcCoe

/-- The activations normalised, scaled by the weights and modulated. -/
def normed (x : FVec Ideal S2x16384x2048 .f32) (sh sc : FVec Ideal S2x1x2048 .f32) (g : FVec Ideal S2048 .f32) : FVec Ideal S2x16384x2048 .f32 :=
  addf (mulf (mulf (mulf x (broadcastInDim S2x16384x2048 ![0, 1, 2] bcast_S2x16384x1_S2x16384x2048_0_1_2
      (Host.rsqrt (addf (Host.divf (broadcastInDim S2x16384x1 ![0, 1] bcast_S2x16384_S2x16384x1_0_1
          (Host.reduceAdd (mulf x x) (constant S_ .f32 0x00000000#32) reducesTo_S2x16384x2048_S2x16384_d2 h_S_))
        (broadcastInDim S2x16384x1 ![] bcast_S_S2x16384x1 (constant S_ .f32 0x45000000#32)))
        (broadcastInDim S2x16384x1 ![] bcast_S_S2x16384x1 (constant S_ .f32 0x358637BD#32))))))
      (broadcastInDim S2x16384x2048 ![0, 1, 2] bcast_S1x1x2048_S2x16384x2048_0_1_2 (broadcastInDim S1x1x2048 ![2] bcast_S2048_S1x1x2048_2 g)))
      (broadcastInDim S2x16384x2048 ![0, 1, 2] bcast_S2x1x2048_S2x16384x2048_0_1_2 (addf (broadcastInDim S2x1x2048 ![] bcast_S_S2x1x2048 (constant S_ .f32 0x3F800000#32)) sc)))
    (broadcastInDim S2x16384x2048 ![0, 1, 2] bcast_S2x1x2048_S2x16384x2048_0_1_2 sh)

/-- The gates of both branches. -/
def gates (h : FVec Ideal S2x16384x2048 .f32) (wg : FVec Ideal S2048x4096 .f32) : FVec Ideal S2x16384x4096 .f32 :=
  Host.divf (broadcastInDim S2x16384x4096 ![] bcast_S_S2x16384x4096 (constant S_ .f32 0x3F800000#32))
    (addf (broadcastInDim S2x16384x4096 ![] bcast_S_S2x16384x4096 (constant S_ .f32 0x3F800000#32))
      (Host.exp (Host.negf (Host.dotGeneral dot_S2x16384x2048_S2048x4096_S2x16384x4096_2_0_01_1_n_n none h wg))))

/-- A branch's output projected. -/
def branch (o : FVec Ideal S2x16384x1024 .bf16) (w : FVec Ideal S1024x2048 .f32) : FVec Ideal S2x16384x2048 .f32 :=
  Host.dotGeneral dot_S2x16384x1024_S1024x2048_S2x16384x2048_2_0_01_1_n_n none (extf .f32 o bitsLt_bf16_f32) w

/-- The branches weighed by their gates. -/
def merged (gs : FVec Ideal S2x16384x4096 .f32) (a b : FVec Ideal S2x16384x2048 .f32) : FVec Ideal S2x16384x2048 .f32 :=
  addf (mulf (extractStridedSlice S2x16384x2048 ![0, 0, 0] gs slices_S2x16384x4096_S2x16384x2048_0_0_0) a)
    (mulf (extractStridedSlice S2x16384x2048 ![0, 0, 2048] gs slices_S2x16384x4096_S2x16384x2048_0_0_2048) b)

/-- The merged branches projected and added to the activations. -/
def added (x : FVec Ideal S2x16384x2048 .f32) (gt : FVec Ideal S2x1x2048 .f32) (y : FVec Ideal S2x16384x2048 .f32) (wo : FVec Ideal S2048x2048 .f32) : FVec Ideal S2x16384x2048 .f32 :=
  addf x (mulf (broadcastInDim S2x16384x2048 ![0, 1, 2] bcast_S2x1x2048_S2x16384x2048_0_1_2 gt)
    (Host.dotGeneral dot_S2x16384x2048_S2048x2048_S2x16384x2048_2_0_01_1_n_n none y wo))

theorem normed_apply (x : FVec Ideal S2x16384x2048 .f32) (sh sc : FVec Ideal S2x1x2048 .f32) (g : FVec Ideal S2048 .f32) (b : Fin 2) (p : Fin 16384) (d : Fin 2048) :
    normed x sh sc g (ix3 b p d) = normAt (fun k => x (ix3 b p k)) (fun k => g (ix1 k)) (fun k => sc (ix3 b 0 k)) (fun k => sh (ix3 b 0 k)) d := by
  pointwise [normed]
  rfl

theorem gates_apply (h : FVec Ideal S2x16384x2048 .f32) (wg : FVec Ideal S2048x4096 .f32) (b : Fin 2) (p : Fin 16384) (d : Fin 4096) :
    gates h wg (ix3 b p d) = Ideal.logistic (∑ k, h (ix3 b p k) * wg (ix2 k d)) := by
  pointwise [gates]
  rfl

/-- The composed term at an element. -/
theorem added_apply (osb osa : FVec Ideal S2x16384x1024 .bf16) (x : FVec Ideal S2x16384x2048 .f32) (sh sc gt : FVec Ideal S2x1x2048 .f32) (g : FVec Ideal S2048 .f32)
    (wg : FVec Ideal S2048x4096 .f32) (wsb wsa : FVec Ideal S1024x2048 .f32) (wo : FVec Ideal S2048x2048 .f32) (b : Fin 2) (p : Fin 16384) (d : Fin 2048) :
    added x gt (merged (gates (normed x sh sc g) wg) (branch osb wsb) (branch osa wsa)) wo (ix3 b p d)
      = Cert.Kernel2Ideal.Run.mergeArr osb osa x sh sc gt g wg wsb wsa wo (ix3 b p d) := by
  pointwise [added, merged, branch]
  simp only [gates_apply, normed_apply]
  rfl

/-- The reference's term is the merged array of its arguments. -/
theorem added_eq (osb osa : FVec Ideal S2x16384x1024 .bf16) (x : FVec Ideal S2x16384x2048 .f32) (sh sc gt : FVec Ideal S2x1x2048 .f32) (g : FVec Ideal S2048 .f32)
    (wg : FVec Ideal S2048x4096 .f32) (wsb wsa : FVec Ideal S1024x2048 .f32) (wo : FVec Ideal S2048x2048 .f32) :
    added x gt (merged (gates (normed x sh sc g) wg) (branch osb wsb) (branch osa wsa)) wo
      = Cert.Kernel2Ideal.Run.mergeArr osb osa x sh sc gt g wg wsb wsa wo := by
  funext y
  have hy : y = ix3 (y 0) (y 1) (y 2) := by funext a; match a with | 0 => rfl | 1 => rfl | 2 => rfl
  refine (congrArg _ hy).trans ((added_apply osb osa x sh sc gt g wg wsb wsa wo (y 0) (y 1) (y 2)).trans ?_)
  rfl

end Cert.Reference2Ideal.Value
-- ==== Proof.Ffn.Fun.lean ====
/-
  The feed-forward call's body, its pieces as functions: the normalised rows, the columns with their two preceding
  rows, the gated rows, the running sum of the products, and the normalised rows it ends with.
-/
module

public import proofs.«01_k».proof.Proof.Gen.Kernel3Ideal.Frame
public import proofs.«01_k».proof.Proof.Gen.Kernel3Ideal.Skeleton
public import Idealize.ShloMosaic.Lib.Pipeline.ValueKit

@[expose] public section

set_option maxRecDepth 16384

noncomputable section

namespace Cert.Kernel3Ideal.Run

open Cert.Kernel3Ideal Cert.Kernel3Ideal.Gen
open Idealize.ShloMosaic Idealize.ShloMosaic.TcCoe

variable {F : FTy → Type} [FloatOps F]

/-- The scratch of normalised rows after its thirty-two stores of sixteen rows each. -/
def hOf (x : Vec F S1x512x2048 .f32) (g : Vec F S1x2048 .f32) (sc sh : Vec F S1x1x2048 .f32) : Vec F S512x2048 .bf16 :=
  View.canon [
    ⟨Rect.unit (s := S512x2048) ![496, 0] ![16, 2048] inb_S512x2048_S16x2048_496_0, k0_pay117 ((k0_pay60 (k0_pay3 g) (k0_pay4 sc) (k0_pay5 sh) (View.ld x (Rect.unit (s := S1x512x2048) ![0, 496, 0] ![1, 16, 2048] inb_S1x512x2048_S1x16x2048_0_496_0))))⟩,
    ⟨Rect.unit (s := S512x2048) ![480, 0] ![16, 2048] inb_S512x2048_S16x2048_480_0, k0_pay59 (k0_pay3 g) (k0_pay4 sc) (k0_pay5 sh) (k0_pay57 (View.ld x (Rect.unit (s := S1x512x2048) ![0, 480, 0] ![1, 16, 2048] inb_S1x512x2048_S1x16x2048_0_480_0))) (k0_pay58 (View.ld x (Rect.unit (s := S1x512x2048) ![0, 480, 0] ![1, 16, 2048] inb_S1x512x2048_S1x16x2048_0_480_0))) (Scalar.ofBits .f32 0x358637BD#32)⟩,
    ⟨Rect.unit (s := S512x2048) ![464, 0] ![16, 2048] inb_S512x2048_S16x2048_464_0, k0_pay56 (k0_pay3 g) (k0_pay4 sc) (k0_pay5 sh) (View.ld x (Rect.unit (s := S1x512x2048) ![0, 464, 0] ![1, 16, 2048] inb_S1x512x2048_S1x16x2048_0_464_0))⟩,
    ⟨Rect.unit (s := S512x2048) ![448, 0] ![16, 2048] inb_S512x2048_S16x2048_448_0, k0_pay55 (k0_pay3 g) (k0_pay4 sc) (k0_pay5 sh) (k0_pay53 (View.ld x (Rect.unit (s := S1x512x2048) ![0, 448, 0] ![1, 16, 2048] inb_S1x512x2048_S1x16x2048_0_448_0))) (k0_pay54 (View.ld x (Rect.unit (s := S1x512x2048) ![0, 448, 0] ![1, 16, 2048] inb_S1x512x2048_S1x16x2048_0_448_0)))⟩,
    ⟨Rect.unit (s := S512x2048) ![432, 0] ![16, 2048] inb_S512x2048_S16x2048_432_0, k0_pay52 (k0_pay3 g) (k0_pay4 sc) (k0_pay5 sh) (View.ld x (Rect.unit (s := S1x512x2048) ![0, 432, 0] ![1, 16, 2048] inb_S1x512x2048_S1x16x2048_0_432_0))⟩,
    ⟨Rect.unit (s := S512x2048) ![416, 0] ![16, 2048] inb_S512x2048_S16x2048_416_0, k0_pay51 (k0_pay3 g) (k0_pay4 sc) (k0_pay5 sh) (k0_pay49 (View.ld x (Rect.unit (s := S1x512x2048) ![0, 416, 0] ![1, 16, 2048] inb_S1x512x2048_S1x16x2048_0_416_0))) (k0_pay50 (View.ld x (Rect.unit (s := S1x512x2048) ![0, 416, 0] ![1, 16, 2048] inb_S1x512x2048_S1x16x2048_0_416_0)))⟩,
    ⟨Rect.unit (s := S512x2048) ![400, 0] ![16, 2048] inb_S512x2048_S16x2048_400_0, k0_pay48 (k0_pay3 g) (k0_pay4 sc) (k0_pay5 sh) (View.ld x (Rect.unit (s := S1x512x2048) ![0, 400, 0] ![1, 16, 2048] inb_S1x512x2048_S1x16x2048_0_400_0))⟩,
    ⟨Rect.unit (s := S512x2048) ![384, 0] ![16, 2048] inb_S512x2048_S16x2048_384_0, k0_pay47 (k0_pay4 sc) (k0_pay5 sh) (k0_pay45 (View.ld x (Rect.unit (s := S1x512x2048) ![0, 384, 0] ![1, 16, 2048] inb_S1x512x2048_S1x16x2048_0_384_0))) (k0_pay46 (k0_pay3 g))⟩,
    ⟨Rect.unit (s := S512x2048) ![368, 0] ![16, 2048] inb_S512x2048_S16x2048_368_0, k0_pay44 (k0_pay3 g) (k0_pay4 sc) (k0_pay5 sh) (View.ld x (Rect.unit (s := S1x512x2048) ![0, 368, 0] ![1, 16, 2048] inb_S1x512x2048_S1x16x2048_0_368_0))⟩,
    ⟨Rect.unit (s := S512x2048) ![352, 0] ![16, 2048] inb_S512x2048_S16x2048_352_0, k0_pay43 (k0_pay5 sh) (k0_pay41 (k0_pay3 g) (View.ld x (Rect.unit (s := S1x512x2048) ![0, 352, 0] ![1, 16, 2048] inb_S1x512x2048_S1x16x2048_0_352_0))) (k0_pay42 (k0_pay4 sc))⟩,
    ⟨Rect.unit (s := S512x2048) ![336, 0] ![16, 2048] inb_S512x2048_S16x2048_336_0, k0_pay40 (k0_pay3 g) (k0_pay4 sc) (k0_pay5 sh) (View.ld x (Rect.unit (s := S1x512x2048) ![0, 336, 0] ![1, 16, 2048] inb_S1x512x2048_S1x16x2048_0_336_0))⟩,
    ⟨Rect.unit (s := S512x2048) ![320, 0] ![16, 2048] inb_S512x2048_S16x2048_320_0, k0_pay39 (k0_pay37 (k0_pay3 g) (k0_pay4 sc) (View.ld x (Rect.unit (s := S1x512x2048) ![0, 320, 0] ![1, 16, 2048] inb_S1x512x2048_S1x16x2048_0_320_0))) (k0_pay38 (k0_pay5 sh))⟩,
    ⟨Rect.unit (s := S512x2048) ![304, 0] ![16, 2048] inb_S512x2048_S16x2048_304_0, k0_pay36 (k0_pay3 g) (k0_pay4 sc) (k0_pay5 sh) (View.ld x (Rect.unit (s := S1x512x2048) ![0, 304, 0] ![1, 16, 2048] inb_S1x512x2048_S1x16x2048_0_304_0))⟩,
    ⟨Rect.unit (s := S512x2048) ![288, 0] ![16, 2048] inb_S512x2048_S16x2048_288_0, k0_pay35 (k0_pay34 (k0_pay3 g) (k0_pay4 sc) (k0_pay5 sh) (View.ld x (Rect.unit (s := S1x512x2048) ![0, 288, 0] ![1, 16, 2048] inb_S1x512x2048_S1x16x2048_0_288_0)))⟩,
    ⟨Rect.unit (s := S512x2048) ![272, 0] ![16, 2048] inb_S512x2048_S16x2048_272_0, k0_pay33 (k0_pay3 g) (k0_pay4 sc) (k0_pay5 sh) (View.ld x (Rect.unit (s := S1x512x2048) ![0, 272, 0] ![1, 16, 2048] inb_S1x512x2048_S1x16x2048_0_272_0))⟩,
    ⟨Rect.unit (s := S512x2048) ![256, 0] ![16, 2048] inb_S512x2048_S16x2048_256_0, k0_pay32 (k0_pay31 (k0_pay3 g) (k0_pay4 sc) (k0_pay5 sh) (View.ld x (Rect.unit (s := S1x512x2048) ![0, 256, 0] ![1, 16, 2048] inb_S1x512x2048_S1x16x2048_0_256_0)))⟩,
    ⟨Rect.unit (s := S512x2048) ![240, 0] ![16, 2048] inb_S512x2048_S16x2048_240_0, k0_pay30 (k0_pay3 g) (k0_pay4 sc) (k0_pay5 sh) (View.ld x (Rect.unit (s := S1x512x2048) ![0, 240, 0] ![1, 16, 2048] inb_S1x512x2048_S1x16x2048_0_240_0))⟩,
    ⟨Rect.unit (s := S512x2048) ![224, 0] ![16, 2048] inb_S512x2048_S16x2048_224_0, k0_pay29 (k0_pay28 (k0_pay3 g) (k0_pay4 sc) (k0_pay5 sh) (View.ld x (Rect.unit (s := S1x512x2048) ![0, 224, 0] ![1, 16, 2048] inb_S1x512x2048_S1x16x2048_0_224_0)))⟩,
    ⟨Rect.unit (s := S512x2048) ![208, 0] ![16, 2048] inb_S512x2048_S16x2048_208_0, k0_pay27 (k0_pay3 g) (k0_pay4 sc) (k0_pay5 sh) (View.ld x (Rect.unit (s := S1x512x2048) ![0, 208, 0] ![1, 16, 2048] inb_S1x512x2048_S1x16x2048_0_208_0))⟩,
    ⟨Rect.unit (s := S512x2048) ![192, 0] ![16, 2048] inb_S512x2048_S16x2048_192_0, k0_pay26 (k0_pay3 g) (k0_pay4 sc) (k0_pay5 sh) (View.ld x (Rect.unit (s := S1x512x2048) ![0, 192, 0] ![1, 16, 2048] inb_S1x512x2048_S1x16x2048_0_192_0))⟩,
    ⟨Rect.unit (s := S512x2048) ![176, 0] ![16, 2048] inb_S512x2048_S16x2048_176_0, k0_pay25 (k0_pay3 g) (k0_pay4 sc) (k0_pay5 sh) (View.ld x (Rect.unit (s := S1x512x2048) ![0, 176, 0] ![1, 16, 2048] inb_S1x512x2048_S1x16x2048_0_176_0))⟩,
    ⟨Rect.unit (s := S512x2048) ![160, 0] ![16, 2048] inb_S512x2048_S16x2048_160_0, k0_pay24 (k0_pay3 g) (k0_pay4 sc) (k0_pay5 sh) (View.ld x (Rect.unit (s := S1x512x2048) ![0, 160, 0] ![1, 16, 2048] inb_S1x512x2048_S1x16x2048_0_160_0))⟩,
    ⟨Rect.unit (s := S512x2048) ![144, 0] ![16, 2048] inb_S512x2048_S16x2048_144_0, k0_pay23 (k0_pay3 g) (k0_pay4 sc) (k0_pay5 sh) (View.ld x (Rect.unit (s := S1x512x2048) ![0, 144, 0] ![1, 16, 2048] inb_S1x512x2048_S1x16x2048_0_144_0))⟩,
    ⟨Rect.unit (s := S512x2048) ![128, 0] ![16, 2048] inb_S512x2048_S16x2048_128_0, k0_pay22 (k0_pay3 g) (k0_pay4 sc) (k0_pay5 sh) (View.ld x (Rect.unit (s := S1x512x2048) ![0, 128, 0] ![1, 16, 2048] inb_S1x512x2048_S1x16x2048_0_128_0))⟩,
    ⟨Rect.unit (s := S512x2048) ![112, 0] ![16, 2048] inb_S512x2048_S16x2048_112_0, k0_pay21 (k0_pay3 g) (k0_pay4 sc) (k0_pay5 sh) (k0_pay19 (View.ld x (Rect.unit (s := S1x512x2048) ![0, 112, 0] ![1, 16, 2048] inb_S1x512x2048_S1x16x2048_0_112_0))) (k0_pay20 (View.ld x (Rect.unit (s := S1x512x2048) ![0, 112, 0] ![1, 16, 2048] inb_S1x512x2048_S1x16x2048_0_112_0)))⟩,
    ⟨Rect.unit (s := S512x2048) ![96, 0] ![16, 2048] inb_S512x2048_S16x2048_96_0, k0_pay18 (k0_pay3 g) (k0_pay4 sc) (k0_pay5 sh) (View.ld x (Rect.unit (s := S1x512x2048) ![0, 96, 0] ![1, 16, 2048] inb_S1x512x2048_S1x16x2048_0_96_0))⟩,
    ⟨Rect.unit (s := S512x2048) ![80, 0] ![16, 2048] inb_S512x2048_S16x2048_80_0, k0_pay17 (k0_pay3 g) (k0_pay4 sc) (k0_pay5 sh) (k0_pay15 (View.ld x (Rect.unit (s := S1x512x2048) ![0, 80, 0] ![1, 16, 2048] inb_S1x512x2048_S1x16x2048_0_80_0))) (k0_pay16 (View.ld x (Rect.unit (s := S1x512x2048) ![0, 80, 0] ![1, 16, 2048] inb_S1x512x2048_S1x16x2048_0_80_0)))⟩,
    ⟨Rect.unit (s := S512x2048) ![64, 0] ![16, 2048] inb_S512x2048_S16x2048_64_0, k0_pay14 (k0_pay3 g) (k0_pay4 sc) (k0_pay5 sh) (View.ld x (Rect.unit (s := S1x512x2048) ![0, 64, 0] ![1, 16, 2048] inb_S1x512x2048_S1x16x2048_0_64_0))⟩,
    ⟨Rect.unit (s := S512x2048) ![48, 0] ![16, 2048] inb_S512x2048_S16x2048_48_0, k0_pay13 (k0_pay3 g) (k0_pay4 sc) (k0_pay5 sh) (k0_pay11 (View.ld x (Rect.unit (s := S1x512x2048) ![0, 48, 0] ![1, 16, 2048] inb_S1x512x2048_S1x16x2048_0_48_0))) (k0_pay12 (View.ld x (Rect.unit (s := S1x512x2048) ![0, 48, 0] ![1, 16, 2048] inb_S1x512x2048_S1x16x2048_0_48_0))) (Scalar.ofBits .f32 0x45000000#32)⟩,
    ⟨Rect.unit (s := S512x2048) ![32, 0] ![16, 2048] inb_S512x2048_S16x2048_32_0, k0_pay10 (k0_pay3 g) (k0_pay4 sc) (k0_pay5 sh) (View.ld x (Rect.unit (s := S1x512x2048) ![0, 32, 0] ![1, 16, 2048] inb_S1x512x2048_S1x16x2048_0_32_0))⟩,
    ⟨Rect.unit (s := S512x2048) ![16, 0] ![16, 2048] inb_S512x2048_S16x2048_16_0, k0_pay9 (k0_pay3 g) (k0_pay4 sc) (k0_pay5 sh) (k0_pay7 (View.ld x (Rect.unit (s := S1x512x2048) ![0, 16, 0] ![1, 16, 2048] inb_S1x512x2048_S1x16x2048_0_16_0))) (k0_pay8 (View.ld x (Rect.unit (s := S1x512x2048) ![0, 16, 0] ![1, 16, 2048] inb_S1x512x2048_S1x16x2048_0_16_0)))⟩,
    ⟨Rect.unit (s := S512x2048) ![0, 0] ![16, 2048] inb_S512x2048_S16x2048_0_0, k0_pay6 g sc sh (View.ld x (Rect.unit (s := S1x512x2048) ![0, 0, 0] ![1, 16, 2048] inb_S1x512x2048_S1x16x2048_0_0_0))⟩]

/-- The output block after its thirty-two stores of sixteen rows each, from the running sum `a`. -/
def x2Of (x : Vec F S1x512x2048 .f32) (gt : Vec F S1x1x2048 .f32) (gf : Vec F S1x2048 .f32) (a : Vec F S512x2048 .f32) : Vec F S1x512x2048 .f32 :=
  View.canon [
    ⟨Rect.unit (s := S1x512x2048) ![0, 496, 0] ![1, 16, 2048] inb_S1x512x2048_S1x16x2048_0_496_0, k0_pay2 ((k0_pay116 (k0_pay61 gf) (k0_pay62 gt) (View.ld x (Rect.unit (s := S1x512x2048) ![0, 496, 0] ![1, 16, 2048] inb_S1x512x2048_S1x16x2048_0_496_0)) (View.ld a (Rect.unit (s := S512x2048) ![496, 0] ![16, 2048] inb_S512x2048_S16x2048_496_0))))⟩,
    ⟨Rect.unit (s := S1x512x2048) ![0, 480, 0] ![1, 16, 2048] inb_S1x512x2048_S1x16x2048_0_480_0, k0_pay115 (k0_pay61 gf) (k0_pay113 (k0_pay62 gt) (View.ld x (Rect.unit (s := S1x512x2048) ![0, 480, 0] ![1, 16, 2048] inb_S1x512x2048_S1x16x2048_0_480_0)) (View.ld a (Rect.unit (s := S512x2048) ![480, 0] ![16, 2048] inb_S512x2048_S16x2048_480_0))) (k0_pay114 (k0_pay62 gt) (View.ld x (Rect.unit (s := S1x512x2048) ![0, 480, 0] ![1, 16, 2048] inb_S1x512x2048_S1x16x2048_0_480_0)) (View.ld a (Rect.unit (s := S512x2048) ![480, 0] ![16, 2048] inb_S512x2048_S16x2048_480_0)))⟩,
    ⟨Rect.unit (s := S1x512x2048) ![0, 464, 0] ![1, 16, 2048] inb_S1x512x2048_S1x16x2048_0_464_0, k0_pay112 (k0_pay61 gf) (k0_pay62 gt) (View.ld x (Rect.unit (s := S1x512x2048) ![0, 464, 0] ![1, 16, 2048] inb_S1x512x2048_S1x16x2048_0_464_0)) (View.ld a (Rect.unit (s := S512x2048) ![464, 0] ![16, 2048] inb_S512x2048_S16x2048_464_0))⟩,
    ⟨Rect.unit (s := S1x512x2048) ![0, 448, 0] ![1, 16, 2048] inb_S1x512x2048_S1x16x2048_0_448_0, k0_pay111 (k0_pay110 (k0_pay61 gf) (k0_pay62 gt) (View.ld x (Rect.unit (s := S1x512x2048) ![0, 448, 0] ![1, 16, 2048] inb_S1x512x2048_S1x16x2048_0_448_0)) (View.ld a (Rect.unit (s := S512x2048) ![448, 0] ![16, 2048] inb_S512x2048_S16x2048_448_0)))⟩,
    ⟨Rect.unit (s := S1x512x2048) ![0, 432, 0] ![1, 16, 2048] inb_S1x512x2048_S1x16x2048_0_432_0, k0_pay109 (k0_pay61 gf) (k0_pay62 gt) (View.ld x (Rect.unit (s := S1x512x2048) ![0, 432, 0] ![1, 16, 2048] inb_S1x512x2048_S1x16x2048_0_432_0)) (View.ld a (Rect.unit (s := S512x2048) ![432, 0] ![16, 2048] inb_S512x2048_S16x2048_432_0))⟩,
    ⟨Rect.unit (s := S1x512x2048) ![0, 416, 0] ![1, 16, 2048] inb_S1x512x2048_S1x16x2048_0_416_0, k0_pay108 (k0_pay61 gf) (k0_pay62 gt) (View.ld x (Rect.unit (s := S1x512x2048) ![0, 416, 0] ![1, 16, 2048] inb_S1x512x2048_S1x16x2048_0_416_0)) (View.ld a (Rect.unit (s := S512x2048) ![416, 0] ![16, 2048] inb_S512x2048_S16x2048_416_0))⟩,
    ⟨Rect.unit (s := S1x512x2048) ![0, 400, 0] ![1, 16, 2048] inb_S1x512x2048_S1x16x2048_0_400_0, k0_pay107 (k0_pay61 gf) (k0_pay62 gt) (k0_pay106 (View.ld x (Rect.unit (s := S1x512x2048) ![0, 400, 0] ![1, 16, 2048] inb_S1x512x2048_S1x16x2048_0_400_0))) (View.ld a (Rect.unit (s := S512x2048) ![400, 0] ![16, 2048] inb_S512x2048_S16x2048_400_0))⟩,
    ⟨Rect.unit (s := S1x512x2048) ![0, 384, 0] ![1, 16, 2048] inb_S1x512x2048_S1x16x2048_0_384_0, k0_pay105 (k0_pay61 gf) (k0_pay62 gt) (View.ld x (Rect.unit (s := S1x512x2048) ![0, 384, 0] ![1, 16, 2048] inb_S1x512x2048_S1x16x2048_0_384_0)) (View.ld a (Rect.unit (s := S512x2048) ![384, 0] ![16, 2048] inb_S512x2048_S16x2048_384_0))⟩,
    ⟨Rect.unit (s := S1x512x2048) ![0, 368, 0] ![1, 16, 2048] inb_S1x512x2048_S1x16x2048_0_368_0, k0_pay104 (k0_pay61 gf) (k0_pay102 (k0_pay62 gt) (View.ld x (Rect.unit (s := S1x512x2048) ![0, 368, 0] ![1, 16, 2048] inb_S1x512x2048_S1x16x2048_0_368_0)) (View.ld a (Rect.unit (s := S512x2048) ![368, 0] ![16, 2048] inb_S512x2048_S16x2048_368_0))) (k0_pay103 (k0_pay62 gt) (View.ld x (Rect.unit (s := S1x512x2048) ![0, 368, 0] ![1, 16, 2048] inb_S1x512x2048_S1x16x2048_0_368_0)) (View.ld a (Rect.unit (s := S512x2048) ![368, 0] ![16, 2048] inb_S512x2048_S16x2048_368_0)))⟩,
    ⟨Rect.unit (s := S1x512x2048) ![0, 352, 0] ![1, 16, 2048] inb_S1x512x2048_S1x16x2048_0_352_0, k0_pay101 (k0_pay61 gf) (k0_pay62 gt) (View.ld x (Rect.unit (s := S1x512x2048) ![0, 352, 0] ![1, 16, 2048] inb_S1x512x2048_S1x16x2048_0_352_0)) (View.ld a (Rect.unit (s := S512x2048) ![352, 0] ![16, 2048] inb_S512x2048_S16x2048_352_0))⟩,
    ⟨Rect.unit (s := S1x512x2048) ![0, 336, 0] ![1, 16, 2048] inb_S1x512x2048_S1x16x2048_0_336_0, k0_pay100 (k0_pay61 gf) (k0_pay98 (k0_pay62 gt) (View.ld x (Rect.unit (s := S1x512x2048) ![0, 336, 0] ![1, 16, 2048] inb_S1x512x2048_S1x16x2048_0_336_0)) (View.ld a (Rect.unit (s := S512x2048) ![336, 0] ![16, 2048] inb_S512x2048_S16x2048_336_0))) (k0_pay99 (k0_pay62 gt) (View.ld x (Rect.unit (s := S1x512x2048) ![0, 336, 0] ![1, 16, 2048] inb_S1x512x2048_S1x16x2048_0_336_0)) (View.ld a (Rect.unit (s := S512x2048) ![336, 0] ![16, 2048] inb_S512x2048_S16x2048_336_0)))⟩,
    ⟨Rect.unit (s := S1x512x2048) ![0, 320, 0] ![1, 16, 2048] inb_S1x512x2048_S1x16x2048_0_320_0, k0_pay97 (k0_pay61 gf) (k0_pay62 gt) (View.ld x (Rect.unit (s := S1x512x2048) ![0, 320, 0] ![1, 16, 2048] inb_S1x512x2048_S1x16x2048_0_320_0)) (View.ld a (Rect.unit (s := S512x2048) ![320, 0] ![16, 2048] inb_S512x2048_S16x2048_320_0))⟩,
    ⟨Rect.unit (s := S1x512x2048) ![0, 304, 0] ![1, 16, 2048] inb_S1x512x2048_S1x16x2048_0_304_0, k0_pay96 (k0_pay61 gf) (k0_pay95 (k0_pay62 gt) (View.ld x (Rect.unit (s := S1x512x2048) ![0, 304, 0] ![1, 16, 2048] inb_S1x512x2048_S1x16x2048_0_304_0)) (View.ld a (Rect.unit (s := S512x2048) ![304, 0] ![16, 2048] inb_S512x2048_S16x2048_304_0)))⟩,
    ⟨Rect.unit (s := S1x512x2048) ![0, 288, 0] ![1, 16, 2048] inb_S1x512x2048_S1x16x2048_0_288_0, k0_pay94 (k0_pay61 gf) (k0_pay62 gt) (View.ld x (Rect.unit (s := S1x512x2048) ![0, 288, 0] ![1, 16, 2048] inb_S1x512x2048_S1x16x2048_0_288_0)) (View.ld a (Rect.unit (s := S512x2048) ![288, 0] ![16, 2048] inb_S512x2048_S16x2048_288_0))⟩,
    ⟨Rect.unit (s := S1x512x2048) ![0, 272, 0] ![1, 16, 2048] inb_S1x512x2048_S1x16x2048_0_272_0, k0_pay93 (k0_pay92 (k0_pay61 gf) (k0_pay62 gt) (View.ld x (Rect.unit (s := S1x512x2048) ![0, 272, 0] ![1, 16, 2048] inb_S1x512x2048_S1x16x2048_0_272_0)) (View.ld a (Rect.unit (s := S512x2048) ![272, 0] ![16, 2048] inb_S512x2048_S16x2048_272_0)))⟩,
    ⟨Rect.unit (s := S1x512x2048) ![0, 256, 0] ![1, 16, 2048] inb_S1x512x2048_S1x16x2048_0_256_0, k0_pay91 (k0_pay61 gf) (k0_pay62 gt) (View.ld x (Rect.unit (s := S1x512x2048) ![0, 256, 0] ![1, 16, 2048] inb_S1x512x2048_S1x16x2048_0_256_0)) (View.ld a (Rect.unit (s := S512x2048) ![256, 0] ![16, 2048] inb_S512x2048_S16x2048_256_0))⟩,
    ⟨Rect.unit (s := S1x512x2048) ![0, 240, 0] ![1, 16, 2048] inb_S1x512x2048_S1x16x2048_0_240_0, k0_pay90 (k0_pay61 gf) (k0_pay62 gt) (View.ld x (Rect.unit (s := S1x512x2048) ![0, 240, 0] ![1, 16, 2048] inb_S1x512x2048_S1x16x2048_0_240_0)) (View.ld a (Rect.unit (s := S512x2048) ![240, 0] ![16, 2048] inb_S512x2048_S16x2048_240_0))⟩,
    ⟨Rect.unit (s := S1x512x2048) ![0, 224, 0] ![1, 16, 2048] inb_S1x512x2048_S1x16x2048_0_224_0, k0_pay89 (k0_pay61 gf) (k0_pay87 (View.ld x (Rect.unit (s := S1x512x2048) ![0, 224, 0] ![1, 16, 2048] inb_S1x512x2048_S1x16x2048_0_224_0))) (View.ld a (Rect.unit (s := S512x2048) ![224, 0] ![16, 2048] inb_S512x2048_S16x2048_224_0)) (k0_pay88 (k0_pay62 gt))⟩,
    ⟨Rect.unit (s := S1x512x2048) ![0, 208, 0] ![1, 16, 2048] inb_S1x512x2048_S1x16x2048_0_208_0, k0_pay86 (k0_pay61 gf) (k0_pay62 gt) (View.ld x (Rect.unit (s := S1x512x2048) ![0, 208, 0] ![1, 16, 2048] inb_S1x512x2048_S1x16x2048_0_208_0)) (View.ld a (Rect.unit (s := S512x2048) ![208, 0] ![16, 2048] inb_S512x2048_S16x2048_208_0))⟩,
    ⟨Rect.unit (s := S1x512x2048) ![0, 192, 0] ![1, 16, 2048] inb_S1x512x2048_S1x16x2048_0_192_0, k0_pay85 (k0_pay61 gf) (k0_pay83 (k0_pay62 gt) (View.ld x (Rect.unit (s := S1x512x2048) ![0, 192, 0] ![1, 16, 2048] inb_S1x512x2048_S1x16x2048_0_192_0)) (View.ld a (Rect.unit (s := S512x2048) ![192, 0] ![16, 2048] inb_S512x2048_S16x2048_192_0))) (k0_pay84 (k0_pay62 gt) (View.ld x (Rect.unit (s := S1x512x2048) ![0, 192, 0] ![1, 16, 2048] inb_S1x512x2048_S1x16x2048_0_192_0)) (View.ld a (Rect.unit (s := S512x2048) ![192, 0] ![16, 2048] inb_S512x2048_S16x2048_192_0)))⟩,
    ⟨Rect.unit (s := S1x512x2048) ![0, 176, 0] ![1, 16, 2048] inb_S1x512x2048_S1x16x2048_0_176_0, k0_pay82 (k0_pay61 gf) (k0_pay62 gt) (View.ld x (Rect.unit (s := S1x512x2048) ![0, 176, 0] ![1, 16, 2048] inb_S1x512x2048_S1x16x2048_0_176_0)) (View.ld a (Rect.unit (s := S512x2048) ![176, 0] ![16, 2048] inb_S512x2048_S16x2048_176_0))⟩,
    ⟨Rect.unit (s := S1x512x2048) ![0, 160, 0] ![1, 16, 2048] inb_S1x512x2048_S1x16x2048_0_160_0, k0_pay81 (k0_pay61 gf) (k0_pay79 (k0_pay62 gt) (View.ld x (Rect.unit (s := S1x512x2048) ![0, 160, 0] ![1, 16, 2048] inb_S1x512x2048_S1x16x2048_0_160_0)) (View.ld a (Rect.unit (s := S512x2048) ![160, 0] ![16, 2048] inb_S512x2048_S16x2048_160_0))) (k0_pay80 (k0_pay62 gt) (View.ld x (Rect.unit (s := S1x512x2048) ![0, 160, 0] ![1, 16, 2048] inb_S1x512x2048_S1x16x2048_0_160_0)) (View.ld a (Rect.unit (s := S512x2048) ![160, 0] ![16, 2048] inb_S512x2048_S16x2048_160_0)))⟩,
    ⟨Rect.unit (s := S1x512x2048) ![0, 144, 0] ![1, 16, 2048] inb_S1x512x2048_S1x16x2048_0_144_0, k0_pay78 (k0_pay61 gf) (k0_pay62 gt) (View.ld x (Rect.unit (s := S1x512x2048) ![0, 144, 0] ![1, 16, 2048] inb_S1x512x2048_S1x16x2048_0_144_0)) (View.ld a (Rect.unit (s := S512x2048) ![144, 0] ![16, 2048] inb_S512x2048_S16x2048_144_0))⟩,
    ⟨Rect.unit (s := S1x512x2048) ![0, 128, 0] ![1, 16, 2048] inb_S1x512x2048_S1x16x2048_0_128_0, k0_pay77 (k0_pay76 (k0_pay61 gf) (k0_pay62 gt) (View.ld x (Rect.unit (s := S1x512x2048) ![0, 128, 0] ![1, 16, 2048] inb_S1x512x2048_S1x16x2048_0_128_0)) (View.ld a (Rect.unit (s := S512x2048) ![128, 0] ![16, 2048] inb_S512x2048_S16x2048_128_0)))⟩,
    ⟨Rect.unit (s := S1x512x2048) ![0, 112, 0] ![1, 16, 2048] inb_S1x512x2048_S1x16x2048_0_112_0, k0_pay75 (k0_pay61 gf) (k0_pay62 gt) (View.ld x (Rect.unit (s := S1x512x2048) ![0, 112, 0] ![1, 16, 2048] inb_S1x512x2048_S1x16x2048_0_112_0)) (View.ld a (Rect.unit (s := S512x2048) ![112, 0] ![16, 2048] inb_S512x2048_S16x2048_112_0))⟩,
    ⟨Rect.unit (s := S1x512x2048) ![0, 96, 0] ![1, 16, 2048] inb_S1x512x2048_S1x16x2048_0_96_0, k0_pay74 (k0_pay61 gf) (k0_pay62 gt) (View.ld x (Rect.unit (s := S1x512x2048) ![0, 96, 0] ![1, 16, 2048] inb_S1x512x2048_S1x16x2048_0_96_0)) (View.ld a (Rect.unit (s := S512x2048) ![96, 0] ![16, 2048] inb_S512x2048_S16x2048_96_0))⟩,
    ⟨Rect.unit (s := S1x512x2048) ![0, 80, 0] ![1, 16, 2048] inb_S1x512x2048_S1x16x2048_0_80_0, k0_pay73 (k0_pay61 gf) (k0_pay62 gt) (k0_pay72 (View.ld x (Rect.unit (s := S1x512x2048) ![0, 80, 0] ![1, 16, 2048] inb_S1x512x2048_S1x16x2048_0_80_0))) (View.ld a (Rect.unit (s := S512x2048) ![80, 0] ![16, 2048] inb_S512x2048_S16x2048_80_0))⟩,
    ⟨Rect.unit (s := S1x512x2048) ![0, 64, 0] ![1, 16, 2048] inb_S1x512x2048_S1x16x2048_0_64_0, k0_pay71 (k0_pay61 gf) (k0_pay62 gt) (View.ld x (Rect.unit (s := S1x512x2048) ![0, 64, 0] ![1, 16, 2048] inb_S1x512x2048_S1x16x2048_0_64_0)) (View.ld a (Rect.unit (s := S512x2048) ![64, 0] ![16, 2048] inb_S512x2048_S16x2048_64_0))⟩,
    ⟨Rect.unit (s := S1x512x2048) ![0, 48, 0] ![1, 16, 2048] inb_S1x512x2048_S1x16x2048_0_48_0, k0_pay70 (k0_pay61 gf) (k0_pay68 (k0_pay62 gt) (View.ld x (Rect.unit (s := S1x512x2048) ![0, 48, 0] ![1, 16, 2048] inb_S1x512x2048_S1x16x2048_0_48_0)) (View.ld a (Rect.unit (s := S512x2048) ![48, 0] ![16, 2048] inb_S512x2048_S16x2048_48_0))) (k0_pay69 (k0_pay62 gt) (View.ld x (Rect.unit (s := S1x512x2048) ![0, 48, 0] ![1, 16, 2048] inb_S1x512x2048_S1x16x2048_0_48_0)) (View.ld a (Rect.unit (s := S512x2048) ![48, 0] ![16, 2048] inb_S512x2048_S16x2048_48_0)))⟩,
    ⟨Rect.unit (s := S1x512x2048) ![0, 32, 0] ![1, 16, 2048] inb_S1x512x2048_S1x16x2048_0_32_0, k0_pay67 (k0_pay61 gf) (k0_pay62 gt) (View.ld x (Rect.unit (s := S1x512x2048) ![0, 32, 0] ![1, 16, 2048] inb_S1x512x2048_S1x16x2048_0_32_0)) (View.ld a (Rect.unit (s := S512x2048) ![32, 0] ![16, 2048] inb_S512x2048_S16x2048_32_0))⟩,
    ⟨Rect.unit (s := S1x512x2048) ![0, 16, 0] ![1, 16, 2048] inb_S1x512x2048_S1x16x2048_0_16_0, k0_pay66 (k0_pay61 gf) (k0_pay64 gt (View.ld x (Rect.unit (s := S1x512x2048) ![0, 16, 0] ![1, 16, 2048] inb_S1x512x2048_S1x16x2048_0_16_0)) (View.ld a (Rect.unit (s := S512x2048) ![16, 0] ![16, 2048] inb_S512x2048_S16x2048_16_0))) (k0_pay65 gt (View.ld x (Rect.unit (s := S1x512x2048) ![0, 16, 0] ![1, 16, 2048] inb_S1x512x2048_S1x16x2048_0_16_0)) (View.ld a (Rect.unit (s := S512x2048) ![16, 0] ![16, 2048] inb_S512x2048_S16x2048_16_0)))⟩,
    ⟨Rect.unit (s := S1x512x2048) ![0, 0, 0] ![1, 16, 2048] inb_S1x512x2048_S1x16x2048_0_0_0, k0_pay63 gf gt (View.ld x (Rect.unit (s := S1x512x2048) ![0, 0, 0] ![1, 16, 2048] inb_S1x512x2048_S1x16x2048_0_0_0)) (View.ld a (Rect.unit (s := S512x2048) ![0, 0] ![16, 2048] inb_S512x2048_S16x2048_0_0))⟩]

/-- The scratch of gated rows after its sixteen stores of thirty-two rows each, from the columns `E` with their two
    preceding rows and the gate's columns `U`. -/
def actOf (cw : Vec F S3x512 .f32) (cb : Vec F S1x512 .f32) (E : Vec F S1x520x512 .f32) (U : Vec F S1x512x512 .f32) : Vec F S512x512 .bf16 :=
  View.canon [
    ⟨Rect.unit (s := S512x512) ![480, 0] ![32, 512] inb_S512x512_S32x512_480_0, k0_pay160 cw (k0_pay125 cb) (View.ld E (Rect.unit (s := S1x520x512) ![0, 486, 0] ![1, 32, 512] inb_S1x520x512_S1x32x512_0_486_0)) (View.ld E (Rect.unit (s := S1x520x512) ![0, 487, 0] ![1, 32, 512] inb_S1x520x512_S1x32x512_0_487_0)) (View.ld E (Rect.unit (s := S1x520x512) ![0, 488, 0] ![1, 32, 512] inb_S1x520x512_S1x32x512_0_488_0)) (View.ld U (Rect.unit (s := S1x512x512) ![0, 480, 0] ![1, 32, 512] inb_S1x512x512_S1x32x512_0_480_0))⟩,
    ⟨Rect.unit (s := S512x512) ![448, 0] ![32, 512] inb_S512x512_S32x512_448_0, k0_pay159 (k0_pay158 cw (k0_pay125 cb) (View.ld E (Rect.unit (s := S1x520x512) ![0, 454, 0] ![1, 32, 512] inb_S1x520x512_S1x32x512_0_454_0)) (View.ld E (Rect.unit (s := S1x520x512) ![0, 455, 0] ![1, 32, 512] inb_S1x520x512_S1x32x512_0_455_0)) (View.ld E (Rect.unit (s := S1x520x512) ![0, 456, 0] ![1, 32, 512] inb_S1x520x512_S1x32x512_0_456_0)) (View.ld U (Rect.unit (s := S1x512x512) ![0, 448, 0] ![1, 32, 512] inb_S1x512x512_S1x32x512_0_448_0)))⟩,
    ⟨Rect.unit (s := S512x512) ![416, 0] ![32, 512] inb_S512x512_S32x512_416_0, k0_pay157 cw (k0_pay153 (View.ld E (Rect.unit (s := S1x520x512) ![0, 423, 0] ![1, 32, 512] inb_S1x520x512_S1x32x512_0_423_0))) (k0_pay154 (View.ld E (Rect.unit (s := S1x520x512) ![0, 424, 0] ![1, 32, 512] inb_S1x520x512_S1x32x512_0_424_0))) (k0_pay155 cw (k0_pay125 cb) (View.ld E (Rect.unit (s := S1x520x512) ![0, 422, 0] ![1, 32, 512] inb_S1x520x512_S1x32x512_0_422_0))) (k0_pay156 cw) (View.ld U (Rect.unit (s := S1x512x512) ![0, 416, 0] ![1, 32, 512] inb_S1x512x512_S1x32x512_0_416_0))⟩,
    ⟨Rect.unit (s := S512x512) ![384, 0] ![32, 512] inb_S512x512_S32x512_384_0, k0_pay152 cw (k0_pay125 cb) (k0_pay151 (View.ld E (Rect.unit (s := S1x520x512) ![0, 390, 0] ![1, 32, 512] inb_S1x520x512_S1x32x512_0_390_0))) (View.ld E (Rect.unit (s := S1x520x512) ![0, 391, 0] ![1, 32, 512] inb_S1x520x512_S1x32x512_0_391_0)) (View.ld E (Rect.unit (s := S1x520x512) ![0, 392, 0] ![1, 32, 512] inb_S1x520x512_S1x32x512_0_392_0)) (View.ld U (Rect.unit (s := S1x512x512) ![0, 384, 0] ![1, 32, 512] inb_S1x512x512_S1x32x512_0_384_0))⟩,
    ⟨Rect.unit (s := S512x512) ![352, 0] ![32, 512] inb_S512x512_S32x512_352_0, k0_pay150 cw (k0_pay125 cb) (View.ld E (Rect.unit (s := S1x520x512) ![0, 358, 0] ![1, 32, 512] inb_S1x520x512_S1x32x512_0_358_0)) (View.ld E (Rect.unit (s := S1x520x512) ![0, 359, 0] ![1, 32, 512] inb_S1x520x512_S1x32x512_0_359_0)) (View.ld E (Rect.unit (s := S1x520x512) ![0, 360, 0] ![1, 32, 512] inb_S1x520x512_S1x32x512_0_360_0)) (View.ld U (Rect.unit (s := S1x512x512) ![0, 352, 0] ![1, 32, 512] inb_S1x512x512_S1x32x512_0_352_0))⟩,
    ⟨Rect.unit (s := S512x512) ![320, 0] ![32, 512] inb_S512x512_S32x512_320_0, k0_pay149 (k0_pay148 cw (k0_pay125 cb) (View.ld E (Rect.unit (s := S1x520x512) ![0, 326, 0] ![1, 32, 512] inb_S1x520x512_S1x32x512_0_326_0)) (View.ld E (Rect.unit (s := S1x520x512) ![0, 327, 0] ![1, 32, 512] inb_S1x520x512_S1x32x512_0_327_0)) (View.ld E (Rect.unit (s := S1x520x512) ![0, 328, 0] ![1, 32, 512] inb_S1x520x512_S1x32x512_0_328_0))) (View.ld U (Rect.unit (s := S1x512x512) ![0, 320, 0] ![1, 32, 512] inb_S1x512x512_S1x32x512_0_320_0))⟩,
    ⟨Rect.unit (s := S512x512) ![288, 0] ![32, 512] inb_S512x512_S32x512_288_0, k0_pay147 cw (k0_pay125 cb) (k0_pay145 (View.ld E (Rect.unit (s := S1x520x512) ![0, 294, 0] ![1, 32, 512] inb_S1x520x512_S1x32x512_0_294_0))) (k0_pay146 (View.ld E (Rect.unit (s := S1x520x512) ![0, 295, 0] ![1, 32, 512] inb_S1x520x512_S1x32x512_0_295_0))) (View.ld E (Rect.unit (s := S1x520x512) ![0, 296, 0] ![1, 32, 512] inb_S1x520x512_S1x32x512_0_296_0)) (View.ld U (Rect.unit (s := S1x512x512) ![0, 288, 0] ![1, 32, 512] inb_S1x512x512_S1x32x512_0_288_0))⟩,
    ⟨Rect.unit (s := S512x512) ![256, 0] ![32, 512] inb_S512x512_S32x512_256_0, k0_pay144 cw (k0_pay125 cb) (View.ld E (Rect.unit (s := S1x520x512) ![0, 262, 0] ![1, 32, 512] inb_S1x520x512_S1x32x512_0_262_0)) (View.ld E (Rect.unit (s := S1x520x512) ![0, 263, 0] ![1, 32, 512] inb_S1x520x512_S1x32x512_0_263_0)) (View.ld E (Rect.unit (s := S1x520x512) ![0, 264, 0] ![1, 32, 512] inb_S1x520x512_S1x32x512_0_264_0)) (View.ld U (Rect.unit (s := S1x512x512) ![0, 256, 0] ![1, 32, 512] inb_S1x512x512_S1x32x512_0_256_0))⟩,
    ⟨Rect.unit (s := S512x512) ![224, 0] ![32, 512] inb_S512x512_S32x512_224_0, k0_pay143 (k0_pay142 cw (k0_pay125 cb) (View.ld E (Rect.unit (s := S1x520x512) ![0, 230, 0] ![1, 32, 512] inb_S1x520x512_S1x32x512_0_230_0)) (View.ld E (Rect.unit (s := S1x520x512) ![0, 231, 0] ![1, 32, 512] inb_S1x520x512_S1x32x512_0_231_0)) (View.ld E (Rect.unit (s := S1x520x512) ![0, 232, 0] ![1, 32, 512] inb_S1x520x512_S1x32x512_0_232_0)) (View.ld U (Rect.unit (s := S1x512x512) ![0, 224, 0] ![1, 32, 512] inb_S1x512x512_S1x32x512_0_224_0)))⟩,
    ⟨Rect.unit (s := S512x512) ![192, 0] ![32, 512] inb_S512x512_S32x512_192_0, k0_pay141 cw (k0_pay138 (View.ld E (Rect.unit (s := S1x520x512) ![0, 200, 0] ![1, 32, 512] inb_S1x520x512_S1x32x512_0_200_0))) (k0_pay139 cw (k0_pay125 cb) (View.ld E (Rect.unit (s := S1x520x512) ![0, 198, 0] ![1, 32, 512] inb_S1x520x512_S1x32x512_0_198_0))) (k0_pay140 cw (View.ld E (Rect.unit (s := S1x520x512) ![0, 199, 0] ![1, 32, 512] inb_S1x520x512_S1x32x512_0_199_0))) (View.ld U (Rect.unit (s := S1x512x512) ![0, 192, 0] ![1, 32, 512] inb_S1x512x512_S1x32x512_0_192_0))⟩,
    ⟨Rect.unit (s := S512x512) ![160, 0] ![32, 512] inb_S512x512_S32x512_160_0, k0_pay137 cw (k0_pay125 cb) (k0_pay136 (View.ld E (Rect.unit (s := S1x520x512) ![0, 166, 0] ![1, 32, 512] inb_S1x520x512_S1x32x512_0_166_0))) (View.ld E (Rect.unit (s := S1x520x512) ![0, 167, 0] ![1, 32, 512] inb_S1x520x512_S1x32x512_0_167_0)) (View.ld E (Rect.unit (s := S1x520x512) ![0, 168, 0] ![1, 32, 512] inb_S1x520x512_S1x32x512_0_168_0)) (View.ld U (Rect.unit (s := S1x512x512) ![0, 160, 0] ![1, 32, 512] inb_S1x512x512_S1x32x512_0_160_0))⟩,
    ⟨Rect.unit (s := S512x512) ![128, 0] ![32, 512] inb_S512x512_S32x512_128_0, k0_pay135 cw (k0_pay125 cb) (View.ld E (Rect.unit (s := S1x520x512) ![0, 134, 0] ![1, 32, 512] inb_S1x520x512_S1x32x512_0_134_0)) (View.ld E (Rect.unit (s := S1x520x512) ![0, 135, 0] ![1, 32, 512] inb_S1x520x512_S1x32x512_0_135_0)) (View.ld E (Rect.unit (s := S1x520x512) ![0, 136, 0] ![1, 32, 512] inb_S1x520x512_S1x32x512_0_136_0)) (View.ld U (Rect.unit (s := S1x512x512) ![0, 128, 0] ![1, 32, 512] inb_S1x512x512_S1x32x512_0_128_0))⟩,
    ⟨Rect.unit (s := S512x512) ![96, 0] ![32, 512] inb_S512x512_S32x512_96_0, k0_pay134 (k0_pay133 cw (k0_pay125 cb) (View.ld E (Rect.unit (s := S1x520x512) ![0, 102, 0] ![1, 32, 512] inb_S1x520x512_S1x32x512_0_102_0)) (View.ld E (Rect.unit (s := S1x520x512) ![0, 103, 0] ![1, 32, 512] inb_S1x520x512_S1x32x512_0_103_0)) (View.ld E (Rect.unit (s := S1x520x512) ![0, 104, 0] ![1, 32, 512] inb_S1x520x512_S1x32x512_0_104_0))) (View.ld U (Rect.unit (s := S1x512x512) ![0, 96, 0] ![1, 32, 512] inb_S1x512x512_S1x32x512_0_96_0))⟩,
    ⟨Rect.unit (s := S512x512) ![64, 0] ![32, 512] inb_S512x512_S32x512_64_0, k0_pay132 cw (k0_pay125 cb) (k0_pay129 (View.ld E (Rect.unit (s := S1x520x512) ![0, 70, 0] ![1, 32, 512] inb_S1x520x512_S1x32x512_0_70_0))) (k0_pay130 (View.ld E (Rect.unit (s := S1x520x512) ![0, 71, 0] ![1, 32, 512] inb_S1x520x512_S1x32x512_0_71_0))) (k0_pay131 (View.ld E (Rect.unit (s := S1x520x512) ![0, 72, 0] ![1, 32, 512] inb_S1x520x512_S1x32x512_0_72_0))) (View.ld U (Rect.unit (s := S1x512x512) ![0, 64, 0] ![1, 32, 512] inb_S1x512x512_S1x32x512_0_64_0))⟩,
    ⟨Rect.unit (s := S512x512) ![32, 0] ![32, 512] inb_S512x512_S32x512_32_0, k0_pay128 cw (k0_pay125 cb) (View.ld E (Rect.unit (s := S1x520x512) ![0, 38, 0] ![1, 32, 512] inb_S1x520x512_S1x32x512_0_38_0)) (View.ld E (Rect.unit (s := S1x520x512) ![0, 39, 0] ![1, 32, 512] inb_S1x520x512_S1x32x512_0_39_0)) (View.ld E (Rect.unit (s := S1x520x512) ![0, 40, 0] ![1, 32, 512] inb_S1x520x512_S1x32x512_0_40_0)) (View.ld U (Rect.unit (s := S1x512x512) ![0, 32, 0] ![1, 32, 512] inb_S1x512x512_S1x32x512_0_32_0))⟩,
    ⟨Rect.unit (s := S512x512) ![0, 0] ![32, 512] inb_S512x512_S32x512_0_0, k0_pay127 (k0_pay126 cw cb (View.ld E (Rect.unit (s := S1x520x512) ![0, 6, 0] ![1, 32, 512] inb_S1x520x512_S1x32x512_0_6_0)) (View.ld E (Rect.unit (s := S1x520x512) ![0, 7, 0] ![1, 32, 512] inb_S1x520x512_S1x32x512_0_7_0)) (View.ld E (Rect.unit (s := S1x520x512) ![0, 8, 0] ![1, 32, 512] inb_S1x520x512_S1x32x512_0_8_0)) (View.ld U (Rect.unit (s := S1x512x512) ![0, 0, 0] ![1, 32, 512] inb_S1x512x512_S1x32x512_0_0_0)))⟩]

/-- The columns of a block of rows under the two rows `p` that precede the block. -/
def extOf (p : Vec F S1x2x512 .f32) (h : Vec F S512x2048 .bf16) (w : Vec F S2048x512 .bf16) : Vec F S1x520x512 .f32 :=
  View.canon [
    ⟨Rect.unit (s := S1x520x512) ![0, 8, 0] ![1, 512, 512] inb_S1x520x512_S1x512x512_0_8_0, k0_pay121 h w⟩,
    ⟨Rect.unit (s := S1x520x512) ![0, 6, 0] ![1, 2, 512] inb_S1x520x512_S1x2x512_0_6_0, p⟩]

theorem inb_tail : ∀ a, (![0, 510, 0] : Fin 3 → ℕ) a + (![1, 2, 512] : Fin 3 → ℕ) a ≤ S1x512x512.size a := by decide

/-- The last two rows of a block's columns. -/
def tailOf (h : Vec F S512x2048 .bf16) (w : Vec F S2048x512 .bf16) : Vec F S1x2x512 .f32 :=
  View.ld (k0_pay121 h w) (Rect.unit (s := S1x512x512) ![0, 510, 0] ![1, 2, 512] inb_tail)

/-- The running sum after one block of columns: `a` and the product of the gated rows with the block's weights. -/
def accOf (a : Vec F S512x2048 .f32) (cw : Vec F S3x512 .f32) (cb : Vec F S1x512 .f32) (p : Vec F S1x2x512 .f32)
    (h : Vec F S512x2048 .bf16) (wa wb : Vec F S2048x512 .bf16) (wd : Vec F S512x2048 .bf16) : Vec F S512x2048 .f32 :=
  k0_pay1 (k0_pay161 a (actOf cw cb (extOf p h wa) (k0_pay122 h wb)) wd)

/-- The written state with block `i`'s two rows put in. -/
def putS (i : grid0.Coords) (d : Vec F S1x11x2x512 .f32) (v : Vec F S1x2x512 .f32) : Vec F S1x11x2x512 .f32 :=
  (Rect.unit (s := S1x11x2x512) (k0_off3 i) ![1, 1, 2, 512] (k0_off3_inb i)).overlay d (k0_pay124 v)

/-- The carried rows with block `i`'s two rows put in. -/
def putC (i : grid0.Coords) (d : Vec F S11x1x2x512 .f32) (v : Vec F S1x2x512 .f32) : Vec F S11x1x2x512 .f32 :=
  (Rect.unit (s := S11x1x2x512) (k0_off2 i) ![1, 1, 2, 512] (k0_off2_inb i)).overlay d (k0_pay123 v)

/-- Block `i`'s two rows of the carried rows. -/
def getC (i : grid0.Coords) (hi : k0_cond3 i = 1#1) (d : Vec F S11x1x2x512 .f32) : Vec F S1x1x2x512 .f32 :=
  View.ld d (Rect.unit (s := S11x1x2x512) (k0_off1 i) ![1, 1, 2, 512] (k0_off1_inb i hi))

/-- What a whole buffer holding `d` reads after one store. -/
theorem read_put {sp : Space} {S : Shape} {e : EltTy} {M : Memref sig .tc sp S e} (hM : M.IsWhole) (d : Vec F S e) (r : Rect S) (p : r.shape.Idx → Elt F e) :
    View.read (Elt F) M.view (M.view.writes (Elt F) (hM.unread d) [⟨r, p⟩]) = r.overlay d p := by
  funext y
  by_cases h : y ∈ r.set
  · rw [← r.map_emb_univ] at h
    obtain ⟨x, -, rfl⟩ := Finset.mem_map.mp h
    rw [View.read_writes_cons_emb, Rect.overlay_emb]
  · rw [View.read_writes_cons_miss _ _ _ _ _ h, Rect.overlay_of_not_mem _ _ _ h]
    exact congrFun (hM.read_unread d) y

/-- The two rows read at the end of the extended columns are the last two of the block's. -/
theorem tail_eq (p : Vec F S1x2x512 .f32) (h : Vec F S512x2048 .bf16) (w : Vec F S2048x512 .bf16) :
    View.ld (extOf p h w) (Rect.unit (s := S1x520x512) ![0, 518, 0] ![1, 2, 512] inb_S1x520x512_S1x2x512_0_518_0) = tailOf h w := by
  funext x
  unfold extOf tailOf
  rw [View.ld_apply, View.ld_apply]
  refine Eq.trans (congrArg _ (?_ : _ = (Rect.unit (s := S1x520x512) ![0, 8, 0] ![1, 512, 512] inb_S1x520x512_S1x512x512_0_8_0).emb
    ((Rect.unit (s := S1x512x512) ![0, 510, 0] ![1, 2, 512] inb_tail).idx x))) (View.canon_cons_emb _ _ _ _)
  funext a
  refine Fin.ext ?_
  fin_cases a
  · show 0 + 1 * (x 0).val = 0 + 1 * (0 + 1 * (x 0).val); omega
  · show 518 + 1 * (x 1).val = 8 + 1 * (510 + 1 * (x 1).val); omega
  · show 0 + 1 * (x 2).val = 0 + 1 * (0 + 1 * (x 2).val); omega

/-- A whole read of the gated rows is the rows themselves. -/
theorem whole_act (L : List (View.Piece (Elt F) S512x512 FTy.bf16.elt)) :
    (fun j => View.canon L ((Rect.unit (s := S512x512) ![0, 0] ![512, 512] inb_S512x512_S512x512_0_0).toLoadRect.idx j)) = View.canon L :=
  View.ld_unit_lit' inb_S512x512_S512x512_0_0 (View.canon L) (by decide)

/-- The kernel's first test: the block of columns is the first. -/
abbrev cond0 (i : grid0.Coords) : Prop := (Scalar.cmpi .ne (Scalar.extui (Scalar.cmpi .eq (BitVec.ofNat 32 (i 2).val) 0#32)) 0#32) = 1#1

/-- The kernel's second test: the block of rows is the first of its batch. -/
abbrev cond1 (i : grid0.Coords) : Prop := (Scalar.cmpi .ne (Scalar.extui (Scalar.cmpi .eq (BitVec.ofNat 32 (i 1).val) 0#32)) 0#32) = 1#1

end Cert.Kernel3Ideal.Run

end
-- ==== Proof.Ffn.Cases.lean ====
/-
  The body of the feed-forward call: what it leaves in each buffer, for each of the six kinds of grid point.
-/
module

public import proofs.«01_k».proof.Proof.Ffn.Fun

@[expose] public section

set_option maxRecDepth 16384

noncomputable section

namespace Cert.Kernel3Ideal.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer holding an array reads as that array. -/
theorem own_back (c : Dev nD) {sp : Space} {S : Shape} {e : EltTy} (M : Memref sig .tc sp S e) (h : M.IsWhole) {x : Vec F S e} :
    ((M.view.loc (c : Thread nD τ) ↦[M.view.set]{fullShare} h.unread x) : sProp 𝕄)
      ⊢ iprop(∃ f, ⌜M.view.read (Elt F) f = x⌝ ∗ (M.view.loc (c : Thread nD τ) ↦[M.view.set]{fullShare} f)) := by
  iintro H
  iexists _; isplitr; · ipureintro; exact h.read_unread _
  iexact H

variable (c : Dev nD) (i : grid0.Coords) (arg3 : Memref sig .tc .vmem S1x512x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2x512 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S3x512 .f32) (harg12 : arg12.IsWhole) (arg13 : Memref sig .tc .vmem S1x512 .f32) (harg13 : arg13.IsWhole) (arg14 : Memref sig .tc .vmem S512x2048 .bf16) (harg14 : arg14.IsWhole) (arg15 : Memref sig .tc .vmem S1x512x2048 .f32) (harg15 : arg15.IsWhole) (arg16 : Memref sig .tc .vmem S1x11x2x512 .f32) (harg16 : arg16.IsWhole) (arg17 : Memref sig .tc .vmem S512x2048 .bf16) (harg17 : arg17.IsWhole) (arg18 : Memref sig .tc .vmem S512x2048 .f32) (harg18 : arg18.IsWhole) (arg19 : Memref sig .tc .vmem S1x520x512 .f32) (harg19 : arg19.IsWhole) (arg20 : Memref sig .tc .vmem S11x1x2x512 .f32) (harg20 : arg20.IsWhole) (arg21 : Memref sig .tc .vmem S1x512x512 .f32) (harg21 : arg21.IsWhole) (arg22 : Memref sig .tc .vmem S512x512 .bf16) (harg22 : arg22.IsWhole)

set_option maxHeartbeats 2000000 in
/-- The body of the feed-forward call at a point of the first block of columns, first block of rows: what it leaves in each buffer. -/
theorem body_A
    (hc0 : cond0 i) (hc1 : cond1 i) (hc2 : ¬ k0_cond3 i = 1#1) (hc3 : ¬ k0_cond4 i = 1#1)
    (x0 : Vec F S1x512x2048 .f32) (x1 : Vec F S1x1x2048 .f32) (x2 : Vec F S1x1x2048 .f32) (x3 : Vec F S1x1x2048 .f32) (x4 : Vec F S1x2048 .f32) (x5 : Vec F S1x2048 .f32) (x6 : Vec F S1x2x512 .f32) (x7 : Vec F S2048x512 .bf16) (x8 : Vec F S2048x512 .bf16) (x9 : Vec F S3x512 .f32) (x10 : Vec F S1x512 .f32) (x11 : Vec F S512x2048 .bf16) (y12 : Vec F S1x512x2048 .f32) (y13 : Vec F S1x11x2x512 .f32) (s3 : Vec F S11x1x2x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ (∃ d, owns (c : Thread nD τ) arg17 fullShare d) ∗ (∃ d, owns (c : Thread nD τ) arg18 fullShare d) ∗ (∃ d, owns (c : Thread nD τ) arg19 fullShare d) ∗ owns (c : Thread nD τ) arg20 fullShare s3 ∗ (∃ d, owns (c : Thread nD τ) arg21 fullShare d) ∗ (∃ d, owns (c : Thread nD τ) arg22 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare (putS i y13 (tailOf (hOf x0 x4 x1 x2) x7)) ∗ owns (c : Thread nD τ) arg17 fullShare (hOf x0 x4 x1 x2) ∗ owns (c : Thread nD τ) arg18 fullShare (accOf (k0_pay118 (F := F)) x9 x10 (k0_pay119 x6) (hOf x0 x4 x1 x2) x7 x8 x11) ∗ (∃ d, owns (c : Thread nD τ) arg19 fullShare d) ∗ owns (c : Thread nD τ) arg20 fullShare (putC i s3 (tailOf (hOf x0 x4 x1 x2) x7)) ∗ (∃ d, owns (c : Thread nD τ) arg21 fullShare d) ∗ (∃ d, owns (c : Thread nD τ) arg22 fullShare d)) -∗ K ⟨⟩))
      ⊢ wp frame (wpE (defs₀ (F := F)) Variants.none c none) E (cc0_conv_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_conv_ffn_eq_skeleton]; unfold cc0_conv_ffn_skel
  simp only [k0_part36_eq_skeleton, k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%f17, %hf17, H17⟩, ⟨%d18, %f18, -, H18⟩, ⟨%d19, %f19, -, H19⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg20.eq_unread hf17
  sl_exec (disch := first | sl_exact hc0 | sl_exact hc1 | sl_exact hc2 | sl_exact hc3)
  sl_step
  iapply Hk
  isplitl [H0]; · iapply (own_back c arg3 harg3); iexact H0
  isplitl [H1]; · iapply (own_back c arg4 harg4); iexact H1
  isplitl [H2]; · iapply (own_back c arg5 harg5); iexact H2
  isplitl [H3]; · iapply (own_back c arg6 harg6); iexact H3
  isplitl [H4]; · iapply (own_back c arg7 harg7); iexact H4
  isplitl [H5]; · iapply (own_back c arg8 harg8); iexact H5
  isplitl [H6]; · iapply (own_back c arg9 harg9); iexact H6
  isplitl [H7]; · iapply (own_back c arg10 harg10); iexact H7
  isplitl [H8]; · iapply (own_back c arg11 harg11); iexact H8
  isplitl [H9]; · iapply (own_back c arg12 harg12); iexact H9
  isplitl [H10]; · iapply (own_back c arg13 harg13); iexact H10
  isplitl [H11]; · iapply (own_back c arg14 harg14); iexact H11
  isplitl [H12]; · iapply (own_back c arg15 harg15); iexact H12
  isplitl [H13]
  · iexists _; isplitr; swap; · iexact H13
    ipureintro
    refine (read_put harg16 y13 _ _).trans ?_
    refine congrArg (putS i y13) ?_
    sl_unfold_words
    simp only [View.readAt_eq_ld, Memref.IsWhole.read_unread]
    simp (disch := decide) only [View.ld_unit_lit', View.canon_cons_unit_lit', View.readCov_eq_canon']
    have whole_h (L : List (View.Piece (Elt F) S512x2048 FTy.bf16.elt)) : (fun j => View.canon L ((Rect.unit (s := S512x2048) ![0, 0] ![512, 2048] inb_S512x2048_S512x2048_0_0).toLoadRect.idx j)) = View.canon L :=
      View.ld_unit_lit' inb_S512x2048_S512x2048_0_0 (View.canon L) (by decide)
    simp only [whole_h]
    exact tail_eq _ (hOf x0 x4 x1 x2) _
  isplitl [H14]
  · iexists _; isplitr; swap; · iexact H14
    ipureintro
    rw [View.read_writes_eq_canon _ _ _ (View.cover_of_tiledL _ ![16, 2048] (by sl_kernel_rfl))]
    sl_unfold_words
    simp only [View.readAt_eq_ld, Memref.IsWhole.read_unread]
    simp (disch := decide) only [View.ld_unit_lit', View.canon_cons_unit_lit', View.readCov_eq_canon']
    rfl
  isplitl [H15]
  · iexists _; isplitr; swap; · iexact H15
    ipureintro
    rw [View.read_writes_eq_canon _ _ _ (View.cover_of_tiledL _ ![512, 2048] (by sl_kernel_rfl))]
    sl_unfold_words
    simp only [View.readAt_eq_ld, Memref.IsWhole.read_unread]
    simp (disch := decide) only [View.ld_unit_lit', View.canon_cons_unit_lit', View.readCov_eq_canon']
    have whole_h (L : List (View.Piece (Elt F) S512x2048 FTy.bf16.elt)) : (fun j => View.canon L ((Rect.unit (s := S512x2048) ![0, 0] ![512, 2048] inb_S512x2048_S512x2048_0_0).toLoadRect.idx j)) = View.canon L :=
      View.ld_unit_lit' inb_S512x2048_S512x2048_0_0 (View.canon L) (by decide)
    simp only [whole_h, whole_act]
    rfl
  isplitl [H16]
  · iexists _; iexists _; isplitr; swap; · iexact H16
    ipureintro; rfl
  isplitl [H17]
  · iexists _; isplitr; swap; · iexact H17
    ipureintro
    refine (read_put harg20 s3 _ _).trans ?_
    refine congrArg (putC i s3) ?_
    sl_unfold_words
    simp only [View.readAt_eq_ld, Memref.IsWhole.read_unread]
    simp (disch := decide) only [View.ld_unit_lit', View.canon_cons_unit_lit', View.readCov_eq_canon']
    have whole_h (L : List (View.Piece (Elt F) S512x2048 FTy.bf16.elt)) : (fun j => View.canon L ((Rect.unit (s := S512x2048) ![0, 0] ![512, 2048] inb_S512x2048_S512x2048_0_0).toLoadRect.idx j)) = View.canon L :=
      View.ld_unit_lit' inb_S512x2048_S512x2048_0_0 (View.canon L) (by decide)
    simp only [whole_h]
    exact tail_eq _ (hOf x0 x4 x1 x2) _
  isplitl [H18]
  · iexists _; iexists _; isplitr; swap; · iexact H18
    ipureintro; rfl
  iexists _; iexists _; isplitr; swap; · iexact H19
  ipureintro; rfl

set_option maxHeartbeats 2000000 in
/-- The body of the feed-forward call at a point of the a middle block of columns, first block of rows: what it leaves in each buffer. -/
theorem body_B
    (hc0 : ¬ cond0 i) (hc1 : cond1 i) (hc2 : ¬ k0_cond3 i = 1#1) (hc3 : ¬ k0_cond4 i = 1#1)
    (x0 : Vec F S1x512x2048 .f32) (x1 : Vec F S1x1x2048 .f32) (x2 : Vec F S1x1x2048 .f32) (x3 : Vec F S1x1x2048 .f32) (x4 : Vec F S1x2048 .f32) (x5 : Vec F S1x2048 .f32) (x6 : Vec F S1x2x512 .f32) (x7 : Vec F S2048x512 .bf16) (x8 : Vec F S2048x512 .bf16) (x9 : Vec F S3x512 .f32) (x10 : Vec F S1x512 .f32) (x11 : Vec F S512x2048 .bf16) (y12 : Vec F S1x512x2048 .f32) (y13 : Vec F S1x11x2x512 .f32) (s0 : Vec F S512x2048 .bf16) (s1 : Vec F S512x2048 .f32) (s3 : Vec F S11x1x2x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare s0 ∗ owns (c : Thread nD τ) arg18 fullShare s1 ∗ (∃ d, owns (c : Thread nD τ) arg19 fullShare d) ∗ owns (c : Thread nD τ) arg20 fullShare s3 ∗ (∃ d, owns (c : Thread nD τ) arg21 fullShare d) ∗ (∃ d, owns (c : Thread nD τ) arg22 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare (putS i y13 (tailOf s0 x7)) ∗ owns (c : Thread nD τ) arg17 fullShare s0 ∗ owns (c : Thread nD τ) arg18 fullShare (accOf s1 x9 x10 (k0_pay119 x6) s0 x7 x8 x11) ∗ (∃ d, owns (c : Thread nD τ) arg19 fullShare d) ∗ owns (c : Thread nD τ) arg20 fullShare (putC i s3 (tailOf s0 x7)) ∗ (∃ d, owns (c : Thread nD τ) arg21 fullShare d) ∗ (∃ d, owns (c : Thread nD τ) arg22 fullShare d)) -∗ K ⟨⟩))
      ⊢ wp frame (wpE (defs₀ (F := F)) Variants.none c none) E (cc0_conv_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_conv_ffn_eq_skeleton]; unfold cc0_conv_ffn_skel
  simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%d18, %f18, -, H18⟩, ⟨%d19, %f19, -, H19⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg20.eq_unread hf17
  sl_exec (disch := first | sl_exact hc0 | sl_exact hc1 | sl_exact hc2 | sl_exact hc3)
  sl_step
  iapply Hk
  isplitl [H0]; · iapply (own_back c arg3 harg3); iexact H0
  isplitl [H1]; · iapply (own_back c arg4 harg4); iexact H1
  isplitl [H2]; · iapply (own_back c arg5 harg5); iexact H2
  isplitl [H3]; · iapply (own_back c arg6 harg6); iexact H3
  isplitl [H4]; · iapply (own_back c arg7 harg7); iexact H4
  isplitl [H5]; · iapply (own_back c arg8 harg8); iexact H5
  isplitl [H6]; · iapply (own_back c arg9 harg9); iexact H6
  isplitl [H7]; · iapply (own_back c arg10 harg10); iexact H7
  isplitl [H8]; · iapply (own_back c arg11 harg11); iexact H8
  isplitl [H9]; · iapply (own_back c arg12 harg12); iexact H9
  isplitl [H10]; · iapply (own_back c arg13 harg13); iexact H10
  isplitl [H11]; · iapply (own_back c arg14 harg14); iexact H11
  isplitl [H12]; · iapply (own_back c arg15 harg15); iexact H12
  isplitl [H13]
  · iexists _; isplitr; swap; · iexact H13
    ipureintro
    refine (read_put harg16 y13 _ _).trans ?_
    refine congrArg (putS i y13) ?_
    sl_unfold_words
    simp only [View.readAt_eq_ld, Memref.IsWhole.read_unread]
    simp (disch := decide) only [View.ld_unit_lit', View.canon_cons_unit_lit', View.readCov_eq_canon']
    exact tail_eq _ _ _
  isplitl [H14]; · iapply (own_back c arg17 harg17); iexact H14
  isplitl [H15]
  · iexists _; isplitr; swap; · iexact H15
    ipureintro
    rw [View.read_writes_eq_canon _ _ _ (View.cover_of_tiledL _ ![512, 2048] (by sl_kernel_rfl))]
    sl_unfold_words
    simp only [View.readAt_eq_ld, Memref.IsWhole.read_unread]
    simp (disch := decide) only [View.ld_unit_lit', View.canon_cons_unit_lit', View.readCov_eq_canon']
    simp only [whole_act]
    rfl
  isplitl [H16]
  · iexists _; iexists _; isplitr; swap; · iexact H16
    ipureintro; rfl
  isplitl [H17]
  · iexists _; isplitr; swap; · iexact H17
    ipureintro
    refine (read_put harg20 s3 _ _).trans ?_
    refine congrArg (putC i s3) ?_
    sl_unfold_words
    simp only [View.readAt_eq_ld, Memref.IsWhole.read_unread]
    simp (disch := decide) only [View.ld_unit_lit', View.canon_cons_unit_lit', View.readCov_eq_canon']
    exact tail_eq _ _ _
  isplitl [H18]
  · iexists _; iexists _; isplitr; swap; · iexact H18
    ipureintro; rfl
  iexists _; iexists _; isplitr; swap; · iexact H19
  ipureintro; rfl

set_option maxHeartbeats 2000000 in
/-- The body of the feed-forward call at a point of the last block of columns, first block of rows: what it leaves in each buffer. -/
theorem body_C
    (hc0 : ¬ cond0 i) (hc1 : cond1 i) (hc2 : ¬ k0_cond3 i = 1#1) (hc3 : k0_cond4 i = 1#1)
    (x0 : Vec F S1x512x2048 .f32) (x1 : Vec F S1x1x2048 .f32) (x2 : Vec F S1x1x2048 .f32) (x3 : Vec F S1x1x2048 .f32) (x4 : Vec F S1x2048 .f32) (x5 : Vec F S1x2048 .f32) (x6 : Vec F S1x2x512 .f32) (x7 : Vec F S2048x512 .bf16) (x8 : Vec F S2048x512 .bf16) (x9 : Vec F S3x512 .f32) (x10 : Vec F S1x512 .f32) (x11 : Vec F S512x2048 .bf16) (y13 : Vec F S1x11x2x512 .f32) (s0 : Vec F S512x2048 .bf16) (s1 : Vec F S512x2048 .f32) (s3 : Vec F S11x1x2x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ owns (c : Thread nD τ) arg16 fullShare y13 ∗ owns (c : Thread nD τ) arg17 fullShare s0 ∗ owns (c : Thread nD τ) arg18 fullShare s1 ∗ (∃ d, owns (c : Thread nD τ) arg19 fullShare d) ∗ owns (c : Thread nD τ) arg20 fullShare s3 ∗ (∃ d, owns (c : Thread nD τ) arg21 fullShare d) ∗ (∃ d, owns (c : Thread nD τ) arg22 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (x2Of x0 x3 x5 (accOf s1 x9 x10 (k0_pay119 x6) s0 x7 x8 x11)) ∗ owns (c : Thread nD τ) arg16 fullShare (putS i y13 (tailOf s0 x7)) ∗ owns (c : Thread nD τ) arg17 fullShare s0 ∗ owns (c : Thread nD τ) arg18 fullShare (accOf s1 x9 x10 (k0_pay119 x6) s0 x7 x8 x11) ∗ (∃ d, owns (c : Thread nD τ) arg19 fullShare d) ∗ owns (c : Thread nD τ) arg20 fullShare (putC i s3 (tailOf s0 x7)) ∗ (∃ d, owns (c : Thread nD τ) arg21 fullShare d) ∗ (∃ d, owns (c : Thread nD τ) arg22 fullShare d)) -∗ K ⟨⟩))
      ⊢ wp frame (wpE (defs₀ (F := F)) Variants.none c none) E (cc0_conv_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_conv_ffn_eq_skeleton]; unfold cc0_conv_ffn_skel
  simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part35_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%d16, %f16, -, H16⟩, ⟨%f17, %hf17, H17⟩, ⟨%d18, %f18, -, H18⟩, ⟨%d19, %f19, -, H19⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg16.eq_unread hf13; obtain rfl := harg17.eq_unread hf14; obtain rfl := harg18.eq_unread hf15; obtain rfl := harg20.eq_unread hf17
  sl_exec (disch := first | sl_exact hc0 | sl_exact hc1 | sl_exact hc2 | sl_exact hc3)
  sl_step
  iapply Hk
  isplitl [H0]; · iapply (own_back c arg3 harg3); iexact H0
  isplitl [H1]; · iapply (own_back c arg4 harg4); iexact H1
  isplitl [H2]; · iapply (own_back c arg5 harg5); iexact H2
  isplitl [H3]; · iapply (own_back c arg6 harg6); iexact H3
  isplitl [H4]; · iapply (own_back c arg7 harg7); iexact H4
  isplitl [H5]; · iapply (own_back c arg8 harg8); iexact H5
  isplitl [H6]; · iapply (own_back c arg9 harg9); iexact H6
  isplitl [H7]; · iapply (own_back c arg10 harg10); iexact H7
  isplitl [H8]; · iapply (own_back c arg11 harg11); iexact H8
  isplitl [H9]; · iapply (own_back c arg12 harg12); iexact H9
  isplitl [H10]; · iapply (own_back c arg13 harg13); iexact H10
  isplitl [H11]; · iapply (own_back c arg14 harg14); iexact H11
  isplitl [H12]
  · iexists _; isplitr; swap; · iexact H12
    ipureintro
    rw [View.read_writes_eq_canon _ _ _ (View.cover_of_tiledL _ ![1, 16, 2048] (by sl_kernel_rfl))]
    sl_unfold_words
    simp only [View.readAt_eq_ld, Memref.IsWhole.read_unread]
    simp (disch := decide) only [View.ld_unit_lit', View.canon_cons_unit_lit', View.readCov_eq_canon']
    simp only [whole_act]
    rfl
  isplitl [H13]
  · iexists _; isplitr; swap; · iexact H13
    ipureintro
    refine (read_put harg16 y13 _ _).trans ?_
    refine congrArg (putS i y13) ?_
    sl_unfold_words
    simp only [View.readAt_eq_ld, Memref.IsWhole.read_unread]
    simp (disch := decide) only [View.ld_unit_lit', View.canon_cons_unit_lit', View.readCov_eq_canon']
    exact tail_eq _ _ _
  isplitl [H14]; · iapply (own_back c arg17 harg17); iexact H14
  isplitl [H15]
  · iexists _; isplitr; swap; · iexact H15
    ipureintro
    rw [View.read_writes_eq_canon _ _ _ (View.cover_of_tiledL _ ![512, 2048] (by sl_kernel_rfl))]
    sl_unfold_words
    simp only [View.readAt_eq_ld, Memref.IsWhole.read_unread]
    simp (disch := decide) only [View.ld_unit_lit', View.canon_cons_unit_lit', View.readCov_eq_canon']
    simp only [whole_act]
    rfl
  isplitl [H16]
  · iexists _; iexists _; isplitr; swap; · iexact H16
    ipureintro; rfl
  isplitl [H17]
  · iexists _; isplitr; swap; · iexact H17
    ipureintro
    refine (read_put harg20 s3 _ _).trans ?_
    refine congrArg (putC i s3) ?_
    sl_unfold_words
    simp only [View.readAt_eq_ld, Memref.IsWhole.read_unread]
    simp (disch := decide) only [View.ld_unit_lit', View.canon_cons_unit_lit', View.readCov_eq_canon']
    exact tail_eq _ _ _
  isplitl [H18]
  · iexists _; iexists _; isplitr; swap; · iexact H18
    ipureintro; rfl
  iexists _; iexists _; isplitr; swap; · iexact H19
  ipureintro; rfl

set_option maxHeartbeats 2000000 in
/-- The body of the feed-forward call at a point of the first block of columns, a later block of rows: what it leaves in each buffer. -/
theorem body_D
    (hc0 : cond0 i) (hc1 : ¬ cond1 i) (hc2 : k0_cond3 i = 1#1) (hc3 : ¬ k0_cond4 i = 1#1)
    (x0 : Vec F S1x512x2048 .f32) (x1 : Vec F S1x1x2048 .f32) (x2 : Vec F S1x1x2048 .f32) (x3 : Vec F S1x1x2048 .f32) (x4 : Vec F S1x2048 .f32) (x5 : Vec F S1x2048 .f32) (x6 : Vec F S1x2x512 .f32) (x7 : Vec F S2048x512 .bf16) (x8 : Vec F S2048x512 .bf16) (x9 : Vec F S3x512 .f32) (x10 : Vec F S1x512 .f32) (x11 : Vec F S512x2048 .bf16) (y12 : Vec F S1x512x2048 .f32) (y13 : Vec F S1x11x2x512 .f32) (s3 : Vec F S11x1x2x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ (∃ d, owns (c : Thread nD τ) arg17 fullShare d) ∗ (∃ d, owns (c : Thread nD τ) arg18 fullShare d) ∗ (∃ d, owns (c : Thread nD τ) arg19 fullShare d) ∗ owns (c : Thread nD τ) arg20 fullShare s3 ∗ (∃ d, owns (c : Thread nD τ) arg21 fullShare d) ∗ (∃ d, owns (c : Thread nD τ) arg22 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare (putS i y13 (tailOf (hOf x0 x4 x1 x2) x7)) ∗ owns (c : Thread nD τ) arg17 fullShare (hOf x0 x4 x1 x2) ∗ owns (c : Thread nD τ) arg18 fullShare (accOf (k0_pay118 (F := F)) x9 x10 (k0_pay120 (getC i hc2 s3)) (hOf x0 x4 x1 x2) x7 x8 x11) ∗ (∃ d, owns (c : Thread nD τ) arg19 fullShare d) ∗ owns (c : Thread nD τ) arg20 fullShare (putC i s3 (tailOf (hOf x0 x4 x1 x2) x7)) ∗ (∃ d, owns (c : Thread nD τ) arg21 fullShare d) ∗ (∃ d, owns (c : Thread nD τ) arg22 fullShare d)) -∗ K ⟨⟩))
      ⊢ wp frame (wpE (defs₀ (F := F)) Variants.none c none) E (cc0_conv_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_conv_ffn_eq_skeleton]; unfold cc0_conv_ffn_skel
  simp only [k0_part36_eq_skeleton, k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%f17, %hf17, H17⟩, ⟨%d18, %f18, -, H18⟩, ⟨%d19, %f19, -, H19⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg20.eq_unread hf17
  sl_exec (disch := first | sl_exact hc0 | sl_exact hc1 | sl_exact hc2 | sl_exact hc3)
  sl_step
  iapply Hk
  isplitl [H0]; · iapply (own_back c arg3 harg3); iexact H0
  isplitl [H1]; · iapply (own_back c arg4 harg4); iexact H1
  isplitl [H2]; · iapply (own_back c arg5 harg5); iexact H2
  isplitl [H3]; · iapply (own_back c arg6 harg6); iexact H3
  isplitl [H4]; · iapply (own_back c arg7 harg7); iexact H4
  isplitl [H5]; · iapply (own_back c arg8 harg8); iexact H5
  isplitl [H6]; · iapply (own_back c arg9 harg9); iexact H6
  isplitl [H7]; · iapply (own_back c arg10 harg10); iexact H7
  isplitl [H8]; · iapply (own_back c arg11 harg11); iexact H8
  isplitl [H9]; · iapply (own_back c arg12 harg12); iexact H9
  isplitl [H10]; · iapply (own_back c arg13 harg13); iexact H10
  isplitl [H11]; · iapply (own_back c arg14 harg14); iexact H11
  isplitl [H12]; · iapply (own_back c arg15 harg15); iexact H12
  isplitl [H13]
  · iexists _; isplitr; swap; · iexact H13
    ipureintro
    refine (read_put harg16 y13 _ _).trans ?_
    refine congrArg (putS i y13) ?_
    sl_unfold_words
    simp only [View.readAt_eq_ld, Memref.IsWhole.read_unread]
    simp (disch := decide) only [View.ld_unit_lit', View.canon_cons_unit_lit', View.readCov_eq_canon']
    have whole_h (L : List (View.Piece (Elt F) S512x2048 FTy.bf16.elt)) : (fun j => View.canon L ((Rect.unit (s := S512x2048) ![0, 0] ![512, 2048] inb_S512x2048_S512x2048_0_0).toLoadRect.idx j)) = View.canon L :=
      View.ld_unit_lit' inb_S512x2048_S512x2048_0_0 (View.canon L) (by decide)
    simp only [whole_h]
    exact tail_eq _ (hOf x0 x4 x1 x2) _
  isplitl [H14]
  · iexists _; isplitr; swap; · iexact H14
    ipureintro
    rw [View.read_writes_eq_canon _ _ _ (View.cover_of_tiledL _ ![16, 2048] (by sl_kernel_rfl))]
    sl_unfold_words
    simp only [View.readAt_eq_ld, Memref.IsWhole.read_unread]
    simp (disch := decide) only [View.ld_unit_lit', View.canon_cons_unit_lit', View.readCov_eq_canon']
    rfl
  isplitl [H15]
  · iexists _; isplitr; swap; · iexact H15
    ipureintro
    rw [View.read_writes_eq_canon _ _ _ (View.cover_of_tiledL _ ![512, 2048] (by sl_kernel_rfl))]
    sl_unfold_words
    simp only [View.readAt_eq_ld, Memref.IsWhole.read_unread]
    simp (disch := decide) only [View.ld_unit_lit', View.canon_cons_unit_lit', View.readCov_eq_canon']
    have whole_h (L : List (View.Piece (Elt F) S512x2048 FTy.bf16.elt)) : (fun j => View.canon L ((Rect.unit (s := S512x2048) ![0, 0] ![512, 2048] inb_S512x2048_S512x2048_0_0).toLoadRect.idx j)) = View.canon L :=
      View.ld_unit_lit' inb_S512x2048_S512x2048_0_0 (View.canon L) (by decide)
    simp only [whole_h, whole_act]
    rfl
  isplitl [H16]
  · iexists _; iexists _; isplitr; swap; · iexact H16
    ipureintro; rfl
  isplitl [H17]
  · iexists _; isplitr; swap; · iexact H17
    ipureintro
    refine (read_put harg20 s3 _ _).trans ?_
    refine congrArg (putC i s3) ?_
    sl_unfold_words
    simp only [View.readAt_eq_ld, Memref.IsWhole.read_unread]
    simp (disch := decide) only [View.ld_unit_lit', View.canon_cons_unit_lit', View.readCov_eq_canon']
    have whole_h (L : List (View.Piece (Elt F) S512x2048 FTy.bf16.elt)) : (fun j => View.canon L ((Rect.unit (s := S512x2048) ![0, 0] ![512, 2048] inb_S512x2048_S512x2048_0_0).toLoadRect.idx j)) = View.canon L :=
      View.ld_unit_lit' inb_S512x2048_S512x2048_0_0 (View.canon L) (by decide)
    simp only [whole_h]
    exact tail_eq _ (hOf x0 x4 x1 x2) _
  isplitl [H18]
  · iexists _; iexists _; isplitr; swap; · iexact H18
    ipureintro; rfl
  iexists _; iexists _; isplitr; swap; · iexact H19
  ipureintro; rfl

set_option maxHeartbeats 2000000 in
/-- The body of the feed-forward call at a point of the a middle block of columns, a later block of rows: what it leaves in each buffer. -/
theorem body_E
    (hc0 : ¬ cond0 i) (hc1 : ¬ cond1 i) (hc2 : k0_cond3 i = 1#1) (hc3 : ¬ k0_cond4 i = 1#1)
    (x0 : Vec F S1x512x2048 .f32) (x1 : Vec F S1x1x2048 .f32) (x2 : Vec F S1x1x2048 .f32) (x3 : Vec F S1x1x2048 .f32) (x4 : Vec F S1x2048 .f32) (x5 : Vec F S1x2048 .f32) (x6 : Vec F S1x2x512 .f32) (x7 : Vec F S2048x512 .bf16) (x8 : Vec F S2048x512 .bf16) (x9 : Vec F S3x512 .f32) (x10 : Vec F S1x512 .f32) (x11 : Vec F S512x2048 .bf16) (y12 : Vec F S1x512x2048 .f32) (y13 : Vec F S1x11x2x512 .f32) (s0 : Vec F S512x2048 .bf16) (s1 : Vec F S512x2048 .f32) (s3 : Vec F S11x1x2x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare y13 ∗ owns (c : Thread nD τ) arg17 fullShare s0 ∗ owns (c : Thread nD τ) arg18 fullShare s1 ∗ (∃ d, owns (c : Thread nD τ) arg19 fullShare d) ∗ owns (c : Thread nD τ) arg20 fullShare s3 ∗ (∃ d, owns (c : Thread nD τ) arg21 fullShare d) ∗ (∃ d, owns (c : Thread nD τ) arg22 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare y12 ∗ owns (c : Thread nD τ) arg16 fullShare (putS i y13 (tailOf s0 x7)) ∗ owns (c : Thread nD τ) arg17 fullShare s0 ∗ owns (c : Thread nD τ) arg18 fullShare (accOf s1 x9 x10 (k0_pay120 (getC i hc2 s3)) s0 x7 x8 x11) ∗ (∃ d, owns (c : Thread nD τ) arg19 fullShare d) ∗ owns (c : Thread nD τ) arg20 fullShare (putC i s3 (tailOf s0 x7)) ∗ (∃ d, owns (c : Thread nD τ) arg21 fullShare d) ∗ (∃ d, owns (c : Thread nD τ) arg22 fullShare d)) -∗ K ⟨⟩))
      ⊢ wp frame (wpE (defs₀ (F := F)) Variants.none c none) E (cc0_conv_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_conv_ffn_eq_skeleton]; unfold cc0_conv_ffn_skel
  simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%d18, %f18, -, H18⟩, ⟨%d19, %f19, -, H19⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg20.eq_unread hf17
  sl_exec (disch := first | sl_exact hc0 | sl_exact hc1 | sl_exact hc2 | sl_exact hc3)
  sl_step
  iapply Hk
  isplitl [H0]; · iapply (own_back c arg3 harg3); iexact H0
  isplitl [H1]; · iapply (own_back c arg4 harg4); iexact H1
  isplitl [H2]; · iapply (own_back c arg5 harg5); iexact H2
  isplitl [H3]; · iapply (own_back c arg6 harg6); iexact H3
  isplitl [H4]; · iapply (own_back c arg7 harg7); iexact H4
  isplitl [H5]; · iapply (own_back c arg8 harg8); iexact H5
  isplitl [H6]; · iapply (own_back c arg9 harg9); iexact H6
  isplitl [H7]; · iapply (own_back c arg10 harg10); iexact H7
  isplitl [H8]; · iapply (own_back c arg11 harg11); iexact H8
  isplitl [H9]; · iapply (own_back c arg12 harg12); iexact H9
  isplitl [H10]; · iapply (own_back c arg13 harg13); iexact H10
  isplitl [H11]; · iapply (own_back c arg14 harg14); iexact H11
  isplitl [H12]; · iapply (own_back c arg15 harg15); iexact H12
  isplitl [H13]
  · iexists _; isplitr; swap; · iexact H13
    ipureintro
    refine (read_put harg16 y13 _ _).trans ?_
    refine congrArg (putS i y13) ?_
    sl_unfold_words
    simp only [View.readAt_eq_ld, Memref.IsWhole.read_unread]
    simp (disch := decide) only [View.ld_unit_lit', View.canon_cons_unit_lit', View.readCov_eq_canon']
    exact tail_eq _ _ _
  isplitl [H14]; · iapply (own_back c arg17 harg17); iexact H14
  isplitl [H15]
  · iexists _; isplitr; swap; · iexact H15
    ipureintro
    rw [View.read_writes_eq_canon _ _ _ (View.cover_of_tiledL _ ![512, 2048] (by sl_kernel_rfl))]
    sl_unfold_words
    simp only [View.readAt_eq_ld, Memref.IsWhole.read_unread]
    simp (disch := decide) only [View.ld_unit_lit', View.canon_cons_unit_lit', View.readCov_eq_canon']
    simp only [whole_act]
    rfl
  isplitl [H16]
  · iexists _; iexists _; isplitr; swap; · iexact H16
    ipureintro; rfl
  isplitl [H17]
  · iexists _; isplitr; swap; · iexact H17
    ipureintro
    refine (read_put harg20 s3 _ _).trans ?_
    refine congrArg (putC i s3) ?_
    sl_unfold_words
    simp only [View.readAt_eq_ld, Memref.IsWhole.read_unread]
    simp (disch := decide) only [View.ld_unit_lit', View.canon_cons_unit_lit', View.readCov_eq_canon']
    exact tail_eq _ _ _
  isplitl [H18]
  · iexists _; iexists _; isplitr; swap; · iexact H18
    ipureintro; rfl
  iexists _; iexists _; isplitr; swap; · iexact H19
  ipureintro; rfl

set_option maxHeartbeats 2000000 in
/-- The body of the feed-forward call at a point of the last block of columns, a later block of rows: what it leaves in each buffer. -/
theorem body_F
    (hc0 : ¬ cond0 i) (hc1 : ¬ cond1 i) (hc2 : k0_cond3 i = 1#1) (hc3 : k0_cond4 i = 1#1)
    (x0 : Vec F S1x512x2048 .f32) (x1 : Vec F S1x1x2048 .f32) (x2 : Vec F S1x1x2048 .f32) (x3 : Vec F S1x1x2048 .f32) (x4 : Vec F S1x2048 .f32) (x5 : Vec F S1x2048 .f32) (x6 : Vec F S1x2x512 .f32) (x7 : Vec F S2048x512 .bf16) (x8 : Vec F S2048x512 .bf16) (x9 : Vec F S3x512 .f32) (x10 : Vec F S1x512 .f32) (x11 : Vec F S512x2048 .bf16) (y13 : Vec F S1x11x2x512 .f32) (s0 : Vec F S512x2048 .bf16) (s1 : Vec F S512x2048 .f32) (s3 : Vec F S11x1x2x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ owns (c : Thread nD τ) arg16 fullShare y13 ∗ owns (c : Thread nD τ) arg17 fullShare s0 ∗ owns (c : Thread nD τ) arg18 fullShare s1 ∗ (∃ d, owns (c : Thread nD τ) arg19 fullShare d) ∗ owns (c : Thread nD τ) arg20 fullShare s3 ∗ (∃ d, owns (c : Thread nD τ) arg21 fullShare d) ∗ (∃ d, owns (c : Thread nD τ) arg22 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (x2Of x0 x3 x5 (accOf s1 x9 x10 (k0_pay120 (getC i hc2 s3)) s0 x7 x8 x11)) ∗ owns (c : Thread nD τ) arg16 fullShare (putS i y13 (tailOf s0 x7)) ∗ owns (c : Thread nD τ) arg17 fullShare s0 ∗ owns (c : Thread nD τ) arg18 fullShare (accOf s1 x9 x10 (k0_pay120 (getC i hc2 s3)) s0 x7 x8 x11) ∗ (∃ d, owns (c : Thread nD τ) arg19 fullShare d) ∗ owns (c : Thread nD τ) arg20 fullShare (putC i s3 (tailOf s0 x7)) ∗ (∃ d, owns (c : Thread nD τ) arg21 fullShare d) ∗ (∃ d, owns (c : Thread nD τ) arg22 fullShare d)) -∗ K ⟨⟩))
      ⊢ wp frame (wpE (defs₀ (F := F)) Variants.none c none) E (cc0_conv_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_conv_ffn_eq_skeleton]; unfold cc0_conv_ffn_skel
  simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part35_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%d16, %f16, -, H16⟩, ⟨%f17, %hf17, H17⟩, ⟨%d18, %f18, -, H18⟩, ⟨%d19, %f19, -, H19⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg16.eq_unread hf13; obtain rfl := harg17.eq_unread hf14; obtain rfl := harg18.eq_unread hf15; obtain rfl := harg20.eq_unread hf17
  sl_exec (disch := first | sl_exact hc0 | sl_exact hc1 | sl_exact hc2 | sl_exact hc3)
  sl_step
  iapply Hk
  isplitl [H0]; · iapply (own_back c arg3 harg3); iexact H0
  isplitl [H1]; · iapply (own_back c arg4 harg4); iexact H1
  isplitl [H2]; · iapply (own_back c arg5 harg5); iexact H2
  isplitl [H3]; · iapply (own_back c arg6 harg6); iexact H3
  isplitl [H4]; · iapply (own_back c arg7 harg7); iexact H4
  isplitl [H5]; · iapply (own_back c arg8 harg8); iexact H5
  isplitl [H6]; · iapply (own_back c arg9 harg9); iexact H6
  isplitl [H7]; · iapply (own_back c arg10 harg10); iexact H7
  isplitl [H8]; · iapply (own_back c arg11 harg11); iexact H8
  isplitl [H9]; · iapply (own_back c arg12 harg12); iexact H9
  isplitl [H10]; · iapply (own_back c arg13 harg13); iexact H10
  isplitl [H11]; · iapply (own_back c arg14 harg14); iexact H11
  isplitl [H12]
  · iexists _; isplitr; swap; · iexact H12
    ipureintro
    rw [View.read_writes_eq_canon _ _ _ (View.cover_of_tiledL _ ![1, 16, 2048] (by sl_kernel_rfl))]
    sl_unfold_words
    simp only [View.readAt_eq_ld, Memref.IsWhole.read_unread]
    simp (disch := decide) only [View.ld_unit_lit', View.canon_cons_unit_lit', View.readCov_eq_canon']
    simp only [whole_act]
    rfl
  isplitl [H13]
  · iexists _; isplitr; swap; · iexact H13
    ipureintro
    refine (read_put harg16 y13 _ _).trans ?_
    refine congrArg (putS i y13) ?_
    sl_unfold_words
    simp only [View.readAt_eq_ld, Memref.IsWhole.read_unread]
    simp (disch := decide) only [View.ld_unit_lit', View.canon_cons_unit_lit', View.readCov_eq_canon']
    exact tail_eq _ _ _
  isplitl [H14]; · iapply (own_back c arg17 harg17); iexact H14
  isplitl [H15]
  · iexists _; isplitr; swap; · iexact H15
    ipureintro
    rw [View.read_writes_eq_canon _ _ _ (View.cover_of_tiledL _ ![512, 2048] (by sl_kernel_rfl))]
    sl_unfold_words
    simp only [View.readAt_eq_ld, Memref.IsWhole.read_unread]
    simp (disch := decide) only [View.ld_unit_lit', View.canon_cons_unit_lit', View.readCov_eq_canon']
    simp only [whole_act]
    rfl
  isplitl [H16]
  · iexists _; iexists _; isplitr; swap; · iexact H16
    ipureintro; rfl
  isplitl [H17]
  · iexists _; isplitr; swap; · iexact H17
    ipureintro
    refine (read_put harg20 s3 _ _).trans ?_
    refine congrArg (putC i s3) ?_
    sl_unfold_words
    simp only [View.readAt_eq_ld, Memref.IsWhole.read_unread]
    simp (disch := decide) only [View.ld_unit_lit', View.canon_cons_unit_lit', View.readCov_eq_canon']
    exact tail_eq _ _ _
  isplitl [H18]
  · iexists _; iexists _; isplitr; swap; · iexact H18
    ipureintro; rfl
  iexists _; iexists _; isplitr; swap; · iexact H19
  ipureintro; rfl

end Cert.Kernel3Ideal.Run

end
-- ==== Proof.Ffn.Pts.lean ====
/-
  The feed-forward call's grid points: what each point's body finds and leaves, as functions of the point, and the two
  arrays of rows that the points fill block by block.
-/
module

public import proofs.«01_k».proof.Proof.Ffn.Fun

@[expose] public section

set_option maxRecDepth 16384

noncomputable section

namespace Cert.Kernel3Ideal.Run

open Cert.Kernel3Ideal Cert.Kernel3Ideal.Gen
open Idealize.ShloMosaic Idealize.ShloMosaic.TcCoe

variable {F : FTy → Type} [FloatOps F]

/-! ## The tests and the offsets at a point -/

theorem cond0_iff : ∀ t : Fin cfg0.N, cond0 (grid0.coords t) ↔ t.val % 11 = 0 :=
  (by decide +kernel : ∀ t : Fin grid0.N, cond0 (grid0.coords t) ↔ t.val % 11 = 0)

theorem cond1_iff : ∀ t : Fin cfg0.N, cond1 (grid0.coords t) ↔ t.val / 11 % 32 = 0 :=
  (by decide +kernel : ∀ t : Fin grid0.N, cond1 (grid0.coords t) ↔ t.val / 11 % 32 = 0)

theorem cond3_iff : ∀ t : Fin cfg0.N, k0_cond3 (grid0.coords t) = 1#1 ↔ t.val / 11 % 32 ≠ 0 :=
  (by decide +kernel : ∀ t : Fin grid0.N, k0_cond3 (grid0.coords t) = 1#1 ↔ t.val / 11 % 32 ≠ 0)

theorem cond4_iff : ∀ t : Fin cfg0.N, k0_cond4 (grid0.coords t) = 1#1 ↔ t.val % 11 = 10 :=
  (by decide +kernel : ∀ t : Fin grid0.N, k0_cond4 (grid0.coords t) = 1#1 ↔ t.val % 11 = 10)

theorem off1_eq : ∀ t : Fin cfg0.N, k0_off1 (grid0.coords t) = ![t.val % 11, 0, 0, 0] :=
  (by decide +kernel : ∀ t : Fin grid0.N, k0_off1 (grid0.coords t) = ![t.val % 11, 0, 0, 0])

theorem off2_eq : ∀ t : Fin cfg0.N, k0_off2 (grid0.coords t) = ![t.val % 11, 0, 0, 0] :=
  (by decide +kernel : ∀ t : Fin grid0.N, k0_off2 (grid0.coords t) = ![t.val % 11, 0, 0, 0])

theorem off3_eq : ∀ t : Fin cfg0.N, k0_off3 (grid0.coords t) = ![0, t.val % 11, 0, 0] :=
  (by decide +kernel : ∀ t : Fin grid0.N, k0_off3 (grid0.coords t) = ![0, t.val % 11, 0, 0])

/-! ## Rows of the carried array and of the state -/

/-- A point's block of columns. -/
def md (k : ℕ) : Fin 11 := ⟨k % 11, Nat.mod_lt _ (by decide)⟩

theorem inbC : ∀ (j : Fin 11) (a : Fin 4), (![j.val, 0, 0, 0] : Fin 4 → ℕ) a + (![1, 1, 2, 512] : Fin 4 → ℕ) a ≤ S11x1x2x512.size a := by decide
theorem inbS : ∀ (j : Fin 11) (a : Fin 4), (![0, j.val, 0, 0] : Fin 4 → ℕ) a + (![1, 1, 2, 512] : Fin 4 → ℕ) a ≤ S1x11x2x512.size a := by decide

/-- The rectangle of block `j`'s rows in the carried array. -/
def RC (j : Fin 11) : Rect S11x1x2x512 := Rect.unit (s := S11x1x2x512) ![j.val, 0, 0, 0] ![1, 1, 2, 512] (inbC j)
/-- The rectangle of block `j`'s rows in the state. -/
def RS (j : Fin 11) : Rect S1x11x2x512 := Rect.unit (s := S1x11x2x512) ![0, j.val, 0, 0] ![1, 1, 2, 512] (inbS j)

/-- Block `j`'s rows of the carried array. -/
def rowC (j : Fin 11) (d : Vec F S11x1x2x512 .f32) : Vec F S1x1x2x512 .f32 := View.ld d (RC j)
/-- Block `j`'s rows of the state. -/
def rowS (j : Fin 11) (d : Vec F S1x11x2x512 .f32) : Vec F S1x1x2x512 .f32 := View.ld d (RS j)

theorem putC_eq (t : Fin cfg0.N) (d : Vec F S11x1x2x512 .f32) (v : Vec F S1x2x512 .f32) :
    putC (grid0.coords t) d v = (RC (md t.val)).overlay d (k0_pay123 v) := by
  unfold putC RC md
  have h := off2_eq t
  have key : ∀ (o : Fin 4 → ℕ) (ho : ∀ a, o a + (![1, 1, 2, 512] : Fin 4 → ℕ) a ≤ S11x1x2x512.size a), o = ![t.val % 11, 0, 0, 0] →
      (Rect.unit (s := S11x1x2x512) o ![1, 1, 2, 512] ho).overlay d (k0_pay123 v) = (Rect.unit (s := S11x1x2x512) ![t.val % 11, 0, 0, 0] ![1, 1, 2, 512] (inbC (md t.val))).overlay d (k0_pay123 v) := by
    intro o ho e; subst e; rfl
  exact key _ _ h

theorem putS_eq (t : Fin cfg0.N) (d : Vec F S1x11x2x512 .f32) (v : Vec F S1x2x512 .f32) :
    putS (grid0.coords t) d v = (RS (md t.val)).overlay d (k0_pay124 v) := by
  unfold putS RS md
  have h := off3_eq t
  have key : ∀ (o : Fin 4 → ℕ) (ho : ∀ a, o a + (![1, 1, 2, 512] : Fin 4 → ℕ) a ≤ S1x11x2x512.size a), o = ![0, t.val % 11, 0, 0] →
      (Rect.unit (s := S1x11x2x512) o ![1, 1, 2, 512] ho).overlay d (k0_pay124 v) = (Rect.unit (s := S1x11x2x512) ![0, t.val % 11, 0, 0] ![1, 1, 2, 512] (inbS (md t.val))).overlay d (k0_pay124 v) := by
    intro o ho e; subst e; rfl
  exact key _ _ h

theorem getC_eq (t : Fin cfg0.N) (hi : k0_cond3 (grid0.coords t) = 1#1) (d : Vec F S11x1x2x512 .f32) :
    getC (grid0.coords t) hi d = rowC (md t.val) d := by
  unfold getC rowC RC md
  have h := off1_eq t
  have key : ∀ (o : Fin 4 → ℕ) (ho : ∀ a, o a + (![1, 1, 2, 512] : Fin 4 → ℕ) a ≤ S11x1x2x512.size a), o = ![t.val % 11, 0, 0, 0] →
      (View.ld d (Rect.unit (s := S11x1x2x512) o ![1, 1, 2, 512] ho) : Vec F S1x1x2x512 .f32) = View.ld d (Rect.unit (s := S11x1x2x512) ![t.val % 11, 0, 0, 0] ![1, 1, 2, 512] (inbC (md t.val))) := by
    intro o ho e; subst e; rfl
  exact key _ _ h

/-- What a rectangle reads of contents just overwritten in it. -/
theorem ld_overlay {S : Shape} {e : EltTy} (r : Rect S) (d : Vec F S e) (v : r.shape.Idx → Elt F e) : View.ld (r.overlay d v) r = v :=
  funext fun x => Rect.overlay_emb r d v x

/-- What a rectangle reads of contents overwritten elsewhere. -/
theorem ld_overlay_other {S : Shape} {e : EltTy} (r r' : Rect S) (h : ∀ x, r'.idx x ∉ r.set) (d : Vec F S e) (v : r.shape.Idx → Elt F e) :
    View.ld (r.overlay d v) r' = View.ld d r' :=
  funext fun x => Rect.overlay_of_not_mem r d v (h x)

theorem rowC_self (j : Fin 11) (d : Vec F S11x1x2x512 .f32) (v : Vec F S1x1x2x512 .f32) : rowC j ((RC j).overlay d v) = v := by
  unfold rowC; exact ld_overlay (RC j) d v

theorem rowS_self (j : Fin 11) (d : Vec F S1x11x2x512 .f32) (v : Vec F S1x1x2x512 .f32) : rowS j ((RS j).overlay d v) = v := by
  unfold rowS; exact ld_overlay (RS j) d v

theorem RC_disjoint (j j' : Fin 11) (hj : j' ≠ j) (x : (RC j').shape.Idx) : (RC j').idx x ∉ (RC j).set := by
  intro h
  refine hj (Fin.ext ?_)
  unfold RC at h
  have h0 := (Rect.mem_set_unit.mp h) (0 : Fin 4)
  have hx : (x (0 : Fin 4)).val < 1 := (x (0 : Fin 4)).isLt
  have h1 : j.val ≤ j'.val + 1 * (x (0 : Fin 4)).val := h0.1
  have h2 : j'.val + 1 * (x (0 : Fin 4)).val < j.val + 1 := h0.2
  omega

theorem RS_disjoint (j j' : Fin 11) (hj : j' ≠ j) (x : (RS j').shape.Idx) : (RS j').idx x ∉ (RS j).set := by
  intro h
  refine hj (Fin.ext ?_)
  unfold RS at h
  have h0 := (Rect.mem_set_unit.mp h) (1 : Fin 4)
  have hx : (x (1 : Fin 4)).val < 1 := (x (1 : Fin 4)).isLt
  have h1 : j.val ≤ j'.val + 1 * (x (1 : Fin 4)).val := h0.1
  have h2 : j'.val + 1 * (x (1 : Fin 4)).val < j.val + 1 := h0.2
  omega

theorem rowC_other (j j' : Fin 11) (hj : j' ≠ j) (d : Vec F S11x1x2x512 .f32) (v : Vec F S1x1x2x512 .f32) : rowC j' ((RC j).overlay d v) = rowC j' d := by
  unfold rowC; exact ld_overlay_other (RC j) (RC j') (RC_disjoint j j' hj) d v

theorem rowS_other (j j' : Fin 11) (hj : j' ≠ j) (d : Vec F S1x11x2x512 .f32) (v : Vec F S1x1x2x512 .f32) : rowS j' ((RS j).overlay d v) = rowS j' d := by
  unfold rowS; exact ld_overlay_other (RS j) (RS j') (RS_disjoint j j' hj) d v

/-! ## The points' values -/

variable (m : (ℓ : Loc nD τ sig) → Buf (Elt F) ℓ) (c : Dev nD)

/-- Point `n`, counted round the grid. -/
def pt (n : ℕ) : Fin cfg0.N := ⟨n % cfg0.N, Nat.mod_lt _ (by decide)⟩

theorem pt_val (t : Fin cfg0.N) : pt t.val = t := Fin.ext (Nat.mod_eq_of_lt t.isLt)

/-- The staged block of each input at point `n`. -/
def b0 (n : ℕ) : Vec F S1x512x2048 .f32 := iblk m c 0 (pt n)
@[inherit_doc b0] def b1 (n : ℕ) : Vec F S1x1x2048 .f32 := iblk m c 1 (pt n)
@[inherit_doc b0] def b2 (n : ℕ) : Vec F S1x1x2048 .f32 := iblk m c 2 (pt n)
@[inherit_doc b0] def b3 (n : ℕ) : Vec F S1x1x2048 .f32 := iblk m c 3 (pt n)
@[inherit_doc b0] def b4 (n : ℕ) : Vec F S1x2048 .f32 := iblk m c 4 (pt n)
@[inherit_doc b0] def b5 (n : ℕ) : Vec F S1x2048 .f32 := iblk m c 5 (pt n)
@[inherit_doc b0] def b6 (n : ℕ) : Vec F S1x2x512 .f32 := iblk m c 6 (pt n)
@[inherit_doc b0] def b7 (n : ℕ) : Vec F S2048x512 .bf16 := iblk m c 7 (pt n)
@[inherit_doc b0] def b8 (n : ℕ) : Vec F S2048x512 .bf16 := iblk m c 8 (pt n)
@[inherit_doc b0] def b9 (n : ℕ) : Vec F S3x512 .f32 := iblk m c 9 (pt n)
@[inherit_doc b0] def b10 (n : ℕ) : Vec F S1x512 .f32 := iblk m c 10 (pt n)
@[inherit_doc b0] def b11 (n : ℕ) : Vec F S512x2048 .bf16 := iblk m c 11 (pt n)

/-- The normalised rows at point `n`: those of the first point of its block of rows. -/
def hN (n : ℕ) : Vec F S512x2048 .bf16 := hOf (b0 m c (n - n % 11)) (b4 m c (n - n % 11)) (b1 m c (n - n % 11)) (b2 m c (n - n % 11))

theorem hN_first (n : ℕ) (h : n % 11 = 0) : hOf (b0 m c n) (b4 m c n) (b1 m c n) (b2 m c n) = hN m c n := by
  unfold hN; rw [h, Nat.sub_zero]

theorem hN_next (n : ℕ) (h : n % 11 ≠ 0) : hN m c (n - 1) = hN m c n := by
  unfold hN
  have e : n - 1 - (n - 1) % 11 = n - n % 11 := by omega
  rw [e]

/-- The last two rows of point `n`'s columns. -/
def tailN (n : ℕ) : Vec F S1x2x512 .f32 := tailOf (hN m c n) (b7 m c n)

/-- The two rows that precede point `n`'s columns. -/
def prevN (n : ℕ) : Vec F S1x2x512 .f32 :=
  if n / 11 % 32 = 0 then k0_pay119 (b6 m c n) else k0_pay120 (k0_pay123 (tailN m c (n - 11)))

/-- Point `n`'s step of the running sum. -/
def stepN (a : Vec F S512x2048 .f32) (n : ℕ) : Vec F S512x2048 .f32 :=
  accOf a (b9 m c n) (b10 m c n) (prevN m c n) (hN m c n) (b7 m c n) (b8 m c n) (b11 m c n)

/-- The running sum after point `n`. -/
def accN : ℕ → Vec F S512x2048 .f32
  | 0 => stepN m c k0_pay118 0
  | n + 1 => stepN m c (if (n + 1) % 11 = 0 then k0_pay118 else accN n) (n + 1)

theorem accN_first (n : ℕ) (h : n % 11 = 0) : accN m c n = stepN m c k0_pay118 n := by
  cases n with
  | zero => rfl
  | succ n => unfold accN; rw [if_pos h]

theorem accN_next (n : ℕ) (h : n % 11 ≠ 0) : accN m c n = stepN m c (accN m c (n - 1)) n := by
  cases n with
  | zero => exact absurd rfl h
  | succ n => rw [accN, if_neg h]; rfl

/-- The output block of point `n`. -/
def x2N (n : ℕ) : Vec F S1x512x2048 .f32 := x2Of (b0 m c n) (b3 m c n) (b5 m c n) (accN m c n)

/-! ## What is known of the two arrays of rows before point `n` -/

/-- Of the carried array: the rows of the eleven points before. -/
def KC (n : ℕ) (d : Vec F S11x1x2x512 .f32) : Prop :=
  ∀ k, k < n → n ≤ k + 11 → rowC (md k) d = k0_pay123 (tailN m c k)

/-- Of the state: the rows of the eleven points before, in the same batch. -/
def KS (n : ℕ) (X : Vec F S1x11x2x512 .f32) : Prop :=
  ∀ k, k < n → n ≤ k + 11 → k / 352 = (n - 1) / 352 → rowS (md k) X = k0_pay124 (tailN m c k)

theorem KC_step (t : Fin cfg0.N) (d : Vec F S11x1x2x512 .f32) (h : KC m c t.val d) :
    KC m c (t.val + 1) (putC (grid0.coords t) d (tailN m c t.val)) := by
  intro k hk hk'
  rw [putC_eq]
  by_cases e : k = t.val
  · subst e; exact rowC_self _ _ _
  · rw [rowC_other _ _ (fun e' => by have := congrArg Fin.val e'; simp only [md] at this; omega)]
    exact h k (by omega) (by omega)

theorem KS_step (t : Fin cfg0.N) (X : Vec F S1x11x2x512 .f32) (h : t.val % 352 = 0 ∨ KS m c t.val X) :
    KS m c (t.val + 1) (putS (grid0.coords t) X (tailN m c t.val)) := by
  intro k hk hk' hb
  rw [putS_eq]
  by_cases e : k = t.val
  · subst e; exact rowS_self _ _ _
  · rw [rowS_other _ _ (fun e' => by have := congrArg Fin.val e'; simp only [md] at this; omega)]
    rcases h with h | h
    · omega
    · exact h k (by omega) (by omega) (by omega)

theorem prevN_first (n : ℕ) (h : n / 11 % 32 = 0) : k0_pay119 (b6 m c n) = prevN m c n := by
  unfold prevN; rw [if_pos h]

theorem prevN_next (t : Fin cfg0.N) (h : t.val / 11 % 32 ≠ 0) (hi : k0_cond3 (grid0.coords t) = 1#1) (d : Vec F S11x1x2x512 .f32) (hd : KC m c t.val d) :
    k0_pay120 (getC (grid0.coords t) hi d) = prevN m c t.val := by
  unfold prevN
  have e : md t.val = md (t.val - 11) := Fin.ext (by simp only [md]; omega)
  rw [if_neg h, getC_eq, e, hd (t.val - 11) (by omega) (by omega)]

end Cert.Kernel3Ideal.Run

end
-- ==== Proof.Ffn.Steps.lean ====
/-
  The feed-forward call's invariant between grid points, and its step over one point, case by case.
-/
module

public import proofs.«01_k».proof.Proof.Ffn.Cases
public import proofs.«01_k».proof.Proof.Ffn.Pts

@[expose] public section

set_option maxRecDepth 16384

noncomputable section

namespace Cert.Kernel3Ideal.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- The scratch of normalised rows. -/
abbrev scM0_0 : Memref sig .tc .vmem S512x2048 .bf16 := Memref.whole cc0_scratch0
/-- The scratch of the running sum. -/
abbrev scM0_1 : Memref sig .tc .vmem S512x2048 .f32 := Memref.whole cc0_scratch1
/-- The scratch of the extended columns. -/
abbrev scM0_2 : Memref sig .tc .vmem S1x520x512 .f32 := Memref.whole cc0_scratch2
/-- The scratch of the carried rows. -/
abbrev scM0_3 : Memref sig .tc .vmem S11x1x2x512 .f32 := Memref.whole cc0_scratch3
/-- The scratch of the gate's columns. -/
abbrev scM0_4 : Memref sig .tc .vmem S1x512x512 .f32 := Memref.whole cc0_scratch4
/-- The scratch of the gated rows. -/
abbrev scM0_5 : Memref sig .tc .vmem S512x512 .bf16 := Memref.whole cc0_scratch5

/-- Between grid points: the normalised rows and the running sum are those of the point before unless a block of rows
    begins here, the carried rows are those of the eleven points before, and the rest is at anything. -/
def PhiS (n : ℕ) : sProp 𝕄 :=
  iprop((∃ d, ⌜n % 11 ≠ 0 → d = hN m c (n - 1)⌝ ∗ owns (c : Thread nD τ) scM0_0 fullShare d)
    ∗ (∃ d, ⌜n % 11 ≠ 0 → d = accN m c (n - 1)⌝ ∗ owns (c : Thread nD τ) scM0_1 fullShare d)
    ∗ (∃ d, owns (c : Thread nD τ) scM0_2 fullShare d)
    ∗ (∃ d, ⌜KC m c n d⌝ ∗ owns (c : Thread nD τ) scM0_3 fullShare d)
    ∗ (∃ d, owns (c : Thread nD τ) scM0_4 fullShare d)
    ∗ (∃ d, owns (c : Thread nD τ) scM0_5 fullShare d)
    ∗ (∃ r, prngReg c r))

/-- What the body is called with at point `t`: the inputs' blocks staged, the outputs' buffers at `Y12` and `Y13`. -/
def stepPre (O : sProp 𝕄) (t : Fin cfg0.N) (Y12 : Vec F S1x512x2048 .f32) (Y13 : Vec F S1x11x2x512 .f32) : sProp 𝕄 :=
  iprop(PhiS m c t.val ∗ O ∗ owns (c : Thread nD τ) (st0_0 t) fullShare (b0 m c t.val) ∗ owns (c : Thread nD τ) (st0_1 t) fullShare (b1 m c t.val) ∗ owns (c : Thread nD τ) (st0_2 t) fullShare (b2 m c t.val) ∗ owns (c : Thread nD τ) (st0_3 t) fullShare (b3 m c t.val) ∗ owns (c : Thread nD τ) (st0_4 t) fullShare (b4 m c t.val) ∗ owns (c : Thread nD τ) (st0_5 t) fullShare (b5 m c t.val) ∗ owns (c : Thread nD τ) (st0_6 t) fullShare (b6 m c t.val) ∗ owns (c : Thread nD τ) (st0_7 t) fullShare (b7 m c t.val) ∗ owns (c : Thread nD τ) (st0_8 t) fullShare (b8 m c t.val) ∗ owns (c : Thread nD τ) (st0_9 t) fullShare (b9 m c t.val) ∗ owns (c : Thread nD τ) (st0_10 t) fullShare (b10 m c t.val) ∗ owns (c : Thread nD τ) (st0_11 t) fullShare (b11 m c t.val) ∗ owns (c : Thread nD τ) (st0_12 t) fullShare Y12 ∗ owns (c : Thread nD τ) (st0_13 t) fullShare Y13)

/-- What the body leaves: the inputs' blocks kept, the output block written at a last block of columns, the state's
    rows put in. -/
def stepPost (O : sProp 𝕄) (t : Fin cfg0.N) : sProp 𝕄 :=
  iprop(PhiS m c (t.val + 1) ∗ O ∗ owns (c : Thread nD τ) (st0_0 t) fullShare (b0 m c t.val) ∗ owns (c : Thread nD τ) (st0_1 t) fullShare (b1 m c t.val) ∗ owns (c : Thread nD τ) (st0_2 t) fullShare (b2 m c t.val) ∗ owns (c : Thread nD τ) (st0_3 t) fullShare (b3 m c t.val) ∗ owns (c : Thread nD τ) (st0_4 t) fullShare (b4 m c t.val) ∗ owns (c : Thread nD τ) (st0_5 t) fullShare (b5 m c t.val) ∗ owns (c : Thread nD τ) (st0_6 t) fullShare (b6 m c t.val) ∗ owns (c : Thread nD τ) (st0_7 t) fullShare (b7 m c t.val) ∗ owns (c : Thread nD τ) (st0_8 t) fullShare (b8 m c t.val) ∗ owns (c : Thread nD τ) (st0_9 t) fullShare (b9 m c t.val) ∗ owns (c : Thread nD τ) (st0_10 t) fullShare (b10 m c t.val) ∗ owns (c : Thread nD τ) (st0_11 t) fullShare (b11 m c t.val) ∗ (∃ X : Vec F S1x512x2048 .f32, ⌜t.val % 11 = 10 → X = x2N m c t.val⌝ ∗ owns (c : Thread nD τ) (st0_12 t) fullShare X)
    ∗ (∃ X : Vec F S1x11x2x512 .f32, ⌜KS m c (t.val + 1) X⌝ ∗ owns (c : Thread nD τ) (st0_13 t) fullShare X))

theorem acc_eq (n : ℕ) (a : Vec F S512x2048 .f32) (p : Vec F S1x2x512 .f32) (h : Vec F S512x2048 .bf16) (hp : p = prevN m c n) (hh : h = hN m c n) :
    accOf a (b9 m c n) (b10 m c n) p h (b7 m c n) (b8 m c n) (b11 m c n) = stepN m c a n := by
  subst hp; subst hh; rfl

/-- The step at a first block of columns of a batch's first block of rows. -/
theorem step_A (O : sProp 𝕄) (t : Fin cfg0.N) (Y12 : Vec F S1x512x2048 .f32) (Y13 : Vec F S1x11x2x512 .f32)
    (h0 : t.val % 11 = 0) (h1 : t.val / 11 % 32 = 0) (h3 : t.val % 11 ≠ 10) (h13 : t.val % 352 = 0 ∨ KS m c t.val Y13) :
    stepPre m c O t Y12 Y13 ⊢ wp frame (wpE (defs₀ (F := F)) Variants.none c none) Set.univ (bodyAt0 t) (fun _ => stepPost m c O t) := by
  unfold stepPre stepPost PhiS
  iintro ⟨⟨⟨%d0, %e0, S0⟩, ⟨%d1, %e1, S1⟩, S2, ⟨%d3, %e3, S3⟩, S4, S5, Hr⟩, Ho, H0, H1, H2, H3, H4, H5, H6, H7, H8, H9, H10, H11, H12, H13⟩
  have hh : hOf (b0 m c t.val) (b4 m c t.val) (b1 m c t.val) (b2 m c t.val) = hN m c t.val := hN_first m c _ h0
  have hp : k0_pay119 (b6 m c t.val) = prevN m c t.val := prevN_first m c _ h1
  have ha : accOf (k0_pay118) (b9 m c t.val) (b10 m c t.val) (k0_pay119 (b6 m c t.val)) (hOf (b0 m c t.val) (b4 m c t.val) (b1 m c t.val) (b2 m c t.val)) (b7 m c t.val) (b8 m c t.val) (b11 m c t.val) = accN m c t.val :=
    (acc_eq m c t.val _ _ _ hp hh).trans (accN_first m c _ h0).symm
  have ht : tailOf (hOf (b0 m c t.val) (b4 m c t.val) (b1 m c t.val) (b2 m c t.val)) (b7 m c t.val) = tailN m c t.val := congrArg (fun h => tailOf h (b7 m c t.val)) hh
  iapply (body_A c (grid0.coords t) _ _ _ _ _ _ _ _ _ _ _ _ _ _ _ _ _ _ _ _ _ _ _ _ _ _ _ _ _ _ _ _ _ _ _ _ _ _ _ _ ((cond0_iff t).mpr h0) ((cond1_iff t).mpr h1) (fun h => (cond3_iff t).mp h h1) (fun h => h3 ((cond4_iff t).mp h)) (b0 m c t.val) (b1 m c t.val) (b2 m c t.val) (b3 m c t.val) (b4 m c t.val) (b5 m c t.val) (b6 m c t.val) (b7 m c t.val) (b8 m c t.val) (b9 m c t.val) (b10 m c t.val) (b11 m c t.val) Y12 Y13 d3 Set.univ _)
  iframe H0 H1 H2 H3 H4 H5 H6 H7 H8 H9 H10 H11 H12 H13
  isplitl [S0]; · iexists _; iexact S0
  isplitl [S1]; · iexists _; iexact S1
  iframe S2 S3 S4 S5
  iintro ⟨H0, H1, H2, H3, H4, H5, H6, H7, H8, H9, H10, H11, H12, H13, S0, S1, S2, S3, S4, S5⟩
  isplitl [S0 S1 S2 S3 S4 S5 Hr]
  · isplitl [S0]
    · iexists _; isplitr; swap; · iexact S0
      ipureintro
      exact fun _ => hh
    isplitl [S1]
    · iexists _; isplitr; swap; · iexact S1
      ipureintro
      exact fun _ => ha
    isplitl [S2]; · iexact S2
    isplitl [S3]
    · iexists _; isplitr; swap; · iexact S3
      ipureintro
      rw [ht]; exact KC_step m c t d3 e3
    iframe S4 S5
    iexact Hr
  iframe Ho H0 H1 H2 H3 H4 H5 H6 H7 H8 H9 H10 H11
  isplitl [H12]
  · iexists _; isplitr; swap; · iexact H12
    ipureintro
    exact fun h => absurd h h3
  iexists _; isplitr; swap; · iexact H13
  ipureintro
  rw [ht]; exact KS_step m c t Y13 h13

/-- The step at a middle block of columns of a batch's first block of rows. -/
theorem step_B (O : sProp 𝕄) (t : Fin cfg0.N) (Y12 : Vec F S1x512x2048 .f32) (Y13 : Vec F S1x11x2x512 .f32)
    (h0 : t.val % 11 ≠ 0) (h1 : t.val / 11 % 32 = 0) (h3 : t.val % 11 ≠ 10) (h13 : t.val % 352 = 0 ∨ KS m c t.val Y13) :
    stepPre m c O t Y12 Y13 ⊢ wp frame (wpE (defs₀ (F := F)) Variants.none c none) Set.univ (bodyAt0 t) (fun _ => stepPost m c O t) := by
  unfold stepPre stepPost PhiS
  iintro ⟨⟨⟨%d0, %e0, S0⟩, ⟨%d1, %e1, S1⟩, S2, ⟨%d3, %e3, S3⟩, S4, S5, Hr⟩, Ho, H0, H1, H2, H3, H4, H5, H6, H7, H8, H9, H10, H11, H12, H13⟩
  have hh : d0 = hN m c t.val := (e0 h0).trans (hN_next m c _ h0)
  have hp : k0_pay119 (b6 m c t.val) = prevN m c t.val := prevN_first m c _ h1
  have ha : accOf (d1) (b9 m c t.val) (b10 m c t.val) (k0_pay119 (b6 m c t.val)) (d0) (b7 m c t.val) (b8 m c t.val) (b11 m c t.val) = accN m c t.val :=
    (acc_eq m c t.val _ _ _ hp hh).trans ((congrArg (fun a => stepN m c a t.val) (e1 h0)).trans (accN_next m c _ h0).symm)
  have ht : tailOf (d0) (b7 m c t.val) = tailN m c t.val := congrArg (fun h => tailOf h (b7 m c t.val)) hh
  iapply (body_B c (grid0.coords t) _ _ _ _ _ _ _ _ _ _ _ _ _ _ _ _ _ _ _ _ _ _ _ _ _ _ _ _ _ _ _ _ _ _ _ _ _ _ _ _ (fun h => h0 ((cond0_iff t).mp h)) ((cond1_iff t).mpr h1) (fun h => (cond3_iff t).mp h h1) (fun h => h3 ((cond4_iff t).mp h)) (b0 m c t.val) (b1 m c t.val) (b2 m c t.val) (b3 m c t.val) (b4 m c t.val) (b5 m c t.val) (b6 m c t.val) (b7 m c t.val) (b8 m c t.val) (b9 m c t.val) (b10 m c t.val) (b11 m c t.val) Y12 Y13 d0 d1 d3 Set.univ _)
  iframe H0 H1 H2 H3 H4 H5 H6 H7 H8 H9 H10 H11 H12 H13 S0 S1 S2 S3 S4 S5
  iintro ⟨H0, H1, H2, H3, H4, H5, H6, H7, H8, H9, H10, H11, H12, H13, S0, S1, S2, S3, S4, S5⟩
  isplitl [S0 S1 S2 S3 S4 S5 Hr]
  · isplitl [S0]
    · iexists _; isplitr; swap; · iexact S0
      ipureintro
      exact fun _ => hh
    isplitl [S1]
    · iexists _; isplitr; swap; · iexact S1
      ipureintro
      exact fun _ => ha
    isplitl [S2]; · iexact S2
    isplitl [S3]
    · iexists _; isplitr; swap; · iexact S3
      ipureintro
      rw [ht]; exact KC_step m c t d3 e3
    iframe S4 S5
    iexact Hr
  iframe Ho H0 H1 H2 H3 H4 H5 H6 H7 H8 H9 H10 H11
  isplitl [H12]
  · iexists _; isplitr; swap; · iexact H12
    ipureintro
    exact fun h => absurd h h3
  iexists _; isplitr; swap; · iexact H13
  ipureintro
  rw [ht]; exact KS_step m c t Y13 h13

/-- The step at the last block of columns of a batch's first block of rows. -/
theorem step_C (O : sProp 𝕄) (t : Fin cfg0.N) (Y12 : Vec F S1x512x2048 .f32) (Y13 : Vec F S1x11x2x512 .f32)
    (h0 : t.val % 11 ≠ 0) (h1 : t.val / 11 % 32 = 0) (h3 : t.val % 11 = 10) (h13 : t.val % 352 = 0 ∨ KS m c t.val Y13) :
    stepPre m c O t Y12 Y13 ⊢ wp frame (wpE (defs₀ (F := F)) Variants.none c none) Set.univ (bodyAt0 t) (fun _ => stepPost m c O t) := by
  unfold stepPre stepPost PhiS
  iintro ⟨⟨⟨%d0, %e0, S0⟩, ⟨%d1, %e1, S1⟩, S2, ⟨%d3, %e3, S3⟩, S4, S5, Hr⟩, Ho, H0, H1, H2, H3, H4, H5, H6, H7, H8, H9, H10, H11, H12, H13⟩
  have hh : d0 = hN m c t.val := (e0 h0).trans (hN_next m c _ h0)
  have hp : k0_pay119 (b6 m c t.val) = prevN m c t.val := prevN_first m c _ h1
  have ha : accOf (d1) (b9 m c t.val) (b10 m c t.val) (k0_pay119 (b6 m c t.val)) (d0) (b7 m c t.val) (b8 m c t.val) (b11 m c t.val) = accN m c t.val :=
    (acc_eq m c t.val _ _ _ hp hh).trans ((congrArg (fun a => stepN m c a t.val) (e1 h0)).trans (accN_next m c _ h0).symm)
  have ht : tailOf (d0) (b7 m c t.val) = tailN m c t.val := congrArg (fun h => tailOf h (b7 m c t.val)) hh
  iapply (body_C c (grid0.coords t) _ _ _ _ _ _ _ _ _ _ _ _ _ _ _ _ _ _ _ _ _ _ _ _ _ _ _ _ _ _ _ _ _ _ _ _ _ _ _ _ (fun h => h0 ((cond0_iff t).mp h)) ((cond1_iff t).mpr h1) (fun h => (cond3_iff t).mp h h1) ((cond4_iff t).mpr h3) (b0 m c t.val) (b1 m c t.val) (b2 m c t.val) (b3 m c t.val) (b4 m c t.val) (b5 m c t.val) (b6 m c t.val) (b7 m c t.val) (b8 m c t.val) (b9 m c t.val) (b10 m c t.val) (b11 m c t.val) Y13 d0 d1 d3 Set.univ _)
  iframe H0 H1 H2 H3 H4 H5 H6 H7 H8 H9 H10 H11
  isplitl [H12]; · iexists _; iexact H12
  iframe H13 S0 S1 S2 S3 S4 S5
  iintro ⟨H0, H1, H2, H3, H4, H5, H6, H7, H8, H9, H10, H11, H12, H13, S0, S1, S2, S3, S4, S5⟩
  isplitl [S0 S1 S2 S3 S4 S5 Hr]
  · isplitl [S0]
    · iexists _; isplitr; swap; · iexact S0
      ipureintro
      exact fun _ => hh
    isplitl [S1]
    · iexists _; isplitr; swap; · iexact S1
      ipureintro
      exact fun _ => ha
    isplitl [S2]; · iexact S2
    isplitl [S3]
    · iexists _; isplitr; swap; · iexact S3
      ipureintro
      rw [ht]; exact KC_step m c t d3 e3
    iframe S4 S5
    iexact Hr
  iframe Ho H0 H1 H2 H3 H4 H5 H6 H7 H8 H9 H10 H11
  isplitl [H12]
  · iexists _; isplitr; swap; · iexact H12
    ipureintro
    exact fun _ => congrArg (x2Of (b0 m c t.val) (b3 m c t.val) (b5 m c t.val)) ha
  iexists _; isplitr; swap; · iexact H13
  ipureintro
  rw [ht]; exact KS_step m c t Y13 h13

/-- The step at a first block of columns of a later block of rows. -/
theorem step_D (O : sProp 𝕄) (t : Fin cfg0.N) (Y12 : Vec F S1x512x2048 .f32) (Y13 : Vec F S1x11x2x512 .f32)
    (h0 : t.val % 11 = 0) (h1 : t.val / 11 % 32 ≠ 0) (h3 : t.val % 11 ≠ 10) (h13 : t.val % 352 = 0 ∨ KS m c t.val Y13) :
    stepPre m c O t Y12 Y13 ⊢ wp frame (wpE (defs₀ (F := F)) Variants.none c none) Set.univ (bodyAt0 t) (fun _ => stepPost m c O t) := by
  unfold stepPre stepPost PhiS
  iintro ⟨⟨⟨%d0, %e0, S0⟩, ⟨%d1, %e1, S1⟩, S2, ⟨%d3, %e3, S3⟩, S4, S5, Hr⟩, Ho, H0, H1, H2, H3, H4, H5, H6, H7, H8, H9, H10, H11, H12, H13⟩
  have hh : hOf (b0 m c t.val) (b4 m c t.val) (b1 m c t.val) (b2 m c t.val) = hN m c t.val := hN_first m c _ h0
  have hp : k0_pay120 (getC (grid0.coords t) ((cond3_iff t).mpr h1) d3) = prevN m c t.val := prevN_next m c t h1 _ d3 e3
  have ha : accOf (k0_pay118) (b9 m c t.val) (b10 m c t.val) (k0_pay120 (getC (grid0.coords t) ((cond3_iff t).mpr h1) d3)) (hOf (b0 m c t.val) (b4 m c t.val) (b1 m c t.val) (b2 m c t.val)) (b7 m c t.val) (b8 m c t.val) (b11 m c t.val) = accN m c t.val :=
    (acc_eq m c t.val _ _ _ hp hh).trans (accN_first m c _ h0).symm
  have ht : tailOf (hOf (b0 m c t.val) (b4 m c t.val) (b1 m c t.val) (b2 m c t.val)) (b7 m c t.val) = tailN m c t.val := congrArg (fun h => tailOf h (b7 m c t.val)) hh
  iapply (body_D c (grid0.coords t) _ _ _ _ _ _ _ _ _ _ _ _ _ _ _ _ _ _ _ _ _ _ _ _ _ _ _ _ _ _ _ _ _ _ _ _ _ _ _ _ ((cond0_iff t).mpr h0) (fun h => h1 ((cond1_iff t).mp h)) ((cond3_iff t).mpr h1) (fun h => h3 ((cond4_iff t).mp h)) (b0 m c t.val) (b1 m c t.val) (b2 m c t.val) (b3 m c t.val) (b4 m c t.val) (b5 m c t.val) (b6 m c t.val) (b7 m c t.val) (b8 m c t.val) (b9 m c t.val) (b10 m c t.val) (b11 m c t.val) Y12 Y13 d3 Set.univ _)
  iframe H0 H1 H2 H3 H4 H5 H6 H7 H8 H9 H10 H11 H12 H13
  isplitl [S0]; · iexists _; iexact S0
  isplitl [S1]; · iexists _; iexact S1
  iframe S2 S3 S4 S5
  iintro ⟨H0, H1, H2, H3, H4, H5, H6, H7, H8, H9, H10, H11, H12, H13, S0, S1, S2, S3, S4, S5⟩
  isplitl [S0 S1 S2 S3 S4 S5 Hr]
  · isplitl [S0]
    · iexists _; isplitr; swap; · iexact S0
      ipureintro
      exact fun _ => hh
    isplitl [S1]
    · iexists _; isplitr; swap; · iexact S1
      ipureintro
      exact fun _ => ha
    isplitl [S2]; · iexact S2
    isplitl [S3]
    · iexists _; isplitr; swap; · iexact S3
      ipureintro
      rw [ht]; exact KC_step m c t d3 e3
    iframe S4 S5
    iexact Hr
  iframe Ho H0 H1 H2 H3 H4 H5 H6 H7 H8 H9 H10 H11
  isplitl [H12]
  · iexists _; isplitr; swap; · iexact H12
    ipureintro
    exact fun h => absurd h h3
  iexists _; isplitr; swap; · iexact H13
  ipureintro
  rw [ht]; exact KS_step m c t Y13 h13

/-- The step at a middle block of columns of a later block of rows. -/
theorem step_E (O : sProp 𝕄) (t : Fin cfg0.N) (Y12 : Vec F S1x512x2048 .f32) (Y13 : Vec F S1x11x2x512 .f32)
    (h0 : t.val % 11 ≠ 0) (h1 : t.val / 11 % 32 ≠ 0) (h3 : t.val % 11 ≠ 10) (h13 : t.val % 352 = 0 ∨ KS m c t.val Y13) :
    stepPre m c O t Y12 Y13 ⊢ wp frame (wpE (defs₀ (F := F)) Variants.none c none) Set.univ (bodyAt0 t) (fun _ => stepPost m c O t) := by
  unfold stepPre stepPost PhiS
  iintro ⟨⟨⟨%d0, %e0, S0⟩, ⟨%d1, %e1, S1⟩, S2, ⟨%d3, %e3, S3⟩, S4, S5, Hr⟩, Ho, H0, H1, H2, H3, H4, H5, H6, H7, H8, H9, H10, H11, H12, H13⟩
  have hh : d0 = hN m c t.val := (e0 h0).trans (hN_next m c _ h0)
  have hp : k0_pay120 (getC (grid0.coords t) ((cond3_iff t).mpr h1) d3) = prevN m c t.val := prevN_next m c t h1 _ d3 e3
  have ha : accOf (d1) (b9 m c t.val) (b10 m c t.val) (k0_pay120 (getC (grid0.coords t) ((cond3_iff t).mpr h1) d3)) (d0) (b7 m c t.val) (b8 m c t.val) (b11 m c t.val) = accN m c t.val :=
    (acc_eq m c t.val _ _ _ hp hh).trans ((congrArg (fun a => stepN m c a t.val) (e1 h0)).trans (accN_next m c _ h0).symm)
  have ht : tailOf (d0) (b7 m c t.val) = tailN m c t.val := congrArg (fun h => tailOf h (b7 m c t.val)) hh
  iapply (body_E c (grid0.coords t) _ _ _ _ _ _ _ _ _ _ _ _ _ _ _ _ _ _ _ _ _ _ _ _ _ _ _ _ _ _ _ _ _ _ _ _ _ _ _ _ (fun h => h0 ((cond0_iff t).mp h)) (fun h => h1 ((cond1_iff t).mp h)) ((cond3_iff t).mpr h1) (fun h => h3 ((cond4_iff t).mp h)) (b0 m c t.val) (b1 m c t.val) (b2 m c t.val) (b3 m c t.val) (b4 m c t.val) (b5 m c t.val) (b6 m c t.val) (b7 m c t.val) (b8 m c t.val) (b9 m c t.val) (b10 m c t.val) (b11 m c t.val) Y12 Y13 d0 d1 d3 Set.univ _)
  iframe H0 H1 H2 H3 H4 H5 H6 H7 H8 H9 H10 H11 H12 H13 S0 S1 S2 S3 S4 S5
  iintro ⟨H0, H1, H2, H3, H4, H5, H6, H7, H8, H9, H10, H11, H12, H13, S0, S1, S2, S3, S4, S5⟩
  isplitl [S0 S1 S2 S3 S4 S5 Hr]
  · isplitl [S0]
    · iexists _; isplitr; swap; · iexact S0
      ipureintro
      exact fun _ => hh
    isplitl [S1]
    · iexists _; isplitr; swap; · iexact S1
      ipureintro
      exact fun _ => ha
    isplitl [S2]; · iexact S2
    isplitl [S3]
    · iexists _; isplitr; swap; · iexact S3
      ipureintro
      rw [ht]; exact KC_step m c t d3 e3
    iframe S4 S5
    iexact Hr
  iframe Ho H0 H1 H2 H3 H4 H5 H6 H7 H8 H9 H10 H11
  isplitl [H12]
  · iexists _; isplitr; swap; · iexact H12
    ipureintro
    exact fun h => absurd h h3
  iexists _; isplitr; swap; · iexact H13
  ipureintro
  rw [ht]; exact KS_step m c t Y13 h13

/-- The step at the last block of columns of a later block of rows. -/
theorem step_F (O : sProp 𝕄) (t : Fin cfg0.N) (Y12 : Vec F S1x512x2048 .f32) (Y13 : Vec F S1x11x2x512 .f32)
    (h0 : t.val % 11 ≠ 0) (h1 : t.val / 11 % 32 ≠ 0) (h3 : t.val % 11 = 10) (h13 : t.val % 352 = 0 ∨ KS m c t.val Y13) :
    stepPre m c O t Y12 Y13 ⊢ wp frame (wpE (defs₀ (F := F)) Variants.none c none) Set.univ (bodyAt0 t) (fun _ => stepPost m c O t) := by
  unfold stepPre stepPost PhiS
  iintro ⟨⟨⟨%d0, %e0, S0⟩, ⟨%d1, %e1, S1⟩, S2, ⟨%d3, %e3, S3⟩, S4, S5, Hr⟩, Ho, H0, H1, H2, H3, H4, H5, H6, H7, H8, H9, H10, H11, H12, H13⟩
  have hh : d0 = hN m c t.val := (e0 h0).trans (hN_next m c _ h0)
  have hp : k0_pay120 (getC (grid0.coords t) ((cond3_iff t).mpr h1) d3) = prevN m c t.val := prevN_next m c t h1 _ d3 e3
  have ha : accOf (d1) (b9 m c t.val) (b10 m c t.val) (k0_pay120 (getC (grid0.coords t) ((cond3_iff t).mpr h1) d3)) (d0) (b7 m c t.val) (b8 m c t.val) (b11 m c t.val) = accN m c t.val :=
    (acc_eq m c t.val _ _ _ hp hh).trans ((congrArg (fun a => stepN m c a t.val) (e1 h0)).trans (accN_next m c _ h0).symm)
  have ht : tailOf (d0) (b7 m c t.val) = tailN m c t.val := congrArg (fun h => tailOf h (b7 m c t.val)) hh
  iapply (body_F c (grid0.coords t) _ _ _ _ _ _ _ _ _ _ _ _ _ _ _ _ _ _ _ _ _ _ _ _ _ _ _ _ _ _ _ _ _ _ _ _ _ _ _ _ (fun h => h0 ((cond0_iff t).mp h)) (fun h => h1 ((cond1_iff t).mp h)) ((cond3_iff t).mpr h1) ((cond4_iff t).mpr h3) (b0 m c t.val) (b1 m c t.val) (b2 m c t.val) (b3 m c t.val) (b4 m c t.val) (b5 m c t.val) (b6 m c t.val) (b7 m c t.val) (b8 m c t.val) (b9 m c t.val) (b10 m c t.val) (b11 m c t.val) Y13 d0 d1 d3 Set.univ _)
  iframe H0 H1 H2 H3 H4 H5 H6 H7 H8 H9 H10 H11
  isplitl [H12]; · iexists _; iexact H12
  iframe H13 S0 S1 S2 S3 S4 S5
  iintro ⟨H0, H1, H2, H3, H4, H5, H6, H7, H8, H9, H10, H11, H12, H13, S0, S1, S2, S3, S4, S5⟩
  isplitl [S0 S1 S2 S3 S4 S5 Hr]
  · isplitl [S0]
    · iexists _; isplitr; swap; · iexact S0
      ipureintro
      exact fun _ => hh
    isplitl [S1]
    · iexists _; isplitr; swap; · iexact S1
      ipureintro
      exact fun _ => ha
    isplitl [S2]; · iexact S2
    isplitl [S3]
    · iexists _; isplitr; swap; · iexact S3
      ipureintro
      rw [ht]; exact KC_step m c t d3 e3
    iframe S4 S5
    iexact Hr
  iframe Ho H0 H1 H2 H3 H4 H5 H6 H7 H8 H9 H10 H11
  isplitl [H12]
  · iexists _; isplitr; swap; · iexact H12
    ipureintro
    exact fun _ => congrArg (x2Of (b0 m c t.val) (b3 m c t.val) (b5 m c t.val)) ha
  iexists _; isplitr; swap; · iexact H13
  ipureintro
  rw [ht]; exact KS_step m c t Y13 h13

/-- The step at any point. -/
theorem step_any (O : sProp 𝕄) (t : Fin cfg0.N) (Y12 : Vec F S1x512x2048 .f32) (Y13 : Vec F S1x11x2x512 .f32) (h13 : t.val % 352 = 0 ∨ KS m c t.val Y13) :
    stepPre m c O t Y12 Y13 ⊢ wp frame (wpE (defs₀ (F := F)) Variants.none c none) Set.univ (bodyAt0 t) (fun _ => stepPost m c O t) := by
  by_cases h0 : t.val % 11 = 0
  · by_cases h1 : t.val / 11 % 32 = 0
    · exact step_A m c O t Y12 Y13 h0 h1 (by omega) h13
    · exact step_D m c O t Y12 Y13 h0 h1 (by omega) h13
  · by_cases h3 : t.val % 11 = 10
    · by_cases h1 : t.val / 11 % 32 = 0
      · exact step_C m c O t Y12 Y13 h0 h1 h3 h13
      · exact step_F m c O t Y12 Y13 h0 h1 h3 h13
    · by_cases h1 : t.val / 11 % 32 = 0
      · exact step_B m c O t Y12 Y13 h0 h1 h3 h13
      · exact step_E m c O t Y12 Y13 h0 h1 h3 h13

end Cert.Kernel3Ideal.Run

end
-- ==== Proof.Ffn.Frame.lean ====
/-
  The feed-forward call's launch: the proof data that says what each point may leave, the run of @main, the frame, and
  what the two result arrays hold at the end.
-/
module

public import proofs.«01_k».proof.Proof.Ffn.Steps
public import Idealize.ShloMosaic.Lib.Claim
public import Idealize.ShloMosaic.Lib.Pipeline.Value
public import Idealize.ShloMosaic.Lib.Pipeline.ArrRel

@[expose] public section

set_option maxRecDepth 16384

noncomputable section

namespace Cert.Kernel3Ideal.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Exact proof data of the inputs: each buffer at its block after the body; of the outputs nothing is used. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => x2N m c t.val
    | ⟨13, _⟩ => constant S1x11x2x512 .f32 0x00000000#32
  Φ t := PhiS m c t.val
  q w := Pipeline.shareOf spec0 w
  owed _ := 0

/-- The first output's relation: at a last block of columns its buffer is left at the output block. -/
def R12 (c : Dev nD) (t : Fin cfg0.N) (_ X : Vec F S1x512x2048 .f32) : Prop := t.val % 11 = 10 → X = x2N m c t.val

/-- The second output's relation: its buffer is left with the rows of the last eleven points of the batch. -/
def R13 (c : Dev nD) (t : Fin cfg0.N) (_ X : Vec F S1x11x2x512 .f32) : Prop := KS m c (t.val + 1) X

/-- The outputs' relations. -/
def ovr (c : Dev nD) : (w : Fin cfg0.W) → Option (Fin cfg0.N → (Y X : (cfg0.win w).block.Idx → Elt F (cfg0.win w).elt) → Prop)
  | ⟨12, _⟩ => some (R12 m c)
  | ⟨13, _⟩ => some (R13 m c)
  | _ => none

/-- The proof data: the inputs' exact, the outputs' by their relations. -/
def rd (c : Dev nD) : RDat τ (Elt F) Unit ℕ (UR sig nD τ) ℕ cfg0 c := (dats m c).toR.override (ovr m c)

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]; try rfl
theorem after0_1 (c : Dev nD) (t : Fin cfg0.N) : (dats m c).after 1 t = iblk m c 1 t := by dsimp only [dats]; try rfl
theorem after0_2 (c : Dev nD) (t : Fin cfg0.N) : (dats m c).after 2 t = iblk m c 2 t := by dsimp only [dats]; try rfl
theorem after0_3 (c : Dev nD) (t : Fin cfg0.N) : (dats m c).after 3 t = iblk m c 3 t := by dsimp only [dats]; try rfl
theorem after0_4 (c : Dev nD) (t : Fin cfg0.N) : (dats m c).after 4 t = iblk m c 4 t := by dsimp only [dats]; try rfl
theorem after0_5 (c : Dev nD) (t : Fin cfg0.N) : (dats m c).after 5 t = iblk m c 5 t := by dsimp only [dats]; try rfl
theorem after0_6 (c : Dev nD) (t : Fin cfg0.N) : (dats m c).after 6 t = iblk m c 6 t := by dsimp only [dats]; try rfl
theorem after0_7 (c : Dev nD) (t : Fin cfg0.N) : (dats m c).after 7 t = iblk m c 7 t := by dsimp only [dats]; try rfl
theorem after0_8 (c : Dev nD) (t : Fin cfg0.N) : (dats m c).after 8 t = iblk m c 8 t := by dsimp only [dats]; try rfl
theorem after0_9 (c : Dev nD) (t : Fin cfg0.N) : (dats m c).after 9 t = iblk m c 9 t := by dsimp only [dats]; try rfl
theorem after0_10 (c : Dev nD) (t : Fin cfg0.N) : (dats m c).after 10 t = iblk m c 10 t := by dsimp only [dats]; try rfl
theorem after0_11 (c : Dev nD) (t : Fin cfg0.N) : (dats m c).after 11 t = iblk m c 11 t := by dsimp only [dats]; try rfl

theorem finds_0 (c : Dev nD) (t : Fin cfg0.N) (X : (cfg0.win 0).block.Idx → Elt F (cfg0.win 0).elt) (h : (rd m c).Finds 0 t X) : X = b0 m c t.val := by
  obtain ⟨d, hd⟩ := (dats m c).toR_finds 0 t X (((dats m c).toR.override_finds (ovr := ovr m c) rfl t X).mp h)
  rw [hd, before0_0_of m (dats m c) (A_eq m c 0) (after0_0 m c) t d]
  unfold b0; rw [pt_val]

theorem finds_1 (c : Dev nD) (t : Fin cfg0.N) (X : (cfg0.win 1).block.Idx → Elt F (cfg0.win 1).elt) (h : (rd m c).Finds 1 t X) : X = b1 m c t.val := by
  obtain ⟨d, hd⟩ := (dats m c).toR_finds 1 t X (((dats m c).toR.override_finds (ovr := ovr m c) rfl t X).mp h)
  rw [hd, before0_1_of m (dats m c) (A_eq m c 1) (after0_1 m c) t d]
  unfold b1; rw [pt_val]

theorem finds_2 (c : Dev nD) (t : Fin cfg0.N) (X : (cfg0.win 2).block.Idx → Elt F (cfg0.win 2).elt) (h : (rd m c).Finds 2 t X) : X = b2 m c t.val := by
  obtain ⟨d, hd⟩ := (dats m c).toR_finds 2 t X (((dats m c).toR.override_finds (ovr := ovr m c) rfl t X).mp h)
  rw [hd, before0_2_of m (dats m c) (A_eq m c 2) (after0_2 m c) t d]
  unfold b2; rw [pt_val]

theorem finds_3 (c : Dev nD) (t : Fin cfg0.N) (X : (cfg0.win 3).block.Idx → Elt F (cfg0.win 3).elt) (h : (rd m c).Finds 3 t X) : X = b3 m c t.val := by
  obtain ⟨d, hd⟩ := (dats m c).toR_finds 3 t X (((dats m c).toR.override_finds (ovr := ovr m c) rfl t X).mp h)
  rw [hd, before0_3_of m (dats m c) (A_eq m c 3) (after0_3 m c) t d]
  unfold b3; rw [pt_val]

theorem finds_4 (c : Dev nD) (t : Fin cfg0.N) (X : (cfg0.win 4).block.Idx → Elt F (cfg0.win 4).elt) (h : (rd m c).Finds 4 t X) : X = b4 m c t.val := by
  obtain ⟨d, hd⟩ := (dats m c).toR_finds 4 t X (((dats m c).toR.override_finds (ovr := ovr m c) rfl t X).mp h)
  rw [hd, before0_4_of m (dats m c) (A_eq m c 4) (after0_4 m c) t d]
  unfold b4; rw [pt_val]

theorem finds_5 (c : Dev nD) (t : Fin cfg0.N) (X : (cfg0.win 5).block.Idx → Elt F (cfg0.win 5).elt) (h : (rd m c).Finds 5 t X) : X = b5 m c t.val := by
  obtain ⟨d, hd⟩ := (dats m c).toR_finds 5 t X (((dats m c).toR.override_finds (ovr := ovr m c) rfl t X).mp h)
  rw [hd, before0_5_of m (dats m c) (A_eq m c 5) (after0_5 m c) t d]
  unfold b5; rw [pt_val]

theorem finds_6 (c : Dev nD) (t : Fin cfg0.N) (X : (cfg0.win 6).block.Idx → Elt F (cfg0.win 6).elt) (h : (rd m c).Finds 6 t X) : X = b6 m c t.val := by
  obtain ⟨d, hd⟩ := (dats m c).toR_finds 6 t X (((dats m c).toR.override_finds (ovr := ovr m c) rfl t X).mp h)
  rw [hd, before0_6_of m (dats m c) (A_eq m c 6) (after0_6 m c) t d]
  unfold b6; rw [pt_val]

theorem finds_7 (c : Dev nD) (t : Fin cfg0.N) (X : (cfg0.win 7).block.Idx → Elt F (cfg0.win 7).elt) (h : (rd m c).Finds 7 t X) : X = b7 m c t.val := by
  obtain ⟨d, hd⟩ := (dats m c).toR_finds 7 t X (((dats m c).toR.override_finds (ovr := ovr m c) rfl t X).mp h)
  rw [hd, before0_7_of m (dats m c) (A_eq m c 7) (after0_7 m c) t d]
  unfold b7; rw [pt_val]

theorem finds_8 (c : Dev nD) (t : Fin cfg0.N) (X : (cfg0.win 8).block.Idx → Elt F (cfg0.win 8).elt) (h : (rd m c).Finds 8 t X) : X = b8 m c t.val := by
  obtain ⟨d, hd⟩ := (dats m c).toR_finds 8 t X (((dats m c).toR.override_finds (ovr := ovr m c) rfl t X).mp h)
  rw [hd, before0_8_of m (dats m c) (A_eq m c 8) (after0_8 m c) t d]
  unfold b8; rw [pt_val]

theorem finds_9 (c : Dev nD) (t : Fin cfg0.N) (X : (cfg0.win 9).block.Idx → Elt F (cfg0.win 9).elt) (h : (rd m c).Finds 9 t X) : X = b9 m c t.val := by
  obtain ⟨d, hd⟩ := (dats m c).toR_finds 9 t X (((dats m c).toR.override_finds (ovr := ovr m c) rfl t X).mp h)
  rw [hd, before0_9_of m (dats m c) (A_eq m c 9) (after0_9 m c) t d]
  unfold b9; rw [pt_val]

theorem finds_10 (c : Dev nD) (t : Fin cfg0.N) (X : (cfg0.win 10).block.Idx → Elt F (cfg0.win 10).elt) (h : (rd m c).Finds 10 t X) : X = b10 m c t.val := by
  obtain ⟨d, hd⟩ := (dats m c).toR_finds 10 t X (((dats m c).toR.override_finds (ovr := ovr m c) rfl t X).mp h)
  rw [hd, before0_10_of m (dats m c) (A_eq m c 10) (after0_10 m c) t d]
  unfold b10; rw [pt_val]

theorem finds_11 (c : Dev nD) (t : Fin cfg0.N) (X : (cfg0.win 11).block.Idx → Elt F (cfg0.win 11).elt) (h : (rd m c).Finds 11 t X) : X = b11 m c t.val := by
  obtain ⟨d, hd⟩ := (dats m c).toR_finds 11 t X (((dats m c).toR.override_finds (ovr := ovr m c) rfl t X).mp h)
  rw [hd, before0_11_of m (dats m c) (A_eq m c 11) (after0_11 m c) t d]
  unfold b11; rw [pt_val]

theorem leaves_0 (c : Dev nD) (t : Fin cfg0.N) (Y : (cfg0.win 0).block.Idx → Elt F (cfg0.win 0).elt) : (rd m c).after 0 t Y (b0 m c t.val) := by
  unfold rd
  rw [RDat.override_after_of_eq_none (rd := (dats m c).toR) (ovr := ovr m c) (w := 0) rfl]
  show (dats m c).Leaves 0 t _
  unfold b0; rw [pt_val, ← after0_0]
  rfl

theorem leaves_1 (c : Dev nD) (t : Fin cfg0.N) (Y : (cfg0.win 1).block.Idx → Elt F (cfg0.win 1).elt) : (rd m c).after 1 t Y (b1 m c t.val) := by
  unfold rd
  rw [RDat.override_after_of_eq_none (rd := (dats m c).toR) (ovr := ovr m c) (w := 1) rfl]
  show (dats m c).Leaves 1 t _
  unfold b1; rw [pt_val, ← after0_1]
  rfl

theorem leaves_2 (c : Dev nD) (t : Fin cfg0.N) (Y : (cfg0.win 2).block.Idx → Elt F (cfg0.win 2).elt) : (rd m c).after 2 t Y (b2 m c t.val) := by
  unfold rd
  rw [RDat.override_after_of_eq_none (rd := (dats m c).toR) (ovr := ovr m c) (w := 2) rfl]
  show (dats m c).Leaves 2 t _
  unfold b2; rw [pt_val, ← after0_2]
  rfl

theorem leaves_3 (c : Dev nD) (t : Fin cfg0.N) (Y : (cfg0.win 3).block.Idx → Elt F (cfg0.win 3).elt) : (rd m c).after 3 t Y (b3 m c t.val) := by
  unfold rd
  rw [RDat.override_after_of_eq_none (rd := (dats m c).toR) (ovr := ovr m c) (w := 3) rfl]
  show (dats m c).Leaves 3 t _
  unfold b3; rw [pt_val, ← after0_3]
  rfl

theorem leaves_4 (c : Dev nD) (t : Fin cfg0.N) (Y : (cfg0.win 4).block.Idx → Elt F (cfg0.win 4).elt) : (rd m c).after 4 t Y (b4 m c t.val) := by
  unfold rd
  rw [RDat.override_after_of_eq_none (rd := (dats m c).toR) (ovr := ovr m c) (w := 4) rfl]
  show (dats m c).Leaves 4 t _
  unfold b4; rw [pt_val, ← after0_4]
  rfl

theorem leaves_5 (c : Dev nD) (t : Fin cfg0.N) (Y : (cfg0.win 5).block.Idx → Elt F (cfg0.win 5).elt) : (rd m c).after 5 t Y (b5 m c t.val) := by
  unfold rd
  rw [RDat.override_after_of_eq_none (rd := (dats m c).toR) (ovr := ovr m c) (w := 5) rfl]
  show (dats m c).Leaves 5 t _
  unfold b5; rw [pt_val, ← after0_5]
  rfl

theorem leaves_6 (c : Dev nD) (t : Fin cfg0.N) (Y : (cfg0.win 6).block.Idx → Elt F (cfg0.win 6).elt) : (rd m c).after 6 t Y (b6 m c t.val) := by
  unfold rd
  rw [RDat.override_after_of_eq_none (rd := (dats m c).toR) (ovr := ovr m c) (w := 6) rfl]
  show (dats m c).Leaves 6 t _
  unfold b6; rw [pt_val, ← after0_6]
  rfl

theorem leaves_7 (c : Dev nD) (t : Fin cfg0.N) (Y : (cfg0.win 7).block.Idx → Elt F (cfg0.win 7).elt) : (rd m c).after 7 t Y (b7 m c t.val) := by
  unfold rd
  rw [RDat.override_after_of_eq_none (rd := (dats m c).toR) (ovr := ovr m c) (w := 7) rfl]
  show (dats m c).Leaves 7 t _
  unfold b7; rw [pt_val, ← after0_7]
  rfl

theorem leaves_8 (c : Dev nD) (t : Fin cfg0.N) (Y : (cfg0.win 8).block.Idx → Elt F (cfg0.win 8).elt) : (rd m c).after 8 t Y (b8 m c t.val) := by
  unfold rd
  rw [RDat.override_after_of_eq_none (rd := (dats m c).toR) (ovr := ovr m c) (w := 8) rfl]
  show (dats m c).Leaves 8 t _
  unfold b8; rw [pt_val, ← after0_8]
  rfl

theorem leaves_9 (c : Dev nD) (t : Fin cfg0.N) (Y : (cfg0.win 9).block.Idx → Elt F (cfg0.win 9).elt) : (rd m c).after 9 t Y (b9 m c t.val) := by
  unfold rd
  rw [RDat.override_after_of_eq_none (rd := (dats m c).toR) (ovr := ovr m c) (w := 9) rfl]
  show (dats m c).Leaves 9 t _
  unfold b9; rw [pt_val, ← after0_9]
  rfl

theorem leaves_10 (c : Dev nD) (t : Fin cfg0.N) (Y : (cfg0.win 10).block.Idx → Elt F (cfg0.win 10).elt) : (rd m c).after 10 t Y (b10 m c t.val) := by
  unfold rd
  rw [RDat.override_after_of_eq_none (rd := (dats m c).toR) (ovr := ovr m c) (w := 10) rfl]
  show (dats m c).Leaves 10 t _
  unfold b10; rw [pt_val, ← after0_10]
  rfl

theorem leaves_11 (c : Dev nD) (t : Fin cfg0.N) (Y : (cfg0.win 11).block.Idx → Elt F (cfg0.win 11).elt) : (rd m c).after 11 t Y (b11 m c t.val) := by
  unfold rd
  rw [RDat.override_after_of_eq_none (rd := (dats m c).toR) (ovr := ovr m c) (w := 11) rfl]
  show (dats m c).Leaves 11 t _
  unfold b11; rw [pt_val, ← after0_11]
  rfl

theorem after_12 (c : Dev nD) : (rd m c).after 12 = R12 m c :=
  RDat.override_after_of_eq_some (rd := (dats m c).toR) (ovr := ovr m c) (w := 12) rfl

theorem after_13 (c : Dev nD) : (rd m c).after 13 = R13 m c :=
  RDat.override_after_of_eq_some (rd := (dats m c).toR) (ovr := ovr m c) (w := 13) rfl

/-- What the state's buffer is found at: nothing is known where a batch begins, else the rows of the points before. -/
theorem finds_13 (c : Dev nD) (t : Fin cfg0.N) (X : Vec F S1x11x2x512 .f32) (h : (rd m c).Finds 13 t X) : t.val % 352 = 0 ∨ KS m c t.val X := by
  by_cases h0 : t.val = 0
  · exact .inl (by omega)
  rcases ((rd m c).finds_of_pos (w := 13) (t := t) rfl h0 X).mp h with hf | ⟨Y, -, hL⟩
  · have := (flush0_13 _).mp hf
    exact .inl (by dsimp only at this; omega)
  · rw [after_13] at hL
    have hL' : KS m c (t.val - 1 + 1) X := hL
    rw [show t.val - 1 + 1 = t.val by omega] at hL'
    exact .inr hL'

theorem defs_row (t : Fin cfg0.N) : defs₀ (F := F) .tc cfg0.body (cfg0.bodyArgs t (cfg0.slots t)) = bodyAt0 t := by
  unfold defs₀; rw [Defs.onTc_tc]

/-- The body obligation, from the step at any point. -/
theorem body_obligation (c : Dev nD) : (rd m c).BodyObligation (defs₀ (F := F)) Variants.none () Set.univ := fun t Y hY => by
  have e0 := finds_0 m c t (Y 0) (hY 0)
  have e1 := finds_1 m c t (Y 1) (hY 1)
  have e2 := finds_2 m c t (Y 2) (hY 2)
  have e3 := finds_3 m c t (Y 3) (hY 3)
  have e4 := finds_4 m c t (Y 4) (hY 4)
  have e5 := finds_5 m c t (Y 5) (hY 5)
  have e6 := finds_6 m c t (Y 6) (hY 6)
  have e7 := finds_7 m c t (Y 7) (hY 7)
  have e8 := finds_8 m c t (Y 8) (hY 8)
  have e9 := finds_9 m c t (Y 9) (hY 9)
  have e10 := finds_10 m c t (Y 10) (hY 10)
  have e11 := finds_11 m c t (Y 11) (hY 11)
  have e13 := finds_13 m c t (Y 13) (hY 13)
  rw [bigSep_W0, bigSep_W0, defs_row]
  refine triple_restated (step_any m c ((rd m c).owesAt () t.castSucc) t (Y 12) (Y 13) e13) rfl ?_ fun _ => ?_
  · rw [e0, e1, e2, e3, e4, e5, e6, e7, e8, e9, e10, e11]
    unfold stepPre
    exact .rfl
  · rw [show (rd m c).Φ t.succ = PhiS m c (t.val + 1) from rfl, show (rd m c).owesAt () t.succ = (rd m c).owesAt () t.castSucc from rfl]
    unfold stepPost
    iintro ⟨HΦ, Ho, H0, H1, H2, H3, H4, H5, H6, H7, H8, H9, H10, H11, ⟨%d12, %h12, H12⟩, ⟨%d13, %h13, H13⟩⟩
    isplitl [HΦ]; · iexact HΦ
    isplitl [Ho]; · iexact Ho
    isplitl [H0]
    · iexists _; isplitr; swap; · iexact H0
      ipureintro
      exact leaves_0 m c t _
    isplitl [H1]
    · iexists _; isplitr; swap; · iexact H1
      ipureintro
      exact leaves_1 m c t _
    isplitl [H2]
    · iexists _; isplitr; swap; · iexact H2
      ipureintro
      exact leaves_2 m c t _
    isplitl [H3]
    · iexists _; isplitr; swap; · iexact H3
      ipureintro
      exact leaves_3 m c t _
    isplitl [H4]
    · iexists _; isplitr; swap; · iexact H4
      ipureintro
      exact leaves_4 m c t _
    isplitl [H5]
    · iexists _; isplitr; swap; · iexact H5
      ipureintro
      exact leaves_5 m c t _
    isplitl [H6]
    · iexists _; isplitr; swap; · iexact H6
      ipureintro
      exact leaves_6 m c t _
    isplitl [H7]
    · iexists _; isplitr; swap; · iexact H7
      ipureintro
      exact leaves_7 m c t _
    isplitl [H8]
    · iexists _; isplitr; swap; · iexact H8
      ipureintro
      exact leaves_8 m c t _
    isplitl [H9]
    · iexists _; isplitr; swap; · iexact H9
      ipureintro
      exact leaves_9 m c t _
    isplitl [H10]
    · iexists _; isplitr; swap; · iexact H10
      ipureintro
      exact leaves_10 m c t _
    isplitl [H11]
    · iexists _; isplitr; swap; · iexact H11
      ipureintro
      exact leaves_11 m c t _
    isplitl [H12]
    · iexists _; isplitr; swap; · iexact H12
      ipureintro
      rw [after_12]; exact h12
    iexists _; isplitr; swap; · iexact H13
    ipureintro
    rw [after_13]; exact h13

/-! ## The run and the frame -/

/-- The scratch buffers and the generator register, one by one. -/
theorem PhiA0_eq (c : Dev nD) : (Pipeline.ΦA spec0 c : sProp 𝕄) = iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]
  simp only [scM0_0, scM0_1, scM0_2, scM0_3, scM0_4, scM0_5, owns_whole]
  try rfl

theorem hin (c : Dev nD) : Pipeline.ΦA spec0 c ⊢ (rd m c).Φ 0 := by
  show _ ⊢ PhiS m c 0
  rw [PhiA0_eq]; unfold PhiS
  iintro ⟨⟨⟨%d0, S0⟩, ⟨%d1, S1⟩, S2, ⟨%d3, S3⟩, S4, S5⟩, Hr⟩
  isplitl [S0]
  · iexists _; isplitr; swap; · iexact S0
    ipureintro
    exact fun h => absurd rfl h
  isplitl [S1]
  · iexists _; isplitr; swap; · iexact S1
    ipureintro
    exact fun h => absurd rfl h
  isplitl [S2]; · iexact S2
  isplitl [S3]
  · iexists _; isplitr; swap; · iexact S3
    ipureintro
    exact fun k hk => absurd hk (Nat.not_lt_zero k)
  isplitl [S4]; · iexact S4
  isplitl [S5]; · iexact S5
  iexact Hr

theorem hout (c : Dev nD) : (rd m c).Φ (Fin.last cfg0.N) ⊢ Pipeline.ΦA spec0 c := by
  show PhiS m c cfg0.N ⊢ _
  rw [PhiA0_eq]; unfold PhiS
  iintro ⟨⟨%d0, -, S0⟩, ⟨%d1, -, S1⟩, S2, ⟨%d3, -, S3⟩, S4, S5, Hr⟩
  isplitl [S0 S1 S2 S3 S4 S5]
  · isplitl [S0]; · iexists _; iexact S0
    isplitl [S1]; · iexists _; iexact S1
    isplitl [S2]; · iexact S2
    isplitl [S3]; · iexists _; iexact S3
    isplitl [S4]; · iexact S4
    iexact S5
  iexact Hr

set_option backward.isDefEq.respectTransparency.types false in
/-- THE RUN, and every semaphore counter at zero at its end. -/
theorem run_quiescent : θ_run defs (onTc (τ := τ) (main (F := F))) (s₀ m ρ)
    (fun r => (RDat.FramePost cfg0 (rd m) (V m)) r ∧ r.2.sem = fun _ => 0) :=
  RDat.θ_run_frame_track_shared (Q' := _) cfgs (0 : Fin 1) launch₀0 defs₀ Variants.none (rd m) m ρ main
    (hbody := body_obligation m) (hq := fun _ _ _ => rfl) (howed := fun _ _ => rfl) (V := V m) (hmain := hmain m Variants.none)
    (hA := A_eq m) (hin := hin m) (hout := hout m)

end Cert.Kernel3Ideal.Run

end
-- ==== Proof.Ffn.Run.lean ====
/-
  The feed-forward call's frame: what a run's end says of the arguments.
-/
module

public import proofs.«01_k».proof.Proof.Ffn.Frame

@[expose] public section

set_option maxRecDepth 16384

noncomputable section

namespace Cert.Kernel3Ideal.Run

open Cert.Kernel3Ideal Cert.Kernel3Ideal.Gen
open Idealize.ShloMosaic Idealize.ShloMosaic.TcCoe
open Idealize.SL.Sem
open Idealize.ShloMosaic.Pipeline (Dat RDat Cfg Window)

variable {F : FTy → Type} [FloatOps F]
variable (m : (ℓ : Loc nD τ sig) → Buf (Elt F) ℓ) (ρ : Dev nD → PrngReg)

/-- The run's post with the arguments read off it. -/
theorem run_main : θ_run defs (onTc (τ := τ) (main (F := F))) ⟨m, fun _ => 0, ρ⟩ (fun r => RDat.FramePost cfg0 (rd m) (V m) r
    ∧ (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))
    ∧ r.2.sem = fun _ => 0) :=
  (θ_run defs _ _).mono (fun r h => ⟨h.1, fun c => ⟨
      (Eq.mp (congrFun ((rd m c).ArrAt_in 0 rfl cfg0.N) _) ((h.1 c).1 0)).trans ((A_eq m c 0).trans (V_main_arg0 m c)),
      (Eq.mp (congrFun ((rd m c).ArrAt_in 2 rfl cfg0.N) _) ((h.1 c).1 2)).trans ((A_eq m c 2).trans (V_main_arg1 m c)),
      (Eq.mp (congrFun ((rd m c).ArrAt_in 1 rfl cfg0.N) _) ((h.1 c).1 1)).trans ((A_eq m c 1).trans (V_main_arg2 m c)),
      (Eq.mp (congrFun ((rd m c).ArrAt_in 3 rfl cfg0.N) _) ((h.1 c).1 3)).trans ((A_eq m c 3).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (Eq.mp (congrFun ((rd m c).ArrAt_in 9 rfl cfg0.N) _) ((h.1 c).1 9)).trans ((A_eq m c 9).trans (V_main_arg6 m c)),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩)
    (run_quiescent m ρ)

/-- THE FRAME: the arguments end unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => h.2) (run_main m ρ)

end Cert.Kernel3Ideal.Run

end
-- ==== Proof.Ffn.Elt.lean ====
/-
  The feed-forward call's pieces at an element, over the reals: the normalised rows, the columns with their two
  preceding rows, the gated rows, the running sum, the output block.
-/
module

public import proofs.«01_k».proof.Proof.Ffn.Fun
public import proofs.«01_k».proof.Proof.Mrg.Body
public import Idealize.ShloMosaic.Lib.Pointwise

@[expose] public section

set_option maxRecDepth 16384

noncomputable section

namespace Cert.Ffn

open Idealize.ShloMosaic

/-- The convolution of three neighbouring rows at one column, with its bias. -/
def convAt (cb w0 w1 w2 e0 e1 e2 : EReal) : EReal := cb + w0 * e0 + w1 * e1 + w2 * e2

/-- The convolved value through its own logistic gate, times the second half's value. -/
def gluAt (v u : EReal) : EReal := v * Ideal.logistic v * u

/-- One row of the activations with its gated sum added, scaled by the inverse of its root mean square and by `gf`. -/
def outAt (x gt a gf : Fin 2048 → EReal) (d : Fin 2048) : EReal :=
  (x d + gt d * a d) * Ideal.rsqrt (Ideal.div (∑ k, (x k + gt k * a k) * (x k + gt k * a k)) (Ideal.ofBits FTy.f32 1157627904#32) + Ideal.ofBits FTy.f32 897988541#32) * gf d

end Cert.Ffn

namespace Cert.Kernel3Ideal.Run

open Cert.Kernel3Ideal Cert.Kernel3Ideal.Gen Cert.Ffn
open Cert.Mrg (normAt)
open Idealize.ShloMosaic Idealize.ShloMosaic.TcCoe

/-! ## The normalised rows -/

/-- The normalisation of sixteen rows at an element. -/
theorem pay56_apply (x : Vec Ideal S1x16x2048 .f32) (g : Vec Ideal S1x2048 .f32) (sc sh : Vec Ideal S1x1x2048 .f32) (r : Fin 16) (d : Fin 2048) :
    k0_pay56 (k0_pay3 g) (k0_pay4 sc) (k0_pay5 sh) x (ix2 r d) = normAt (fun k => x (ix3 0 r k)) (fun k => g (ix2 0 k)) (fun k => sc (ix3 0 0 k)) (fun k => sh (ix3 0 0 k)) d := by
  pointwise [k0_pay56, k0_pay3, k0_pay4, k0_pay5]
  rfl

/-- One store of sixteen normalised rows at the element it puts at row `r`, column `d` of the block. -/
theorem hOf_piece (x : Vec Ideal S1x512x2048 .f32) (g : Vec Ideal S1x2048 .f32) (sc sh : Vec Ideal S1x1x2048 .f32) (r : Fin 512) (d : Fin 2048)
    (o : ℕ) (inb : ∀ a, (![0, o, 0] : Fin 3 → ℕ) a + (![1, 16, 2048] : Fin 3 → ℕ) a ≤ S1x512x2048.size a) (z : S16x2048.Idx) (h0 : r.val = o + (z 0).val) (h1 : d.val = (z 1).val) :
    k0_pay56 (k0_pay3 g) (k0_pay4 sc) (k0_pay5 sh) (View.ld x (Rect.unit (s := S1x512x2048) ![0, o, 0] ![1, 16, 2048] inb)) z
      = normAt (fun k => x (ix3 0 r k)) (fun k => g (ix2 0 k)) (fun k => sc (ix3 0 0 k)) (fun k => sh (ix3 0 0 k)) d := by
  have hz : z = ix2 (z 0) (z 1) := by funext a; match a with | 0 => rfl | 1 => rfl
  refine (congrArg (k0_pay56 _ _ _ _) hz).trans ((pay56_apply _ g sc sh (z 0) (z 1)).trans ?_)
  have e1 : z 1 = d := Fin.ext h1.symm
  have e2 : (fun k => View.ld x (Rect.unit (s := S1x512x2048) ![0, o, 0] ![1, 16, 2048] inb) (ix3 0 (z 0) k)) = fun k => x (ix3 0 r k) := by
    funext k
    refine congrArg x (funext fun a => Fin.ext ?_)
    match a with
    | 0 => rfl
    | 1 => show o + 1 * (z 0).val = r.val; omega
    | 2 => show 0 + 1 * k.val = k.val; omega
  rw [e2]
  exact congrArg _ e1

/-- The normalised rows at an element. -/
theorem hOf_apply (x : Vec Ideal S1x512x2048 .f32) (g : Vec Ideal S1x2048 .f32) (sc sh : Vec Ideal S1x1x2048 .f32) (r : Fin 512) (d : Fin 2048) :
    hOf x g sc sh (ix2 r d) = normAt (fun k => x (ix3 0 r k)) (fun k => g (ix2 0 k)) (fun k => sc (ix3 0 0 k)) (fun k => sh (ix3 0 0 k)) d := by
  unfold hOf
  canon_tiles z h
  all_goals first
    | exact hOf_piece x g sc sh r d _ _ z h0 h1
    | exact hOf_piece x g sc sh r d 0 _ z (by rw [Nat.zero_add]; exact h0) h1

/-! ## The output block -/

/-- Sixteen rows of the output at an element. -/
theorem pay112_apply (gf : Vec Ideal S1x2048 .f32) (gt : Vec Ideal S1x1x2048 .f32) (x : Vec Ideal S1x16x2048 .f32) (a : Vec Ideal S16x2048 .f32) (r : Fin 16) (d : Fin 2048) :
    k0_pay112 (k0_pay61 gf) (k0_pay62 gt) x a (ix3 0 r d) = outAt (fun k => x (ix3 0 r k)) (fun k => gt (ix3 0 0 k)) (fun k => a (ix2 r k)) (fun k => gf (ix2 0 k)) d := by
  pointwise [k0_pay112, k0_pay61, k0_pay62]
  rfl

/-- One store of sixteen rows of the output at the element it puts at row `r`, column `d` of the block. -/
theorem x2Of_piece (x : Vec Ideal S1x512x2048 .f32) (gt : Vec Ideal S1x1x2048 .f32) (gf : Vec Ideal S1x2048 .f32) (a : Vec Ideal S512x2048 .f32) (r : Fin 512) (d : Fin 2048)
    (o : ℕ) (inb : ∀ b, (![0, o, 0] : Fin 3 → ℕ) b + (![1, 16, 2048] : Fin 3 → ℕ) b ≤ S1x512x2048.size b) (inb' : ∀ b, (![o, 0] : Fin 2 → ℕ) b + (![16, 2048] : Fin 2 → ℕ) b ≤ S512x2048.size b)
    (z : S1x16x2048.Idx) (h1 : r.val = o + (z 1).val) (h2 : d.val = (z 2).val) :
    k0_pay112 (k0_pay61 gf) (k0_pay62 gt) (View.ld x (Rect.unit (s := S1x512x2048) ![0, o, 0] ![1, 16, 2048] inb)) (View.ld a (Rect.unit (s := S512x2048) ![o, 0] ![16, 2048] inb')) z
      = outAt (fun k => x (ix3 0 r k)) (fun k => gt (ix3 0 0 k)) (fun k => a (ix2 r k)) (fun k => gf (ix2 0 k)) d := by
  have hz0 : (z 0).val = 0 := by have : (z 0).val < 1 := (z 0).isLt; omega
  have hz : z = ix3 0 (z 1) (z 2) := by funext a; match a with | 0 => exact Fin.ext hz0 | 1 => rfl | 2 => rfl
  refine (congrArg (k0_pay112 _ _ _ _) hz).trans ((pay112_apply gf gt _ _ (z 1) (z 2)).trans ?_)
  have e1 : z 2 = d := Fin.ext h2.symm
  have e2 : (fun k => View.ld x (Rect.unit (s := S1x512x2048) ![0, o, 0] ![1, 16, 2048] inb) (ix3 0 (z 1) k)) = fun k => x (ix3 0 r k) := by
    funext k
    refine congrArg x (funext fun a => Fin.ext ?_)
    match a with
    | 0 => rfl
    | 1 => show o + 1 * (z 1).val = r.val; omega
    | 2 => show 0 + 1 * k.val = k.val; omega
  have e3 : (fun k => View.ld a (Rect.unit (s := S512x2048) ![o, 0] ![16, 2048] inb') (ix2 (z 1) k)) = fun k => a (ix2 r k) := by
    funext k
    refine congrArg a (funext fun b => Fin.ext ?_)
    match b with
    | 0 => show o + 1 * (z 1).val = r.val; omega
    | 1 => show 0 + 1 * k.val = k.val; omega
  rw [e2, e3]
  exact congrArg _ e1

/-- The output block at an element. -/
theorem x2Of_apply (x : Vec Ideal S1x512x2048 .f32) (gt : Vec Ideal S1x1x2048 .f32) (gf : Vec Ideal S1x2048 .f32) (a : Vec Ideal S512x2048 .f32) (r : Fin 512) (d : Fin 2048) :
    x2Of x gt gf a (ix3 0 r d) = outAt (fun k => x (ix3 0 r k)) (fun k => gt (ix3 0 0 k)) (fun k => a (ix2 r k)) (fun k => gf (ix2 0 k)) d := by
  unfold x2Of
  canon_tiles z h
  all_goals first
    | exact x2Of_piece x gt gf a r d _ _ _ z h1 h2
    | exact x2Of_piece x gt gf a r d 0 _ _ z (by rw [Nat.zero_add]; exact h1) h2

/-! ## The gated rows -/

/-- Thirty-two gated rows at an element. -/
theorem pay160_apply (cw : Vec Ideal S3x512 .f32) (cb : Vec Ideal S1x512 .f32) (e0 e1 e2 u : Vec Ideal S1x32x512 .f32) (r : Fin 32) (d : Fin 512) :
    k0_pay160 cw (k0_pay125 cb) e0 e1 e2 u (ix2 r d)
      = gluAt (convAt (cb (ix2 0 d)) (cw (ix2 0 d)) (cw (ix2 1 d)) (cw (ix2 2 d)) (e0 (ix3 0 r d)) (e1 (ix3 0 r d)) (e2 (ix3 0 r d))) (u (ix3 0 r d)) := by
  pointwise [k0_pay160, k0_pay125]
  rfl

/-- One store of thirty-two gated rows at the element it puts at row `r`, column `d` of the block. -/
theorem actOf_piece (cw : Vec Ideal S3x512 .f32) (cb : Vec Ideal S1x512 .f32) (E : Vec Ideal S1x520x512 .f32) (U : Vec Ideal S1x512x512 .f32) (r d : Fin 512)
    (o o0 o1 o2 : ℕ) (inb0 : ∀ b, (![0, o0, 0] : Fin 3 → ℕ) b + (![1, 32, 512] : Fin 3 → ℕ) b ≤ S1x520x512.size b)
    (inb1 : ∀ b, (![0, o1, 0] : Fin 3 → ℕ) b + (![1, 32, 512] : Fin 3 → ℕ) b ≤ S1x520x512.size b) (inb2 : ∀ b, (![0, o2, 0] : Fin 3 → ℕ) b + (![1, 32, 512] : Fin 3 → ℕ) b ≤ S1x520x512.size b)
    (inb : ∀ b, (![0, o, 0] : Fin 3 → ℕ) b + (![1, 32, 512] : Fin 3 → ℕ) b ≤ S1x512x512.size b)
    (z : S32x512.Idx) (h0 : r.val = o + (z 0).val) (h1 : d.val = (z 1).val) (E0 : o0 = o + 6) (E1 : o1 = o + 7) (E2 : o2 = o + 8) :
    k0_pay160 cw (k0_pay125 cb) (View.ld E (Rect.unit (s := S1x520x512) ![0, o0, 0] ![1, 32, 512] inb0)) (View.ld E (Rect.unit (s := S1x520x512) ![0, o1, 0] ![1, 32, 512] inb1))
        (View.ld E (Rect.unit (s := S1x520x512) ![0, o2, 0] ![1, 32, 512] inb2)) (View.ld U (Rect.unit (s := S1x512x512) ![0, o, 0] ![1, 32, 512] inb)) z
      = gluAt (convAt (cb (ix2 0 d)) (cw (ix2 0 d)) (cw (ix2 1 d)) (cw (ix2 2 d)) (E (ix3 0 ⟨r.val + 6, by omega⟩ d)) (E (ix3 0 ⟨r.val + 7, by omega⟩ d)) (E (ix3 0 ⟨r.val + 8, by omega⟩ d))) (U (ix3 0 r d)) := by
  have hz : z = ix2 (z 0) (z 1) := by funext a; match a with | 0 => rfl | 1 => rfl
  refine (congrArg (k0_pay160 _ _ _ _ _ _) hz).trans ((pay160_apply cw cb _ _ _ _ (z 0) (z 1)).trans ?_)
  have e1 : z 1 = d := Fin.ext h1.symm
  have key : ∀ (oo j : ℕ) (hj : r.val + j < 520) (ib : ∀ b, (![0, oo, 0] : Fin 3 → ℕ) b + (![1, 32, 512] : Fin 3 → ℕ) b ≤ S1x520x512.size b), oo = o + j →
      View.ld E (Rect.unit (s := S1x520x512) ![0, oo, 0] ![1, 32, 512] ib) (ix3 0 (z 0) (z 1)) = E (ix3 0 ⟨r.val + j, hj⟩ d) := by
    intro oo j hj ib hoo
    refine congrArg E (funext fun a => Fin.ext ?_)
    match a with
    | 0 => rfl
    | 1 => show oo + 1 * (z 0).val = r.val + j; omega
    | 2 => show 0 + 1 * (z 1).val = d.val; omega
  have e5 : View.ld U (Rect.unit (s := S1x512x512) ![0, o, 0] ![1, 32, 512] inb) (ix3 0 (z 0) (z 1)) = U (ix3 0 r d) := by
    refine congrArg U (funext fun a => Fin.ext ?_)
    match a with
    | 0 => rfl
    | 1 => show o + 1 * (z 0).val = r.val; omega
    | 2 => show 0 + 1 * (z 1).val = d.val; omega
  rw [key o0 6 (by omega) inb0 E0, key o1 7 (by omega) inb1 E1, key o2 8 (by omega) inb2 E2, e5, e1]

/-- The gated rows at an element. -/
theorem actOf_apply (cw : Vec Ideal S3x512 .f32) (cb : Vec Ideal S1x512 .f32) (E : Vec Ideal S1x520x512 .f32) (U : Vec Ideal S1x512x512 .f32) (r d : Fin 512) :
    actOf cw cb E U (ix2 r d)
      = gluAt (convAt (cb (ix2 0 d)) (cw (ix2 0 d)) (cw (ix2 1 d)) (cw (ix2 2 d)) (E (ix3 0 ⟨r.val + 6, by omega⟩ d)) (E (ix3 0 ⟨r.val + 7, by omega⟩ d)) (E (ix3 0 ⟨r.val + 8, by omega⟩ d))) (U (ix3 0 r d)) := by
  unfold actOf
  canon_tiles z h
  all_goals first
    | exact actOf_piece cw cb E U r d _ _ _ _ _ _ _ _ z h0 h1 rfl rfl rfl
    | exact actOf_piece cw cb E U r d 0 _ _ _ _ _ _ _ z (by rw [Nat.zero_add]; exact h0) h1 rfl rfl rfl

/-! ## The columns -/

theorem pay121_apply (h : Vec Ideal S512x2048 .bf16) (w : Vec Ideal S2048x512 .bf16) (r d : Fin 512) :
    k0_pay121 h w (ix3 0 r d) = ∑ k, h (ix2 r k) * w (ix2 k d) := by
  pointwise [k0_pay121]

theorem pay122_apply (h : Vec Ideal S512x2048 .bf16) (w : Vec Ideal S2048x512 .bf16) (r d : Fin 512) :
    k0_pay122 h w (ix3 0 r d) = ∑ k, h (ix2 r k) * w (ix2 k d) := by
  pointwise [k0_pay122]

/-- The last two rows of a block's columns at an element. -/
theorem tailOf_apply (h : Vec Ideal S512x2048 .bf16) (w : Vec Ideal S2048x512 .bf16) (i : Fin 2) (d : Fin 512) :
    tailOf h w (ix3 0 i d) = ∑ k, h (ix2 ⟨510 + i.val, by omega⟩ k) * w (ix2 k d) := by
  refine Eq.trans ?_ (pay121_apply h w ⟨510 + i.val, by omega⟩ d)
  unfold tailOf
  refine congrArg (k0_pay121 h w) (funext fun a => Fin.ext ?_)
  match a with
  | 0 => rfl
  | 1 => show 510 + 1 * i.val = 510 + i.val; omega
  | 2 => show 0 + 1 * d.val = d.val; omega

/-- The extended columns at a row of the block. -/
theorem extOf_block (p : Vec Ideal S1x2x512 .f32) (h : Vec Ideal S512x2048 .bf16) (w : Vec Ideal S2048x512 .bf16) (r d : Fin 512) (q : Fin 520) (hq : q.val = 8 + r.val) :
    extOf p h w (ix3 0 q d) = ∑ k, h (ix2 r k) * w (ix2 k d) := by
  refine Eq.trans ?_ (pay121_apply h w r d)
  unfold extOf
  refine Eq.trans (congrArg _ (?_ : _ = (Rect.unit (s := S1x520x512) ![0, 8, 0] ![1, 512, 512] inb_S1x520x512_S1x512x512_0_8_0).emb (ix3 0 r d))) (View.canon_cons_emb _ _ _ _)
  funext a
  refine Fin.ext ?_
  match a with
  | 0 => rfl
  | 1 => show q.val = 8 + 1 * r.val; omega
  | 2 => show d.val = 0 + 1 * d.val; omega

/-- Stored pieces read outside the last. -/
theorem canon_miss {S : Shape} {e : EltTy} (r : Rect S) (w : r.shape.Idx → Elt Ideal e) (L : List (View.Piece (Elt Ideal) S e)) {y : S.Idx} (h : y ∉ r.set) :
    View.canon (⟨r, w⟩ :: L) y = View.canon L y :=
  View.canon_cons_of_not_mem ⟨r, w⟩ L h

/-- The extended columns at one of the two rows before the block. -/
theorem extOf_prev (p : Vec Ideal S1x2x512 .f32) (h : Vec Ideal S512x2048 .bf16) (w : Vec Ideal S2048x512 .bf16) (i : Fin 2) (d : Fin 512) (q : Fin 520) (hq : q.val = 6 + i.val) :
    extOf p h w (ix3 0 q d) = p (ix3 0 i d) := by
  unfold extOf
  have hn : (ix3 0 q d : S1x520x512.Idx) ∉ (Rect.unit (s := S1x520x512) ![0, 8, 0] ![1, 512, 512] inb_S1x520x512_S1x512x512_0_8_0).set := by
    intro hm
    have h1 := (Rect.mem_set_unit.mp hm) (1 : Fin 3)
    have h2 : 8 ≤ q.val := h1.1
    have h3 : i.val < 2 := i.isLt
    omega
  refine (canon_miss _ _ _ hn).trans ?_
  refine Eq.trans (congrArg _ (?_ : _ = (Rect.unit (s := S1x520x512) ![0, 6, 0] ![1, 2, 512] inb_S1x520x512_S1x2x512_0_6_0).emb (ix3 0 i d))) (View.canon_cons_emb _ _ _ _)
  funext a
  refine Fin.ext ?_
  match a with
  | 0 => rfl
  | 1 => show q.val = 6 + 1 * i.val; omega
  | 2 => show d.val = 0 + 1 * d.val; omega

/-! ## The running sum -/

/-- The running sum after one block of columns, at an element. -/
theorem accOf_apply (a : Vec Ideal S512x2048 .f32) (cw : Vec Ideal S3x512 .f32) (cb : Vec Ideal S1x512 .f32) (p : Vec Ideal S1x2x512 .f32)
    (h : Vec Ideal S512x2048 .bf16) (wa wb : Vec Ideal S2048x512 .bf16) (wd : Vec Ideal S512x2048 .bf16) (r : Fin 512) (d : Fin 2048) :
    accOf a cw cb p h wa wb wd (ix2 r d) = a (ix2 r d) + ∑ z : Fin 512, actOf cw cb (extOf p h wa) (k0_pay122 h wb) (ix2 r z) * wd (ix2 z d) := by
  unfold accOf
  generalize actOf cw cb (extOf p h wa) (k0_pay122 h wb) = A
  pointwise [k0_pay1, k0_pay161]

theorem pay118_apply (r : Fin 512) (d : Fin 2048) : (k0_pay118 : FVec Ideal S512x2048 .f32) (ix2 r d) = 0 := by
  pointwise [k0_pay118]

theorem pay119_apply (p : Vec Ideal S1x2x512 .f32) (i : Fin 2) (d : Fin 512) : k0_pay119 p (ix3 0 i d) = p (ix3 0 i d) := by
  pointwise [k0_pay119]

theorem pay120_apply (p : Vec Ideal S1x2x512 .f32) (i : Fin 2) (d : Fin 512) : k0_pay120 (k0_pay123 p) (ix3 0 i d) = p (ix3 0 i d) := by
  pointwise [k0_pay120, k0_pay123]

theorem pay124_apply (p : Vec Ideal S1x2x512 .f32) (i : Fin 2) (d : Fin 512) : k0_pay124 p (ix4 0 0 i d) = p (ix3 0 i d) := by
  pointwise [k0_pay124]

end Cert.Kernel3Ideal.Run

end
-- ==== Proof.Ffn.Vals.lean ====
/-
  The feed-forward call over the reals: the layer's functions of the arguments, each grid point's blocks read from the
  arguments, and the points' values as those functions.
-/
module

public import proofs.«01_k».proof.Proof.Ffn.Pts
public import proofs.«01_k».proof.Proof.Ffn.Elt

@[expose] public section

set_option maxRecDepth 16384

noncomputable section

namespace Cert.Ffn

open Cert.Kernel3Ideal
open Cert.Mrg (normAt)
open Idealize.ShloMosaic

variable (x : S2x16384x2048.Idx → EReal) (sh sc gt : S2x1x2048.Idx → EReal) (g : S2048.Idx → EReal) (wu : S2048x11264.Idx → EReal)
  (cw : S3x5632.Idx → EReal) (cb : S5632.Idx → EReal) (wd : S5632x2048.Idx → EReal) (gf : S2048.Idx → EReal)

/-- The activations normalised and modulated. -/
def hG (b : Fin 2) (p : Fin 16384) (d : Fin 2048) : EReal :=
  normAt (fun k => x (ix3 b p k)) (fun k => g (ix1 k)) (fun k => sc (ix3 b 0 k)) (fun k => sh (ix3 b 0 k)) d

/-- Their product with the first weights: the columns to convolve, then the columns that they gate. -/
def uG (b : Fin 2) (p : Fin 16384) (q : Fin 11264) : EReal := ∑ k, hG x sh sc g b p k * wu (ix2 k q)

/-- The columns to convolve under two rows of zeros. -/
def extG (b : Fin 2) (i : ℕ) (q : Fin 5632) : EReal :=
  if i < 2 then 0 else uG x sh sc g wu b ⟨(i - 2) % 16384, Nat.mod_lt _ (by decide)⟩ ⟨q.val, by omega⟩

/-- The gated rows. -/
def actG (b : Fin 2) (p : Fin 16384) (q : Fin 5632) : EReal :=
  gluAt (convAt (cb (ix1 q)) (cw (ix2 0 q)) (cw (ix2 1 q)) (cw (ix2 2 q)) (extG x sh sc g wu b p.val q) (extG x sh sc g wu b (p.val + 1) q) (extG x sh sc g wu b (p.val + 2) q))
    (uG x sh sc g wu b p ⟨5632 + q.val, by omega⟩)

/-- Their product with the second weights. -/
def sumG (b : Fin 2) (p : Fin 16384) (d : Fin 2048) : EReal := ∑ q, actG x sh sc g wu cw cb b p q * wd (ix2 q d)

/-- The first result: the activations with the gated sum added, normalised. -/
def outArr : S2x16384x2048.Idx → EReal := fun i =>
  outAt (fun k => x (ix3 (i 0) (i 1) k)) (fun k => gt (ix3 (i 0) 0 k)) (fun k => sumG x sh sc g wu cw cb wd (i 0) (i 1) k) (fun k => gf (ix1 k)) (i 2)

/-- The second result: the last two rows of the columns, 512 columns at a time. -/
def stArr : S2x11x2x512.Idx → EReal := fun i =>
  uG x sh sc g wu (i 0) ⟨16382 + (i 2).val, by have : (i 2).val < 2 := (i 2).isLt; omega⟩
    ⟨(i 1).val * 512 + (i 3).val, by have : (i 1).val < 11 := (i 1).isLt; have : (i 3).val < 512 := (i 3).isLt; omega⟩

end Cert.Ffn

namespace Cert.Kernel3Ideal.Run

open Cert.Kernel3Ideal Cert.Kernel3Ideal.Gen Cert.Ffn
open Cert.Mrg (normAt)
open Idealize.ShloMosaic Idealize.ShloMosaic.TcCoe
open Idealize.ShloMosaic.Pipeline (Dat Cfg Window)

variable (m : (ℓ : Loc nD τ sig) → Buf (Elt Ideal) ℓ) (c : Dev nD)

/-! ## The arguments, and the blocks read from them -/

/-- A point's batch row. -/
def bt (n : ℕ) : Fin 2 := ⟨n / 352 % 2, Nat.mod_lt _ (by decide)⟩
/-- A row of a point's block, in the array. -/
def rw' (n : ℕ) (r : Fin 512) : Fin 16384 := ⟨n / 11 % 32 * 512 + r.val, by omega⟩
/-- A column of a point's block, in the array. -/
def cl (n : ℕ) (q : Fin 512) : Fin 5632 := ⟨n % 11 * 512 + q.val, by omega⟩

theorem pt_mod (n : ℕ) : (pt n).val = n % 704 := by
  have h : cfg0.N = 704 := by decide
  unfold pt
  show n % cfg0.N = n % 704
  rw [h]

theorem index_0 : ∀ t : Fin cfg0.N, win0_0.index t 0 = t.val / 352 ∧ win0_0.index t 1 = t.val / 11 % 32 ∧ win0_0.index t 2 = 0 :=
  (by decide +kernel : ∀ t : Fin grid0.N, win0_0.index t 0 = t.val / 352 ∧ win0_0.index t 1 = t.val / 11 % 32 ∧ win0_0.index t 2 = 0)
theorem index_1 : ∀ t : Fin cfg0.N, win0_1.index t 0 = t.val / 352 ∧ win0_1.index t 1 = 0 ∧ win0_1.index t 2 = 0 :=
  (by decide +kernel : ∀ t : Fin grid0.N, win0_1.index t 0 = t.val / 352 ∧ win0_1.index t 1 = 0 ∧ win0_1.index t 2 = 0)
theorem index_2 : ∀ t : Fin cfg0.N, win0_2.index t 0 = t.val / 352 ∧ win0_2.index t 1 = 0 ∧ win0_2.index t 2 = 0 :=
  (by decide +kernel : ∀ t : Fin grid0.N, win0_2.index t 0 = t.val / 352 ∧ win0_2.index t 1 = 0 ∧ win0_2.index t 2 = 0)
theorem index_3 : ∀ t : Fin cfg0.N, win0_3.index t 0 = t.val / 352 ∧ win0_3.index t 1 = 0 ∧ win0_3.index t 2 = 0 :=
  (by decide +kernel : ∀ t : Fin grid0.N, win0_3.index t 0 = t.val / 352 ∧ win0_3.index t 1 = 0 ∧ win0_3.index t 2 = 0)
theorem index_4 : ∀ t : Fin cfg0.N, win0_4.index t 0 = 0 ∧ win0_4.index t 1 = 0 :=
  (by decide +kernel : ∀ t : Fin grid0.N, win0_4.index t 0 = 0 ∧ win0_4.index t 1 = 0)
theorem index_5 : ∀ t : Fin cfg0.N, win0_5.index t 0 = 0 ∧ win0_5.index t 1 = 0 :=
  (by decide +kernel : ∀ t : Fin grid0.N, win0_5.index t 0 = 0 ∧ win0_5.index t 1 = 0)
theorem index_6 : ∀ t : Fin cfg0.N, win0_6.index t 0 = t.val / 352 ∧ win0_6.index t 1 = 0 ∧ win0_6.index t 2 = t.val % 11 :=
  (by decide +kernel : ∀ t : Fin grid0.N, win0_6.index t 0 = t.val / 352 ∧ win0_6.index t 1 = 0 ∧ win0_6.index t 2 = t.val % 11)
theorem index_7 : ∀ t : Fin cfg0.N, win0_7.index t 0 = 0 ∧ win0_7.index t 1 = t.val % 11 :=
  (by decide +kernel : ∀ t : Fin grid0.N, win0_7.index t 0 = 0 ∧ win0_7.index t 1 = t.val % 11)
theorem index_8 : ∀ t : Fin cfg0.N, win0_8.index t 0 = 0 ∧ win0_8.index t 1 = 11 + t.val % 11 :=
  (by decide +kernel : ∀ t : Fin grid0.N, win0_8.index t 0 = 0 ∧ win0_8.index t 1 = 11 + t.val % 11)
theorem index_9 : ∀ t : Fin cfg0.N, win0_9.index t 0 = 0 ∧ win0_9.index t 1 = t.val % 11 :=
  (by decide +kernel : ∀ t : Fin grid0.N, win0_9.index t 0 = 0 ∧ win0_9.index t 1 = t.val % 11)
theorem index_10 : ∀ t : Fin cfg0.N, win0_10.index t 0 = 0 ∧ win0_10.index t 1 = t.val % 11 :=
  (by decide +kernel : ∀ t : Fin grid0.N, win0_10.index t 0 = 0 ∧ win0_10.index t 1 = t.val % 11)
theorem index_11 : ∀ t : Fin cfg0.N, win0_11.index t 0 = t.val % 11 ∧ win0_11.index t 1 = 0 :=
  (by decide +kernel : ∀ t : Fin grid0.N, win0_11.index t 0 = t.val % 11 ∧ win0_11.index t 1 = 0)
theorem index_12 : ∀ t : Fin cfg0.N, win0_12.index t 0 = t.val / 352 ∧ win0_12.index t 1 = t.val / 11 % 32 ∧ win0_12.index t 2 = 0 :=
  (by decide +kernel : ∀ t : Fin grid0.N, win0_12.index t 0 = t.val / 352 ∧ win0_12.index t 1 = t.val / 11 % 32 ∧ win0_12.index t 2 = 0)
theorem index_13 : ∀ t : Fin cfg0.N, win0_13.index t 0 = t.val / 352 ∧ win0_13.index t 1 = 0 ∧ win0_13.index t 2 = 0 ∧ win0_13.index t 3 = 0 :=
  (by decide +kernel : ∀ t : Fin grid0.N, win0_13.index t 0 = t.val / 352 ∧ win0_13.index t 1 = 0 ∧ win0_13.index t 2 = 0 ∧ win0_13.index t 3 = 0)

/-- The host's zero rows. -/
theorem V_v0 (i : S2x2x5632.Idx) : V m c main_v0 i = (0 : EReal) := by
  have h : V m c main_v0 = broadcastInDim S2x2x5632 ![] bcast_S_S2x2x5632 (constant (F := Ideal) S_ .f32 0x00000000#32) := by
    simp only [V, hostOps0]
    after_results_simp <;> rfl
  rw [h]
  pointwise

/-- A vector as the host lays it out. -/
theorem V_v1 (i : Fin 1) (j : Fin 2048) : V m c main_v1 (ix2 i j) = m ((c : Thread nD τ).loc main_arg4) (ix1 j) := by
  have h : V m c main_v1 = broadcastInDim S1x2048 ![1] bcast_S2048_S1x2048_1 (m ((c : Thread nD τ).loc main_arg4)) := by
    simp only [V, hostOps0]
    after_results_simp <;> rfl
  rw [h]
  pointwise

/-- A vector as the host lays it out. -/
theorem V_v2 (i : Fin 1) (j : Fin 2048) : V m c main_v2 (ix2 i j) = m ((c : Thread nD τ).loc main_arg9) (ix1 j) := by
  have h : V m c main_v2 = broadcastInDim S1x2048 ![1] bcast_S2048_S1x2048_1 (m ((c : Thread nD τ).loc main_arg9)) := by
    simp only [V, hostOps0]
    after_results_simp <;> rfl
  rw [h]
  pointwise

/-- A vector as the host lays it out. -/
theorem V_v4 (i : Fin 1) (j : Fin 5632) : V m c main_v4 (ix2 i j) = m ((c : Thread nD τ).loc main_arg7) (ix1 j) := by
  have h : V m c main_v4 = broadcastInDim S1x5632 ![1] bcast_S5632_S1x5632_1 (m ((c : Thread nD τ).loc main_arg7)) := by
    simp only [V, hostOps0]
    after_results_simp <;> rfl
  rw [h]
  pointwise

/-- The host's cast of an argument is, over the reals, the argument. -/
theorem V_v3 : V m c main_v3 = (m ((c : Thread nD τ).loc main_arg5) : S2048x11264.Idx → EReal) := by
  have h : V m c main_v3 = truncf (F := Ideal) .bf16 (m ((c : Thread nD τ).loc main_arg5)) bitsLt_bf16_f32 := by
    simp only [V, hostOps0]
    after_results_simp <;> rfl
  rw [h]
  rfl

/-- The host's cast of an argument is, over the reals, the argument. -/
theorem V_v5 : V m c main_v5 = (m ((c : Thread nD τ).loc main_arg8) : S5632x2048.Idx → EReal) := by
  have h : V m c main_v5 = truncf (F := Ideal) .bf16 (m ((c : Thread nD τ).loc main_arg8)) bitsLt_bf16_f32 := by
    simp only [V, hostOps0]
    after_results_simp <;> rfl
  rw [h]
  rfl

/-! ## The blocks at an element -/

theorem b0_apply (n : ℕ) (r : Fin 512) (k : Fin 2048) : b0 m c n (ix3 0 r k) = m ((c : Thread nD τ).loc main_arg0) (ix3 (bt n) (rw' n r) k) := by
  unfold b0
  obtain ⟨e0, e1, e2⟩ := index_0 (pt n)
  blk_simp [iblk]
  rw [V_main_arg0]
  refine congrArg (m ((c : Thread nD τ).loc main_arg0)) (funext fun a => Fin.ext ?_)
  match a with
  | 0 => blk_simp; rw [e0, pt_mod]; show n % 704 / 352 + 0 = n / 352 % 2; omega
  | 1 => blk_simp; rw [e1, pt_mod]; show n % 704 / 11 % 32 * 512 + r.val = n / 11 % 32 * 512 + r.val; omega
  | 2 => blk_simp; rw [e2]; show 0 * 2048 + k.val = k.val; omega

theorem b1_apply (n : ℕ) (k : Fin 2048) : b1 m c n (ix3 0 0 k) = m ((c : Thread nD τ).loc main_arg2) (ix3 (bt n) 0 k) := by
  unfold b1
  obtain ⟨e0, e1, e2⟩ := index_1 (pt n)
  blk_simp [iblk]
  rw [V_main_arg2]
  refine congrArg (m ((c : Thread nD τ).loc main_arg2)) (funext fun a => Fin.ext ?_)
  match a with
  | 0 => blk_simp; rw [e0, pt_mod]; show n % 704 / 352 + 0 = n / 352 % 2; omega
  | 1 => blk_simp; rw [e1]; rfl
  | 2 => blk_simp; rw [e2]; show 0 * 2048 + k.val = k.val; omega

theorem b2_apply (n : ℕ) (k : Fin 2048) : b2 m c n (ix3 0 0 k) = m ((c : Thread nD τ).loc main_arg1) (ix3 (bt n) 0 k) := by
  unfold b2
  obtain ⟨e0, e1, e2⟩ := index_2 (pt n)
  blk_simp [iblk]
  rw [V_main_arg1]
  refine congrArg (m ((c : Thread nD τ).loc main_arg1)) (funext fun a => Fin.ext ?_)
  match a with
  | 0 => blk_simp; rw [e0, pt_mod]; show n % 704 / 352 + 0 = n / 352 % 2; omega
  | 1 => blk_simp; rw [e1]; rfl
  | 2 => blk_simp; rw [e2]; show 0 * 2048 + k.val = k.val; omega

theorem b3_apply (n : ℕ) (k : Fin 2048) : b3 m c n (ix3 0 0 k) = m ((c : Thread nD τ).loc main_arg3) (ix3 (bt n) 0 k) := by
  unfold b3
  obtain ⟨e0, e1, e2⟩ := index_3 (pt n)
  blk_simp [iblk]
  rw [V_main_arg3]
  refine congrArg (m ((c : Thread nD τ).loc main_arg3)) (funext fun a => Fin.ext ?_)
  match a with
  | 0 => blk_simp; rw [e0, pt_mod]; show n % 704 / 352 + 0 = n / 352 % 2; omega
  | 1 => blk_simp; rw [e1]; rfl
  | 2 => blk_simp; rw [e2]; show 0 * 2048 + k.val = k.val; omega

theorem b4_apply (n : ℕ) (k : Fin 2048) : b4 m c n (ix2 0 k) = m ((c : Thread nD τ).loc main_arg4) (ix1 k) := by
  unfold b4
  obtain ⟨e0, e1⟩ := index_4 (pt n)
  blk_simp [iblk]
  have hi : (win0_4.blk (pt n)).view.emb (ix2 (0 : Fin 1) k) = ix2 ((win0_4.blk (pt n)).view.emb (ix2 (0 : Fin 1) k) 0) ((win0_4.blk (pt n)).view.emb (ix2 (0 : Fin 1) k) 1) := by
    funext a; match a with | 0 => rfl | 1 => rfl
  refine (congrArg (V m c main_v1) hi).trans ((V_v1 m c _ _).trans ?_)
  refine congrArg (m ((c : Thread nD τ).loc main_arg4)) (funext fun a => Fin.ext ?_)
  match a with
  | 0 => blk_simp; rw [e1]; show 0 * 2048 + k.val = k.val; omega

theorem b5_apply (n : ℕ) (k : Fin 2048) : b5 m c n (ix2 0 k) = m ((c : Thread nD τ).loc main_arg9) (ix1 k) := by
  unfold b5
  obtain ⟨e0, e1⟩ := index_5 (pt n)
  blk_simp [iblk]
  have hi : (win0_5.blk (pt n)).view.emb (ix2 (0 : Fin 1) k) = ix2 ((win0_5.blk (pt n)).view.emb (ix2 (0 : Fin 1) k) 0) ((win0_5.blk (pt n)).view.emb (ix2 (0 : Fin 1) k) 1) := by
    funext a; match a with | 0 => rfl | 1 => rfl
  refine (congrArg (V m c main_v2) hi).trans ((V_v2 m c _ _).trans ?_)
  refine congrArg (m ((c : Thread nD τ).loc main_arg9)) (funext fun a => Fin.ext ?_)
  match a with
  | 0 => blk_simp; rw [e1]; show 0 * 2048 + k.val = k.val; omega

theorem b6_apply (n : ℕ) (i : Fin 2) (q : Fin 512) : b6 m c n (ix3 0 i q) = (0 : EReal) := by
  unfold b6
  blk_simp [iblk]
  exact V_v0 m c _

theorem b7_apply (n : ℕ) (k : Fin 2048) (q : Fin 512) : b7 m c n (ix2 k q) = m ((c : Thread nD τ).loc main_arg5) (ix2 k ⟨(cl n q).val, by omega⟩) := by
  unfold b7
  obtain ⟨e0, e1⟩ := index_7 (pt n)
  blk_simp [iblk]
  refine (congrFun (V_v3 m c) _).trans ?_
  refine congrArg (m ((c : Thread nD τ).loc main_arg5)) (funext fun a => Fin.ext ?_)
  match a with
  | 0 => blk_simp; rw [e0]; show 0 * 2048 + k.val = k.val; omega
  | 1 => blk_simp; rw [e1, pt_mod]; show n % 704 % 11 * 512 + q.val = (n % 11 * 512 + q.val); omega

theorem b8_apply (n : ℕ) (k : Fin 2048) (q : Fin 512) : b8 m c n (ix2 k q) = m ((c : Thread nD τ).loc main_arg5) (ix2 k ⟨5632 + (cl n q).val, by omega⟩) := by
  unfold b8
  obtain ⟨e0, e1⟩ := index_8 (pt n)
  blk_simp [iblk]
  refine (congrFun (V_v3 m c) _).trans ?_
  refine congrArg (m ((c : Thread nD τ).loc main_arg5)) (funext fun a => Fin.ext ?_)
  match a with
  | 0 => blk_simp; rw [e0]; show 0 * 2048 + k.val = k.val; omega
  | 1 => blk_simp; rw [e1, pt_mod]; show (11 + n % 704 % 11) * 512 + q.val = 5632 + (n % 11 * 512 + q.val); omega

theorem b9_apply (n : ℕ) (i : Fin 3) (q : Fin 512) : b9 m c n (ix2 i q) = m ((c : Thread nD τ).loc main_arg6) (ix2 i (cl n q)) := by
  unfold b9
  obtain ⟨e0, e1⟩ := index_9 (pt n)
  blk_simp [iblk]
  rw [V_main_arg6]
  refine congrArg (m ((c : Thread nD τ).loc main_arg6)) (funext fun a => Fin.ext ?_)
  match a with
  | 0 => blk_simp; rw [e0]; show 0 * 3 + i.val = i.val; omega
  | 1 => blk_simp; rw [e1, pt_mod]; show n % 704 % 11 * 512 + q.val = n % 11 * 512 + q.val; omega

theorem b10_apply (n : ℕ) (q : Fin 512) : b10 m c n (ix2 0 q) = m ((c : Thread nD τ).loc main_arg7) (ix1 (cl n q)) := by
  unfold b10
  obtain ⟨e0, e1⟩ := index_10 (pt n)
  blk_simp [iblk]
  have hi : (win0_10.blk (pt n)).view.emb (ix2 (0 : Fin 1) q) = ix2 ((win0_10.blk (pt n)).view.emb (ix2 (0 : Fin 1) q) 0) ((win0_10.blk (pt n)).view.emb (ix2 (0 : Fin 1) q) 1) := by
    funext a; match a with | 0 => rfl | 1 => rfl
  refine (congrArg (V m c main_v4) hi).trans ((V_v4 m c _ _).trans ?_)
  refine congrArg (m ((c : Thread nD τ).loc main_arg7)) (funext fun a => Fin.ext ?_)
  match a with
  | 0 => blk_simp; rw [e1, pt_mod]; show n % 704 % 11 * 512 + q.val = n % 11 * 512 + q.val; omega

theorem b11_apply (n : ℕ) (q : Fin 512) (d : Fin 2048) : b11 m c n (ix2 q d) = m ((c : Thread nD τ).loc main_arg8) (ix2 (cl n q) d) := by
  unfold b11
  obtain ⟨e0, e1⟩ := index_11 (pt n)
  blk_simp [iblk]
  refine (congrFun (V_v5 m c) _).trans ?_
  refine congrArg (m ((c : Thread nD τ).loc main_arg8)) (funext fun a => Fin.ext ?_)
  match a with
  | 0 => blk_simp; rw [e0, pt_mod]; show n % 704 % 11 * 512 + q.val = n % 11 * 512 + q.val; omega
  | 1 => blk_simp; rw [e1]; show 0 * 2048 + d.val = d.val; omega

/-! ## The points' values -/

/-- The normalised activations of the arguments. -/
abbrev hM (b : Fin 2) (p : Fin 16384) (d : Fin 2048) : EReal :=
  hG (m ((c : Thread nD τ).loc main_arg0)) (m ((c : Thread nD τ).loc main_arg1)) (m ((c : Thread nD τ).loc main_arg2)) (m ((c : Thread nD τ).loc main_arg4)) b p d
/-- The columns of the arguments. -/
abbrev uM (b : Fin 2) (p : Fin 16384) (q : Fin 11264) : EReal :=
  uG (m ((c : Thread nD τ).loc main_arg0)) (m ((c : Thread nD τ).loc main_arg1)) (m ((c : Thread nD τ).loc main_arg2)) (m ((c : Thread nD τ).loc main_arg4)) (m ((c : Thread nD τ).loc main_arg5)) b p q
/-- The columns of the arguments under two rows of zeros. -/
abbrev extM (b : Fin 2) (i : ℕ) (q : Fin 5632) : EReal :=
  extG (m ((c : Thread nD τ).loc main_arg0)) (m ((c : Thread nD τ).loc main_arg1)) (m ((c : Thread nD τ).loc main_arg2)) (m ((c : Thread nD τ).loc main_arg4)) (m ((c : Thread nD τ).loc main_arg5)) b i q
/-- The gated rows of the arguments. -/
abbrev actM (b : Fin 2) (p : Fin 16384) (q : Fin 5632) : EReal :=
  actG (m ((c : Thread nD τ).loc main_arg0)) (m ((c : Thread nD τ).loc main_arg1)) (m ((c : Thread nD τ).loc main_arg2)) (m ((c : Thread nD τ).loc main_arg4)) (m ((c : Thread nD τ).loc main_arg5))
    (m ((c : Thread nD τ).loc main_arg6)) (m ((c : Thread nD τ).loc main_arg7)) b p q
/-- The gated sums of the arguments. -/
abbrev sumM (b : Fin 2) (p : Fin 16384) (d : Fin 2048) : EReal :=
  sumG (m ((c : Thread nD τ).loc main_arg0)) (m ((c : Thread nD τ).loc main_arg1)) (m ((c : Thread nD τ).loc main_arg2)) (m ((c : Thread nD τ).loc main_arg4)) (m ((c : Thread nD τ).loc main_arg5))
    (m ((c : Thread nD τ).loc main_arg6)) (m ((c : Thread nD τ).loc main_arg7)) (m ((c : Thread nD τ).loc main_arg8)) b p d

theorem bt_eq {n n' : ℕ} (h : n' / 352 = n / 352) : bt n' = bt n := Fin.ext (by show n' / 352 % 2 = n / 352 % 2; rw [h])
theorem rw_eq {n n' : ℕ} (h : n' / 11 = n / 11) (r : Fin 512) : rw' n' r = rw' n r := Fin.ext (by show n' / 11 % 32 * 512 + r.val = n / 11 % 32 * 512 + r.val; rw [h])
theorem cl_eq {n n' : ℕ} (h : n' % 11 = n % 11) (q : Fin 512) : cl n' q = cl n q := Fin.ext (by show n' % 11 * 512 + q.val = n % 11 * 512 + q.val; rw [h])

theorem hN_apply (n : ℕ) (r : Fin 512) (k : Fin 2048) : hN m c n (ix2 r k) = hM m c (bt n) (rw' n r) k := by
  unfold hN
  rw [hOf_apply]
  simp only [b0_apply, b1_apply, b2_apply, b4_apply]
  rw [bt_eq (n := n) (n' := n - n % 11) (by omega), rw_eq (n := n) (n' := n - n % 11) (by omega)]
  rfl

/-- A point's columns at an element. -/
theorem cols_apply (n : ℕ) (r q : Fin 512) : (∑ k, hN m c n (ix2 r k) * b7 m c n (ix2 k q) : EReal) = uM m c (bt n) (rw' n r) ⟨(cl n q).val, by omega⟩ := by
  simp only [hN_apply, b7_apply]
  rfl

/-- A point's gating columns at an element. -/
theorem gates_apply (n : ℕ) (r q : Fin 512) : k0_pay122 (hN m c n) (b8 m c n) (ix3 0 r q) = uM m c (bt n) (rw' n r) ⟨5632 + (cl n q).val, by omega⟩ := by
  rw [pay122_apply]
  simp only [hN_apply, b8_apply]
  rfl

theorem tailN_apply (n : ℕ) (i : Fin 2) (q : Fin 512) : tailN m c n (ix3 0 i q) = uM m c (bt n) (rw' n ⟨510 + i.val, by omega⟩) ⟨(cl n q).val, by omega⟩ := by
  unfold tailN
  rw [tailOf_apply, cols_apply]

/-- The two rows before a point's block: zeros at the first block of a batch row, else the last of the block before. -/
theorem prevN_apply (n : ℕ) (i : Fin 2) (q : Fin 512) : prevN m c n (ix3 0 i q) = extM m c (bt n) (n / 11 % 32 * 512 + i.val) (cl n q) := by
  have hi : i.val < 2 := i.isLt
  unfold prevN
  by_cases h : n / 11 % 32 = 0
  · rw [if_pos h, pay119_apply, b6_apply]
    show _ = extG _ _ _ _ _ _ _ _
    unfold extG
    rw [if_pos (by omega)]
  · rw [if_neg h, pay120_apply, tailN_apply]
    show _ = extG _ _ _ _ _ _ _ _
    unfold extG
    rw [if_neg (by omega), bt_eq (n := n) (n' := n - 11) (by omega)]
    refine congr (congrArg (uM m c (bt n)) (Fin.ext ?_)) (Fin.ext ?_)
    · show (n - 11) / 11 % 32 * 512 + (510 + i.val) = (n / 11 % 32 * 512 + i.val - 2) % 16384
      omega
    · show (n - 11) % 11 * 512 + q.val = n % 11 * 512 + q.val
      omega

/-- A point's extended columns. -/
theorem extN_apply (n : ℕ) (j : ℕ) (hj : j < 514) (q : Fin 512) (p : Fin 520) (hp : p.val = 6 + j) :
    extOf (prevN m c n) (hN m c n) (b7 m c n) (ix3 0 p q) = extM m c (bt n) (n / 11 % 32 * 512 + j) (cl n q) := by
  by_cases h : j < 2
  · exact (extOf_prev _ _ _ ⟨j, h⟩ q p hp).trans (prevN_apply m c n ⟨j, h⟩ q)
  · rw [extOf_block _ _ _ ⟨j - 2, by omega⟩ q p (by show p.val = 8 + (j - 2); omega), cols_apply]
    show _ = extG _ _ _ _ _ _ _ _
    unfold extG
    rw [if_neg (by omega)]
    refine congrFun (congrArg (uM m c (bt n)) (Fin.ext ?_)) _
    show n / 11 % 32 * 512 + (j - 2) = (n / 11 % 32 * 512 + j - 2) % 16384
    omega

theorem actN_apply (n : ℕ) (r q : Fin 512) :
    actOf (b9 m c n) (b10 m c n) (extOf (prevN m c n) (hN m c n) (b7 m c n)) (k0_pay122 (hN m c n) (b8 m c n)) (ix2 r q) = actM m c (bt n) (rw' n r) (cl n q) := by
  rw [actOf_apply, gates_apply, extN_apply m c n r.val (by omega) q _ (by show r.val + 6 = 6 + r.val; omega), extN_apply m c n (r.val + 1) (by omega) q _ (by show r.val + 7 = 6 + (r.val + 1); omega),
    extN_apply m c n (r.val + 2) (by omega) q _ (by show r.val + 8 = 6 + (r.val + 2); omega), b9_apply, b9_apply, b9_apply, b10_apply]
  rfl

/-- One block of columns' part of the sum. -/
def partM (b : Fin 2) (p : Fin 16384) (d : Fin 2048) (j : ℕ) : EReal :=
  ∑ z : Fin 512, actM m c b p (cl j z) * (m ((c : Thread nD τ).loc main_arg8) : S5632x2048.Idx → EReal) (ix2 (cl j z) d)

theorem stepN_apply (a : Vec Ideal S512x2048 .f32) (n : ℕ) (r : Fin 512) (d : Fin 2048) :
    stepN m c a n (ix2 r d) = (a (ix2 r d) : EReal) + partM m c (bt n) (rw' n r) d (n % 11) := by
  unfold stepN partM
  rw [accOf_apply]
  simp only [actN_apply, b11_apply]
  have e : ∀ z, cl (n % 11) z = cl n z := fun z => cl_eq (by omega) z
  simp only [e]

/-- The running sum after a point: the parts of its block of rows so far. -/
theorem accN_apply (r : Fin 512) (d : Fin 2048) : ∀ (f n : ℕ), n % 11 = f → accN m c n (ix2 r d) = ∑ j ∈ Finset.range (f + 1), partM m c (bt n) (rw' n r) d j
  | 0, n, h => by
    rw [accN_first m c n h, stepN_apply, pay118_apply, h, Finset.sum_range_one, zero_add]
  | f + 1, n, h => by
    rw [accN_next m c n (by omega), stepN_apply, accN_apply r d f (n - 1) (by omega), bt_eq (n := n) (n' := n - 1) (by omega), rw_eq (n := n) (n' := n - 1) (by omega), h,
      Finset.sum_range_succ _ (f + 1)]

/-- The eleven parts are the whole sum. -/
theorem parts_eq (b : Fin 2) (p : Fin 16384) (d : Fin 2048) : (∑ j ∈ Finset.range 11, partM m c b p d j) = sumM m c b p d := by
  rw [Finset.sum_range]
  unfold partM
  rw [← Fintype.sum_prod_type' (f := fun (j : Fin 11) (z : Fin 512) => actM m c b p (cl j.val z) * (m ((c : Thread nD τ).loc main_arg8) : S5632x2048.Idx → EReal) (ix2 (cl j.val z) d))]
  show _ = sumG _ _ _ _ _ _ _ _ _ _ _
  unfold sumG
  refine Fintype.sum_equiv (finProdFinEquiv (m := 11) (n := 512)) _ _ fun y => ?_
  have e : cl y.1.val y.2 = (finProdFinEquiv (m := 11) (n := 512)) y := Fin.ext (by
    show y.1.val % 11 * 512 + y.2.val = y.2.val + 512 * y.1.val
    have := y.1.isLt
    omega)
  rw [e]

/-- The output block of a point that ends its block of rows. -/
theorem x2N_apply (n : ℕ) (h : n % 11 = 10) (r : Fin 512) (d : Fin 2048) :
    x2N m c n (ix3 0 r d) = outArr (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) (ix3 (bt n) (rw' n r) d) := by
  have e0 : (fun k => b0 m c n (ix3 0 r k)) = fun k => (m ((c : Thread nD τ).loc main_arg0) : S2x16384x2048.Idx → EReal) (ix3 (bt n) (rw' n r) k) := funext fun k => b0_apply m c n r k
  have e1 : (fun k => b3 m c n (ix3 0 0 k)) = fun k => (m ((c : Thread nD τ).loc main_arg3) : S2x1x2048.Idx → EReal) (ix3 (bt n) 0 k) := funext fun k => b3_apply m c n k
  have e2 : (fun k => b5 m c n (ix2 0 k)) = fun k => (m ((c : Thread nD τ).loc main_arg9) : S2048.Idx → EReal) (ix1 k) := funext fun k => b5_apply m c n k
  have e3 : (fun k => accN m c n (ix2 r k)) = fun k => sumM m c (bt n) (rw' n r) k := funext fun k => (accN_apply m c r k 10 n h).trans (parts_eq m c _ _ _)
  unfold x2N outArr
  rw [x2Of_apply, e0, e1, e2, e3]
  rfl

end Cert.Kernel3Ideal.Run

end
-- ==== Proof.Ffn.Array.lean ====
/-
  The feed-forward call's two result arrays at the end of the run.
-/
module

public import proofs.«01_k».proof.Proof.Ffn.Run
public import proofs.«01_k».proof.Proof.Ffn.Vals

@[expose] public section

set_option maxRecDepth 16384

noncomputable section

namespace Cert.Kernel3Ideal.Run

open Cert.Kernel3Ideal Cert.Kernel3Ideal.Gen Cert.Ffn
open Idealize.ShloMosaic Idealize.ShloMosaic.TcCoe
open Idealize.ShloMosaic.Pipeline (Dat RDat Cfg Window)

variable (m : (ℓ : Loc nD τ sig) → Buf (Elt Ideal) ℓ) (c : Dev nD)

/-- The first result array as the function of the arguments. -/
def outM : S2x16384x2048.Idx → EReal :=
  outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The second result array as the function of the arguments. -/
def stM : S2x11x2x512.Idx → EReal :=
  stArr (m ((c : Thread nD τ).loc main_arg0)) (m ((c : Thread nD τ).loc main_arg1)) (m ((c : Thread nD τ).loc main_arg2)) (m ((c : Thread nD τ).loc main_arg4)) (m ((c : Thread nD τ).loc main_arg5))

/-- The first result array at the end. -/
theorem out_eq (r : PUnit × MemSt nD τ sig (Elt Ideal)) (h : RDat.FramePost cfg0 (rd m) (V m) r) :
    r.2.mem ((c : Thread nD τ).loc main_v6_0) = outM m c := by
  obtain ⟨after, hL, hA⟩ := RDat.FramePost.exists_exact h c
  refine (hA 12).trans ?_
  refine Dat.arrAt_eq_of_covers ((rd m c).withAfter after) 12 (outM m c) (by decide +kernel) fun t hf y => ?_
  have ht : t.val % 11 = 10 := by
    have := (flush0_12 t).mp hf
    omega
  have hX : after 12 t = x2N m c t.val := by
    obtain ⟨Y, -, h'⟩ := hL 12 t hf
    rw [after_12] at h'
    exact h' ht
  rw [RDat.withAfter_after]
  blk_simp
  rw [hX]
  obtain ⟨e0, e1, e2⟩ := index_12 t
  have hN : t.val < 704 := lt_of_lt_of_eq t.isLt (by decide)
  have hy0 : (y 0).val = 0 := by have : (y 0).val < 1 := (y 0).isLt; omega
  have hy : y = ix3 0 (y 1) (y 2) := by
    funext a
    match a with
    | 0 => exact Fin.ext hy0
    | 1 => rfl
    | 2 => rfl
  refine (congrArg _ hy).trans ((x2N_apply m c t.val ht (y 1) (y 2)).trans ?_)
  refine congrArg (outM m c) (funext fun a => Fin.ext ?_)
  match a with
  | 0 => blk_simp; rw [e0]; show t.val / 352 % 2 = t.val / 352; omega
  | 1 => blk_simp; rw [e1]; rfl
  | 2 => blk_simp; rw [e2]; show (y 2).val = 0 * 2048 + (y 2).val; omega

/-- The second result array at the end. -/
theorem st_eq (r : PUnit × MemSt nD τ sig (Elt Ideal)) (h : RDat.FramePost cfg0 (rd m) (V m) r) :
    r.2.mem ((c : Thread nD τ).loc main_v6_1) = stM m c := by
  obtain ⟨after, hL, hA⟩ := RDat.FramePost.exists_exact h c
  refine (hA 13).trans ?_
  refine Dat.arrAt_eq_of_covers ((rd m c).withAfter after) 13 (stM m c) (by decide +kernel) fun t hf y => ?_
  have ht : t.val % 352 = 351 := by
    have := (flush0_13 t).mp hf
    omega
  have hX : KS m c (t.val + 1) (after 13 t) := by
    obtain ⟨Y, -, h'⟩ := hL 13 t hf
    rw [after_13] at h'
    exact h'
  rw [RDat.withAfter_after]
  blk_simp
  obtain ⟨e0, e1, e2, e3⟩ := index_13 t
  have hN : t.val < 704 := lt_of_lt_of_eq t.isLt (by decide)
  have hy0 : (y 0).val < 1 := (y 0).isLt
  have hy1 : (y 1).val < 11 := (y 1).isLt
  have hk := hX (t.val - 10 + (y 1).val) (by omega) (by omega) (by omega)
  have hv := congrFun hk (ix4 0 0 (y 2) (y 3))
  have hy : y = (RS (md (t.val - 10 + (y 1).val))).idx (ix4 0 0 (y 2) (y 3)) := by
    funext a
    refine Fin.ext ?_
    match a with
    | 0 => show (y 0).val = 0 + 1 * 0; omega
    | 1 => show (y 1).val = (t.val - 10 + (y 1).val) % 11 + 1 * 0; omega
    | 2 => show (y 2).val = 0 + 1 * (y 2).val; omega
    | 3 => show (y 3).val = 0 + 1 * (y 3).val; omega
  refine (congrArg (after 13 t) hy).trans (hv.trans ((pay124_apply _ (y 2) (y 3)).trans ((tailN_apply m c _ (y 2) (y 3)).trans ?_)))
  unfold stM stArr
  refine congr (congr (congrArg (uM m c) (Fin.ext ?_)) (Fin.ext ?_)) (Fin.ext ?_)
  · blk_simp; rw [e0]; show (t.val - 10 + (y 1).val) / 352 % 2 = t.val / 352; omega
  · show (t.val - 10 + (y 1).val) / 11 % 32 * 512 + (510 + (y 2).val) = 16382 + _
    blk_simp; rw [e2]; omega
  · show (t.val - 10 + (y 1).val) % 11 * 512 + (y 3).val = _ * 512 + _
    blk_simp; rw [e1, e3]; omega

end Cert.Kernel3Ideal.Run

end
-- ==== Proof.Ffn.Ref.lean ====
/-
  The feed-forward part's reference at an element.
-/
module

public import Idealize.ShloMosaic.Lib.Pointwise
public import proofs.«01_k».proof.Proof.Gen.Reference3Ideal.Run
public import proofs.«01_k».proof.Proof.Ffn.Array

@[expose] public section

set_option maxRecDepth 16384

noncomputable section

namespace Cert.Reference3Ideal.Value

open Cert.Reference3Ideal Cert.Reference3Ideal.Gen Cert.Ffn
open Cert.Mrg (normAt)
open Idealize.ShloMosaic Idealize.ShloMosaic.TcCoe

/-- The inverse root mean square of each row, over the row. -/
def scaled (x : FVec Ideal S2x16384x2048 .f32) : FVec Ideal S2x16384x2048 .f32 :=
  broadcastInDim S2x16384x2048 ![0, 1, 2] bcast_S2x16384x1_S2x16384x2048_0_1_2
      (Host.rsqrt (addf (Host.divf (broadcastInDim S2x16384x1 ![0, 1] bcast_S2x16384_S2x16384x1_0_1
          (Host.reduceAdd (mulf x x) (constant S_ .f32 0x00000000#32) reducesTo_S2x16384x2048_S2x16384_d2 h_S_))
        (broadcastInDim S2x16384x1 ![] bcast_S_S2x16384x1 (constant S_ .f32 0x45000000#32)))
        (broadcastInDim S2x16384x1 ![] bcast_S_S2x16384x1 (constant S_ .f32 0x358637BD#32))))

/-- The activations normalised and scaled by the weights. -/
def rms (x : FVec Ideal S2x16384x2048 .f32) (g : FVec Ideal S2048 .f32) : FVec Ideal S2x16384x2048 .f32 :=
  mulf (mulf x (scaled x))
    (broadcastInDim S2x16384x2048 ![0, 1, 2] bcast_S1x1x2048_S2x16384x2048_0_1_2 (broadcastInDim S1x1x2048 ![2] bcast_S2048_S1x1x2048_2 g))

/-- The activations normalised, scaled by the weights and modulated. -/
def normed (x : FVec Ideal S2x16384x2048 .f32) (sh sc : FVec Ideal S2x1x2048 .f32) (g : FVec Ideal S2048 .f32) : FVec Ideal S2x16384x2048 .f32 :=
  addf (mulf (rms x g)
      (broadcastInDim S2x16384x2048 ![0, 1, 2] bcast_S2x1x2048_S2x16384x2048_0_1_2 (addf (broadcastInDim S2x1x2048 ![] bcast_S_S2x1x2048 (constant S_ .f32 0x3F800000#32)) sc)))
    (broadcastInDim S2x16384x2048 ![0, 1, 2] bcast_S2x1x2048_S2x16384x2048_0_1_2 sh)

/-- The product with the first weights. -/
def cols (h : FVec Ideal S2x16384x2048 .f32) (wu : FVec Ideal S2048x11264 .f32) : FVec Ideal S2x16384x11264 .f32 :=
  Host.dotGeneral dot_S2x16384x2048_S2048x11264_S2x16384x11264_2_0_01_1_n_n none h wu

/-- The columns to convolve under two rows of zeros. -/
def ext (u : FVec Ideal S2x16384x11264 .f32) : FVec Ideal S2x16386x5632 .f32 :=
  concatenate S2x16386x5632 1 [⟨S2x2x5632, (broadcastInDim S2x2x5632 ![] bcast_S_S2x2x5632 (constant (F := Ideal) S_ .f32 0x00000000#32))⟩,
    ⟨S2x16384x5632, (extractStridedSlice S2x16384x5632 ![0, 0, 0] u slices_S2x16384x11264_S2x16384x5632_0_0_0)⟩] concatenates_S2x2x5632_S2x16384x5632_S2x16386x5632_d1

/-- A vector of the columns over all rows. -/
def wide (v : FVec Ideal S5632 .f32) : FVec Ideal S2x16384x5632 .f32 :=
  broadcastInDim S2x16384x5632 ![0, 1, 2] bcast_S1x1x5632_S2x16384x5632_0_1_2 (broadcastInDim S1x1x5632 ![2] bcast_S5632_S1x1x5632_2 v)

/-- The convolution of three neighbouring rows. -/
def conv (e : FVec Ideal S2x16386x5632 .f32) (cw : FVec Ideal S3x5632 .f32) (cb : FVec Ideal S5632 .f32) : FVec Ideal S2x16384x5632 .f32 :=
  addf (addf (addf (wide cb)
    (mulf (wide (shapeCast _ (extractStridedSlice S1x5632 ![0, 0] cw slices_S3x5632_S1x5632_0_0) shapeCasts_S1x5632_S5632))
      (extractStridedSlice S2x16384x5632 ![0, 0, 0] e slices_S2x16386x5632_S2x16384x5632_0_0_0)))
    (mulf (wide (shapeCast _ (extractStridedSlice S1x5632 ![1, 0] cw slices_S3x5632_S1x5632_1_0) shapeCasts_S1x5632_S5632))
      (extractStridedSlice S2x16384x5632 ![0, 1, 0] e slices_S2x16386x5632_S2x16384x5632_0_1_0)))
    (mulf (wide (shapeCast _ (extractStridedSlice S1x5632 ![2, 0] cw slices_S3x5632_S1x5632_2_0) shapeCasts_S1x5632_S5632))
      (extractStridedSlice S2x16384x5632 ![0, 2, 0] e slices_S2x16386x5632_S2x16384x5632_0_2_0))

/-- The gated rows. -/
def act (v : FVec Ideal S2x16384x5632 .f32) (u : FVec Ideal S2x16384x11264 .f32) : FVec Ideal S2x16384x5632 .f32 :=
  mulf (mulf v (Host.divf (broadcastInDim S2x16384x5632 ![] bcast_S_S2x16384x5632 (constant S_ .f32 0x3F800000#32))
      (addf (broadcastInDim S2x16384x5632 ![] bcast_S_S2x16384x5632 (constant S_ .f32 0x3F800000#32)) (Host.exp (Host.negf v)))))
    (extractStridedSlice S2x16384x5632 ![0, 0, 5632] u slices_S2x16384x11264_S2x16384x5632_0_0_5632)

/-- The gated rows' product with the second weights, added to the activations. -/
def added (x : FVec Ideal S2x16384x2048 .f32) (gt : FVec Ideal S2x1x2048 .f32) (a : FVec Ideal S2x16384x5632 .f32) (wd : FVec Ideal S5632x2048 .f32) : FVec Ideal S2x16384x2048 .f32 :=
  addf x (mulf (broadcastInDim S2x16384x2048 ![0, 1, 2] bcast_S2x1x2048_S2x16384x2048_0_1_2 gt)
    (Host.dotGeneral dot_S2x16384x5632_S5632x2048_S2x16384x2048_2_0_01_1_n_n none a wd))

/-- The last two rows of the columns, in the order in which the kernel keeps them. -/
def state (e : FVec Ideal S2x16386x5632 .f32) : FVec Ideal S2x11x2x512 .f32 :=
  transpose S2x11x2x512 [0, 2, 1, 3] (shapeCast _ (extractStridedSlice S2x2x5632 ![0, 16384, 0] e slices_S2x16386x5632_S2x2x5632_0_16384_0) shapeCasts_S2x2x5632_S2x2x11x512)
    transposes_S2x2x11x512_S2x11x2x512_0_2_1_3

/-! ## At an element -/

theorem rms_apply (x : FVec Ideal S2x16384x2048 .f32) (g : FVec Ideal S2048 .f32) (b : Fin 2) (p : Fin 16384) (d : Fin 2048) :
    rms x g (ix3 b p d) = x (ix3 b p d) * Ideal.rsqrt (Ideal.div (∑ k, x (ix3 b p k) * x (ix3 b p k)) (Ideal.ofBits FTy.f32 1157627904#32) + Ideal.ofBits FTy.f32 897988541#32) * g (ix1 d) := by
  pointwise [rms, scaled]

theorem normed_apply (x : FVec Ideal S2x16384x2048 .f32) (sh sc : FVec Ideal S2x1x2048 .f32) (g : FVec Ideal S2048 .f32) (b : Fin 2) (p : Fin 16384) (d : Fin 2048) :
    normed x sh sc g (ix3 b p d) = hG x sh sc g b p d := by
  pointwise [normed]
  rw [rms_apply]
  rfl

theorem cols_apply (x : FVec Ideal S2x16384x2048 .f32) (sh sc : FVec Ideal S2x1x2048 .f32) (g : FVec Ideal S2048 .f32) (wu : FVec Ideal S2048x11264 .f32)
    (b : Fin 2) (p : Fin 16384) (q : Fin 11264) : cols (normed x sh sc g) wu (ix3 b p q) = uG x sh sc g wu b p q := by
  pointwise [cols]
  simp only [normed_apply]
  rfl

theorem ext_apply (x : FVec Ideal S2x16384x2048 .f32) (sh sc : FVec Ideal S2x1x2048 .f32) (g : FVec Ideal S2048 .f32) (wu : FVec Ideal S2048x11264 .f32)
    (b : Fin 2) (i : Fin 16386) (q : Fin 5632) : ext (cols (normed x sh sc g) wu) (ix3 b i q) = extG x sh sc g wu b i.val q := by
  unfold ext extG
  by_cases hi : i.val < 2
  · rw [if_pos hi]
    refine (concatenate_pair_apply_left (t := S2x16386x5632) (s₁ := S2x2x5632) (s₂ := S2x16384x5632) 1 _ _ _ (ix3 b i q) rfl (ix3 b ⟨i.val, hi⟩ q) (fun a => by
      match a with
      | 0 => rfl
      | 1 => rfl
      | 2 => rfl)).trans ?_
    pointwise
  · rw [if_neg hi]
    refine (concatenate_pair_apply_right (t := S2x16386x5632) (s₁ := S2x2x5632) (s₂ := S2x16384x5632) 1 _ _ _ (ix3 b i q) rfl rfl (ix3 b ⟨(i.val - 2) % 16384, Nat.mod_lt _ (by decide)⟩ q) (fun a ha => by
      match a with
      | 0 => rfl
      | 1 => exact absurd rfl ha
      | 2 => rfl) (by show (i.val - 2) % 16384 + 2 = i.val; omega)).trans ?_
    pointwise
    rw [cols_apply]

/-- The convolution at an element. -/
theorem conv_apply (e : FVec Ideal S2x16386x5632 .f32) (cw : FVec Ideal S3x5632 .f32) (cb : FVec Ideal S5632 .f32) (b : Fin 2) (p : Fin 16384) (q : Fin 5632) :
    conv e cw cb (ix3 b p q) = convAt (cb (ix1 q)) (cw (ix2 0 q)) (cw (ix2 1 q)) (cw (ix2 2 q)) (e (ix3 b ⟨p.val, by omega⟩ q)) (e (ix3 b ⟨1 + p.val, by omega⟩ q)) (e (ix3 b ⟨2 + p.val, by omega⟩ q)) := by
  pointwise [conv, wide]
  rfl

/-- The gated rows at an element. -/
theorem act_apply (v : FVec Ideal S2x16384x5632 .f32) (u : FVec Ideal S2x16384x11264 .f32) (b : Fin 2) (p : Fin 16384) (q : Fin 5632) :
    act v u (ix3 b p q) = gluAt (v (ix3 b p q)) (u (ix3 b p ⟨5632 + q.val, by omega⟩)) := by
  pointwise [act]
  rfl

variable (x : FVec Ideal S2x16384x2048 .f32) (sh sc gt : FVec Ideal S2x1x2048 .f32) (g : FVec Ideal S2048 .f32) (wu : FVec Ideal S2048x11264 .f32)
  (cw : FVec Ideal S3x5632 .f32) (cb : FVec Ideal S5632 .f32) (wd : FVec Ideal S5632x2048 .f32) (gf : FVec Ideal S2048 .f32)

/-- The reference's gated rows. -/
def acts : FVec Ideal S2x16384x5632 .f32 := act (conv (ext (cols (normed x sh sc g) wu)) cw cb) (cols (normed x sh sc g) wu)

theorem acts_apply (b : Fin 2) (p : Fin 16384) (q : Fin 5632) : acts x sh sc g wu cw cb (ix3 b p q) = actG x sh sc g wu cw cb b p q := by
  unfold acts
  rw [act_apply, conv_apply, ext_apply, ext_apply, ext_apply, cols_apply]
  unfold actG
  rw [Nat.add_comm p.val 1, Nat.add_comm p.val 2]

theorem added_apply (b : Fin 2) (p : Fin 16384) (d : Fin 2048) :
    added x gt (acts x sh sc g wu cw cb) wd (ix3 b p d) = x (ix3 b p d) + gt (ix3 b 0 d) * sumG x sh sc g wu cw cb wd b p d := by
  pointwise [added]
  simp only [acts_apply]
  rfl

theorem out_apply (b : Fin 2) (p : Fin 16384) (d : Fin 2048) :
    rms (added x gt (acts x sh sc g wu cw cb) wd) gf (ix3 b p d) = outArr x sh sc gt g wu cw cb wd gf (ix3 b p d) := by
  rw [rms_apply]
  simp only [added_apply]
  rfl

/-- The reference's first result is the kernel's function of its arguments. -/
theorem out_eq : rms (added x gt (acts x sh sc g wu cw cb) wd) gf = outArr x sh sc gt g wu cw cb wd gf := by
  funext y
  have hy : y = ix3 (y 0) (y 1) (y 2) := by funext a; match a with | 0 => rfl | 1 => rfl | 2 => rfl
  exact (congrArg _ hy).trans ((out_apply x sh sc gt g wu cw cb wd gf (y 0) (y 1) (y 2)).trans (congrArg _ hy.symm))

theorem st_apply (b : Fin 2) (f : Fin 11) (i : Fin 2) (q : Fin 512) :
    state (ext (cols (normed x sh sc g) wu)) (ix4 b f i q) = stArr x sh sc g wu (ix4 b f i q) := by
  pointwise [state]
  rw [ext_apply]
  unfold extG
  rw [if_neg (by show ¬ 16384 + i.val < 2; omega)]
  unfold stArr
  refine congr (congrArg (uG x sh sc g wu b) (Fin.ext ?_)) rfl
  show (16384 + i.val - 2) % 16384 = 16382 + i.val
  omega

/-- The reference's second result is the kernel's function of its arguments. -/
theorem st_eq : state (ext (cols (normed x sh sc g) wu)) = stArr x sh sc g wu := by
  funext y
  have hy : y = ix4 (y 0) (y 1) (y 2) (y 3) := by funext a; match a with | 0 => rfl | 1 => rfl | 2 => rfl | 3 => rfl
  exact (congrArg _ hy).trans ((st_apply x sh sc g wu (y 0) (y 1) (y 2) (y 3)).trans (congrArg _ hy.symm))

end Cert.Reference3Ideal.Value

end
-- ==== Proof.Ffn.Same.lean ====
/-
  The feed-forward program as it is printed and its ideal reading have the same text.
-/
module

public import proofs.«01_k».proof.Kernel3
public import proofs.«01_k».proof.Kernel3Ideal
public import proofs.«01_k».proof.Proof.Gen.Kernel3
public import proofs.«01_k».proof.Proof.Gen.Kernel3Ideal

@[expose] public section

set_option maxRecDepth 65536

namespace Cert.Ffn.Same

open Idealize.ShloMosaic

variable {F : FTy → Type} [FloatOps F]

/-- The two programs' bodies are one function. -/
theorem body_eq : @Cert.Kernel3.cc0_conv_ffn F _ _ = @Cert.Kernel3Ideal.cc0_conv_ffn F _ _ := rfl

set_option maxHeartbeats 4000000 in
/-- The two programs' body tables are one table. -/
theorem bodies_eq : @Cert.Kernel3.defs₀ F _ _ = @Cert.Kernel3Ideal.defs₀ F _ _ := by
  unfold Cert.Kernel3.defs₀ Cert.Kernel3Ideal.defs₀
  rw [body_eq]
  generalize @Cert.Kernel3Ideal.cc0_conv_ffn F _ _ = B
  refine congrArg Defs.onTc (funext fun l => funext fun x => ?_)
  match l, x with
  | 0, (t, s) => rfl

/-- The two programs' tables, with the pipeline's region, are one table. -/
theorem defs_eq : @Cert.Kernel3.defs F _ _ = @Cert.Kernel3Ideal.defs F _ _ := by
  unfold Cert.Kernel3.defs Cert.Kernel3Ideal.defs
  rw [bodies_eq]
  rfl

end Cert.Ffn.Same

end
-- ==== Proof.ProjSb.Fun.lean ====
/-
  The stick-breaking projection's body, its pieces as functions: the normalised rows, and each output's block at a grid point.
-/
module

public import proofs.«01_k».proof.Proof.Gen.Kernel4Ideal.Frame
public import proofs.«01_k».proof.Proof.Gen.Kernel4Ideal.Skeleton
public import Idealize.ShloMosaic.Lib.Pipeline.ValueKit

@[expose] public section

set_option maxRecDepth 16384

noncomputable section

namespace Cert.Kernel4Ideal.Run

open Cert.Kernel4Ideal Cert.Kernel4Ideal.Gen
open Idealize.ShloMosaic Idealize.ShloMosaic.TcCoe

variable {F : FTy → Type} [FloatOps F]

/-- The scratch of normalised rows after its thirty-two stores of sixteen rows each. -/
def hOf (x : Vec F S1x512x2048 .f32) (g : Vec F S1x2048 .f32) (sc sh : Vec F S1x1x2048 .f32) : Vec F S512x2048 .bf16 :=
  View.canon [
    ⟨Rect.unit (s := S512x2048) ![496, 0] ![16, 2048] inb_S512x2048_S16x2048_496_0, k0_pay1 ((k0_pay65 (k0_pay8 g) (k0_pay9 sc) (k0_pay10 sh) (View.ld x (Rect.unit (s := S1x512x2048) ![0, 496, 0] ![1, 16, 2048] inb_S1x512x2048_S1x16x2048_0_496_0))))⟩,
    ⟨Rect.unit (s := S512x2048) ![480, 0] ![16, 2048] inb_S512x2048_S16x2048_480_0, k0_pay64 (k0_pay8 g) (k0_pay9 sc) (k0_pay10 sh) (k0_pay62 (View.ld x (Rect.unit (s := S1x512x2048) ![0, 480, 0] ![1, 16, 2048] inb_S1x512x2048_S1x16x2048_0_480_0))) (k0_pay63 (View.ld x (Rect.unit (s := S1x512x2048) ![0, 480, 0] ![1, 16, 2048] inb_S1x512x2048_S1x16x2048_0_480_0))) (Scalar.ofBits .f32 0x358637BD#32)⟩,
    ⟨Rect.unit (s := S512x2048) ![464, 0] ![16, 2048] inb_S512x2048_S16x2048_464_0, k0_pay61 (k0_pay8 g) (k0_pay9 sc) (k0_pay10 sh) (View.ld x (Rect.unit (s := S1x512x2048) ![0, 464, 0] ![1, 16, 2048] inb_S1x512x2048_S1x16x2048_0_464_0))⟩,
    ⟨Rect.unit (s := S512x2048) ![448, 0] ![16, 2048] inb_S512x2048_S16x2048_448_0, k0_pay60 (k0_pay8 g) (k0_pay9 sc) (k0_pay10 sh) (k0_pay58 (View.ld x (Rect.unit (s := S1x512x2048) ![0, 448, 0] ![1, 16, 2048] inb_S1x512x2048_S1x16x2048_0_448_0))) (k0_pay59 (View.ld x (Rect.unit (s := S1x512x2048) ![0, 448, 0] ![1, 16, 2048] inb_S1x512x2048_S1x16x2048_0_448_0)))⟩,
    ⟨Rect.unit (s := S512x2048) ![432, 0] ![16, 2048] inb_S512x2048_S16x2048_432_0, k0_pay57 (k0_pay8 g) (k0_pay9 sc) (k0_pay10 sh) (View.ld x (Rect.unit (s := S1x512x2048) ![0, 432, 0] ![1, 16, 2048] inb_S1x512x2048_S1x16x2048_0_432_0))⟩,
    ⟨Rect.unit (s := S512x2048) ![416, 0] ![16, 2048] inb_S512x2048_S16x2048_416_0, k0_pay56 (k0_pay8 g) (k0_pay9 sc) (k0_pay10 sh) (k0_pay54 (View.ld x (Rect.unit (s := S1x512x2048) ![0, 416, 0] ![1, 16, 2048] inb_S1x512x2048_S1x16x2048_0_416_0))) (k0_pay55 (View.ld x (Rect.unit (s := S1x512x2048) ![0, 416, 0] ![1, 16, 2048] inb_S1x512x2048_S1x16x2048_0_416_0)))⟩,
    ⟨Rect.unit (s := S512x2048) ![400, 0] ![16, 2048] inb_S512x2048_S16x2048_400_0, k0_pay53 (k0_pay8 g) (k0_pay9 sc) (k0_pay10 sh) (View.ld x (Rect.unit (s := S1x512x2048) ![0, 400, 0] ![1, 16, 2048] inb_S1x512x2048_S1x16x2048_0_400_0))⟩,
    ⟨Rect.unit (s := S512x2048) ![384, 0] ![16, 2048] inb_S512x2048_S16x2048_384_0, k0_pay52 (k0_pay9 sc) (k0_pay10 sh) (k0_pay50 (View.ld x (Rect.unit (s := S1x512x2048) ![0, 384, 0] ![1, 16, 2048] inb_S1x512x2048_S1x16x2048_0_384_0))) (k0_pay51 (k0_pay8 g))⟩,
    ⟨Rect.unit (s := S512x2048) ![368, 0] ![16, 2048] inb_S512x2048_S16x2048_368_0, k0_pay49 (k0_pay8 g) (k0_pay9 sc) (k0_pay10 sh) (View.ld x (Rect.unit (s := S1x512x2048) ![0, 368, 0] ![1, 16, 2048] inb_S1x512x2048_S1x16x2048_0_368_0))⟩,
    ⟨Rect.unit (s := S512x2048) ![352, 0] ![16, 2048] inb_S512x2048_S16x2048_352_0, k0_pay48 (k0_pay10 sh) (k0_pay46 (k0_pay8 g) (View.ld x (Rect.unit (s := S1x512x2048) ![0, 352, 0] ![1, 16, 2048] inb_S1x512x2048_S1x16x2048_0_352_0))) (k0_pay47 (k0_pay9 sc))⟩,
    ⟨Rect.unit (s := S512x2048) ![336, 0] ![16, 2048] inb_S512x2048_S16x2048_336_0, k0_pay45 (k0_pay8 g) (k0_pay9 sc) (k0_pay10 sh) (View.ld x (Rect.unit (s := S1x512x2048) ![0, 336, 0] ![1, 16, 2048] inb_S1x512x2048_S1x16x2048_0_336_0))⟩,
    ⟨Rect.unit (s := S512x2048) ![320, 0] ![16, 2048] inb_S512x2048_S16x2048_320_0, k0_pay44 (k0_pay42 (k0_pay8 g) (k0_pay9 sc) (View.ld x (Rect.unit (s := S1x512x2048) ![0, 320, 0] ![1, 16, 2048] inb_S1x512x2048_S1x16x2048_0_320_0))) (k0_pay43 (k0_pay10 sh))⟩,
    ⟨Rect.unit (s := S512x2048) ![304, 0] ![16, 2048] inb_S512x2048_S16x2048_304_0, k0_pay41 (k0_pay8 g) (k0_pay9 sc) (k0_pay10 sh) (View.ld x (Rect.unit (s := S1x512x2048) ![0, 304, 0] ![1, 16, 2048] inb_S1x512x2048_S1x16x2048_0_304_0))⟩,
    ⟨Rect.unit (s := S512x2048) ![288, 0] ![16, 2048] inb_S512x2048_S16x2048_288_0, k0_pay40 (k0_pay39 (k0_pay8 g) (k0_pay9 sc) (k0_pay10 sh) (View.ld x (Rect.unit (s := S1x512x2048) ![0, 288, 0] ![1, 16, 2048] inb_S1x512x2048_S1x16x2048_0_288_0)))⟩,
    ⟨Rect.unit (s := S512x2048) ![272, 0] ![16, 2048] inb_S512x2048_S16x2048_272_0, k0_pay38 (k0_pay8 g) (k0_pay9 sc) (k0_pay10 sh) (View.ld x (Rect.unit (s := S1x512x2048) ![0, 272, 0] ![1, 16, 2048] inb_S1x512x2048_S1x16x2048_0_272_0))⟩,
    ⟨Rect.unit (s := S512x2048) ![256, 0] ![16, 2048] inb_S512x2048_S16x2048_256_0, k0_pay37 (k0_pay36 (k0_pay8 g) (k0_pay9 sc) (k0_pay10 sh) (View.ld x (Rect.unit (s := S1x512x2048) ![0, 256, 0] ![1, 16, 2048] inb_S1x512x2048_S1x16x2048_0_256_0)))⟩,
    ⟨Rect.unit (s := S512x2048) ![240, 0] ![16, 2048] inb_S512x2048_S16x2048_240_0, k0_pay35 (k0_pay8 g) (k0_pay9 sc) (k0_pay10 sh) (View.ld x (Rect.unit (s := S1x512x2048) ![0, 240, 0] ![1, 16, 2048] inb_S1x512x2048_S1x16x2048_0_240_0))⟩,
    ⟨Rect.unit (s := S512x2048) ![224, 0] ![16, 2048] inb_S512x2048_S16x2048_224_0, k0_pay34 (k0_pay33 (k0_pay8 g) (k0_pay9 sc) (k0_pay10 sh) (View.ld x (Rect.unit (s := S1x512x2048) ![0, 224, 0] ![1, 16, 2048] inb_S1x512x2048_S1x16x2048_0_224_0)))⟩,
    ⟨Rect.unit (s := S512x2048) ![208, 0] ![16, 2048] inb_S512x2048_S16x2048_208_0, k0_pay32 (k0_pay8 g) (k0_pay9 sc) (k0_pay10 sh) (View.ld x (Rect.unit (s := S1x512x2048) ![0, 208, 0] ![1, 16, 2048] inb_S1x512x2048_S1x16x2048_0_208_0))⟩,
    ⟨Rect.unit (s := S512x2048) ![192, 0] ![16, 2048] inb_S512x2048_S16x2048_192_0, k0_pay31 (k0_pay8 g) (k0_pay9 sc) (k0_pay10 sh) (View.ld x (Rect.unit (s := S1x512x2048) ![0, 192, 0] ![1, 16, 2048] inb_S1x512x2048_S1x16x2048_0_192_0))⟩,
    ⟨Rect.unit (s := S512x2048) ![176, 0] ![16, 2048] inb_S512x2048_S16x2048_176_0, k0_pay30 (k0_pay8 g) (k0_pay9 sc) (k0_pay10 sh) (View.ld x (Rect.unit (s := S1x512x2048) ![0, 176, 0] ![1, 16, 2048] inb_S1x512x2048_S1x16x2048_0_176_0))⟩,
    ⟨Rect.unit (s := S512x2048) ![160, 0] ![16, 2048] inb_S512x2048_S16x2048_160_0, k0_pay29 (k0_pay8 g) (k0_pay9 sc) (k0_pay10 sh) (View.ld x (Rect.unit (s := S1x512x2048) ![0, 160, 0] ![1, 16, 2048] inb_S1x512x2048_S1x16x2048_0_160_0))⟩,
    ⟨Rect.unit (s := S512x2048) ![144, 0] ![16, 2048] inb_S512x2048_S16x2048_144_0, k0_pay28 (k0_pay8 g) (k0_pay9 sc) (k0_pay10 sh) (View.ld x (Rect.unit (s := S1x512x2048) ![0, 144, 0] ![1, 16, 2048] inb_S1x512x2048_S1x16x2048_0_144_0))⟩,
    ⟨Rect.unit (s := S512x2048) ![128, 0] ![16, 2048] inb_S512x2048_S16x2048_128_0, k0_pay27 (k0_pay8 g) (k0_pay9 sc) (k0_pay10 sh) (View.ld x (Rect.unit (s := S1x512x2048) ![0, 128, 0] ![1, 16, 2048] inb_S1x512x2048_S1x16x2048_0_128_0))⟩,
    ⟨Rect.unit (s := S512x2048) ![112, 0] ![16, 2048] inb_S512x2048_S16x2048_112_0, k0_pay26 (k0_pay8 g) (k0_pay9 sc) (k0_pay10 sh) (k0_pay24 (View.ld x (Rect.unit (s := S1x512x2048) ![0, 112, 0] ![1, 16, 2048] inb_S1x512x2048_S1x16x2048_0_112_0))) (k0_pay25 (View.ld x (Rect.unit (s := S1x512x2048) ![0, 112, 0] ![1, 16, 2048] inb_S1x512x2048_S1x16x2048_0_112_0)))⟩,
    ⟨Rect.unit (s := S512x2048) ![96, 0] ![16, 2048] inb_S512x2048_S16x2048_96_0, k0_pay23 (k0_pay8 g) (k0_pay9 sc) (k0_pay10 sh) (View.ld x (Rect.unit (s := S1x512x2048) ![0, 96, 0] ![1, 16, 2048] inb_S1x512x2048_S1x16x2048_0_96_0))⟩,
    ⟨Rect.unit (s := S512x2048) ![80, 0] ![16, 2048] inb_S512x2048_S16x2048_80_0, k0_pay22 (k0_pay8 g) (k0_pay9 sc) (k0_pay10 sh) (k0_pay20 (View.ld x (Rect.unit (s := S1x512x2048) ![0, 80, 0] ![1, 16, 2048] inb_S1x512x2048_S1x16x2048_0_80_0))) (k0_pay21 (View.ld x (Rect.unit (s := S1x512x2048) ![0, 80, 0] ![1, 16, 2048] inb_S1x512x2048_S1x16x2048_0_80_0)))⟩,
    ⟨Rect.unit (s := S512x2048) ![64, 0] ![16, 2048] inb_S512x2048_S16x2048_64_0, k0_pay19 (k0_pay8 g) (k0_pay9 sc) (k0_pay10 sh) (View.ld x (Rect.unit (s := S1x512x2048) ![0, 64, 0] ![1, 16, 2048] inb_S1x512x2048_S1x16x2048_0_64_0))⟩,
    ⟨Rect.unit (s := S512x2048) ![48, 0] ![16, 2048] inb_S512x2048_S16x2048_48_0, k0_pay18 (k0_pay8 g) (k0_pay9 sc) (k0_pay10 sh) (k0_pay16 (View.ld x (Rect.unit (s := S1x512x2048) ![0, 48, 0] ![1, 16, 2048] inb_S1x512x2048_S1x16x2048_0_48_0))) (k0_pay17 (View.ld x (Rect.unit (s := S1x512x2048) ![0, 48, 0] ![1, 16, 2048] inb_S1x512x2048_S1x16x2048_0_48_0))) (Scalar.ofBits .f32 0x45000000#32)⟩,
    ⟨Rect.unit (s := S512x2048) ![32, 0] ![16, 2048] inb_S512x2048_S16x2048_32_0, k0_pay15 (k0_pay8 g) (k0_pay9 sc) (k0_pay10 sh) (View.ld x (Rect.unit (s := S1x512x2048) ![0, 32, 0] ![1, 16, 2048] inb_S1x512x2048_S1x16x2048_0_32_0))⟩,
    ⟨Rect.unit (s := S512x2048) ![16, 0] ![16, 2048] inb_S512x2048_S16x2048_16_0, k0_pay14 (k0_pay8 g) (k0_pay9 sc) (k0_pay10 sh) (k0_pay12 (View.ld x (Rect.unit (s := S1x512x2048) ![0, 16, 0] ![1, 16, 2048] inb_S1x512x2048_S1x16x2048_0_16_0))) (k0_pay13 (View.ld x (Rect.unit (s := S1x512x2048) ![0, 16, 0] ![1, 16, 2048] inb_S1x512x2048_S1x16x2048_0_16_0)))⟩,
    ⟨Rect.unit (s := S512x2048) ![0, 0] ![16, 2048] inb_S512x2048_S16x2048_0_0, k0_pay11 g sc sh (View.ld x (Rect.unit (s := S1x512x2048) ![0, 0, 0] ![1, 16, 2048] inb_S1x512x2048_S1x16x2048_0_0_0))⟩]

/-- The kernel's first test: the block of columns is the first. -/
abbrev cond0 (i : grid0.Coords) : Prop := (Scalar.cmpi .ne (Scalar.extui (Scalar.cmpi .eq (BitVec.ofNat 32 (i 2).val) 0#32)) 0#32) = 1#1

/-! ## The tests at a point -/

theorem cond0_iff : ∀ t : Fin cfg0.N, cond0 (grid0.coords t) ↔ t.val % 3 = 0 :=
  (by decide +kernel : ∀ t : Fin grid0.N, cond0 (grid0.coords t) ↔ t.val % 3 = 0)

theorem cond2_iff : ∀ t : Fin cfg0.N, k0_cond2 (grid0.coords t) = 1#1 ↔ t.val % 3 = 0 :=
  (by decide +kernel : ∀ t : Fin grid0.N, k0_cond2 (grid0.coords t) = 1#1 ↔ t.val % 3 = 0)

theorem cond3_iff : ∀ t : Fin cfg0.N, k0_cond3 (grid0.coords t) = 1#1 ↔ t.val % 3 = 1 :=
  (by decide +kernel : ∀ t : Fin grid0.N, k0_cond3 (grid0.coords t) = 1#1 ↔ t.val % 3 = 1)

theorem cond4_iff : ∀ t : Fin cfg0.N, k0_cond4 (grid0.coords t) = 1#1 ↔ t.val % 3 = 1 :=
  (by decide +kernel : ∀ t : Fin grid0.N, k0_cond4 (grid0.coords t) = 1#1 ↔ t.val % 3 = 1)

theorem cond5_iff : ∀ t : Fin cfg0.N, k0_cond5 (grid0.coords t) = 1#1 ↔ t.val % 3 = 2 :=
  (by decide +kernel : ∀ t : Fin grid0.N, k0_cond5 (grid0.coords t) = 1#1 ↔ t.val % 3 = 2)

theorem cond6_iff : ∀ t : Fin cfg0.N, k0_cond6 (grid0.coords t) = 1#1 ↔ t.val % 3 = 2 :=
  (by decide +kernel : ∀ t : Fin grid0.N, k0_cond6 (grid0.coords t) = 1#1 ↔ t.val % 3 = 2)

/-! ## The points' values -/

variable (m : (ℓ : Loc nD τ sig) → Buf (Elt F) ℓ) (c : Dev nD)

/-- Point `n`, counted round the grid. -/
def pt (n : ℕ) : Fin cfg0.N := ⟨n % cfg0.N, Nat.mod_lt _ (by decide)⟩

theorem pt_val (t : Fin cfg0.N) : pt t.val = t := Fin.ext (Nat.mod_eq_of_lt t.isLt)

/-- The staged block of each input at point `n`. -/
def b0 (n : ℕ) : Vec F S1x512x2048 .f32 := iblk m c 0 (pt n)
@[inherit_doc b0] def b1 (n : ℕ) : Vec F S1x1x2048 .f32 := iblk m c 1 (pt n)
@[inherit_doc b0] def b2 (n : ℕ) : Vec F S1x1x2048 .f32 := iblk m c 2 (pt n)
@[inherit_doc b0] def b3 (n : ℕ) : Vec F S1x2048 .f32 := iblk m c 3 (pt n)
@[inherit_doc b0] def b4 (n : ℕ) : Vec F S2048x1024 .bf16 := iblk m c 4 (pt n)

/-- The normalised rows at point `n`: those of the first point of its block of rows. -/
def hN (n : ℕ) : Vec F S512x2048 .bf16 := hOf (b0 m c (n - n % 3)) (b3 m c (n - n % 3)) (b1 m c (n - n % 3)) (b2 m c (n - n % 3))

theorem hN_first (n : ℕ) (h : n % 3 = 0) : hOf (b0 m c n) (b3 m c n) (b1 m c n) (b2 m c n) = hN m c n := by
  unfold hN; rw [h, Nat.sub_zero]

theorem hN_next (n : ℕ) (h : n % 3 ≠ 0) : hN m c (n - 1) = hN m c n := by
  unfold hN
  have e : n - 1 - (n - 1) % 3 = n - n % 3 := by omega
  rw [e]

/-- The block of output 0 that point `n`'s block of rows writes. -/
def o5 (n : ℕ) : Vec F S1x512x1024 .bf16 := k0_pay3 (hN m c n) (b4 m c (n - n % 3 + 0))

theorem o5_here (n : ℕ) (h : n % 3 = 0) : k0_pay3 (hN m c n) (b4 m c n) = o5 m c n := by
  unfold o5
  have e : n - n % 3 + 0 = n := by omega
  rw [e]

theorem o5_next (n : ℕ) (h : n % 3 ≠ 0) : o5 m c (n - 1) = o5 m c n := by
  unfold o5
  have e : n - 1 - (n - 1) % 3 = n - n % 3 := by omega
  rw [hN_next m c n h, e]

/-- The block of output 1 that point `n`'s block of rows writes. -/
def o6 (n : ℕ) : Vec F S1x512x8x128 .f32 := k0_pay4 (hN m c n) (b4 m c (n - n % 3 + 1))

theorem o6_here (n : ℕ) (h : n % 3 = 1) : k0_pay4 (hN m c n) (b4 m c n) = o6 m c n := by
  unfold o6
  have e : n - n % 3 + 1 = n := by omega
  rw [e]

theorem o6_next (n : ℕ) (h : n % 3 ≠ 0) : o6 m c (n - 1) = o6 m c n := by
  unfold o6
  have e : n - 1 - (n - 1) % 3 = n - n % 3 := by omega
  rw [hN_next m c n h, e]

/-- The block of output 2 that point `n`'s block of rows writes. -/
def o7 (n : ℕ) : Vec F S1x512x1024 .bf16 := k0_pay5 (hN m c n) (b4 m c (n - n % 3 + 1))

theorem o7_here (n : ℕ) (h : n % 3 = 1) : k0_pay5 (hN m c n) (b4 m c n) = o7 m c n := by
  unfold o7
  have e : n - n % 3 + 1 = n := by omega
  rw [e]

theorem o7_next (n : ℕ) (h : n % 3 ≠ 0) : o7 m c (n - 1) = o7 m c n := by
  unfold o7
  have e : n - 1 - (n - 1) % 3 = n - n % 3 := by omega
  rw [hN_next m c n h, e]

/-- The block of output 3 that point `n`'s block of rows writes. -/
def o8 (n : ℕ) : Vec F S1x512x8x128 .f32 := k0_pay6 (hN m c n) (b4 m c (n - n % 3 + 2))

theorem o8_here (n : ℕ) (h : n % 3 = 2) : k0_pay6 (hN m c n) (b4 m c n) = o8 m c n := by
  unfold o8
  have e : n - n % 3 + 2 = n := by omega
  rw [e]

theorem o8_next (n : ℕ) (h : n % 3 ≠ 0) : o8 m c (n - 1) = o8 m c n := by
  unfold o8
  have e : n - 1 - (n - 1) % 3 = n - n % 3 := by omega
  rw [hN_next m c n h, e]

/-- The block of output 4 that point `n`'s block of rows writes. -/
def o9 (n : ℕ) : Vec F S1x512x1024 .bf16 := k0_pay7 (hN m c n) (b4 m c (n - n % 3 + 2))

theorem o9_here (n : ℕ) (h : n % 3 = 2) : k0_pay7 (hN m c n) (b4 m c n) = o9 m c n := by
  unfold o9
  have e : n - n % 3 + 2 = n := by omega
  rw [e]

theorem o9_next (n : ℕ) (h : n % 3 ≠ 0) : o9 m c (n - 1) = o9 m c n := by
  unfold o9
  have e : n - 1 - (n - 1) % 3 = n - n % 3 := by omega
  rw [hN_next m c n h, e]

end Cert.Kernel4Ideal.Run

end
-- ==== Proof.ProjSb.Cases.lean ====
/-
  The body of the stick-breaking projection at a point of each block of columns.
-/
module

public import proofs.«01_k».proof.Proof.ProjSb.Fun

@[expose] public section

set_option maxRecDepth 16384

noncomputable section

namespace Cert.Kernel4Ideal.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S1x512x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x1024 .bf16) (harg7 : arg7.IsWhole) (arg8 : Memref sig .tc .vmem S1x512x1024 .bf16) (harg8 : arg8.IsWhole) (arg9 : Memref sig .tc .vmem S1x512x8x128 .f32) (harg9 : arg9.IsWhole) (arg10 : Memref sig .tc .vmem S1x512x1024 .bf16) (harg10 : arg10.IsWhole) (arg11 : Memref sig .tc .vmem S1x512x8x128 .f32) (harg11 : arg11.IsWhole) (arg12 : Memref sig .tc .vmem S1x512x1024 .bf16) (harg12 : arg12.IsWhole) (arg13 : Memref sig .tc .vmem S512x2048 .bf16) (harg13 : arg13.IsWhole)
  (x0 : Vec F S1x512x2048 .f32) (x1 : Vec F S1x1x2048 .f32) (x2 : Vec F S1x1x2048 .f32) (x3 : Vec F S1x2048 .f32) (x4 : Vec F S2048x1024 .bf16) (y5 : Vec F S1x512x1024 .bf16) (y6 : Vec F S1x512x8x128 .f32) (y7 : Vec F S1x512x1024 .bf16) (y8 : Vec F S1x512x8x128 .f32) (y9 : Vec F S1x512x1024 .bf16) (s0 : Vec F S512x2048 .bf16)

set_option maxHeartbeats 2000000 in
/-- The projection's body at a point of block of columns 0: what it leaves in each buffer. -/
theorem body_0 (E : Set ℕ) (K : PUnit → sProp 𝕄) (hc0 : cond0 i) (hc2 : k0_cond2 i = 1#1) (hc3 : ¬ k0_cond3 i = 1#1) (hc4 : ¬ k0_cond4 i = 1#1) (hc5 : ¬ k0_cond5 i = 1#1) (hc6 : ¬ k0_cond6 i = 1#1) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ owns (c : Thread nD τ) arg11 fullShare y8 ∗ owns (c : Thread nD τ) arg12 fullShare y9 ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay3 (hOf x0 x3 x1 x2) x4) ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare (hOf x0 x3 x1 x2)) -∗ K ⟨⟩))
      ⊢ wp frame (wpE (defs₀ (F := F)) Variants.none c none) E (cc0_proj_sb i arg3 harg3 arg4 harg4 arg5 harg5 arg6 harg6 arg7 harg7 arg8 harg8 arg9 harg9 arg10 harg10 arg11 harg11 arg12 harg12 arg13 harg13) K := by
  simp only [cc0_proj_sb_eq_skeleton]; unfold cc0_proj_sb_skel
  simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
  sl_exec (disch := first | sl_exact hc0 | sl_exact hc2 | sl_exact hc3 | sl_exact hc4 | sl_exact hc5 | sl_exact hc6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [View.read_writes_eq_canon _ _ _ (View.cover_of_tiledL _ ![1, 512, 1024] (by sl_kernel_rfl))]
    sl_unfold_words
    simp only [View.readAt_eq_ld, Memref.IsWhole.read_unread]
    simp (disch := decide) only [View.ld_unit_lit', View.canon_cons_unit_lit', View.readCov_eq_canon']
    have whole_h (L : List (View.Piece (Elt F) S512x2048 FTy.bf16.elt)) : (fun j => View.canon L ((Rect.unit (s := S512x2048) ![0, 0] ![512, 2048] inb_S512x2048_S512x2048_0_0).toLoadRect.idx j)) = View.canon L :=
      View.ld_unit_lit' inb_S512x2048_S512x2048_0_0 (View.canon L) (by decide)
    simp only [whole_h]
    rfl
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  iexists _; isplitr; swap; · iexact H10
  ipureintro
  rw [View.read_writes_eq_canon _ _ _ (View.cover_of_tiledL _ ![16, 2048] (by sl_kernel_rfl))]
  sl_unfold_words
  simp only [View.readAt_eq_ld, Memref.IsWhole.read_unread]
  simp (disch := decide) only [View.ld_unit_lit', View.canon_cons_unit_lit', View.readCov_eq_canon']
  rfl

set_option maxHeartbeats 2000000 in
/-- The projection's body at a point of block of columns 1: what it leaves in each buffer. -/
theorem body_1 (E : Set ℕ) (K : PUnit → sProp 𝕄) (hc0 : ¬ cond0 i) (hc2 : ¬ k0_cond2 i = 1#1) (hc3 : k0_cond3 i = 1#1) (hc4 : k0_cond4 i = 1#1) (hc5 : ¬ k0_cond5 i = 1#1) (hc6 : ¬ k0_cond6 i = 1#1) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare s0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare (k0_pay4 s0 x4) ∗ owns (c : Thread nD τ) arg10 fullShare (k0_pay5 s0 x4) ∗ owns (c : Thread nD τ) arg11 fullShare y8 ∗ owns (c : Thread nD τ) arg12 fullShare y9 ∗ owns (c : Thread nD τ) arg13 fullShare s0) -∗ K ⟨⟩))
      ⊢ wp frame (wpE (defs₀ (F := F)) Variants.none c none) E (cc0_proj_sb i arg3 harg3 arg4 harg4 arg5 harg5 arg6 harg6 arg7 harg7 arg8 harg8 arg9 harg9 arg10 harg10 arg11 harg11 arg12 harg12 arg13 harg13) K := by
  simp only [cc0_proj_sb_eq_skeleton]; unfold cc0_proj_sb_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
  sl_exec (disch := first | sl_exact hc0 | sl_exact hc2 | sl_exact hc3 | sl_exact hc4 | sl_exact hc5 | sl_exact hc6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [View.read_writes_eq_canon _ _ _ (View.cover_of_tiledL _ ![1, 512, 8, 128] (by sl_kernel_rfl))]
    sl_unfold_words
    simp only [View.readAt_eq_ld, Memref.IsWhole.read_unread]
    simp (disch := decide) only [View.ld_unit_lit', View.canon_cons_unit_lit', View.readCov_eq_canon']
  isplitl [H7]
  · iexists _; isplitr; swap; · iexact H7
    ipureintro
    rw [View.read_writes_eq_canon _ _ _ (View.cover_of_tiledL _ ![1, 512, 1024] (by sl_kernel_rfl))]
    sl_unfold_words
    simp only [View.readAt_eq_ld, Memref.IsWhole.read_unread]
    simp (disch := decide) only [View.ld_unit_lit', View.canon_cons_unit_lit', View.readCov_eq_canon']
  isplitl [H8]
  · iexists _; isplitr; · ipureintro; exact harg11.read_unread _
    iexact H8
  isplitl [H9]
  · iexists _; isplitr; · ipureintro; exact harg12.read_unread _
    iexact H9
  iexists _; isplitr; · ipureintro; exact harg13.read_unread _
  iexact H10

set_option maxHeartbeats 2000000 in
/-- The projection's body at a point of block of columns 2: what it leaves in each buffer. -/
theorem body_2 (E : Set ℕ) (K : PUnit → sProp 𝕄) (hc0 : ¬ cond0 i) (hc2 : ¬ k0_cond2 i = 1#1) (hc3 : ¬ k0_cond3 i = 1#1) (hc4 : ¬ k0_cond4 i = 1#1) (hc5 : k0_cond5 i = 1#1) (hc6 : k0_cond6 i = 1#1) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare s0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ owns (c : Thread nD τ) arg11 fullShare (k0_pay6 s0 x4) ∗ owns (c : Thread nD τ) arg12 fullShare (k0_pay7 s0 x4) ∗ owns (c : Thread nD τ) arg13 fullShare s0) -∗ K ⟨⟩))
      ⊢ wp frame (wpE (defs₀ (F := F)) Variants.none c none) E (cc0_proj_sb i arg3 harg3 arg4 harg4 arg5 harg5 arg6 harg6 arg7 harg7 arg8 harg8 arg9 harg9 arg10 harg10 arg11 harg11 arg12 harg12 arg13 harg13) K := by
  simp only [cc0_proj_sb_eq_skeleton]; unfold cc0_proj_sb_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
  sl_exec (disch := first | sl_exact hc0 | sl_exact hc2 | sl_exact hc3 | sl_exact hc4 | sl_exact hc5 | sl_exact hc6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    rw [View.read_writes_eq_canon _ _ _ (View.cover_of_tiledL _ ![1, 512, 8, 128] (by sl_kernel_rfl))]
    sl_unfold_words
    simp only [View.readAt_eq_ld, Memref.IsWhole.read_unread]
    simp (disch := decide) only [View.ld_unit_lit', View.canon_cons_unit_lit', View.readCov_eq_canon']
  isplitl [H9]
  · iexists _; isplitr; swap; · iexact H9
    ipureintro
    rw [View.read_writes_eq_canon _ _ _ (View.cover_of_tiledL _ ![1, 512, 1024] (by sl_kernel_rfl))]
    sl_unfold_words
    simp only [View.readAt_eq_ld, Memref.IsWhole.read_unread]
    simp (disch := decide) only [View.ld_unit_lit', View.canon_cons_unit_lit', View.readCov_eq_canon']
  iexists _; isplitr; · ipureintro; exact harg13.read_unread _
  iexact H10

end Cert.Kernel4Ideal.Run

end
-- ==== Proof.ProjSb.Steps.lean ====
/-
  The stick-breaking projection's invariant between grid points, and its step over one point, case by case.
-/
module

public import proofs.«01_k».proof.Proof.ProjSb.Cases

@[expose] public section

set_option maxRecDepth 16384

noncomputable section

namespace Cert.Kernel4Ideal.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- The scratch of normalised rows. -/
abbrev scM0_0 : Memref sig .tc .vmem S512x2048 .bf16 := Memref.whole cc0_scratch0

/-- Between grid points: the normalised rows are those of the point before unless a block of rows begins here. -/
def PhiS (n : ℕ) : sProp 𝕄 :=
  iprop((∃ d, ⌜n % 3 ≠ 0 → d = hN m c (n - 1)⌝ ∗ owns (c : Thread nD τ) scM0_0 fullShare d)
    ∗ (∃ r, prngReg c r))

/-- What the body is called with at point `t`: the inputs' blocks staged, the outputs' buffers at the `Y`s. -/
def stepPre (O : sProp 𝕄) (t : Fin cfg0.N) (Y5 : Vec F S1x512x1024 .bf16) (Y6 : Vec F S1x512x8x128 .f32) (Y7 : Vec F S1x512x1024 .bf16) (Y8 : Vec F S1x512x8x128 .f32) (Y9 : Vec F S1x512x1024 .bf16) : sProp 𝕄 :=
  iprop(PhiS m c t.val ∗ O ∗ owns (c : Thread nD τ) (st0_0 t) fullShare (b0 m c t.val) ∗ owns (c : Thread nD τ) (st0_1 t) fullShare (b1 m c t.val) ∗ owns (c : Thread nD τ) (st0_2 t) fullShare (b2 m c t.val) ∗ owns (c : Thread nD τ) (st0_3 t) fullShare (b3 m c t.val) ∗ owns (c : Thread nD τ) (st0_4 t) fullShare (b4 m c t.val) ∗ owns (c : Thread nD τ) (st0_5 t) fullShare Y5 ∗ owns (c : Thread nD τ) (st0_6 t) fullShare Y6 ∗ owns (c : Thread nD τ) (st0_7 t) fullShare Y7 ∗ owns (c : Thread nD τ) (st0_8 t) fullShare Y8 ∗ owns (c : Thread nD τ) (st0_9 t) fullShare Y9)

/-- What the body leaves: the inputs' blocks kept, and each output's block in its buffer from its block of columns on. -/
def stepPost (O : sProp 𝕄) (t : Fin cfg0.N) : sProp 𝕄 :=
  iprop(PhiS m c (t.val + 1) ∗ O ∗ owns (c : Thread nD τ) (st0_0 t) fullShare (b0 m c t.val) ∗ owns (c : Thread nD τ) (st0_1 t) fullShare (b1 m c t.val) ∗ owns (c : Thread nD τ) (st0_2 t) fullShare (b2 m c t.val) ∗ owns (c : Thread nD τ) (st0_3 t) fullShare (b3 m c t.val) ∗ owns (c : Thread nD τ) (st0_4 t) fullShare (b4 m c t.val)
    ∗ (∃ X : Vec F S1x512x1024 .bf16, ⌜0 ≤ t.val % 3 → X = o5 m c t.val⌝ ∗ owns (c : Thread nD τ) (st0_5 t) fullShare X)
    ∗ (∃ X : Vec F S1x512x8x128 .f32, ⌜1 ≤ t.val % 3 → X = o6 m c t.val⌝ ∗ owns (c : Thread nD τ) (st0_6 t) fullShare X)
    ∗ (∃ X : Vec F S1x512x1024 .bf16, ⌜1 ≤ t.val % 3 → X = o7 m c t.val⌝ ∗ owns (c : Thread nD τ) (st0_7 t) fullShare X)
    ∗ (∃ X : Vec F S1x512x8x128 .f32, ⌜2 ≤ t.val % 3 → X = o8 m c t.val⌝ ∗ owns (c : Thread nD τ) (st0_8 t) fullShare X)
    ∗ (∃ X : Vec F S1x512x1024 .bf16, ⌜2 ≤ t.val % 3 → X = o9 m c t.val⌝ ∗ owns (c : Thread nD τ) (st0_9 t) fullShare X))

/-- The step at a point of block of columns 0. -/
theorem step_0 (O : sProp 𝕄) (t : Fin cfg0.N) (Y5 : Vec F S1x512x1024 .bf16) (Y6 : Vec F S1x512x8x128 .f32) (Y7 : Vec F S1x512x1024 .bf16) (Y8 : Vec F S1x512x8x128 .f32) (Y9 : Vec F S1x512x1024 .bf16)
    (h0 : t.val % 3 = 0) (k5 : 0 < t.val % 3 → Y5 = o5 m c t.val) (k6 : 1 < t.val % 3 → Y6 = o6 m c t.val) (k7 : 1 < t.val % 3 → Y7 = o7 m c t.val) (k8 : 2 < t.val % 3 → Y8 = o8 m c t.val) (k9 : 2 < t.val % 3 → Y9 = o9 m c t.val) :
    stepPre m c O t Y5 Y6 Y7 Y8 Y9 ⊢ wp frame (wpE (defs₀ (F := F)) Variants.none c none) Set.univ (bodyAt0 t) (fun _ => stepPost m c O t) := by
  unfold stepPre stepPost PhiS
  iintro ⟨⟨⟨%d0, %e0, S0⟩, Hr⟩, Ho, H0, H1, H2, H3, H4, H5, H6, H7, H8, H9⟩
  have hh : hOf (b0 m c t.val) (b3 m c t.val) (b1 m c t.val) (b2 m c t.val) = hN m c t.val := hN_first m c _ h0
  iapply (body_0 c (grid0.coords t) _ _ _ _ _ _ _ _ _ _ _ _ _ _ _ _ _ _ _ _ _ _ (b0 m c t.val) (b1 m c t.val) (b2 m c t.val) (b3 m c t.val) (b4 m c t.val) Y5 Y6 Y7 Y8 Y9 Set.univ _ ((cond0_iff t).mpr h0) ((cond2_iff t).mpr h0) (fun h => absurd ((cond3_iff t).mp h) (by omega)) (fun h => absurd ((cond4_iff t).mp h) (by omega)) (fun h => absurd ((cond5_iff t).mp h) (by omega)) (fun h => absurd ((cond6_iff t).mp h) (by omega)))
  iframe H0 H1 H2 H3 H4 H5 H6 H7 H8 H9
  isplitl [S0]; · iexists _; iexact S0
  iintro ⟨H0, H1, H2, H3, H4, H5, H6, H7, H8, H9, S0⟩
  isplitl [S0 Hr]
  · isplitl [S0]
    · iexists _; isplitr; swap; · iexact S0
      ipureintro
      exact fun _ => hh
    iexact Hr
  iframe Ho H0 H1 H2 H3 H4
  isplitl [H5]
  · iexists _; isplitr; swap; · iexact H5
    ipureintro
    exact fun _ => (congrArg (fun h => k0_pay3 h (b4 m c t.val)) hh).trans (o5_here m c _ h0)
  isplitl [H6]
  · iexists _; isplitr; swap; · iexact H6
    ipureintro
    exact fun h => absurd h (by omega)
  isplitl [H7]
  · iexists _; isplitr; swap; · iexact H7
    ipureintro
    exact fun h => absurd h (by omega)
  isplitl [H8]
  · iexists _; isplitr; swap; · iexact H8
    ipureintro
    exact fun h => absurd h (by omega)
  iexists _; isplitr; swap; · iexact H9
  ipureintro
  exact fun h => absurd h (by omega)

/-- The step at a point of block of columns 1. -/
theorem step_1 (O : sProp 𝕄) (t : Fin cfg0.N) (Y5 : Vec F S1x512x1024 .bf16) (Y6 : Vec F S1x512x8x128 .f32) (Y7 : Vec F S1x512x1024 .bf16) (Y8 : Vec F S1x512x8x128 .f32) (Y9 : Vec F S1x512x1024 .bf16)
    (h0 : t.val % 3 = 1) (k5 : 0 < t.val % 3 → Y5 = o5 m c t.val) (k6 : 1 < t.val % 3 → Y6 = o6 m c t.val) (k7 : 1 < t.val % 3 → Y7 = o7 m c t.val) (k8 : 2 < t.val % 3 → Y8 = o8 m c t.val) (k9 : 2 < t.val % 3 → Y9 = o9 m c t.val) :
    stepPre m c O t Y5 Y6 Y7 Y8 Y9 ⊢ wp frame (wpE (defs₀ (F := F)) Variants.none c none) Set.univ (bodyAt0 t) (fun _ => stepPost m c O t) := by
  unfold stepPre stepPost PhiS
  iintro ⟨⟨⟨%d0, %e0, S0⟩, Hr⟩, Ho, H0, H1, H2, H3, H4, H5, H6, H7, H8, H9⟩
  obtain rfl : d0 = hN m c t.val := (e0 (by omega)).trans (hN_next m c _ (by omega))
  iapply (body_1 c (grid0.coords t) _ _ _ _ _ _ _ _ _ _ _ _ _ _ _ _ _ _ _ _ _ _ (b0 m c t.val) (b1 m c t.val) (b2 m c t.val) (b3 m c t.val) (b4 m c t.val) Y5 Y6 Y7 Y8 Y9 (hN m c t.val) Set.univ _ (fun h => absurd ((cond0_iff t).mp h) (by omega)) (fun h => absurd ((cond2_iff t).mp h) (by omega)) ((cond3_iff t).mpr h0) ((cond4_iff t).mpr h0) (fun h => absurd ((cond5_iff t).mp h) (by omega)) (fun h => absurd ((cond6_iff t).mp h) (by omega)))
  iframe H0 H1 H2 H3 H4 H5 H6 H7 H8 H9
  isplitl [S0]; · iexact S0
  iintro ⟨H0, H1, H2, H3, H4, H5, H6, H7, H8, H9, S0⟩
  isplitl [S0 Hr]
  · isplitl [S0]
    · iexists _; isplitr; swap; · iexact S0
      ipureintro
      exact fun _ => rfl
    iexact Hr
  iframe Ho H0 H1 H2 H3 H4
  isplitl [H5]
  · iexists _; isplitr; swap; · iexact H5
    ipureintro
    exact fun _ => k5 (by omega)
  isplitl [H6]
  · iexists _; isplitr; swap; · iexact H6
    ipureintro
    exact fun _ => (o6_here m c _ h0)
  isplitl [H7]
  · iexists _; isplitr; swap; · iexact H7
    ipureintro
    exact fun _ => (o7_here m c _ h0)
  isplitl [H8]
  · iexists _; isplitr; swap; · iexact H8
    ipureintro
    exact fun h => absurd h (by omega)
  iexists _; isplitr; swap; · iexact H9
  ipureintro
  exact fun h => absurd h (by omega)

/-- The step at a point of block of columns 2. -/
theorem step_2 (O : sProp 𝕄) (t : Fin cfg0.N) (Y5 : Vec F S1x512x1024 .bf16) (Y6 : Vec F S1x512x8x128 .f32) (Y7 : Vec F S1x512x1024 .bf16) (Y8 : Vec F S1x512x8x128 .f32) (Y9 : Vec F S1x512x1024 .bf16)
    (h0 : t.val % 3 = 2) (k5 : 0 < t.val % 3 → Y5 = o5 m c t.val) (k6 : 1 < t.val % 3 → Y6 = o6 m c t.val) (k7 : 1 < t.val % 3 → Y7 = o7 m c t.val) (k8 : 2 < t.val % 3 → Y8 = o8 m c t.val) (k9 : 2 < t.val % 3 → Y9 = o9 m c t.val) :
    stepPre m c O t Y5 Y6 Y7 Y8 Y9 ⊢ wp frame (wpE (defs₀ (F := F)) Variants.none c none) Set.univ (bodyAt0 t) (fun _ => stepPost m c O t) := by
  unfold stepPre stepPost PhiS
  iintro ⟨⟨⟨%d0, %e0, S0⟩, Hr⟩, Ho, H0, H1, H2, H3, H4, H5, H6, H7, H8, H9⟩
  obtain rfl : d0 = hN m c t.val := (e0 (by omega)).trans (hN_next m c _ (by omega))
  iapply (body_2 c (grid0.coords t) _ _ _ _ _ _ _ _ _ _ _ _ _ _ _ _ _ _ _ _ _ _ (b0 m c t.val) (b1 m c t.val) (b2 m c t.val) (b3 m c t.val) (b4 m c t.val) Y5 Y6 Y7 Y8 Y9 (hN m c t.val) Set.univ _ (fun h => absurd ((cond0_iff t).mp h) (by omega)) (fun h => absurd ((cond2_iff t).mp h) (by omega)) (fun h => absurd ((cond3_iff t).mp h) (by omega)) (fun h => absurd ((cond4_iff t).mp h) (by omega)) ((cond5_iff t).mpr h0) ((cond6_iff t).mpr h0))
  iframe H0 H1 H2 H3 H4 H5 H6 H7 H8 H9
  isplitl [S0]; · iexact S0
  iintro ⟨H0, H1, H2, H3, H4, H5, H6, H7, H8, H9, S0⟩
  isplitl [S0 Hr]
  · isplitl [S0]
    · iexists _; isplitr; swap; · iexact S0
      ipureintro
      exact fun _ => rfl
    iexact Hr
  iframe Ho H0 H1 H2 H3 H4
  isplitl [H5]
  · iexists _; isplitr; swap; · iexact H5
    ipureintro
    exact fun _ => k5 (by omega)
  isplitl [H6]
  · iexists _; isplitr; swap; · iexact H6
    ipureintro
    exact fun _ => k6 (by omega)
  isplitl [H7]
  · iexists _; isplitr; swap; · iexact H7
    ipureintro
    exact fun _ => k7 (by omega)
  isplitl [H8]
  · iexists _; isplitr; swap; · iexact H8
    ipureintro
    exact fun _ => (o8_here m c _ h0)
  iexists _; isplitr; swap; · iexact H9
  ipureintro
  exact fun _ => (o9_here m c _ h0)

/-- The step at any point. -/
theorem step_any (O : sProp 𝕄) (t : Fin cfg0.N) (Y5 : Vec F S1x512x1024 .bf16) (Y6 : Vec F S1x512x8x128 .f32) (Y7 : Vec F S1x512x1024 .bf16) (Y8 : Vec F S1x512x8x128 .f32) (Y9 : Vec F S1x512x1024 .bf16) (k5 : 0 < t.val % 3 → Y5 = o5 m c t.val) (k6 : 1 < t.val % 3 → Y6 = o6 m c t.val) (k7 : 1 < t.val % 3 → Y7 = o7 m c t.val) (k8 : 2 < t.val % 3 → Y8 = o8 m c t.val) (k9 : 2 < t.val % 3 → Y9 = o9 m c t.val) :
    stepPre m c O t Y5 Y6 Y7 Y8 Y9 ⊢ wp frame (wpE (defs₀ (F := F)) Variants.none c none) Set.univ (bodyAt0 t) (fun _ => stepPost m c O t) := by
  obtain h | h | h : t.val % 3 = 0 ∨ t.val % 3 = 1 ∨ t.val % 3 = 2 := by omega
  · exact step_0 m c O t Y5 Y6 Y7 Y8 Y9 h k5 k6 k7 k8 k9
  · exact step_1 m c O t Y5 Y6 Y7 Y8 Y9 h k5 k6 k7 k8 k9
  · exact step_2 m c O t Y5 Y6 Y7 Y8 Y9 h k5 k6 k7 k8 k9

end Cert.Kernel4Ideal.Run

end
-- ==== Proof.ProjSb.Frame.lean ====
/-
  The stick-breaking projection's launch: the proof data that says what each point may leave, the run of @main, and the frame.
-/
module

public import proofs.«01_k».proof.Proof.ProjSb.Steps
public import Idealize.ShloMosaic.Lib.Claim
public import Idealize.ShloMosaic.Lib.Pipeline.Value
public import Idealize.ShloMosaic.Lib.Pipeline.ArrRel

@[expose] public section

set_option maxRecDepth 16384

noncomputable section

namespace Cert.Kernel4Ideal.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Exact proof data of the inputs: each buffer at its block after the body; of the outputs nothing is used. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => o5 m c t.val
    | ⟨6, _⟩ => o6 m c t.val
    | ⟨7, _⟩ => o7 m c t.val
    | ⟨8, _⟩ => o8 m c t.val
    | ⟨9, _⟩ => o9 m c t.val
  Φ t := PhiS m c t.val
  q _ := fullShare
  owed _ := 0

/-- Output 0's relation: from its block of columns on, its buffer is left at its block. -/
def R5 (c : Dev nD) (t : Fin cfg0.N) (_ X : Vec F S1x512x1024 .bf16) : Prop := 0 ≤ t.val % 3 → X = o5 m c t.val

/-- Output 1's relation: from its block of columns on, its buffer is left at its block. -/
def R6 (c : Dev nD) (t : Fin cfg0.N) (_ X : Vec F S1x512x8x128 .f32) : Prop := 1 ≤ t.val % 3 → X = o6 m c t.val

/-- Output 2's relation: from its block of columns on, its buffer is left at its block. -/
def R7 (c : Dev nD) (t : Fin cfg0.N) (_ X : Vec F S1x512x1024 .bf16) : Prop := 1 ≤ t.val % 3 → X = o7 m c t.val

/-- Output 3's relation: from its block of columns on, its buffer is left at its block. -/
def R8 (c : Dev nD) (t : Fin cfg0.N) (_ X : Vec F S1x512x8x128 .f32) : Prop := 2 ≤ t.val % 3 → X = o8 m c t.val

/-- Output 4's relation: from its block of columns on, its buffer is left at its block. -/
def R9 (c : Dev nD) (t : Fin cfg0.N) (_ X : Vec F S1x512x1024 .bf16) : Prop := 2 ≤ t.val % 3 → X = o9 m c t.val

/-- The outputs' relations. -/
def ovr (c : Dev nD) : (w : Fin cfg0.W) → Option (Fin cfg0.N → (Y X : (cfg0.win w).block.Idx → Elt F (cfg0.win w).elt) → Prop)
  | ⟨5, _⟩ => some (R5 m c)
  | ⟨6, _⟩ => some (R6 m c)
  | ⟨7, _⟩ => some (R7 m c)
  | ⟨8, _⟩ => some (R8 m c)
  | ⟨9, _⟩ => some (R9 m c)
  | _ => none

/-- The proof data: the inputs' exact, the outputs' by their relations. -/
def rd (c : Dev nD) : RDat τ (Elt F) Unit ℕ (UR sig nD τ) ℕ cfg0 c := (dats m c).toR.override (ovr m c)

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]; try rfl
theorem after0_1 (c : Dev nD) (t : Fin cfg0.N) : (dats m c).after 1 t = iblk m c 1 t := by dsimp only [dats]; try rfl
theorem after0_2 (c : Dev nD) (t : Fin cfg0.N) : (dats m c).after 2 t = iblk m c 2 t := by dsimp only [dats]; try rfl
theorem after0_3 (c : Dev nD) (t : Fin cfg0.N) : (dats m c).after 3 t = iblk m c 3 t := by dsimp only [dats]; try rfl
theorem after0_4 (c : Dev nD) (t : Fin cfg0.N) : (dats m c).after 4 t = iblk m c 4 t := by dsimp only [dats]; try rfl

theorem finds_0 (c : Dev nD) (t : Fin cfg0.N) (X : (cfg0.win 0).block.Idx → Elt F (cfg0.win 0).elt) (h : (rd m c).Finds 0 t X) : X = b0 m c t.val := by
  obtain ⟨d, hd⟩ := (dats m c).toR_finds 0 t X (((dats m c).toR.override_finds (ovr := ovr m c) rfl t X).mp h)
  rw [hd, before0_0_of m (dats m c) (A_eq m c 0) (after0_0 m c) t d]
  unfold b0; rw [pt_val]

theorem leaves_0 (c : Dev nD) (t : Fin cfg0.N) (Y : (cfg0.win 0).block.Idx → Elt F (cfg0.win 0).elt) : (rd m c).after 0 t Y (b0 m c t.val) := by
  unfold rd
  rw [RDat.override_after_of_eq_none (rd := (dats m c).toR) (ovr := ovr m c) (w := 0) rfl]
  show (dats m c).Leaves 0 t _
  unfold b0; rw [pt_val, ← after0_0]
  rfl

theorem finds_1 (c : Dev nD) (t : Fin cfg0.N) (X : (cfg0.win 1).block.Idx → Elt F (cfg0.win 1).elt) (h : (rd m c).Finds 1 t X) : X = b1 m c t.val := by
  obtain ⟨d, hd⟩ := (dats m c).toR_finds 1 t X (((dats m c).toR.override_finds (ovr := ovr m c) rfl t X).mp h)
  rw [hd, before0_1_of m (dats m c) (A_eq m c 1) (after0_1 m c) t d]
  unfold b1; rw [pt_val]

theorem leaves_1 (c : Dev nD) (t : Fin cfg0.N) (Y : (cfg0.win 1).block.Idx → Elt F (cfg0.win 1).elt) : (rd m c).after 1 t Y (b1 m c t.val) := by
  unfold rd
  rw [RDat.override_after_of_eq_none (rd := (dats m c).toR) (ovr := ovr m c) (w := 1) rfl]
  show (dats m c).Leaves 1 t _
  unfold b1; rw [pt_val, ← after0_1]
  rfl

theorem finds_2 (c : Dev nD) (t : Fin cfg0.N) (X : (cfg0.win 2).block.Idx → Elt F (cfg0.win 2).elt) (h : (rd m c).Finds 2 t X) : X = b2 m c t.val := by
  obtain ⟨d, hd⟩ := (dats m c).toR_finds 2 t X (((dats m c).toR.override_finds (ovr := ovr m c) rfl t X).mp h)
  rw [hd, before0_2_of m (dats m c) (A_eq m c 2) (after0_2 m c) t d]
  unfold b2; rw [pt_val]

theorem leaves_2 (c : Dev nD) (t : Fin cfg0.N) (Y : (cfg0.win 2).block.Idx → Elt F (cfg0.win 2).elt) : (rd m c).after 2 t Y (b2 m c t.val) := by
  unfold rd
  rw [RDat.override_after_of_eq_none (rd := (dats m c).toR) (ovr := ovr m c) (w := 2) rfl]
  show (dats m c).Leaves 2 t _
  unfold b2; rw [pt_val, ← after0_2]
  rfl

theorem finds_3 (c : Dev nD) (t : Fin cfg0.N) (X : (cfg0.win 3).block.Idx → Elt F (cfg0.win 3).elt) (h : (rd m c).Finds 3 t X) : X = b3 m c t.val := by
  obtain ⟨d, hd⟩ := (dats m c).toR_finds 3 t X (((dats m c).toR.override_finds (ovr := ovr m c) rfl t X).mp h)
  rw [hd, before0_3_of m (dats m c) (A_eq m c 3) (after0_3 m c) t d]
  unfold b3; rw [pt_val]

theorem leaves_3 (c : Dev nD) (t : Fin cfg0.N) (Y : (cfg0.win 3).block.Idx → Elt F (cfg0.win 3).elt) : (rd m c).after 3 t Y (b3 m c t.val) := by
  unfold rd
  rw [RDat.override_after_of_eq_none (rd := (dats m c).toR) (ovr := ovr m c) (w := 3) rfl]
  show (dats m c).Leaves 3 t _
  unfold b3; rw [pt_val, ← after0_3]
  rfl

theorem finds_4 (c : Dev nD) (t : Fin cfg0.N) (X : (cfg0.win 4).block.Idx → Elt F (cfg0.win 4).elt) (h : (rd m c).Finds 4 t X) : X = b4 m c t.val := by
  obtain ⟨d, hd⟩ := (dats m c).toR_finds 4 t X (((dats m c).toR.override_finds (ovr := ovr m c) rfl t X).mp h)
  rw [hd, before0_4_of m (dats m c) (A_eq m c 4) (after0_4 m c) t d]
  unfold b4; rw [pt_val]

theorem leaves_4 (c : Dev nD) (t : Fin cfg0.N) (Y : (cfg0.win 4).block.Idx → Elt F (cfg0.win 4).elt) : (rd m c).after 4 t Y (b4 m c t.val) := by
  unfold rd
  rw [RDat.override_after_of_eq_none (rd := (dats m c).toR) (ovr := ovr m c) (w := 4) rfl]
  show (dats m c).Leaves 4 t _
  unfold b4; rw [pt_val, ← after0_4]
  rfl

theorem after_5 (c : Dev nD) : (rd m c).after 5 = R5 m c :=
  RDat.override_after_of_eq_some (rd := (dats m c).toR) (ovr := ovr m c) (w := 5) rfl

/-- What the output's buffer is found at, past its block of columns. -/
theorem finds_5 (c : Dev nD) (t : Fin cfg0.N) (X : Vec F S1x512x1024 .bf16) (h : (rd m c).Finds 5 t X) : 0 < t.val % 3 → X = o5 m c t.val := by
  intro hn
  have hlt := Nat.mod_lt t.val (show 0 < 3 by decide)
  rcases ((rd m c).finds_of_pos (w := 5) (t := t) rfl (by omega) X).mp h with hf | ⟨Y, -, hL⟩
  · have := (flush0_5 _).mp hf
    dsimp only at this; omega
  · rw [after_5] at hL
    have hL' : 0 ≤ (t.val - 1) % 3 → X = o5 m c (t.val - 1) := hL
    exact (hL' (by omega)).trans (o5_next m c _ (by omega))

theorem after_6 (c : Dev nD) : (rd m c).after 6 = R6 m c :=
  RDat.override_after_of_eq_some (rd := (dats m c).toR) (ovr := ovr m c) (w := 6) rfl

/-- What the output's buffer is found at, past its block of columns. -/
theorem finds_6 (c : Dev nD) (t : Fin cfg0.N) (X : Vec F S1x512x8x128 .f32) (h : (rd m c).Finds 6 t X) : 1 < t.val % 3 → X = o6 m c t.val := by
  intro hn
  have hlt := Nat.mod_lt t.val (show 0 < 3 by decide)
  rcases ((rd m c).finds_of_pos (w := 6) (t := t) rfl (by omega) X).mp h with hf | ⟨Y, -, hL⟩
  · have := (flush0_6 _).mp hf
    dsimp only at this; omega
  · rw [after_6] at hL
    have hL' : 1 ≤ (t.val - 1) % 3 → X = o6 m c (t.val - 1) := hL
    exact (hL' (by omega)).trans (o6_next m c _ (by omega))

theorem after_7 (c : Dev nD) : (rd m c).after 7 = R7 m c :=
  RDat.override_after_of_eq_some (rd := (dats m c).toR) (ovr := ovr m c) (w := 7) rfl

/-- What the output's buffer is found at, past its block of columns. -/
theorem finds_7 (c : Dev nD) (t : Fin cfg0.N) (X : Vec F S1x512x1024 .bf16) (h : (rd m c).Finds 7 t X) : 1 < t.val % 3 → X = o7 m c t.val := by
  intro hn
  have hlt := Nat.mod_lt t.val (show 0 < 3 by decide)
  rcases ((rd m c).finds_of_pos (w := 7) (t := t) rfl (by omega) X).mp h with hf | ⟨Y, -, hL⟩
  · have := (flush0_7 _).mp hf
    dsimp only at this; omega
  · rw [after_7] at hL
    have hL' : 1 ≤ (t.val - 1) % 3 → X = o7 m c (t.val - 1) := hL
    exact (hL' (by omega)).trans (o7_next m c _ (by omega))

theorem after_8 (c : Dev nD) : (rd m c).after 8 = R8 m c :=
  RDat.override_after_of_eq_some (rd := (dats m c).toR) (ovr := ovr m c) (w := 8) rfl

/-- What the output's buffer is found at, past its block of columns. -/
theorem finds_8 (c : Dev nD) (t : Fin cfg0.N) (X : Vec F S1x512x8x128 .f32) (h : (rd m c).Finds 8 t X) : 2 < t.val % 3 → X = o8 m c t.val := by
  intro hn
  have hlt := Nat.mod_lt t.val (show 0 < 3 by decide)
  rcases ((rd m c).finds_of_pos (w := 8) (t := t) rfl (by omega) X).mp h with hf | ⟨Y, -, hL⟩
  · have := (flush0_8 _).mp hf
    dsimp only at this; omega
  · rw [after_8] at hL
    have hL' : 2 ≤ (t.val - 1) % 3 → X = o8 m c (t.val - 1) := hL
    exact (hL' (by omega)).trans (o8_next m c _ (by omega))

theorem after_9 (c : Dev nD) : (rd m c).after 9 = R9 m c :=
  RDat.override_after_of_eq_some (rd := (dats m c).toR) (ovr := ovr m c) (w := 9) rfl

/-- What the output's buffer is found at, past its block of columns. -/
theorem finds_9 (c : Dev nD) (t : Fin cfg0.N) (X : Vec F S1x512x1024 .bf16) (h : (rd m c).Finds 9 t X) : 2 < t.val % 3 → X = o9 m c t.val := by
  intro hn
  have hlt := Nat.mod_lt t.val (show 0 < 3 by decide)
  rcases ((rd m c).finds_of_pos (w := 9) (t := t) rfl (by omega) X).mp h with hf | ⟨Y, -, hL⟩
  · have := (flush0_9 _).mp hf
    dsimp only at this; omega
  · rw [after_9] at hL
    have hL' : 2 ≤ (t.val - 1) % 3 → X = o9 m c (t.val - 1) := hL
    exact (hL' (by omega)).trans (o9_next m c _ (by omega))

theorem defs_row (t : Fin cfg0.N) : defs₀ (F := F) .tc cfg0.body (cfg0.bodyArgs t (cfg0.slots t)) = bodyAt0 t := by
  unfold defs₀; rw [Defs.onTc_tc]

/-- The body obligation, from the step at any point. -/
theorem body_obligation (c : Dev nD) : (rd m c).BodyObligation (defs₀ (F := F)) Variants.none () Set.univ := fun t Y hY => by
  have e0 := finds_0 m c t (Y 0) (hY 0)
  have e1 := finds_1 m c t (Y 1) (hY 1)
  have e2 := finds_2 m c t (Y 2) (hY 2)
  have e3 := finds_3 m c t (Y 3) (hY 3)
  have e4 := finds_4 m c t (Y 4) (hY 4)
  have e5 := finds_5 m c t (Y 5) (hY 5)
  have e6 := finds_6 m c t (Y 6) (hY 6)
  have e7 := finds_7 m c t (Y 7) (hY 7)
  have e8 := finds_8 m c t (Y 8) (hY 8)
  have e9 := finds_9 m c t (Y 9) (hY 9)
  rw [bigSep_W0, bigSep_W0, defs_row]
  refine triple_restated (step_any m c ((rd m c).owesAt () t.castSucc) t (Y 5) (Y 6) (Y 7) (Y 8) (Y 9) e5 e6 e7 e8 e9) rfl ?_ fun _ => ?_
  · rw [e0, e1, e2, e3, e4]
    unfold stepPre
    exact .rfl
  · rw [show (rd m c).Φ t.succ = PhiS m c (t.val + 1) from rfl, show (rd m c).owesAt () t.succ = (rd m c).owesAt () t.castSucc from rfl]
    unfold stepPost
    iintro ⟨HΦ, Ho, H0, H1, H2, H3, H4, ⟨%d5, %h5, H5⟩, ⟨%d6, %h6, H6⟩, ⟨%d7, %h7, H7⟩, ⟨%d8, %h8, H8⟩, ⟨%d9, %h9, H9⟩⟩
    isplitl [HΦ]; · iexact HΦ
    isplitl [Ho]; · iexact Ho
    isplitl [H0]
    · iexists _; isplitr; swap; · iexact H0
      ipureintro
      exact leaves_0 m c t _
    isplitl [H1]
    · iexists _; isplitr; swap; · iexact H1
      ipureintro
      exact leaves_1 m c t _
    isplitl [H2]
    · iexists _; isplitr; swap; · iexact H2
      ipureintro
      exact leaves_2 m c t _
    isplitl [H3]
    · iexists _; isplitr; swap; · iexact H3
      ipureintro
      exact leaves_3 m c t _
    isplitl [H4]
    · iexists _; isplitr; swap; · iexact H4
      ipureintro
      exact leaves_4 m c t _
    isplitl [H5]
    · iexists _; isplitr; swap; · iexact H5
      ipureintro
      rw [after_5]; exact h5
    isplitl [H6]
    · iexists _; isplitr; swap; · iexact H6
      ipureintro
      rw [after_6]; exact h6
    isplitl [H7]
    · iexists _; isplitr; swap; · iexact H7
      ipureintro
      rw [after_7]; exact h7
    isplitl [H8]
    · iexists _; isplitr; swap; · iexact H8
      ipureintro
      rw [after_8]; exact h8
    iexists _; isplitr; swap; · iexact H9
    ipureintro
    rw [after_9]; exact h9

/-! ## The run and the frame -/

/-- The scratch buffer and the generator register. -/
theorem PhiA0_eq (c : Dev nD) : (Pipeline.ΦA spec0 c : sProp 𝕄) = iprop((∃ d, owns (c : Thread nD τ) scM0_0 fullShare d) ∗ (∃ r, prngReg c r)) := by
  unfold Pipeline.ΦA; rw [scopedRest0_eq]
  simp only [scM0_0, owns_whole]
  try rfl

theorem hin (c : Dev nD) : Pipeline.ΦA spec0 c ⊢ (rd m c).Φ 0 := by
  show _ ⊢ PhiS m c 0
  rw [PhiA0_eq]; unfold PhiS
  iintro ⟨⟨%d0, S0⟩, Hr⟩
  isplitl [S0]
  · iexists _; isplitr; swap; · iexact S0
    ipureintro
    exact fun h => absurd rfl h
  iexact Hr

theorem hout (c : Dev nD) : (rd m c).Φ (Fin.last cfg0.N) ⊢ Pipeline.ΦA spec0 c := by
  show PhiS m c cfg0.N ⊢ _
  rw [PhiA0_eq]; unfold PhiS
  iintro ⟨⟨%d0, -, S0⟩, Hr⟩
  isplitl [S0]; · iexists _; iexact S0
  iexact Hr

set_option backward.isDefEq.respectTransparency.types false in
/-- THE RUN, and every semaphore counter at zero at its end. -/
theorem run_quiescent : θ_run defs (onTc (τ := τ) (main (F := F))) (s₀ m ρ)
    (fun r => (RDat.FramePost cfg0 (rd m) (V m)) r ∧ r.2.sem = fun _ => 0) :=
  RDat.θ_run_frame_track (Q' := _) cfgs (0 : Fin 1) launch0 defs₀ Variants.none (rd m) m ρ main
    (hbody := body_obligation m) (hshare := fun _ w => ite_self _) (howed := fun _ _ => rfl) (V := V m) (hmain := hmain m Variants.none)
    (hA := A_eq m) (hin := hin m) (hout := hout m)

/-- The run's post with the arguments read off it. -/
theorem run_main : θ_run defs (onTc (τ := τ) (main (F := F))) ⟨m, fun _ => 0, ρ⟩ (fun r => RDat.FramePost cfg0 (rd m) (V m) r
    ∧ (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
    ∧ r.2.sem = fun _ => 0) :=
  (θ_run defs _ _).mono (fun r h => ⟨h.1, fun c => ⟨
      (Eq.mp (congrFun ((rd m c).ArrAt_in 0 rfl cfg0.N) _) ((h.1 c).1 0)).trans ((A_eq m c 0).trans (V_main_arg0 m c)),
      (Eq.mp (congrFun ((rd m c).ArrAt_in 2 rfl cfg0.N) _) ((h.1 c).1 2)).trans ((A_eq m c 2).trans (V_main_arg1 m c)),
      (Eq.mp (congrFun ((rd m c).ArrAt_in 1 rfl cfg0.N) _) ((h.1 c).1 1)).trans ((A_eq m c 1).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_quiescent m ρ)

/-- THE FRAME: the arguments end unchanged and every counter at zero. -/
theorem frame_main : θ_run defs (onTc (τ := τ) (main (F := F))) ⟨m, fun _ => 0, ρ⟩ (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run defs _ _).mono (fun _ h => h.2) (run_main m ρ)

end Cert.Kernel4Ideal.Run

end
-- ==== Proof.Proj.Val.lean ====
/-
  The input projections over the reals: the arrays they end with, as functions of the arguments.
-/
module

public import proofs.«01_k».proof.Kernel4Ideal
public import proofs.«01_k».proof.Proof.Mrg.Body

@[expose] public section

set_option maxRecDepth 16384

noncomputable section

namespace Cert.Proj

open Cert.Kernel4Ideal
open Cert.Mrg (normAt)
open Idealize.ShloMosaic

/-- A column of the weights. -/
def col (n : ℕ) : Fin 7248 := ⟨n % 7248, Nat.mod_lt _ (by decide)⟩

variable (x : S2x16384x2048.Idx → EReal) (sh sc : S2x1x2048.Idx → EReal) (g : S2048.Idx → EReal) (w : S2048x7248.Idx → EReal)

/-- The activations normalised and modulated. -/
def hG (b : Fin 2) (p : Fin 16384) (d : Fin 2048) : EReal :=
  normAt (fun k => x (ix3 b p k)) (fun k => g (ix1 k)) (fun k => sc (ix3 b 0 k)) (fun k => sh (ix3 b 0 k)) d

/-- Their product with the weights. -/
def pG (b : Fin 2) (p : Fin 16384) (q : Fin 7248) : EReal := ∑ k, hG x sh sc g b p k * w (ix2 k q)

/-- Columns from `o` on, a row a position: the projection as it is. -/
def rowArr (o : ℕ) (i : (⟨3, ![2, 16384, 1024]⟩ : Shape).Idx) : EReal := pG x sh sc g w (i 0) (i 1) (col (o + (i 2).val))

/-- Columns from `o` on, each row cut into eight heads of 128 columns. -/
def headArr (o : ℕ) (i : (⟨4, ![2, 16384, 8, 128]⟩ : Shape).Idx) : EReal := pG x sh sc g w (i 0) (i 1) (col (o + ((i 2).val * 128 + (i 3).val)))

/-- Columns from `o` on, a row a column of the weights. -/
def featArr (o : ℕ) (i : (⟨3, ![2, 1024, 16384]⟩ : Shape).Idx) : EReal := pG x sh sc g w (i 0) (i 2) (col (o + (i 1).val))

/-- The same, times the scale of the queries. -/
def featScaled (o : ℕ) (i : (⟨3, ![2, 1024, 16384]⟩ : Shape).Idx) : EReal :=
  pG x sh sc g w (i 0) (i 2) (col (o + (i 1).val)) * Ideal.ofBits FTy.f32 0x3E0293EE#32

/-- Sixty-four columns from `o` on, a row a position. -/
def narrowArr (o : ℕ) (i : (⟨3, ![2, 16384, 64]⟩ : Shape).Idx) : EReal := pG x sh sc g w (i 0) (i 1) (col (o + (i 2).val))

/-- Sixteen columns from `o` on, a row a column of the weights. -/
def thinArr (o : ℕ) (i : (⟨3, ![2, 16, 16384]⟩ : Shape).Idx) : EReal := pG x sh sc g w (i 0) (i 2) (col (o + (i 1).val))

end Cert.Proj

end
-- ==== Proof.ProjSb.Vals.lean ====
/-
  The stick-breaking projection over the reals: each grid point's blocks read from the arguments, and what the result arrays hold at the end.
-/
module

public import proofs.«01_k».proof.Proof.ProjSb.Frame
public import proofs.«01_k».proof.Proof.Proj.Val
public import Idealize.ShloMosaic.Lib.Pointwise

@[expose] public section

set_option maxRecDepth 16384

noncomputable section

namespace Cert.Kernel4Ideal.Run

open Cert.Kernel4Ideal Cert.Kernel4Ideal.Gen Cert.Proj
open Cert.Mrg (normAt)
open Idealize.ShloMosaic Idealize.ShloMosaic.TcCoe
open Idealize.ShloMosaic.Pipeline (Dat RDat Cfg Window)

variable (m : (ℓ : Loc nD τ sig) → Buf (Elt Ideal) ℓ) (c : Dev nD)

/-! ## The normalised rows -/

/-- The normalisation of sixteen rows at an element. -/
theorem norm_apply (x : Vec Ideal S1x16x2048 .f32) (g : Vec Ideal S1x2048 .f32) (sc sh : Vec Ideal S1x1x2048 .f32) (r : Fin 16) (d : Fin 2048) :
    k0_pay15 (k0_pay8 g) (k0_pay9 sc) (k0_pay10 sh) x (ix2 r d) = normAt (fun k => x (ix3 0 r k)) (fun k => g (ix2 0 k)) (fun k => sc (ix3 0 0 k)) (fun k => sh (ix3 0 0 k)) d := by
  pointwise [k0_pay15, k0_pay8, k0_pay9, k0_pay10]
  rfl

/-- One store of sixteen normalised rows at the element it puts at row `r`, column `d` of the block. -/
theorem hOf_piece (x : Vec Ideal S1x512x2048 .f32) (g : Vec Ideal S1x2048 .f32) (sc sh : Vec Ideal S1x1x2048 .f32) (r : Fin 512) (d : Fin 2048)
    (o : ℕ) (inb : ∀ a, (![0, o, 0] : Fin 3 → ℕ) a + (![1, 16, 2048] : Fin 3 → ℕ) a ≤ S1x512x2048.size a) (z : S16x2048.Idx) (h0 : r.val = o + (z 0).val) (h1 : d.val = (z 1).val) :
    k0_pay15 (k0_pay8 g) (k0_pay9 sc) (k0_pay10 sh) (View.ld x (Rect.unit (s := S1x512x2048) ![0, o, 0] ![1, 16, 2048] inb)) z
      = normAt (fun k => x (ix3 0 r k)) (fun k => g (ix2 0 k)) (fun k => sc (ix3 0 0 k)) (fun k => sh (ix3 0 0 k)) d := by
  have hz : z = ix2 (z 0) (z 1) := by funext a; match a with | 0 => rfl | 1 => rfl
  refine (congrArg (k0_pay15 _ _ _ _) hz).trans ((norm_apply _ g sc sh (z 0) (z 1)).trans ?_)
  have e1 : z 1 = d := Fin.ext h1.symm
  have e2 : (fun k => View.ld x (Rect.unit (s := S1x512x2048) ![0, o, 0] ![1, 16, 2048] inb) (ix3 0 (z 0) k)) = fun k => x (ix3 0 r k) := by
    funext k
    refine congrArg x (funext fun a => Fin.ext ?_)
    match a with
    | 0 => rfl
    | 1 => show o + 1 * (z 0).val = r.val; omega
    | 2 => show 0 + 1 * k.val = k.val; omega
  rw [e2]
  exact congrArg _ e1

/-- The normalised rows at an element. -/
theorem hOf_apply (x : Vec Ideal S1x512x2048 .f32) (g : Vec Ideal S1x2048 .f32) (sc sh : Vec Ideal S1x1x2048 .f32) (r : Fin 512) (d : Fin 2048) :
    hOf x g sc sh (ix2 r d) = normAt (fun k => x (ix3 0 r k)) (fun k => g (ix2 0 k)) (fun k => sc (ix3 0 0 k)) (fun k => sh (ix3 0 0 k)) d := by
  unfold hOf
  canon_tiles z h
  all_goals first
    | exact hOf_piece x g sc sh r d _ _ z h0 h1
    | exact hOf_piece x g sc sh r d 0 _ z (by rw [Nat.zero_add]; exact h0) h1

/-! ## The blocks read from the arguments -/

/-- A point's batch row. -/
def bt (n : ℕ) : Fin 2 := ⟨n / 96 % 2, Nat.mod_lt _ (by decide)⟩
/-- A row of a point's block, in the array. -/
def rw' (n : ℕ) (r : Fin 512) : Fin 16384 := ⟨n / 3 % 32 * 512 + r.val, by omega⟩

theorem pt_mod (n : ℕ) : (pt n).val = n % 192 := by
  have h : cfg0.N = 192 := by decide
  unfold pt
  show n % cfg0.N = n % 192
  rw [h]

theorem index_0 : ∀ t : Fin cfg0.N, win0_0.index t 0 = t.val / 96 ∧ win0_0.index t 1 = t.val / 3 % 32 ∧ win0_0.index t 2 = 0 :=
  (by decide +kernel : ∀ t : Fin grid0.N, win0_0.index t 0 = t.val / 96 ∧ win0_0.index t 1 = t.val / 3 % 32 ∧ win0_0.index t 2 = 0)
theorem index_1 : ∀ t : Fin cfg0.N, win0_1.index t 0 = t.val / 96 ∧ win0_1.index t 1 = 0 ∧ win0_1.index t 2 = 0 :=
  (by decide +kernel : ∀ t : Fin grid0.N, win0_1.index t 0 = t.val / 96 ∧ win0_1.index t 1 = 0 ∧ win0_1.index t 2 = 0)
theorem index_2 : ∀ t : Fin cfg0.N, win0_2.index t 0 = t.val / 96 ∧ win0_2.index t 1 = 0 ∧ win0_2.index t 2 = 0 :=
  (by decide +kernel : ∀ t : Fin grid0.N, win0_2.index t 0 = t.val / 96 ∧ win0_2.index t 1 = 0 ∧ win0_2.index t 2 = 0)
theorem index_3 : ∀ t : Fin cfg0.N, win0_3.index t 0 = 0 ∧ win0_3.index t 1 = 0 :=
  (by decide +kernel : ∀ t : Fin grid0.N, win0_3.index t 0 = 0 ∧ win0_3.index t 1 = 0)
theorem index_4 : ∀ t : Fin cfg0.N, win0_4.index t 0 = 0 ∧ win0_4.index t 1 = t.val % 3 :=
  (by decide +kernel : ∀ t : Fin grid0.N, win0_4.index t 0 = 0 ∧ win0_4.index t 1 = t.val % 3)
theorem index_5 : ∀ t : Fin cfg0.N, win0_5.index t 0 = t.val / 96 ∧ win0_5.index t 1 = t.val / 3 % 32 ∧ win0_5.index t 2 = 0 :=
  (by decide +kernel : ∀ t : Fin grid0.N, win0_5.index t 0 = t.val / 96 ∧ win0_5.index t 1 = t.val / 3 % 32 ∧ win0_5.index t 2 = 0)
theorem index_6 : ∀ t : Fin cfg0.N, win0_6.index t 0 = t.val / 96 ∧ win0_6.index t 1 = t.val / 3 % 32 ∧ win0_6.index t 2 = 0 ∧ win0_6.index t 3 = 0 :=
  (by decide +kernel : ∀ t : Fin grid0.N, win0_6.index t 0 = t.val / 96 ∧ win0_6.index t 1 = t.val / 3 % 32 ∧ win0_6.index t 2 = 0 ∧ win0_6.index t 3 = 0)
theorem index_7 : ∀ t : Fin cfg0.N, win0_7.index t 0 = t.val / 96 ∧ win0_7.index t 1 = t.val / 3 % 32 ∧ win0_7.index t 2 = 0 :=
  (by decide +kernel : ∀ t : Fin grid0.N, win0_7.index t 0 = t.val / 96 ∧ win0_7.index t 1 = t.val / 3 % 32 ∧ win0_7.index t 2 = 0)
theorem index_8 : ∀ t : Fin cfg0.N, win0_8.index t 0 = t.val / 96 ∧ win0_8.index t 1 = t.val / 3 % 32 ∧ win0_8.index t 2 = 0 ∧ win0_8.index t 3 = 0 :=
  (by decide +kernel : ∀ t : Fin grid0.N, win0_8.index t 0 = t.val / 96 ∧ win0_8.index t 1 = t.val / 3 % 32 ∧ win0_8.index t 2 = 0 ∧ win0_8.index t 3 = 0)
theorem index_9 : ∀ t : Fin cfg0.N, win0_9.index t 0 = t.val / 96 ∧ win0_9.index t 1 = t.val / 3 % 32 ∧ win0_9.index t 2 = 0 :=
  (by decide +kernel : ∀ t : Fin grid0.N, win0_9.index t 0 = t.val / 96 ∧ win0_9.index t 1 = t.val / 3 % 32 ∧ win0_9.index t 2 = 0)

/-- A vector as the host lays it out. -/
theorem V_v1 (i : Fin 1) (j : Fin 2048) : V m c main_v1 (ix2 i j) = m ((c : Thread nD τ).loc main_arg3) (ix1 j) := by
  have h : V m c main_v1 = broadcastInDim S1x2048 ![1] bcast_S2048_S1x2048_1 (m ((c : Thread nD τ).loc main_arg3)) := by
    simp only [V, hostOps0]
    after_results_simp <;> rfl
  rw [h]
  pointwise

/-- The host's cast and cut of the weights: their columns from 0 on. -/
theorem V_v2 (i : Fin 2048) (j : Fin 3072) : V m c main_v2 (ix2 i j) = m ((c : Thread nD τ).loc main_arg4) (ix2 i (col (0 + j.val))) := by
  have h : V m c main_v2 = extractStridedSlice S2048x3072 ![0, 0] (truncf (F := Ideal) .bf16 (m ((c : Thread nD τ).loc main_arg4)) bitsLt_bf16_f32) slices_S2048x7248_S2048x3072_0_0 := by
    simp only [V, hostOps0]
    after_results_simp <;> rfl
  rw [h]
  pointwise
  refine congrArg (m ((c : Thread nD τ).loc main_arg4)) (funext fun a => Fin.ext ?_)
  match a with
  | 0 => rfl
  | 1 => show _ = j.val % 7248; have := j.isLt; show j.val = j.val % 7248; omega

theorem b0_apply (n : ℕ) (r : Fin 512) (k : Fin 2048) : b0 m c n (ix3 0 r k) = m ((c : Thread nD τ).loc main_arg0) (ix3 (bt n) (rw' n r) k) := by
  unfold b0
  obtain ⟨e0, e1, e2⟩ := index_0 (pt n)
  blk_simp [iblk]
  rw [V_main_arg0]
  refine congrArg (m ((c : Thread nD τ).loc main_arg0)) (funext fun a => Fin.ext ?_)
  match a with
  | 0 => blk_simp; rw [e0, pt_mod]; show n % 192 / 96 + 0 = n / 96 % 2; omega
  | 1 => blk_simp; rw [e1, pt_mod]; show n % 192 / 3 % 32 * 512 + r.val = n / 3 % 32 * 512 + r.val; omega
  | 2 => blk_simp; rw [e2]; show 0 * 2048 + k.val = k.val; omega

theorem b1_apply (n : ℕ) (k : Fin 2048) : b1 m c n (ix3 0 0 k) = m ((c : Thread nD τ).loc main_arg2) (ix3 (bt n) 0 k) := by
  unfold b1
  obtain ⟨e0, e1, e2⟩ := index_1 (pt n)
  blk_simp [iblk]
  rw [V_main_arg2]
  refine congrArg (m ((c : Thread nD τ).loc main_arg2)) (funext fun a => Fin.ext ?_)
  match a with
  | 0 => blk_simp; rw [e0, pt_mod]; show n % 192 / 96 + 0 = n / 96 % 2; omega
  | 1 => blk_simp; rw [e1]; rfl
  | 2 => blk_simp; rw [e2]; show 0 * 2048 + k.val = k.val; omega

theorem b2_apply (n : ℕ) (k : Fin 2048) : b2 m c n (ix3 0 0 k) = m ((c : Thread nD τ).loc main_arg1) (ix3 (bt n) 0 k) := by
  unfold b2
  obtain ⟨e0, e1, e2⟩ := index_2 (pt n)
  blk_simp [iblk]
  rw [V_main_arg1]
  refine congrArg (m ((c : Thread nD τ).loc main_arg1)) (funext fun a => Fin.ext ?_)
  match a with
  | 0 => blk_simp; rw [e0, pt_mod]; show n % 192 / 96 + 0 = n / 96 % 2; omega
  | 1 => blk_simp; rw [e1]; rfl
  | 2 => blk_simp; rw [e2]; show 0 * 2048 + k.val = k.val; omega

theorem b3_apply (n : ℕ) (k : Fin 2048) : b3 m c n (ix2 0 k) = m ((c : Thread nD τ).loc main_arg3) (ix1 k) := by
  unfold b3
  obtain ⟨e0, e1⟩ := index_3 (pt n)
  blk_simp [iblk]
  have hi : (win0_3.blk (pt n)).view.emb (ix2 (0 : Fin 1) k) = ix2 ((win0_3.blk (pt n)).view.emb (ix2 (0 : Fin 1) k) 0) ((win0_3.blk (pt n)).view.emb (ix2 (0 : Fin 1) k) 1) := by
    funext a; match a with | 0 => rfl | 1 => rfl
  refine (congrArg (V m c main_v1) hi).trans ((V_v1 m c _ _).trans ?_)
  refine congrArg (m ((c : Thread nD τ).loc main_arg3)) (funext fun a => Fin.ext ?_)
  match a with
  | 0 => blk_simp; rw [e1]; show 0 * 2048 + k.val = k.val; omega

/-- A point's block of the weights. -/
theorem b4_apply (n : ℕ) (k : Fin 2048) (q : Fin 1024) : b4 m c n (ix2 k q) = m ((c : Thread nD τ).loc main_arg4) (ix2 k (col (0 + (n % 3 * 1024 + q.val)))) := by
  unfold b4
  obtain ⟨e0, e1⟩ := index_4 (pt n)
  blk_simp [iblk]
  have hq : n % 3 * 1024 + q.val < 3072 := by omega
  have hi : (win0_4.blk (pt n)).view.emb (ix2 k q) = ix2 k (⟨n % 3 * 1024 + q.val, hq⟩ : Fin 3072) := by
    funext a
    refine Fin.ext ?_
    match a with
    | 0 => blk_simp; rw [e0]; show 0 * 2048 + k.val = k.val; omega
    | 1 => blk_simp; rw [e1, pt_mod]; show n % 192 % 3 * 1024 + q.val = n % 3 * 1024 + q.val; omega
  exact (congrArg (V m c main_v2) hi).trans ((V_v2 m c k _).trans (congrArg (fun z => m ((c : Thread nD τ).loc main_arg4) (ix2 k (col z))) (Nat.zero_add _)))

/-! ## The points' values -/

/-- The projection of the arguments. -/
abbrev pM (b : Fin 2) (p : Fin 16384) (q : Fin 7248) : EReal :=
  pG (m ((c : Thread nD τ).loc main_arg0)) (m ((c : Thread nD τ).loc main_arg1)) (m ((c : Thread nD τ).loc main_arg2)) (m ((c : Thread nD τ).loc main_arg3)) (m ((c : Thread nD τ).loc main_arg4)) b p q

theorem bt_eq {n n' : ℕ} (h : n' / 96 = n / 96) : bt n' = bt n := Fin.ext (by show n' / 96 % 2 = n / 96 % 2; rw [h])
theorem rw_eq {n n' : ℕ} (h : n' / 3 = n / 3) (r : Fin 512) : rw' n' r = rw' n r := Fin.ext (by show n' / 3 % 32 * 512 + r.val = n / 3 % 32 * 512 + r.val; rw [h])

theorem hN_apply (n : ℕ) (r : Fin 512) (k : Fin 2048) :
    hN m c n (ix2 r k) = hG (m ((c : Thread nD τ).loc main_arg0)) (m ((c : Thread nD τ).loc main_arg1)) (m ((c : Thread nD τ).loc main_arg2)) (m ((c : Thread nD τ).loc main_arg3)) (bt n) (rw' n r) k := by
  unfold hN
  rw [hOf_apply]
  simp only [b0_apply, b1_apply, b2_apply, b3_apply]
  rw [bt_eq (n := n) (n' := n - n % 3) (by omega), rw_eq (n := n) (n' := n - n % 3) (by omega)]
  rfl

theorem pay2_apply (h : Vec Ideal S512x2048 .bf16) (w : Vec Ideal S2048x1024 .bf16) (r : Fin 512) (q : Fin 1024) :
    k0_pay2 h w (ix2 r q) = ∑ k, h (ix2 r k) * w (ix2 k q) := by
  pointwise [k0_pay2]

/-- A product of a point's normalised rows with a block of the weights, at an element. -/
theorem prod_apply (n j : ℕ) (hj : j < 3) (r : Fin 512) (q : Fin 1024) : k0_pay2 (hN m c n) (b4 m c (n - n % 3 + j)) (ix2 r q) = pM m c (bt n) (rw' n r) (col (0 + (j * 1024 + q.val))) := by
  have e : (n - n % 3 + j) % 3 = j := by omega
  rw [pay2_apply]
  simp only [hN_apply]
  refine Finset.sum_congr rfl fun k _ => ?_
  rw [b4_apply m c _ k q, e]

/-- Output 0's block at an element, from the product. -/
theorem pay3_apply (h : Vec Ideal S512x2048 .bf16) (w : Vec Ideal S2048x1024 .bf16) (r : Fin 512) (q : Fin 1024) :
    k0_pay3 h w (ix3 0 r q) = k0_pay2 h w (ix2 r q) := by
  pointwise [k0_pay3]

/-- Result array 0 as the function of the arguments. -/
def out0 : S2x16384x1024.Idx → EReal := rowArr (m ((c : Thread nD τ).loc main_arg0)) (m ((c : Thread nD τ).loc main_arg1)) (m ((c : Thread nD τ).loc main_arg2)) (m ((c : Thread nD τ).loc main_arg3)) (m ((c : Thread nD τ).loc main_arg4)) 0

/-- Result array 0 at the end. -/
theorem out0_eq (r : PUnit × MemSt nD τ sig (Elt Ideal)) (h : RDat.FramePost cfg0 (rd m) (V m) r) :
    r.2.mem ((c : Thread nD τ).loc main_v3_0) = out0 m c := by
  obtain ⟨after, hL, hA⟩ := RDat.FramePost.exists_exact h c
  refine (hA 5).trans ?_
  refine Dat.arrAt_eq_of_covers ((rd m c).withAfter after) 5 (out0 m c) (by decide +kernel) fun t hf y => ?_
  have ht : t.val % 3 = 2 := by
    have := (flush0_5 t).mp hf
    omega
  have hX : after 5 t = o5 m c t.val := by
    obtain ⟨Y, -, h'⟩ := hL 5 t hf
    rw [after_5] at h'
    exact h' (by omega)
  rw [RDat.withAfter_after]
  blk_simp
  rw [hX]
  obtain ⟨e0, e1, e2⟩ := index_5 t
  have hN : t.val < 192 := lt_of_lt_of_eq t.isLt (by decide)
  have hy0 : (y 0).val = 0 := by have : (y 0).val < 1 := (y 0).isLt; omega
  have hy : y = ix3 0 (y 1) (y 2) := by
    funext a
    match a with
    | 0 => exact Fin.ext hy0
    | 1 => rfl
    | 2 => rfl
  refine (congrArg _ hy).trans ((pay3_apply _ _ (y 1) (y 2)).trans ?_)
  refine ((prod_apply m c t.val 0 (by decide) (y 1) (y 2))).trans ?_
  unfold out0 rowArr
  refine (congr (congr (congrArg (pM m c) (Fin.ext ?_)) (Fin.ext ?_)) (congrArg col ?_))
  · blk_simp; rw [e0]; show t.val / 96 % 2 = t.val / 96; omega
  · blk_simp; rw [e1]; rfl
  · blk_simp; rw [e2]; show _ = (0 * 1024 + (y 2).val); try dsimp only
    omega

/-- Output 1's block at an element, from the product. -/
theorem pay4_apply (h : Vec Ideal S512x2048 .bf16) (w : Vec Ideal S2048x1024 .bf16) (r : Fin 512) (a : Fin 8) (e : Fin 128) :
    k0_pay4 h w (ix4 0 r a e) = k0_pay2 h w (ix2 r ⟨a.val * 128 + e.val, by omega⟩) := by
  pointwise [k0_pay4]

/-- Result array 1 as the function of the arguments. -/
def out1 : S2x16384x8x128.Idx → EReal := headArr (m ((c : Thread nD τ).loc main_arg0)) (m ((c : Thread nD τ).loc main_arg1)) (m ((c : Thread nD τ).loc main_arg2)) (m ((c : Thread nD τ).loc main_arg3)) (m ((c : Thread nD τ).loc main_arg4)) 1024

/-- Result array 1 at the end. -/
theorem out1_eq (r : PUnit × MemSt nD τ sig (Elt Ideal)) (h : RDat.FramePost cfg0 (rd m) (V m) r) :
    r.2.mem ((c : Thread nD τ).loc main_v3_1) = out1 m c := by
  obtain ⟨after, hL, hA⟩ := RDat.FramePost.exists_exact h c
  refine (hA 6).trans ?_
  refine Dat.arrAt_eq_of_covers ((rd m c).withAfter after) 6 (out1 m c) (by decide +kernel) fun t hf y => ?_
  have ht : t.val % 3 = 2 := by
    have := (flush0_6 t).mp hf
    omega
  have hX : after 6 t = o6 m c t.val := by
    obtain ⟨Y, -, h'⟩ := hL 6 t hf
    rw [after_6] at h'
    exact h' (by omega)
  rw [RDat.withAfter_after]
  blk_simp
  rw [hX]
  obtain ⟨e0, e1, e2, e3⟩ := index_6 t
  have hN : t.val < 192 := lt_of_lt_of_eq t.isLt (by decide)
  have hy0 : (y 0).val = 0 := by have : (y 0).val < 1 := (y 0).isLt; omega
  have hy2 : (y 2).val < 8 := (y 2).isLt
  have hy3 : (y 3).val < 128 := (y 3).isLt
  have hy : y = ix4 0 (y 1) (y 2) (y 3) := by
    funext a
    match a with
    | 0 => exact Fin.ext hy0
    | 1 => rfl
    | 2 => rfl
    | 3 => rfl
  refine (congrArg _ hy).trans ((pay4_apply _ _ (y 1) (y 2) (y 3)).trans ?_)
  refine ((prod_apply m c t.val 1 (by decide) (y 1) ⟨(y 2).val * 128 + (y 3).val, by omega⟩)).trans ?_
  unfold out1 headArr
  refine (congr (congr (congrArg (pM m c) (Fin.ext ?_)) (Fin.ext ?_)) (congrArg col ?_))
  · blk_simp; rw [e0]; show t.val / 96 % 2 = t.val / 96; omega
  · blk_simp; rw [e1]; rfl
  · blk_simp; rw [e2, e3]; show _ = 1024 + ((0 * 8 + (y 2).val) * 128 + (0 * 128 + (y 3).val)); try dsimp only
    omega

/-- Output 2's block at an element, from the product. -/
theorem pay5_apply (h : Vec Ideal S512x2048 .bf16) (w : Vec Ideal S2048x1024 .bf16) (r : Fin 512) (q : Fin 1024) :
    k0_pay5 h w (ix3 0 r q) = k0_pay2 h w (ix2 r q) := by
  pointwise [k0_pay5]

/-- Result array 2 as the function of the arguments. -/
def out2 : S2x16384x1024.Idx → EReal := rowArr (m ((c : Thread nD τ).loc main_arg0)) (m ((c : Thread nD τ).loc main_arg1)) (m ((c : Thread nD τ).loc main_arg2)) (m ((c : Thread nD τ).loc main_arg3)) (m ((c : Thread nD τ).loc main_arg4)) 1024

/-- Result array 2 at the end. -/
theorem out2_eq (r : PUnit × MemSt nD τ sig (Elt Ideal)) (h : RDat.FramePost cfg0 (rd m) (V m) r) :
    r.2.mem ((c : Thread nD τ).loc main_v3_2) = out2 m c := by
  obtain ⟨after, hL, hA⟩ := RDat.FramePost.exists_exact h c
  refine (hA 7).trans ?_
  refine Dat.arrAt_eq_of_covers ((rd m c).withAfter after) 7 (out2 m c) (by decide +kernel) fun t hf y => ?_
  have ht : t.val % 3 = 2 := by
    have := (flush0_7 t).mp hf
    omega
  have hX : after 7 t = o7 m c t.val := by
    obtain ⟨Y, -, h'⟩ := hL 7 t hf
    rw [after_7] at h'
    exact h' (by omega)
  rw [RDat.withAfter_after]
  blk_simp
  rw [hX]
  obtain ⟨e0, e1, e2⟩ := index_7 t
  have hN : t.val < 192 := lt_of_lt_of_eq t.isLt (by decide)
  have hy0 : (y 0).val = 0 := by have : (y 0).val < 1 := (y 0).isLt; omega
  have hy : y = ix3 0 (y 1) (y 2) := by
    funext a
    match a with
    | 0 => exact Fin.ext hy0
    | 1 => rfl
    | 2 => rfl
  refine (congrArg _ hy).trans ((pay5_apply _ _ (y 1) (y 2)).trans ?_)
  refine ((prod_apply m c t.val 1 (by decide) (y 1) (y 2))).trans ?_
  unfold out2 rowArr
  refine (congr (congr (congrArg (pM m c) (Fin.ext ?_)) (Fin.ext ?_)) (congrArg col ?_))
  · blk_simp; rw [e0]; show t.val / 96 % 2 = t.val / 96; omega
  · blk_simp; rw [e1]; rfl
  · blk_simp; rw [e2]; show _ = 1024 + (0 * 1024 + (y 2).val); try dsimp only
    omega

/-- Output 3's block at an element, from the product. -/
theorem pay6_apply (h : Vec Ideal S512x2048 .bf16) (w : Vec Ideal S2048x1024 .bf16) (r : Fin 512) (a : Fin 8) (e : Fin 128) :
    k0_pay6 h w (ix4 0 r a e) = k0_pay2 h w (ix2 r ⟨a.val * 128 + e.val, by omega⟩) := by
  pointwise [k0_pay6]

/-- Result array 3 as the function of the arguments. -/
def out3 : S2x16384x8x128.Idx → EReal := headArr (m ((c : Thread nD τ).loc main_arg0)) (m ((c : Thread nD τ).loc main_arg1)) (m ((c : Thread nD τ).loc main_arg2)) (m ((c : Thread nD τ).loc main_arg3)) (m ((c : Thread nD τ).loc main_arg4)) 2048

/-- Result array 3 at the end. -/
theorem out3_eq (r : PUnit × MemSt nD τ sig (Elt Ideal)) (h : RDat.FramePost cfg0 (rd m) (V m) r) :
    r.2.mem ((c : Thread nD τ).loc main_v3_3) = out3 m c := by
  obtain ⟨after, hL, hA⟩ := RDat.FramePost.exists_exact h c
  refine (hA 8).trans ?_
  refine Dat.arrAt_eq_of_covers ((rd m c).withAfter after) 8 (out3 m c) (by decide +kernel) fun t hf y => ?_
  have ht : t.val % 3 = 2 := by
    have := (flush0_8 t).mp hf
    omega
  have hX : after 8 t = o8 m c t.val := by
    obtain ⟨Y, -, h'⟩ := hL 8 t hf
    rw [after_8] at h'
    exact h' (by omega)
  rw [RDat.withAfter_after]
  blk_simp
  rw [hX]
  obtain ⟨e0, e1, e2, e3⟩ := index_8 t
  have hN : t.val < 192 := lt_of_lt_of_eq t.isLt (by decide)
  have hy0 : (y 0).val = 0 := by have : (y 0).val < 1 := (y 0).isLt; omega
  have hy2 : (y 2).val < 8 := (y 2).isLt
  have hy3 : (y 3).val < 128 := (y 3).isLt
  have hy : y = ix4 0 (y 1) (y 2) (y 3) := by
    funext a
    match a with
    | 0 => exact Fin.ext hy0
    | 1 => rfl
    | 2 => rfl
    | 3 => rfl
  refine (congrArg _ hy).trans ((pay6_apply _ _ (y 1) (y 2) (y 3)).trans ?_)
  refine ((prod_apply m c t.val 2 (by decide) (y 1) ⟨(y 2).val * 128 + (y 3).val, by omega⟩)).trans ?_
  unfold out3 headArr
  refine (congr (congr (congrArg (pM m c) (Fin.ext ?_)) (Fin.ext ?_)) (congrArg col ?_))
  · blk_simp; rw [e0]; show t.val / 96 % 2 = t.val / 96; omega
  · blk_simp; rw [e1]; rfl
  · blk_simp; rw [e2, e3]; show _ = 2048 + ((0 * 8 + (y 2).val) * 128 + (0 * 128 + (y 3).val)); try dsimp only
    omega

/-- Output 4's block at an element, from the product. -/
theorem pay7_apply (h : Vec Ideal S512x2048 .bf16) (w : Vec Ideal S2048x1024 .bf16) (r : Fin 512) (q : Fin 1024) :
    k0_pay7 h w (ix3 0 r q) = k0_pay2 h w (ix2 r q) := by
  pointwise [k0_pay7]

/-- Result array 4 as the function of the arguments. -/
def out4 : S2x16384x1024.Idx → EReal := rowArr (m ((c : Thread nD τ).loc main_arg0)) (m ((c : Thread nD τ).loc main_arg1)) (m ((c : Thread nD τ).loc main_arg2)) (m ((c : Thread nD τ).loc main_arg3)) (m ((c : Thread nD τ).loc main_arg4)) 2048

/-- Result array 4 at the end. -/
theorem out4_eq (r : PUnit × MemSt nD τ sig (Elt Ideal)) (h : RDat.FramePost cfg0 (rd m) (V m) r) :
    r.2.mem ((c : Thread nD τ).loc main_v3_4) = out4 m c := by
  obtain ⟨after, hL, hA⟩ := RDat.FramePost.exists_exact h c
  refine (hA 9).trans ?_
  refine Dat.arrAt_eq_of_covers ((rd m c).withAfter after) 9 (out4 m c) (by decide +kernel) fun t hf y => ?_
  have ht : t.val % 3 = 2 := by
    have := (flush0_9 t).mp hf
    omega
  have hX : after 9 t = o9 m c t.val := by
    obtain ⟨Y, -, h'⟩ := hL 9 t hf
    rw [after_9] at h'
    exact h' (by omega)
  rw [RDat.withAfter_after]
  blk_simp
  rw [hX]
  obtain ⟨e0, e1, e2⟩ := index_9 t
  have hN : t.val < 192 := lt_of_lt_of_eq t.isLt (by decide)
  have hy0 : (y 0).val = 0 := by have : (y 0).val < 1 := (y 0).isLt; omega
  have hy : y = ix3 0 (y 1) (y 2) := by
    funext a
    match a with
    | 0 => exact Fin.ext hy0
    | 1 => rfl
    | 2 => rfl
  refine (congrArg _ hy).trans ((pay7_apply _ _ (y 1) (y 2)).trans ?_)
  refine ((prod_apply m c t.val 2 (by decide) (y 1) (y 2))).trans ?_
  unfold out4 rowArr
  refine (congr (congr (congrArg (pM m c) (Fin.ext ?_)) (Fin.ext ?_)) (congrArg col ?_))
  · blk_simp; rw [e0]; show t.val / 96 % 2 = t.val / 96; omega
  · blk_simp; rw [e1]; rfl
  · blk_simp; rw [e2]; show _ = 2048 + (0 * 1024 + (y 2).val); try dsimp only
    omega

end Cert.Kernel4Ideal.Run

end
-- ==== Proof.ProjSb.Ref.lean ====
/-
  The reference of the stick-breaking projection at an element.
-/
module

public import Idealize.ShloMosaic.Lib.Pointwise
public import proofs.«01_k».proof.Proof.Gen.Reference4Ideal.Run
public import proofs.«01_k».proof.Proof.Proj.Val

@[expose] public section

set_option maxRecDepth 16384

noncomputable section

namespace Cert.Reference4Ideal.Value

open Cert.Reference4Ideal Cert.Reference4Ideal.Gen Cert.Proj
open Cert.Mrg (normAt)
open Idealize.ShloMosaic Idealize.ShloMosaic.TcCoe

/-- The inverse root mean square of each row, over the row. -/
def scaled (x : FVec Ideal S2x16384x2048 .f32) : FVec Ideal S2x16384x2048 .f32 :=
  broadcastInDim S2x16384x2048 ![0, 1, 2] bcast_S2x16384x1_S2x16384x2048_0_1_2
      (Host.rsqrt (addf (Host.divf (broadcastInDim S2x16384x1 ![0, 1] bcast_S2x16384_S2x16384x1_0_1
          (Host.reduceAdd (mulf x x) (constant S_ .f32 0x00000000#32) reducesTo_S2x16384x2048_S2x16384_d2 h_S_))
        (broadcastInDim S2x16384x1 ![] bcast_S_S2x16384x1 (constant S_ .f32 0x45000000#32)))
        (broadcastInDim S2x16384x1 ![] bcast_S_S2x16384x1 (constant S_ .f32 0x358637BD#32))))

/-- The activations normalised and scaled by the weights. -/
def rms (x : FVec Ideal S2x16384x2048 .f32) (g : FVec Ideal S2048 .f32) : FVec Ideal S2x16384x2048 .f32 :=
  mulf (mulf x (scaled x))
    (broadcastInDim S2x16384x2048 ![0, 1, 2] bcast_S1x1x2048_S2x16384x2048_0_1_2 (broadcastInDim S1x1x2048 ![2] bcast_S2048_S1x1x2048_2 g))

/-- The activations normalised, scaled by the weights and modulated. -/
def normed (x : FVec Ideal S2x16384x2048 .f32) (sh sc : FVec Ideal S2x1x2048 .f32) (g : FVec Ideal S2048 .f32) : FVec Ideal S2x16384x2048 .f32 :=
  addf (mulf (rms x g)
      (broadcastInDim S2x16384x2048 ![0, 1, 2] bcast_S2x1x2048_S2x16384x2048_0_1_2 (addf (broadcastInDim S2x1x2048 ![] bcast_S_S2x1x2048 (constant S_ .f32 0x3F800000#32)) sc)))
    (broadcastInDim S2x16384x2048 ![0, 1, 2] bcast_S2x1x2048_S2x16384x2048_0_1_2 sh)

/-- The product with the weights. -/
def cols (h : FVec Ideal S2x16384x2048 .f32) (w : FVec Ideal S2048x7248 .f32) : FVec Ideal S2x16384x7248 .f32 :=
  Host.dotGeneral dot_S2x16384x2048_S2048x7248_S2x16384x7248_2_0_01_1_n_n none h w

/-- Result 0, cut from the product. -/
def res0 (u : FVec Ideal S2x16384x7248 .f32) : FVec Ideal S2x16384x1024 .bf16 :=
  truncf .bf16 (extractStridedSlice S2x16384x1024 ![0, 0, 0] u slices_S2x16384x7248_S2x16384x1024_0_0_0) bitsLt_bf16_f32

/-- Result 1, cut from the product. -/
def res1 (u : FVec Ideal S2x16384x7248 .f32) : FVec Ideal S2x16384x8x128 .f32 :=
  shapeCast _ (extractStridedSlice S2x16384x1024 ![0, 0, 1024] u slices_S2x16384x7248_S2x16384x1024_0_0_1024) shapeCasts_S2x16384x1024_S2x16384x8x128

/-- Result 2, cut from the product. -/
def res2 (u : FVec Ideal S2x16384x7248 .f32) : FVec Ideal S2x16384x1024 .bf16 :=
  truncf .bf16 (extractStridedSlice S2x16384x1024 ![0, 0, 1024] u slices_S2x16384x7248_S2x16384x1024_0_0_1024) bitsLt_bf16_f32

/-- Result 3, cut from the product. -/
def res3 (u : FVec Ideal S2x16384x7248 .f32) : FVec Ideal S2x16384x8x128 .f32 :=
  shapeCast _ (extractStridedSlice S2x16384x1024 ![0, 0, 2048] u slices_S2x16384x7248_S2x16384x1024_0_0_2048) shapeCasts_S2x16384x1024_S2x16384x8x128

/-- Result 4, cut from the product. -/
def res4 (u : FVec Ideal S2x16384x7248 .f32) : FVec Ideal S2x16384x1024 .bf16 :=
  truncf .bf16 (extractStridedSlice S2x16384x1024 ![0, 0, 2048] u slices_S2x16384x7248_S2x16384x1024_0_0_2048) bitsLt_bf16_f32

/-! ## At an element -/

theorem rms_apply (x : FVec Ideal S2x16384x2048 .f32) (g : FVec Ideal S2048 .f32) (b : Fin 2) (p : Fin 16384) (d : Fin 2048) :
    rms x g (ix3 b p d) = x (ix3 b p d) * Ideal.rsqrt (Ideal.div (∑ k, x (ix3 b p k) * x (ix3 b p k)) (Ideal.ofBits FTy.f32 1157627904#32) + Ideal.ofBits FTy.f32 897988541#32) * g (ix1 d) := by
  pointwise [rms, scaled]

theorem normed_apply (x : FVec Ideal S2x16384x2048 .f32) (sh sc : FVec Ideal S2x1x2048 .f32) (g : FVec Ideal S2048 .f32) (b : Fin 2) (p : Fin 16384) (d : Fin 2048) :
    normed x sh sc g (ix3 b p d) = hG x sh sc g b p d := by
  pointwise [normed]
  rw [rms_apply]
  rfl

theorem cols_apply (x : FVec Ideal S2x16384x2048 .f32) (sh sc : FVec Ideal S2x1x2048 .f32) (g : FVec Ideal S2048 .f32) (w : FVec Ideal S2048x7248 .f32)
    (b : Fin 2) (p : Fin 16384) (q : Fin 7248) : cols (normed x sh sc g) w (ix3 b p q) = pG x sh sc g w b p q := by
  pointwise [cols]
  simp only [normed_apply]
  rfl

variable (x : FVec Ideal S2x16384x2048 .f32) (sh sc : FVec Ideal S2x1x2048 .f32) (g : FVec Ideal S2048 .f32) (w : FVec Ideal S2048x7248 .f32)

/-- A column of the product under its number. -/
theorem col_eq (q : Fin 7248) (n : ℕ) (h : q.val = n) : q = col n := Fin.ext (by show q.val = n % 7248; have := q.isLt; omega)

theorem res0_apply (b : Fin 2) (p : Fin 16384) (q : Fin 1024) : res0 (cols (normed x sh sc g) w) (ix3 b p q) = rowArr x sh sc g w 0 (ix3 b p q) := by
  pointwise [res0]
  rw [cols_apply]
  unfold rowArr
  exact congrArg (pG x sh sc g w b p) (col_eq _ _ (by first | rfl | exact (Nat.zero_add _).symm))

/-- The reference's result 0 is the kernel's function of its arguments. -/
theorem res0_eq : res0 (cols (normed x sh sc g) w) = rowArr x sh sc g w 0 := by
  funext y
  have hy : y = ix3 (y 0) (y 1) (y 2) := by funext a; match a with | 0 => rfl | 1 => rfl | 2 => rfl
  exact (congrArg _ hy).trans ((res0_apply x sh sc g w (y 0) (y 1) (y 2)).trans (congrArg _ hy.symm))

theorem res1_apply (b : Fin 2) (p : Fin 16384) (a : Fin 8) (e : Fin 128) : res1 (cols (normed x sh sc g) w) (ix4 b p a e) = headArr x sh sc g w 1024 (ix4 b p a e) := by
  pointwise [res1]
  rw [cols_apply]
  unfold headArr
  exact congrArg (pG x sh sc g w b p) (col_eq _ _ (by first | rfl | exact (Nat.zero_add _).symm))

/-- The reference's result 1 is the kernel's function of its arguments. -/
theorem res1_eq : res1 (cols (normed x sh sc g) w) = headArr x sh sc g w 1024 := by
  funext y
  have hy : y = ix4 (y 0) (y 1) (y 2) (y 3) := by funext a; match a with | 0 => rfl | 1 => rfl | 2 => rfl | 3 => rfl
  exact (congrArg _ hy).trans ((res1_apply x sh sc g w (y 0) (y 1) (y 2) (y 3)).trans (congrArg _ hy.symm))

theorem res2_apply (b : Fin 2) (p : Fin 16384) (q : Fin 1024) : res2 (cols (normed x sh sc g) w) (ix3 b p q) = rowArr x sh sc g w 1024 (ix3 b p q) := by
  pointwise [res2]
  rw [cols_apply]
  unfold rowArr
  exact congrArg (pG x sh sc g w b p) (col_eq _ _ (by first | rfl | exact (Nat.zero_add _).symm))

/-- The reference's result 2 is the kernel's function of its arguments. -/
theorem res2_eq : res2 (cols (normed x sh sc g) w) = rowArr x sh sc g w 1024 := by
  funext y
  have hy : y = ix3 (y 0) (y 1) (y 2) := by funext a; match a with | 0 => rfl | 1 => rfl | 2 => rfl
  exact (congrArg _ hy).trans ((res2_apply x sh sc g w (y 0) (y 1) (y 2)).trans (congrArg _ hy.symm))

theorem res3_apply (b : Fin 2) (p : Fin 16384) (a : Fin 8) (e : Fin 128) : res3 (cols (normed x sh sc g) w) (ix4 b p a e) = headArr x sh sc g w 2048 (ix4 b p a e) := by
  pointwise [res3]
  rw [cols_apply]
  unfold headArr
  exact congrArg (pG x sh sc g w b p) (col_eq _ _ (by first | rfl | exact (Nat.zero_add _).symm))

/-- The reference's result 3 is the kernel's function of its arguments. -/
theorem res3_eq : res3 (cols (normed x sh sc g) w) = headArr x sh sc g w 2048 := by
  funext y
  have hy : y = ix4 (y 0) (y 1) (y 2) (y 3) := by funext a; match a with | 0 => rfl | 1 => rfl | 2 => rfl | 3 => rfl
  exact (congrArg _ hy).trans ((res3_apply x sh sc g w (y 0) (y 1) (y 2) (y 3)).trans (congrArg _ hy.symm))

theorem res4_apply (b : Fin 2) (p : Fin 16384) (q : Fin 1024) : res4 (cols (normed x sh sc g) w) (ix3 b p q) = rowArr x sh sc g w 2048 (ix3 b p q) := by
  pointwise [res4]
  rw [cols_apply]
  unfold rowArr
  exact congrArg (pG x sh sc g w b p) (col_eq _ _ (by first | rfl | exact (Nat.zero_add _).symm))

/-- The reference's result 4 is the kernel's function of its arguments. -/
theorem res4_eq : res4 (cols (normed x sh sc g) w) = rowArr x sh sc g w 2048 := by
  funext y
  have hy : y = ix3 (y 0) (y 1) (y 2) := by funext a; match a with | 0 => rfl | 1 => rfl | 2 => rfl
  exact (congrArg _ hy).trans ((res4_apply x sh sc g w (y 0) (y 1) (y 2)).trans (congrArg _ hy.symm))

end Cert.Reference4Ideal.Value

end
-- ==== Proof.ProjSb.Same.lean ====
/-
  The stick-breaking projection's program as it is printed and its ideal reading have the same text.
-/
module

public import proofs.«01_k».proof.Kernel4
public import proofs.«01_k».proof.Kernel4Ideal
public import proofs.«01_k».proof.Proof.Gen.Kernel4
public import proofs.«01_k».proof.Proof.Gen.Kernel4Ideal

@[expose] public section

set_option maxRecDepth 65536

namespace Cert.ProjSb.Same

open Idealize.ShloMosaic

variable {F : FTy → Type} [FloatOps F]

/-- The two programs' bodies are one function. -/
theorem body_eq : @Cert.Kernel4.cc0_proj_sb F _ _ = @Cert.Kernel4Ideal.cc0_proj_sb F _ _ := rfl

set_option maxHeartbeats 4000000 in
/-- The two programs' body tables are one table. -/
theorem bodies_eq : @Cert.Kernel4.defs₀ F _ _ = @Cert.Kernel4Ideal.defs₀ F _ _ := by
  unfold Cert.Kernel4.defs₀ Cert.Kernel4Ideal.defs₀
  rw [body_eq]
  generalize @Cert.Kernel4Ideal.cc0_proj_sb F _ _ = B
  refine congrArg Defs.onTc (funext fun l => funext fun x => ?_)
  match l, x with
  | 0, (t, s) => rfl

/-- The two programs' tables, with the pipeline's region, are one table. -/
theorem defs_eq : @Cert.Kernel4.defs F _ _ = @Cert.Kernel4Ideal.defs F _ _ := by
  unfold Cert.Kernel4.defs Cert.Kernel4Ideal.defs
  rw [bodies_eq]
  rfl

end Cert.ProjSb.Same

end
-- ==== Proof.ProjSa.Fun.lean ====
/-
  The sparse projection's body, its pieces as functions: the normalised rows, and each output's block at a grid point.
-/
module

public import proofs.«01_k».proof.Proof.Gen.Kernel5Ideal.Frame
public import proofs.«01_k».proof.Proof.Gen.Kernel5Ideal.Skeleton
public import Idealize.ShloMosaic.Lib.Pipeline.ValueKit

@[expose] public section

set_option maxRecDepth 16384

noncomputable section

namespace Cert.Kernel5Ideal.Run

open Cert.Kernel5Ideal Cert.Kernel5Ideal.Gen
open Idealize.ShloMosaic Idealize.ShloMosaic.TcCoe

variable {F : FTy → Type} [FloatOps F]

/-- The scratch of normalised rows after its thirty-two stores of sixteen rows each. -/
def hOf (x : Vec F S1x512x2048 .f32) (g : Vec F S1x2048 .f32) (sc sh : Vec F S1x1x2048 .f32) : Vec F S512x2048 .bf16 :=
  View.canon [
    ⟨Rect.unit (s := S512x2048) ![496, 0] ![16, 2048] inb_S512x2048_S16x2048_496_0, k0_pay1 ((k0_pay65 (k0_pay8 g) (k0_pay9 sc) (k0_pay10 sh) (View.ld x (Rect.unit (s := S1x512x2048) ![0, 496, 0] ![1, 16, 2048] inb_S1x512x2048_S1x16x2048_0_496_0))))⟩,
    ⟨Rect.unit (s := S512x2048) ![480, 0] ![16, 2048] inb_S512x2048_S16x2048_480_0, k0_pay64 (k0_pay8 g) (k0_pay9 sc) (k0_pay10 sh) (k0_pay62 (View.ld x (Rect.unit (s := S1x512x2048) ![0, 480, 0] ![1, 16, 2048] inb_S1x512x2048_S1x16x2048_0_480_0))) (k0_pay63 (View.ld x (Rect.unit (s := S1x512x2048) ![0, 480, 0] ![1, 16, 2048] inb_S1x512x2048_S1x16x2048_0_480_0))) (Scalar.ofBits .f32 0x358637BD#32)⟩,
    ⟨Rect.unit (s := S512x2048) ![464, 0] ![16, 2048] inb_S512x2048_S16x2048_464_0, k0_pay61 (k0_pay8 g) (k0_pay9 sc) (k0_pay10 sh) (View.ld x (Rect.unit (s := S1x512x2048) ![0, 464, 0] ![1, 16, 2048] inb_S1x512x2048_S1x16x2048_0_464_0))⟩,
    ⟨Rect.unit (s := S512x2048) ![448, 0] ![16, 2048] inb_S512x2048_S16x2048_448_0, k0_pay60 (k0_pay8 g) (k0_pay9 sc) (k0_pay10 sh) (k0_pay58 (View.ld x (Rect.unit (s := S1x512x2048) ![0, 448, 0] ![1, 16, 2048] inb_S1x512x2048_S1x16x2048_0_448_0))) (k0_pay59 (View.ld x (Rect.unit (s := S1x512x2048) ![0, 448, 0] ![1, 16, 2048] inb_S1x512x2048_S1x16x2048_0_448_0)))⟩,
    ⟨Rect.unit (s := S512x2048) ![432, 0] ![16, 2048] inb_S512x2048_S16x2048_432_0, k0_pay57 (k0_pay8 g) (k0_pay9 sc) (k0_pay10 sh) (View.ld x (Rect.unit (s := S1x512x2048) ![0, 432, 0] ![1, 16, 2048] inb_S1x512x2048_S1x16x2048_0_432_0))⟩,
    ⟨Rect.unit (s := S512x2048) ![416, 0] ![16, 2048] inb_S512x2048_S16x2048_416_0, k0_pay56 (k0_pay8 g) (k0_pay9 sc) (k0_pay10 sh) (k0_pay54 (View.ld x (Rect.unit (s := S1x512x2048) ![0, 416, 0] ![1, 16, 2048] inb_S1x512x2048_S1x16x2048_0_416_0))) (k0_pay55 (View.ld x (Rect.unit (s := S1x512x2048) ![0, 416, 0] ![1, 16, 2048] inb_S1x512x2048_S1x16x2048_0_416_0)))⟩,
    ⟨Rect.unit (s := S512x2048) ![400, 0] ![16, 2048] inb_S512x2048_S16x2048_400_0, k0_pay53 (k0_pay8 g) (k0_pay9 sc) (k0_pay10 sh) (View.ld x (Rect.unit (s := S1x512x2048) ![0, 400, 0] ![1, 16, 2048] inb_S1x512x2048_S1x16x2048_0_400_0))⟩,
    ⟨Rect.unit (s := S512x2048) ![384, 0] ![16, 2048] inb_S512x2048_S16x2048_384_0, k0_pay52 (k0_pay9 sc) (k0_pay10 sh) (k0_pay50 (View.ld x (Rect.unit (s := S1x512x2048) ![0, 384, 0] ![1, 16, 2048] inb_S1x512x2048_S1x16x2048_0_384_0))) (k0_pay51 (k0_pay8 g))⟩,
    ⟨Rect.unit (s := S512x2048) ![368, 0] ![16, 2048] inb_S512x2048_S16x2048_368_0, k0_pay49 (k0_pay8 g) (k0_pay9 sc) (k0_pay10 sh) (View.ld x (Rect.unit (s := S1x512x2048) ![0, 368, 0] ![1, 16, 2048] inb_S1x512x2048_S1x16x2048_0_368_0))⟩,
    ⟨Rect.unit (s := S512x2048) ![352, 0] ![16, 2048] inb_S512x2048_S16x2048_352_0, k0_pay48 (k0_pay10 sh) (k0_pay46 (k0_pay8 g) (View.ld x (Rect.unit (s := S1x512x2048) ![0, 352, 0] ![1, 16, 2048] inb_S1x512x2048_S1x16x2048_0_352_0))) (k0_pay47 (k0_pay9 sc))⟩,
    ⟨Rect.unit (s := S512x2048) ![336, 0] ![16, 2048] inb_S512x2048_S16x2048_336_0, k0_pay45 (k0_pay8 g) (k0_pay9 sc) (k0_pay10 sh) (View.ld x (Rect.unit (s := S1x512x2048) ![0, 336, 0] ![1, 16, 2048] inb_S1x512x2048_S1x16x2048_0_336_0))⟩,
    ⟨Rect.unit (s := S512x2048) ![320, 0] ![16, 2048] inb_S512x2048_S16x2048_320_0, k0_pay44 (k0_pay42 (k0_pay8 g) (k0_pay9 sc) (View.ld x (Rect.unit (s := S1x512x2048) ![0, 320, 0] ![1, 16, 2048] inb_S1x512x2048_S1x16x2048_0_320_0))) (k0_pay43 (k0_pay10 sh))⟩,
    ⟨Rect.unit (s := S512x2048) ![304, 0] ![16, 2048] inb_S512x2048_S16x2048_304_0, k0_pay41 (k0_pay8 g) (k0_pay9 sc) (k0_pay10 sh) (View.ld x (Rect.unit (s := S1x512x2048) ![0, 304, 0] ![1, 16, 2048] inb_S1x512x2048_S1x16x2048_0_304_0))⟩,
    ⟨Rect.unit (s := S512x2048) ![288, 0] ![16, 2048] inb_S512x2048_S16x2048_288_0, k0_pay40 (k0_pay39 (k0_pay8 g) (k0_pay9 sc) (k0_pay10 sh) (View.ld x (Rect.unit (s := S1x512x2048) ![0, 288, 0] ![1, 16, 2048] inb_S1x512x2048_S1x16x2048_0_288_0)))⟩,
    ⟨Rect.unit (s := S512x2048) ![272, 0] ![16, 2048] inb_S512x2048_S16x2048_272_0, k0_pay38 (k0_pay8 g) (k0_pay9 sc) (k0_pay10 sh) (View.ld x (Rect.unit (s := S1x512x2048) ![0, 272, 0] ![1, 16, 2048] inb_S1x512x2048_S1x16x2048_0_272_0))⟩,
    ⟨Rect.unit (s := S512x2048) ![256, 0] ![16, 2048] inb_S512x2048_S16x2048_256_0, k0_pay37 (k0_pay36 (k0_pay8 g) (k0_pay9 sc) (k0_pay10 sh) (View.ld x (Rect.unit (s := S1x512x2048) ![0, 256, 0] ![1, 16, 2048] inb_S1x512x2048_S1x16x2048_0_256_0)))⟩,
    ⟨Rect.unit (s := S512x2048) ![240, 0] ![16, 2048] inb_S512x2048_S16x2048_240_0, k0_pay35 (k0_pay8 g) (k0_pay9 sc) (k0_pay10 sh) (View.ld x (Rect.unit (s := S1x512x2048) ![0, 240, 0] ![1, 16, 2048] inb_S1x512x2048_S1x16x2048_0_240_0))⟩,
    ⟨Rect.unit (s := S512x2048) ![224, 0] ![16, 2048] inb_S512x2048_S16x2048_224_0, k0_pay34 (k0_pay33 (k0_pay8 g) (k0_pay9 sc) (k0_pay10 sh) (View.ld x (Rect.unit (s := S1x512x2048) ![0, 224, 0] ![1, 16, 2048] inb_S1x512x2048_S1x16x2048_0_224_0)))⟩,
    ⟨Rect.unit (s := S512x2048) ![208, 0] ![16, 2048] inb_S512x2048_S16x2048_208_0, k0_pay32 (k0_pay8 g) (k0_pay9 sc) (k0_pay10 sh) (View.ld x (Rect.unit (s := S1x512x2048) ![0, 208, 0] ![1, 16, 2048] inb_S1x512x2048_S1x16x2048_0_208_0))⟩,
    ⟨Rect.unit (s := S512x2048) ![192, 0] ![16, 2048] inb_S512x2048_S16x2048_192_0, k0_pay31 (k0_pay8 g) (k0_pay9 sc) (k0_pay10 sh) (View.ld x (Rect.unit (s := S1x512x2048) ![0, 192, 0] ![1, 16, 2048] inb_S1x512x2048_S1x16x2048_0_192_0))⟩,
    ⟨Rect.unit (s := S512x2048) ![176, 0] ![16, 2048] inb_S512x2048_S16x2048_176_0, k0_pay30 (k0_pay8 g) (k0_pay9 sc) (k0_pay10 sh) (View.ld x (Rect.unit (s := S1x512x2048) ![0, 176, 0] ![1, 16, 2048] inb_S1x512x2048_S1x16x2048_0_176_0))⟩,
    ⟨Rect.unit (s := S512x2048) ![160, 0] ![16, 2048] inb_S512x2048_S16x2048_160_0, k0_pay29 (k0_pay8 g) (k0_pay9 sc) (k0_pay10 sh) (View.ld x (Rect.unit (s := S1x512x2048) ![0, 160, 0] ![1, 16, 2048] inb_S1x512x2048_S1x16x2048_0_160_0))⟩,
    ⟨Rect.unit (s := S512x2048) ![144, 0] ![16, 2048] inb_S512x2048_S16x2048_144_0, k0_pay28 (k0_pay8 g) (k0_pay9 sc) (k0_pay10 sh) (View.ld x (Rect.unit (s := S1x512x2048) ![0, 144, 0] ![1, 16, 2048] inb_S1x512x2048_S1x16x2048_0_144_0))⟩,
    ⟨Rect.unit (s := S512x2048) ![128, 0] ![16, 2048] inb_S512x2048_S16x2048_128_0, k0_pay27 (k0_pay8 g) (k0_pay9 sc) (k0_pay10 sh) (View.ld x (Rect.unit (s := S1x512x2048) ![0, 128, 0] ![1, 16, 2048] inb_S1x512x2048_S1x16x2048_0_128_0))⟩,
    ⟨Rect.unit (s := S512x2048) ![112, 0] ![16, 2048] inb_S512x2048_S16x2048_112_0, k0_pay26 (k0_pay8 g) (k0_pay9 sc) (k0_pay10 sh) (k0_pay24 (View.ld x (Rect.unit (s := S1x512x2048) ![0, 112, 0] ![1, 16, 2048] inb_S1x512x2048_S1x16x2048_0_112_0))) (k0_pay25 (View.ld x (Rect.unit (s := S1x512x2048) ![0, 112, 0] ![1, 16, 2048] inb_S1x512x2048_S1x16x2048_0_112_0)))⟩,
    ⟨Rect.unit (s := S512x2048) ![96, 0] ![16, 2048] inb_S512x2048_S16x2048_96_0, k0_pay23 (k0_pay8 g) (k0_pay9 sc) (k0_pay10 sh) (View.ld x (Rect.unit (s := S1x512x2048) ![0, 96, 0] ![1, 16, 2048] inb_S1x512x2048_S1x16x2048_0_96_0))⟩,
    ⟨Rect.unit (s := S512x2048) ![80, 0] ![16, 2048] inb_S512x2048_S16x2048_80_0, k0_pay22 (k0_pay8 g) (k0_pay9 sc) (k0_pay10 sh) (k0_pay20 (View.ld x (Rect.unit (s := S1x512x2048) ![0, 80, 0] ![1, 16, 2048] inb_S1x512x2048_S1x16x2048_0_80_0))) (k0_pay21 (View.ld x (Rect.unit (s := S1x512x2048) ![0, 80, 0] ![1, 16, 2048] inb_S1x512x2048_S1x16x2048_0_80_0)))⟩,
    ⟨Rect.unit (s := S512x2048) ![64, 0] ![16, 2048] inb_S512x2048_S16x2048_64_0, k0_pay19 (k0_pay8 g) (k0_pay9 sc) (k0_pay10 sh) (View.ld x (Rect.unit (s := S1x512x2048) ![0, 64, 0] ![1, 16, 2048] inb_S1x512x2048_S1x16x2048_0_64_0))⟩,
    ⟨Rect.unit (s := S512x2048) ![48, 0] ![16, 2048] inb_S512x2048_S16x2048_48_0, k0_pay18 (k0_pay8 g) (k0_pay9 sc) (k0_pay10 sh) (k0_pay16 (View.ld x (Rect.unit (s := S1x512x2048) ![0, 48, 0] ![1, 16, 2048] inb_S1x512x2048_S1x16x2048_0_48_0))) (k0_pay17 (View.ld x (Rect.unit (s := S1x512x2048) ![0, 48, 0] ![1, 16, 2048] inb_S1x512x2048_S1x16x2048_0_48_0))) (Scalar.ofBits .f32 0x45000000#32)⟩,
    ⟨Rect.unit (s := S512x2048) ![32, 0] ![16, 2048] inb_S512x2048_S16x2048_32_0, k0_pay15 (k0_pay8 g) (k0_pay9 sc) (k0_pay10 sh) (View.ld x (Rect.unit (s := S1x512x2048) ![0, 32, 0] ![1, 16, 2048] inb_S1x512x2048_S1x16x2048_0_32_0))⟩,
    ⟨Rect.unit (s := S512x2048) ![16, 0] ![16, 2048] inb_S512x2048_S16x2048_16_0, k0_pay14 (k0_pay8 g) (k0_pay9 sc) (k0_pay10 sh) (k0_pay12 (View.ld x (Rect.unit (s := S1x512x2048) ![0, 16, 0] ![1, 16, 2048] inb_S1x512x2048_S1x16x2048_0_16_0))) (k0_pay13 (View.ld x (Rect.unit (s := S1x512x2048) ![0, 16, 0] ![1, 16, 2048] inb_S1x512x2048_S1x16x2048_0_16_0)))⟩,
    ⟨Rect.unit (s := S512x2048) ![0, 0] ![16, 2048] inb_S512x2048_S16x2048_0_0, k0_pay11 g sc sh (View.ld x (Rect.unit (s := S1x512x2048) ![0, 0, 0] ![1, 16, 2048] inb_S1x512x2048_S1x16x2048_0_0_0))⟩]

/-- The kernel's first test: the block of columns is the first. -/
abbrev cond0 (i : grid0.Coords) : Prop := (Scalar.cmpi .ne (Scalar.extui (Scalar.cmpi .eq (BitVec.ofNat 32 (i 2).val) 0#32)) 0#32) = 1#1

/-! ## The tests at a point -/

theorem cond0_iff : ∀ t : Fin cfg0.N, cond0 (grid0.coords t) ↔ t.val % 3 = 0 :=
  (by decide +kernel : ∀ t : Fin grid0.N, cond0 (grid0.coords t) ↔ t.val % 3 = 0)

theorem cond2_iff : ∀ t : Fin cfg0.N, k0_cond2 (grid0.coords t) = 1#1 ↔ t.val % 3 = 0 :=
  (by decide +kernel : ∀ t : Fin grid0.N, k0_cond2 (grid0.coords t) = 1#1 ↔ t.val % 3 = 0)

theorem cond3_iff : ∀ t : Fin cfg0.N, k0_cond3 (grid0.coords t) = 1#1 ↔ t.val % 3 = 1 :=
  (by decide +kernel : ∀ t : Fin grid0.N, k0_cond3 (grid0.coords t) = 1#1 ↔ t.val % 3 = 1)

theorem cond4_iff : ∀ t : Fin cfg0.N, k0_cond4 (grid0.coords t) = 1#1 ↔ t.val % 3 = 1 :=
  (by decide +kernel : ∀ t : Fin grid0.N, k0_cond4 (grid0.coords t) = 1#1 ↔ t.val % 3 = 1)

theorem cond5_iff : ∀ t : Fin cfg0.N, k0_cond5 (grid0.coords t) = 1#1 ↔ t.val % 3 = 2 :=
  (by decide +kernel : ∀ t : Fin grid0.N, k0_cond5 (grid0.coords t) = 1#1 ↔ t.val % 3 = 2)

theorem cond6_iff : ∀ t : Fin cfg0.N, k0_cond6 (grid0.coords t) = 1#1 ↔ t.val % 3 = 2 :=
  (by decide +kernel : ∀ t : Fin grid0.N, k0_cond6 (grid0.coords t) = 1#1 ↔ t.val % 3 = 2)

/-! ## The points' values -/

variable (m : (ℓ : Loc nD τ sig) → Buf (Elt F) ℓ) (c : Dev nD)

/-- Point `n`, counted round the grid. -/
def pt (n : ℕ) : Fin cfg0.N := ⟨n % cfg0.N, Nat.mod_lt _ (by decide)⟩

theorem pt_val (t : Fin cfg0.N) : pt t.val = t := Fin.ext (Nat.mod_eq_of_lt t.isLt)

/-- The staged block of each input at point `n`. -/
def b0 (n : ℕ) : Vec F S1x512x2048 .f32 := iblk m c 0 (pt n)
@[inherit_doc b0] def b1 (n : ℕ) : Vec F S1x1x2048 .f32 := iblk m c 1 (pt n)
@[inherit_doc b0] def b2 (n : ℕ) : Vec F S1x1x2048 .f32 := iblk m c 2 (pt n)
@[inherit_doc b0] def b3 (n : ℕ) : Vec F S1x2048 .f32 := iblk m c 3 (pt n)
@[inherit_doc b0] def b4 (n : ℕ) : Vec F S2048x1024 .bf16 := iblk m c 4 (pt n)

/-- The normalised rows at point `n`: those of the first point of its block of rows. -/
def hN (n : ℕ) : Vec F S512x2048 .bf16 := hOf (b0 m c (n - n % 3)) (b3 m c (n - n % 3)) (b1 m c (n - n % 3)) (b2 m c (n - n % 3))

theorem hN_first (n : ℕ) (h : n % 3 = 0) : hOf (b0 m c n) (b3 m c n) (b1 m c n) (b2 m c n) = hN m c n := by
  unfold hN; rw [h, Nat.sub_zero]

theorem hN_next (n : ℕ) (h : n % 3 ≠ 0) : hN m c (n - 1) = hN m c n := by
  unfold hN
  have e : n - 1 - (n - 1) % 3 = n - n % 3 := by omega
  rw [e]

/-- The block of output 0 that point `n`'s block of rows writes. -/
def o5 (n : ℕ) : Vec F S1x1024x512 .bf16 := k0_pay3 (hN m c n) (b4 m c (n - n % 3 + 0))

theorem o5_here (n : ℕ) (h : n % 3 = 0) : k0_pay3 (hN m c n) (b4 m c n) = o5 m c n := by
  unfold o5
  have e : n - n % 3 + 0 = n := by omega
  rw [e]

theorem o5_next (n : ℕ) (h : n % 3 ≠ 0) : o5 m c (n - 1) = o5 m c n := by
  unfold o5
  have e : n - 1 - (n - 1) % 3 = n - n % 3 := by omega
  rw [hN_next m c n h, e]

/-- The block of output 1 that point `n`'s block of rows writes. -/
def o6 (n : ℕ) : Vec F S1x512x8x128 .f32 := k0_pay4 (hN m c n) (b4 m c (n - n % 3 + 1))

theorem o6_here (n : ℕ) (h : n % 3 = 1) : k0_pay4 (hN m c n) (b4 m c n) = o6 m c n := by
  unfold o6
  have e : n - n % 3 + 1 = n := by omega
  rw [e]

theorem o6_next (n : ℕ) (h : n % 3 ≠ 0) : o6 m c (n - 1) = o6 m c n := by
  unfold o6
  have e : n - 1 - (n - 1) % 3 = n - n % 3 := by omega
  rw [hN_next m c n h, e]

/-- The block of output 2 that point `n`'s block of rows writes. -/
def o7 (n : ℕ) : Vec F S1x512x1024 .bf16 := k0_pay5 (hN m c n) (b4 m c (n - n % 3 + 1))

theorem o7_here (n : ℕ) (h : n % 3 = 1) : k0_pay5 (hN m c n) (b4 m c n) = o7 m c n := by
  unfold o7
  have e : n - n % 3 + 1 = n := by omega
  rw [e]

theorem o7_next (n : ℕ) (h : n % 3 ≠ 0) : o7 m c (n - 1) = o7 m c n := by
  unfold o7
  have e : n - 1 - (n - 1) % 3 = n - n % 3 := by omega
  rw [hN_next m c n h, e]

/-- The block of output 3 that point `n`'s block of rows writes. -/
def o8 (n : ℕ) : Vec F S1x512x8x128 .f32 := k0_pay6 (hN m c n) (b4 m c (n - n % 3 + 2))

theorem o8_here (n : ℕ) (h : n % 3 = 2) : k0_pay6 (hN m c n) (b4 m c n) = o8 m c n := by
  unfold o8
  have e : n - n % 3 + 2 = n := by omega
  rw [e]

theorem o8_next (n : ℕ) (h : n % 3 ≠ 0) : o8 m c (n - 1) = o8 m c n := by
  unfold o8
  have e : n - 1 - (n - 1) % 3 = n - n % 3 := by omega
  rw [hN_next m c n h, e]

/-- The block of output 4 that point `n`'s block of rows writes. -/
def o9 (n : ℕ) : Vec F S1x1024x512 .bf16 := k0_pay7 (hN m c n) (b4 m c (n - n % 3 + 2))

theorem o9_here (n : ℕ) (h : n % 3 = 2) : k0_pay7 (hN m c n) (b4 m c n) = o9 m c n := by
  unfold o9
  have e : n - n % 3 + 2 = n := by omega
  rw [e]

theorem o9_next (n : ℕ) (h : n % 3 ≠ 0) : o9 m c (n - 1) = o9 m c n := by
  unfold o9
  have e : n - 1 - (n - 1) % 3 = n - n % 3 := by omega
  rw [hN_next m c n h, e]

end Cert.Kernel5Ideal.Run

end
-- ==== Proof.ProjSa.Cases.lean ====
/-
  The body of the sparse projection at a point of each block of columns.
-/
module

public import proofs.«01_k».proof.Proof.ProjSa.Fun

@[expose] public section

set_option maxRecDepth 16384

noncomputable section

namespace Cert.Kernel5Ideal.Run

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S1x512x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x1024 .bf16) (harg7 : arg7.IsWhole) (arg8 : Memref sig .tc .vmem S1x1024x512 .bf16) (harg8 : arg8.IsWhole) (arg9 : Memref sig .tc .vmem S1x512x8x128 .f32) (harg9 : arg9.IsWhole) (arg10 : Memref sig .tc .vmem S1x512x1024 .bf16) (harg10 : arg10.IsWhole) (arg11 : Memref sig .tc .vmem S1x512x8x128 .f32) (harg11 : arg11.IsWhole) (arg12 : Memref sig .tc .vmem S1x1024x512 .bf16) (harg12 : arg12.IsWhole) (arg13 : Memref sig .tc .vmem S512x2048 .bf16) (harg13 : arg13.IsWhole)
  (x0 : Vec F S1x512x2048 .f32) (x1 : Vec F S1x1x2048 .f32) (x2 : Vec F S1x1x2048 .f32) (x3 : Vec F S1x2048 .f32) (x4 : Vec F S2048x1024 .bf16) (y5 : Vec F S1x1024x512 .bf16) (y6 : Vec F S1x512x8x128 .f32) (y7 : Vec F S1x512x1024 .bf16) (y8 : Vec F S1x512x8x128 .f32) (y9 : Vec F S1x1024x512 .bf16) (s0 : Vec F S512x2048 .bf16)

set_option maxHeartbeats 2000000 in
/-- The projection's body at a point of block of columns 0: what it leaves in each buffer. -/
theorem body_0 (E : Set ℕ) (K : PUnit → sProp 𝕄) (hc0 : cond0 i) (hc2 : k0_cond2 i = 1#1) (hc3 : ¬ k0_cond3 i = 1#1) (hc4 : ¬ k0_cond4 i = 1#1) (hc5 : ¬ k0_cond5 i = 1#1) (hc6 : ¬ k0_cond6 i = 1#1) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ owns (c : Thread nD τ) arg11 fullShare y8 ∗ owns (c : Thread nD τ) arg12 fullShare y9 ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay3 (hOf x0 x3 x1 x2) x4) ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare (hOf x0 x3 x1 x2)) -∗ K ⟨⟩))
      ⊢ wp frame (wpE (defs₀ (F := F)) Variants.none c none) E (cc0_proj_sa i arg3 harg3 arg4 harg4 arg5 harg5 arg6 harg6 arg7 harg7 arg8 harg8 arg9 harg9 arg10 harg10 arg11 harg11 arg12 harg12 arg13 harg13) K := by
  simp only [cc0_proj_sa_eq_skeleton]; unfold cc0_proj_sa_skel
  simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
  sl_exec (disch := first | sl_exact hc0 | sl_exact hc2 | sl_exact hc3 | sl_exact hc4 | sl_exact hc5 | sl_exact hc6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [View.read_writes_eq_canon _ _ _ (View.cover_of_tiledL _ ![1, 1024, 512] (by sl_kernel_rfl))]
    sl_unfold_words
    simp only [View.readAt_eq_ld, Memref.IsWhole.read_unread]
    simp (disch := decide) only [View.ld_unit_lit', View.canon_cons_unit_lit', View.readCov_eq_canon']
    have whole_h (L : List (View.Piece (Elt F) S512x2048 FTy.bf16.elt)) : (fun j => View.canon L ((Rect.unit (s := S512x2048) ![0, 0] ![512, 2048] inb_S512x2048_S512x2048_0_0).toLoadRect.idx j)) = View.canon L :=
      View.ld_unit_lit' inb_S512x2048_S512x2048_0_0 (View.canon L) (by decide)
    simp only [whole_h]
    rfl
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  iexists _; isplitr; swap; · iexact H10
  ipureintro
  rw [View.read_writes_eq_canon _ _ _ (View.cover_of_tiledL _ ![16, 2048] (by sl_kernel_rfl))]
  sl_unfold_words
  simp only [View.readAt_eq_ld, Memref.IsWhole.read_unread]
  simp (disch := decide) only [View.ld_unit_lit', View.canon_cons_unit_lit', View.readCov_eq_canon']
  rfl

set_option maxHeartbeats 2000000 in
/-- The projection's body at a point of block of columns 1: what it leaves in each buffer. -/
theorem body_1 (E : Set ℕ) (K : PUnit → sProp 𝕄) (hc0 : ¬ cond0 i) (hc2 : ¬ k0_cond2 i = 1#1) (hc3 : k0_cond3 i = 1#1) (hc4 : k0_cond4 i = 1#1) (hc5 : ¬ k0_cond5 i = 1#1) (hc6 : ¬ k0_cond6 i = 1#1) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare s0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare (k0_pay4 s0 x4) ∗ owns (c : Thread nD τ) arg10 fullShare (k0_pay5 s0 x4) ∗ owns (c : Thread nD τ) arg11 fullShare y8 ∗ owns (c : Thread nD τ) arg12 fullShare y9 ∗ owns (c : Thread nD τ) arg13 fullShare s0) -∗ K ⟨⟩))
      ⊢ wp frame (wpE (defs₀ (F := F)) Variants.none c none) E (cc0_proj_sa i arg3 harg3 arg4 harg4 arg5 harg5 arg6 harg6 arg7 harg7 arg8 harg8 arg9 harg9 arg10 harg10 arg11 harg11 arg12 harg12 arg13 harg13) K := by
  simp only [cc0_proj_sa_eq_skeleton]; unfold cc0_proj_sa_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
  sl_exec (disch := first | sl_exact hc0 | sl_exact hc2 | sl_exact hc3 | sl_exact hc4 | sl_exact hc5 | sl_exact hc6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [View.read_writes_eq_canon _ _ _ (View.cover_of_tiledL _ ![1, 512, 8, 128] (by sl_kernel_rfl))]
    sl_unfold_words
    simp only [View.readAt_eq_ld, Memref.IsWhole.read_unread]
    simp (disch := decide) only [View.ld_unit_lit', View.canon_cons_unit_lit', View.readCov_eq_canon']
  isplitl [H7]
  · iexists _; isplitr; swap; · iexact H7
    ipureintro
    rw [View.read_writes_eq_canon _ _ _ (View.cover_of_tiledL _ ![1, 512, 1024] (by sl_kernel_rfl))]
    sl_unfold_words
    simp only [View.readAt_eq_ld, Memref.IsWhole.read_unread]
    simp (disch := decide) only [View.ld_unit_lit', View.canon_cons_unit_lit', View.readCov_eq_canon']
  isplitl [H8]
  · iexists _; isplitr; · ipureintro; exact harg11.read_unread _
    iexact H8
  isplitl [H9]
  · iexists _; isplitr; · ipureintro; exact harg12.read_unread _
    iexact H9
  iexists _; isplitr; · ipureintro; exact harg13.read_unread _
  iexact H10

set_option maxHeartbeats 2000000 in
/-- The projection's body at a point of block of columns 2: what it leaves in each buffer. -/
theorem body_2 (E : Set ℕ) (K : PUnit → sProp 𝕄) (hc0 : ¬ cond0 i) (hc2 : ¬ k0_cond2 i = 1#1) (hc3 : ¬ k0_cond3 i = 1#1) (hc4 : ¬ k0_cond4 i = 1#1) (hc5 : k0_cond5 i = 1#1) (hc6 : k0_cond6 i = 1#1) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare s0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ owns (c : Thread nD τ) arg11 fullShare (k0_pay6 s0 x4) ∗ owns (c : Thread nD τ) arg12 fullShare (k0_pay7 s0 x4) ∗ owns (c : Thread nD τ) arg13 fullShare s0) -∗ K ⟨⟩))
      ⊢ wp frame (wpE (defs₀ (F := F)) Variants.none c none) E (cc0_proj_sa i arg3 harg3 arg4 harg4 arg5 harg5 arg6 harg6 arg7 harg7 arg8 harg8 arg9 harg9 arg10 harg10 arg11 harg11 arg12 harg12 arg13 harg13) K := by
  simp only [cc0_proj_sa_eq_skeleton]; unfold cc0_proj_sa_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
  sl_exec (disch := first | sl_exact hc0 | sl_exact hc2 | sl_exact hc3 | sl_exact hc4 | sl_exact hc5 | sl_exact hc6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    rw [View.read_writes_eq_canon _ _ _ (View.cover_of_tiledL _ ![1, 512, 8, 128] (by sl_kernel_rfl))]
    sl_unfold_words
    simp only [View.readAt_eq_ld, Memref.IsWhole.read_unread]
    simp (disch := decide) only [View.ld_unit_lit', View.canon_cons_unit_lit', View.readCov_eq_canon']
  isplitl [H9]
  · iexists _; isplitr; swap; · iexact H9
    ipureintro
    rw [View.read_writes_eq_canon _ _ _ (View.cover_of_tiledL _ ![1, 1024, 512] (by sl_kernel_rfl))]
    sl_unfold_words
    simp only [View.readAt_eq_ld, Memref.IsWhole.read_unread]
    simp (disch := decide) only [View.ld_unit_lit', View.canon_cons_unit_lit', View.readCov_eq_canon']
  iexists _; isplitr; · ipureintro; exact harg13.read_unread _
  iexact H10

end Cert.Kernel5Ideal.Run

end
-- ==== Proof.ProjSa.Steps.lean ====
/-
  The sparse projection's invariant between grid points, and its step over one point, case by case.
-/
module

public import proofs.«01_k».proof.Proof.ProjSa.Cases

@[expose] public section

set_option maxRecDepth 16384

noncomputable section

namespace Cert.Kernel5Ideal.Run

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- The scratch of normalised rows. -/
abbrev scM0_0 : Memref sig .tc .vmem S512x2048 .bf16 := Memref.whole cc0_scratch0

/-- Between grid points: the normalised rows are those of the point before unless a block of rows begins here. -/
def PhiS (n : ℕ) : sProp 𝕄 :=
  iprop((∃ d, ⌜n % 3 ≠ 0 → d = hN m c (n - 1)⌝ ∗ owns (c : Thread nD τ) scM0_0 fullShare d)
    ∗ (∃ r, prngReg c r))

/-- What the body is called with at point `t`: the inputs' blocks staged, the outputs' buffers at the `Y`s. -/
def stepPre (O : sProp 𝕄) (t : Fin cfg0.N) (Y5 : Vec F S1x1024x512 .bf16) (Y6 : Vec F S1x512x8x128 .f32) (Y7 : Vec F S1x512x1024 .bf16) (Y8 : Vec F S1x512x8x128 .f32) (Y9 : Vec F S1x1024x512 .bf16) : sProp 𝕄 :=
  iprop(PhiS m c t.val ∗ O ∗ owns (c : Thread nD τ) (st0_0 t) fullShare (b0 m c t.val) ∗ owns (c : Thread nD τ) (st0_1 t) fullShare (b1 m c t.val) ∗ owns (c : Thread nD τ) (st0_2 t) fullShare (b2 m c t.val) ∗ owns (c : Thread nD τ) (st0_3 t) fullShare (b3 m c t.val) ∗ owns (c : Thread nD τ) (st0_4 t) fullShare (b4 m c t.val) ∗ owns (c : Thread nD τ) (st0_5 t) fullShare Y5 ∗ owns (c : Thread nD τ) (st0_6 t) fullShare Y6 ∗ owns (c : Thread nD τ) (st0_7 t) fullShare Y7 ∗ owns (c : Thread nD τ) (st0_8 t) fullShare Y8 ∗ owns (c : Thread nD τ) (st0_9 t) fullShare Y9)

/-- What the body leaves: the inputs' blocks kept, and each output's block in its buffer from its block of columns on. -/
def stepPost (O : sProp 𝕄) (t : Fin cfg0.N) : sProp 𝕄 :=
  iprop(PhiS m c (t.val + 1) ∗ O ∗ owns (c : Thread nD τ) (st0_0 t) fullShare (b0 m c t.val) ∗ owns (c : Thread nD τ) (st0_1 t) fullShare (b1 m c t.val) ∗ owns (c : Thread nD τ) (st0_2 t) fullShare (b2 m c t.val) ∗ owns (c : Thread nD τ) (st0_3 t) fullShare (b3 m c t.val) ∗ owns (c : Thread nD τ) (st0_4 t) fullShare (b4 m c t.val)
    ∗ (∃ X : Vec F S1x1024x512 .bf16, ⌜0 ≤ t.val % 3 → X = o5 m c t.val⌝ ∗ owns (c : Thread nD τ) (st0_5 t) fullShare X)
    ∗ (∃ X : Vec F S1x512x8x128 .f32, ⌜1 ≤ t.val % 3 → X = o6 m c t.val⌝ ∗ owns (c : Thread nD τ) (st0_6 t) fullShare X)
    ∗ (∃ X : Vec F S1x512x1024 .bf16, ⌜1 ≤ t.val % 3 → X = o7 m c t.val⌝ ∗ owns (c : Thread nD τ) (st0_7 t) fullShare X)
    ∗ (∃ X : Vec F S1x512x8x128 .f32, ⌜2 ≤ t.val % 3 → X = o8 m c t.val⌝ ∗ owns (c : Thread nD τ) (st0_8 t) fullShare X)
    ∗ (∃ X : Vec F S1x1024x512 .bf16, ⌜2 ≤ t.val % 3 → X = o9 m c t.val⌝ ∗ owns (c : Thread nD τ) (st0_9 t) fullShare X))

/-- The step at a point of block of columns 0. -/
theorem step_0 (O : sProp 𝕄) (t : Fin cfg0.N) (Y5 : Vec F S1x1024x512 .bf16) (Y6 : Vec F S1x512x8x128 .f32) (Y7 : Vec F S1x512x1024 .bf16) (Y8 : Vec F S1x512x8x128 .f32) (Y9 : Vec F S1x1024x512 .bf16)
    (h0 : t.val % 3 = 0) (k5 : 0 < t.val % 3 → Y5 = o5 m c t.val) (k6 : 1 < t.val % 3 → Y6 = o6 m c t.val) (k7 : 1 < t.val % 3 → Y7 = o7 m c t.val) (k8 : 2 < t.val % 3 → Y8 = o8 m c t.val) (k9 : 2 < t.val % 3 → Y9 = o9 m c t.val) :
    stepPre m c O t Y5 Y6 Y7 Y8 Y9 ⊢ wp frame (wpE (defs₀ (F := F)) Variants.none c none) Set.univ (bodyAt0 t) (fun _ => stepPost m c O t) := by
  unfold stepPre stepPost PhiS
  iintro ⟨⟨⟨%d0, %e0, S0⟩, Hr⟩, Ho, H0, H1, H2, H3, H4, H5, H6, H7, H8, H9⟩
  have hh : hOf (b0 m c t.val) (b3 m c t.val) (b1 m c t.val) (b2 m c t.val) = hN m c t.val := hN_first m c _ h0
  iapply (body_0 c (grid0.coords t) _ _ _ _ _ _ _ _ _ _ _ _ _ _ _ _ _ _ _ _ _ _ (b0 m c t.val) (b1 m c t.val) (b2 m c t.val) (b3 m c t.val) (b4 m c t.val) Y5 Y6 Y7 Y8 Y9 Set.univ _ ((cond0_iff t).mpr h0) ((cond2_iff t).mpr h0) (fun h => absurd ((cond3_iff t).mp h) (by omega)) (fun h => absurd ((cond4_iff t).mp h) (by omega)) (fun h => absurd ((cond5_iff t).mp h) (by omega)) (fun h => absurd ((cond6_iff t).mp h) (by omega)))
  iframe H0 H1 H2 H3 H4 H5 H6 H7 H8 H9
  isplitl [S0]; · iexists _; iexact S0
  iintro ⟨H0, H1, H2, H3, H4, H5, H6, H7, H8, H9, S0⟩
  isplitl [S0 Hr]
  · isplitl [S0]
    · iexists _; isplitr; swap; · iexact S0
      ipureintro
      exact fun _ => hh
    iexact Hr
  iframe Ho H0 H1 H2 H3 H4
  isplitl [H5]
  · iexists _; isplitr; swap; · iexact H5
    ipureintro
    exact fun _ => (congrArg (fun h => k0_pay3 h (b4 m c t.val)) hh).trans (o5_here m c _ h0)
  isplitl [H6]
  · iexists _; isplitr; swap; · iexact H6
    ipureintro
    exact fun h => absurd h (by omega)
  isplitl [H7]
  · iexists _; isplitr; swap; · iexact H7
    ipureintro
    exact fun h => absurd h (by omega)
  isplitl [H8]
  · iexists _; isplitr; swap; · iexact H8
    ipureintro
    exact fun h => absurd h (by omega)
  iexists _; isplitr; swap; · iexact H9
  ipureintro
  exact fun h => absurd h (by omega)

/-- The step at a point of block of columns 1. -/
theorem step_1 (O : sProp 𝕄) (t : Fin cfg0.N) (Y5 : Vec F S1x1024x512 .bf16) (Y6 : Vec F S1x512x8x128 .f32) (Y7 : Vec F S1x512x1024 .bf16) (Y8 : Vec F S1x512x8x128 .f32) (Y9 : Vec F S1x1024x512 .bf16)
    (h0 : t.val % 3 = 1) (k5 : 0 < t.val % 3 → Y5 = o5 m c t.val) (k6 : 1 < t.val % 3 → Y6 = o6 m c t.val) (k7 : 1 < t.val % 3 → Y7 = o7 m c t.val) (k8 : 2 < t.val % 3 → Y8 = o8 m c t.val) (k9 : 2 < t.val % 3 → Y9 = o9 m c t.val) :
    stepPre m c O t Y5 Y6 Y7 Y8 Y9 ⊢ wp frame (wpE (defs₀ (F := F)) Variants.none c none) Set.univ (bodyAt0 t) (fun _ => stepPost m c O t) := by
  unfold stepPre stepPost PhiS
  iintro ⟨⟨⟨%d0, %e0, S0⟩, Hr⟩, Ho, H0, H1, H2, H3, H4, H5, H6, H7, H8, H9⟩
  obtain rfl : d0 = hN m c t.val := (e0 (by omega)).trans (hN_next m c _ (by omega))
  iapply (body_1 c (grid0.coords t) _ _ _ _ _ _ _ _ _ _ _ _ _ _ _ _ _ _ _ _ _ _ (b0 m c t.val) (b1 m c t.val) (b2 m c t.val) (b3 m c t.val) (b4 m c t.val) Y5 Y6 Y7 Y8 Y9 (hN m c t.val) Set.univ _ (fun h => absurd ((cond0_iff t).mp h) (by omega)) (fun h => absurd ((cond2_iff t).mp h) (by omega)) ((cond3_iff t).mpr h0) ((cond4_iff t).mpr h0) (fun h => absurd ((cond5_iff t).mp h) (by omega)) (fun h => absurd ((cond6_iff t).mp h) (by omega)))
  iframe H0 H1 H2 H3 H4 H5 H6 H7 H8 H9
  isplitl [S0]; · iexact S0
  iintro ⟨H0, H1, H2, H3, H4, H5, H6, H7, H8, H9, S0⟩
  isplitl [S0 Hr]
  · isplitl [S0]
    · iexists _; isplitr; swap; · iexact S0
      ipureintro
      exact fun _ => rfl
    iexact Hr
  iframe Ho H0 H1 H2 H3 H4
  isplitl [H5]
  · iexists _; isplitr; swap; · iexact H5
    ipureintro
    exact fun _ => k5 (by omega)
  isplitl [H6]
  · iexists _; isplitr; swap; · iexact H6
    ipureintro
    exact fun _ => (o6_here m c _ h0)
  isplitl [H7]
  · iexists _; isplitr; swap; · iexact H7
    ipureintro
    exact fun _ => (o7_here m c _ h0)
  isplitl [H8]
  · iexists _; isplitr; swap; · iexact H8
    ipureintro
    exact fun h => absurd h (by omega)
  iexists _; isplitr; swap; · iexact H9
  ipureintro
  exact fun h => absurd h (by omega)

/-- The step at a point of block of columns 2. -/
theorem step_2 (O : sProp 𝕄) (t : Fin cfg0.N) (Y5 : Vec F S1x1024x512 .bf16) (Y6 : Vec F S1x512x8x128 .f32) (Y7 : Vec F S1x512x1024 .bf16) (Y8 : Vec F S1x512x8x128 .f32) (Y9 : Vec F S1x1024x512 .bf16)
    (h0 : t.val % 3 = 2) (k5 : 0 < t.val % 3 → Y5 = o5 m c t.val) (k6 : 1 < t.val % 3 → Y6 = o6 m c t.val) (k7 : 1 < t.val % 3 → Y7 = o7 m c t.val) (k8 : 2 < t.val % 3 → Y8 = o8 m c t.val) (k9 : 2 < t.val % 3 → Y9 = o9 m c t.val) :
    stepPre m c O t Y5 Y6 Y7 Y8 Y9 ⊢ wp frame (wpE (defs₀ (F := F)) Variants.none c none) Set.univ (bodyAt0 t) (fun _ => stepPost m c O t) := by
  unfold stepPre stepPost PhiS
  iintro ⟨⟨⟨%d0, %e0, S0⟩, Hr⟩, Ho, H0, H1, H2, H3, H4, H5, H6, H7, H8, H9⟩
  obtain rfl : d0 = hN m c t.val := (e0 (by omega)).trans (hN_next m c _ (by omega))
  iapply (body_2 c (grid0.coords t) _ _ _ _ _ _ _ _ _ _ _ _ _ _ _ _ _ _ _ _ _ _ (b0 m c t.val) (b1 m c t.val) (b2 m c t.val) (b3 m c t.val) (b4 m c t.val) Y5 Y6 Y7 Y8 Y9 (hN m c t.val) Set.univ _ (fun h => absurd ((cond0_iff t).mp h) (by omega)) (fun h => absurd ((cond2_iff t).mp h) (by omega)) (fun h => absurd ((cond3_iff t).mp h) (by omega)) (fun h => absurd ((cond4_iff t).mp h) (by omega)) ((cond5_iff t).mpr h0) ((cond6_iff t).mpr h0))
  iframe H0 H1 H2 H3 H4 H5 H6 H7 H8 H9
  isplitl [S0]; · iexact S0
  iintro ⟨H0, H1, H2, H3, H4, H5, H6, H7, H8, H9, S0⟩
  isplitl [S0 Hr]
  · isplitl [S0]
    · iexists _; isplitr; swap; · iexact S0
      ipureintro
      exact fun _ => rfl
    iexact Hr
  iframe Ho H0 H1 H2 H3 H4
  isplitl [H5]
  · iexists _; isplitr; swap; · iexact H5
    ipureintro
    exact fun _ => k5 (by omega)
  isplitl [H6]
  · iexists _; isplitr; swap; · iexact H6
    ipureintro
    exact fun _ => k6 (by omega)
  isplitl [H7]
  · iexists _; isplitr; swap; · iexact H7
    ipureintro
    exact fun _ => k7 (by omega)
  isplitl [H8]
  · iexists _; isplitr; swap; · iexact H8
    ipureintro
    exact fun _ => (o8_here m c _ h0)
  iexists _; isplitr; swap; · iexact H9
  ipureintro
  exact fun _ => (o9_here m c _ h0)

/-- The step at any point. -/
theorem step_any (O : sProp 𝕄) (t : Fin cfg0.N) (Y5 : Vec F S1x1024x512 .bf16) (Y6 : Vec F S1x512x8x128 .f32) (Y7 : Vec F S1x512x1024 .bf16) (Y8 : Vec F S1x512x8x128 .f32) (Y9 : Vec F S1x1024x512 .bf16) (k5 : 0 < t.val % 3 → Y5 = o5 m c t.val) (k6 : 1 < t.val % 3 → Y6 = o6 m c t.val) (k7 : 1 < t.val % 3 → Y7 = o7 m c t.val) (k8 : 2 < t.val % 3 → Y8 = o8 m c t.val) (k9 : 2 < t.val % 3 → Y9 = o9 m c t.val) :
    stepPre m c O t Y5 Y6 Y7 Y8 Y9 ⊢ wp frame (wpE (defs₀ (F := F)) Variants.none c none) Set.univ (bodyAt0 t) (fun _ => stepPost m c O t) := by
  obtain h | h | h : t.val % 3 = 0 ∨ t.val % 3 = 1 ∨ t.val % 3 = 2 := by omega
  · exact step_0 m c O t Y5 Y6 Y7 Y8 Y9 h k5 k6 k7 k8 k9
  · exact step_1 m c O t Y5 Y6 Y7 Y8 Y9 h k5 k6 k7 k8 k9
  · exact step_2 m c O t Y5 Y6 Y7 Y8 Y9 h k5 k6 k7 k8 k9

end Cert.Kernel5Ideal.Run

end
-- ==== Proof.ProjSa.Frame.lean ====
/-
  The sparse projection's launch: the proof data that says what each point may leave, the run of @main, and the frame.
-/
module

public import proofs.«01_k».proof.Proof.ProjSa.Steps
public import Idealize.ShloMosaic.Lib.Claim
public import Idealize.ShloMosaic.Lib.Pipeline.Value
public import Idealize.ShloMosaic.Lib.Pipeline.ArrRel

@[expose] public section

set_option maxRecDepth 16384

noncomputable section

namespace Cert.Kernel5Ideal.Run

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Exact proof data of the inputs: each buffer at its block after the body; of the outputs nothing is used. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => o5 m c t.val
    | ⟨6, _⟩ => o6 m c t.val
    | ⟨7, _⟩ => o7 m c t.val
    | ⟨8, _⟩ => o8 m c t.val
    | ⟨9, _⟩ => o9 m c t.val
  Φ t := PhiS m c t.val
  q _ := fullShare
  owed _ := 0

/-- Output 0's relation: from its block of columns on, its buffer is left at its block. -/
def R5 (c : Dev nD) (t : Fin cfg0.N) (_ X : Vec F S1x1024x512 .bf16) : Prop := 0 ≤ t.val % 3 → X = o5 m c t.val

/-- Output 1's relation: from its block of columns on, its buffer is left at its block. -/
def R6 (c : Dev nD) (t : Fin cfg0.N) (_ X : Vec F S1x512x8x128 .f32) : Prop := 1 ≤ t.val % 3 → X = o6 m c t.val

/-- Output 2's relation: from its block of columns on, its buffer is left at its block. -/
def R7 (c : Dev nD) (t : Fin cfg0.N) (_ X : Vec F S1x512x1024 .bf16) : Prop := 1 ≤ t.val % 3 → X = o7 m c t.val

/-- Output 3's relation: from its block of columns on, its buffer is left at its block. -/
def R8 (c : Dev nD) (t : Fin cfg0.N) (_ X : Vec F S1x512x8x128 .f32) : Prop := 2 ≤ t.val % 3 → X = o8 m c t.val

/-- Output 4's relation: from its block of columns on, its buffer is left at its block. -/
def R9 (c : Dev nD) (t : Fin cfg0.N) (_ X : Vec F S1x1024x512 .bf16) : Prop := 2 ≤ t.val % 3 → X = o9 m c t.val

/-- The outputs' relations. -/
def ovr (c : Dev nD) : (w : Fin cfg0.W) → Option (Fin cfg0.N → (Y X : (cfg0.win w).block.Idx → Elt F (cfg0.win w).elt) → Prop)
  | ⟨5, _⟩ => some (R5 m c)
  | ⟨6, _⟩ => some (R6 m c)
  | ⟨7, _⟩ => some (R7 m c)
  | ⟨8, _⟩ => some (R8 m c)
  | ⟨9, _⟩ => some (R9 m c)
  | _ => none

/-- The proof data: the inputs' exact, the outputs' by their relations. -/
def rd (c : Dev nD) : RDat τ (Elt F) Unit ℕ (UR sig nD τ) ℕ cfg0 c := (dats m c).toR.override (ovr m c)

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]; try rfl
theorem after0_1 (c : Dev nD) (t : Fin cfg0.N) : (dats m c).after 1 t = iblk m c 1 t := by dsimp only [dats]; try rfl
theorem after0_2 (c : Dev nD) (t : Fin cfg0.N) : (dats m c).after 2 t = iblk m c 2 t := by dsimp only [dats]; try rfl
theorem after0_3 (c : Dev nD) (t : Fin cfg0.N) : (dats m c).after 3 t = iblk m c 3 t := by dsimp only [dats]; try rfl
theorem after0_4 (c : Dev nD) (t : Fin cfg0.N) : (dats m c).after 4 t = iblk m c 4 t := by dsimp only [dats]; try rfl

theorem finds_0 (c : Dev nD) (t : Fin cfg0.N) (X : (cfg0.win 0).block.Idx → Elt F (cfg0.win 0).elt) (h : (rd m c).Finds 0 t X) : X = b0 m c t.val := by
  obtain ⟨d, hd⟩ := (dats m c).toR_finds 0 t X (((dats m c).toR.override_finds (ovr := ovr m c) rfl t X).mp h)
  rw [hd, before0_0_of m (dats m c) (A_eq m c 0) (after0_0 m c) t d]
  unfold b0; rw [pt_val]

theorem leaves_0 (c : Dev nD) (t : Fin cfg0.N) (Y : (cfg0.win 0).block.Idx → Elt F (cfg0.win 0).elt) : (rd m c).after 0 t Y (b0 m c t.val) := by
  unfold rd
  rw [RDat.override_after_of_eq_none (rd := (dats m c).toR) (ovr := ovr m c) (w := 0) rfl]
  show (dats m c).Leaves 0 t _
  unfold b0; rw [pt_val, ← after0_0]
  rfl

theorem finds_1 (c : Dev nD) (t : Fin cfg0.N) (X : (cfg0.win 1).block.Idx → Elt F (cfg0.win 1).elt) (h : (rd m c).Finds 1 t X) : X = b1 m c t.val := by
  obtain ⟨d, hd⟩ := (dats m c).toR_finds 1 t X (((dats m c).toR.override_finds (ovr := ovr m c) rfl t X).mp h)
  rw [hd, before0_1_of m (dats m c) (A_eq m c 1) (after0_1 m c) t d]
  unfold b1; rw [pt_val]

theorem leaves_1 (c : Dev nD) (t : Fin cfg0.N) (Y : (cfg0.win 1).block.Idx → Elt F (cfg0.win 1).elt) : (rd m c).after 1 t Y (b1 m c t.val) := by
  unfold rd
  rw [RDat.override_after_of_eq_none (rd := (dats m c).toR) (ovr := ovr m c) (w := 1) rfl]
  show (dats m c).Leaves 1 t _
  unfold b1; rw [pt_val, ← after0_1]
  rfl

theorem finds_2 (c : Dev nD) (t : Fin cfg0.N) (X : (cfg0.win 2).block.Idx → Elt F (cfg0.win 2).elt) (h : (rd m c).Finds 2 t X) : X = b2 m c t.val := by
  obtain ⟨d, hd⟩ := (dats m c).toR_finds 2 t X (((dats m c).toR.override_finds (ovr := ovr m c) rfl t X).mp h)
  rw [hd, before0_2_of m (dats m c) (A_eq m c 2) (after0_2 m c) t d]
  unfold b2; rw [pt_val]

theorem leaves_2 (c : Dev nD) (t : Fin cfg0.N) (Y : (cfg0.win 2).block.Idx → Elt F (cfg0.win 2).elt) : (rd m c).after 2 t Y (b2 m c t.val) := by
  unfold rd
  rw [RDat.override_after_of_eq_none (rd := (dats m c).toR) (ovr := ovr m c) (w := 2) rfl]
  show (dats m c).Leaves 2 t _
  unfold b2; rw [pt_val, ← after0_2]
  rfl

theorem finds_3 (c : Dev nD) (t : Fin cfg0.N) (X : (cfg0.win 3).block.Idx → Elt F (cfg0.win 3).elt) (h : (rd m c).Finds 3 t X) : X = b3 m c t.val := by
  obtain ⟨d, hd⟩ := (dats m c).toR_finds 3 t X (((dats m c).toR.override_finds (ovr := ovr m c) rfl t X).mp h)
  rw [hd, before0_3_of m (dats m c) (A_eq m c 3) (after0_3 m c) t d]
  unfold b3; rw [pt_val]

theorem leaves_3 (c : Dev nD) (t : Fin cfg0.N) (Y : (cfg0.win 3).block.Idx → Elt F (cfg0.win 3).elt) : (rd m c).after 3 t Y (b3 m c t.val) := by
  unfold rd
  rw [RDat.override_after_of_eq_none (rd := (dats m c).toR) (ovr := ovr m c) (w := 3) rfl]
  show (dats m c).Leaves 3 t _
  unfold b3; rw [pt_val, ← after0_3]
  rfl

theorem finds_4 (c : Dev nD) (t : Fin cfg0.N) (X : (cfg0.win 4).block.Idx → Elt F (cfg0.win 4).elt) (h : (rd m c).Finds 4 t X) : X = b4 m c t.val := by
  obtain ⟨d, hd⟩ := (dats m c).toR_finds 4 t X (((dats m c).toR.override_finds (ovr := ovr m c) rfl t X).mp h)
  rw [hd, before0_4_of m (dats m c) (A_eq m c 4) (after0_4 m c) t d]
  unfold b4; rw [pt_val]

theorem leaves_4 (c : Dev nD) (t : Fin cfg0.N) (Y : (cfg0.win 4).block.Idx → Elt F (cfg0.win 4).elt) : (rd m c).after 4 t Y (b4 m c t.val) := by
  unfold rd
  rw [RDat.override_after_of_eq_none (rd := (dats m c).toR) (ovr := ovr m c) (w := 4) rfl]
  show (dats m c).Leaves 4 t _
  unfold b4; rw [pt_val, ← after0_4]
  rfl

theorem after_5 (c : Dev nD) : (rd m c).after 5 = R5 m c :=
  RDat.override_after_of_eq_some (rd := (dats m c).toR) (ovr := ovr m c) (w := 5) rfl

/-- What the output's buffer is found at, past its block of columns. -/
theorem finds_5 (c : Dev nD) (t : Fin cfg0.N) (X : Vec F S1x1024x512 .bf16) (h : (rd m c).Finds 5 t X) : 0 < t.val % 3 → X = o5 m c t.val := by
  intro hn
  have hlt := Nat.mod_lt t.val (show 0 < 3 by decide)
  rcases ((rd m c).finds_of_pos (w := 5) (t := t) rfl (by omega) X).mp h with hf | ⟨Y, -, hL⟩
  · have := (flush0_5 _).mp hf
    dsimp only at this; omega
  · rw [after_5] at hL
    have hL' : 0 ≤ (t.val - 1) % 3 → X = o5 m c (t.val - 1) := hL
    exact (hL' (by omega)).trans (o5_next m c _ (by omega))

theorem after_6 (c : Dev nD) : (rd m c).after 6 = R6 m c :=
  RDat.override_after_of_eq_some (rd := (dats m c).toR) (ovr := ovr m c) (w := 6) rfl

/-- What the output's buffer is found at, past its block of columns. -/
theorem finds_6 (c : Dev nD) (t : Fin cfg0.N) (X : Vec F S1x512x8x128 .f32) (h : (rd m c).Finds 6 t X) : 1 < t.val % 3 → X = o6 m c t.val := by
  intro hn
  have hlt := Nat.mod_lt t.val (show 0 < 3 by decide)
  rcases ((rd m c).finds_of_pos (w := 6) (t := t) rfl (by omega) X).mp h with hf | ⟨Y, -, hL⟩
  · have := (flush0_6 _).mp hf
    dsimp only at this; omega
  · rw [after_6] at hL
    have hL' : 1 ≤ (t.val - 1) % 3 → X = o6 m c (t.val - 1) := hL
    exact (hL' (by omega)).trans (o6_next m c _ (by omega))

theorem after_7 (c : Dev nD) : (rd m c).after 7 = R7 m c :=
  RDat.override_after_of_eq_some (rd := (dats m c).toR) (ovr := ovr m c) (w := 7) rfl

/-- What the output's buffer is found at, past its block of columns. -/
theorem finds_7 (c : Dev nD) (t : Fin cfg0.N) (X : Vec F S1x512x1024 .bf16) (h : (rd m c).Finds 7 t X) : 1 < t.val % 3 → X = o7 m c t.val := by
  intro hn
  have hlt := Nat.mod_lt t.val (show 0 < 3 by decide)
  rcases ((rd m c).finds_of_pos (w := 7) (t := t) rfl (by omega) X).mp h with hf | ⟨Y, -, hL⟩
  · have := (flush0_7 _).mp hf
    dsimp only at this; omega
  · rw [after_7] at hL
    have hL' : 1 ≤ (t.val - 1) % 3 → X = o7 m c (t.val - 1) := hL
    exact (hL' (by omega)).trans (o7_next m c _ (by omega))

theorem after_8 (c : Dev nD) : (rd m c).after 8 = R8 m c :=
  RDat.override_after_of_eq_some (rd := (dats m c).toR) (ovr := ovr m c) (w := 8) rfl

/-- What the output's buffer is found at, past its block of columns. -/
theorem finds_8 (c : Dev nD) (t : Fin cfg0.N) (X : Vec F S1x512x8x128 .f32) (h : (rd m c).Finds 8 t X) : 2 < t.val % 3 → X = o8 m c t.val := by
  intro hn
  have hlt := Nat.mod_lt t.val (show 0 < 3 by decide)
  rcases ((rd m c).finds_of_pos (w := 8) (t := t) rfl (by omega) X).mp h with hf | ⟨Y, -, hL⟩
  · have := (flush0_8 _).mp hf
    dsimp only at this; omega
  · rw [after_8] at hL
    have hL' : 2 ≤ (t.val - 1) % 3 → X = o8 m c (t.val - 1) := hL
    exact (hL' (by omega)).trans (o8_next m c _ (by omega))

theorem after_9 (c : Dev nD) : (rd m c).after 9 = R9 m c :=
  RDat.override_after_of_eq_some (rd := (dats m c).toR) (ovr := ovr m c) (w := 9) rfl

/-- What the output's buffer is found at, past its block of columns. -/
theorem finds_9 (c : Dev nD) (t : Fin cfg0.N) (X : Vec F S1x1024x512 .bf16) (h : (rd m c).Finds 9 t X) : 2 < t.val % 3 → X = o9 m c t.val := by
  intro hn
  have hlt := Nat.mod_lt t.val (show 0 < 3 by decide)
  rcases ((rd m c).finds_of_pos (w := 9) (t := t) rfl (by omega) X).mp h with hf | ⟨Y, -, hL⟩
  · have := (flush0_9 _).mp hf
    dsimp only at this; omega
  · rw [after_9] at hL
    have hL' : 2 ≤ (t.val - 1) % 3 → X = o9 m c (t.val - 1) := hL
    exact (hL' (by omega)).trans (o9_next m c _ (by omega))

theorem defs_row (t : Fin cfg0.N) : defs₀ (F := F) .tc cfg0.body (cfg0.bodyArgs t (cfg0.slots t)) = bodyAt0 t := by
  unfold defs₀; rw [Defs.onTc_tc]

/-- The body obligation, from the step at any point. -/
theorem body_obligation (c : Dev nD) : (rd m c).BodyObligation (defs₀ (F := F)) Variants.none () Set.univ := fun t Y hY => by
  have e0 := finds_0 m c t (Y 0) (hY 0)
  have e1 := finds_1 m c t (Y 1) (hY 1)
  have e2 := finds_2 m c t (Y 2) (hY 2)
  have e3 := finds_3 m c t (Y 3) (hY 3)
  have e4 := finds_4 m c t (Y 4) (hY 4)
  have e5 := finds_5 m c t (Y 5) (hY 5)
  have e6 := finds_6 m c t (Y 6) (hY 6)
  have e7 := finds_7 m c t (Y 7) (hY 7)
  have e8 := finds_8 m c t (Y 8) (hY 8)
  have e9 := finds_9 m c t (Y 9) (hY 9)
  rw [bigSep_W0, bigSep_W0, defs_row]
  refine triple_restated (step_any m c ((rd m c).owesAt () t.castSucc) t (Y 5) (Y 6) (Y 7) (Y 8) (Y 9) e5 e6 e7 e8 e9) rfl ?_ fun _ => ?_
  · rw [e0, e1, e2, e3, e4]
    unfold stepPre
    exact .rfl
  · rw [show (rd m c).Φ t.succ = PhiS m c (t.val + 1) from rfl, show (rd m c).owesAt () t.succ = (rd m c).owesAt () t.castSucc from rfl]
    unfold stepPost
    iintro ⟨HΦ, Ho, H0, H1, H2, H3, H4, ⟨%d5, %h5, H5⟩, ⟨%d6, %h6, H6⟩, ⟨%d7, %h7, H7⟩, ⟨%d8, %h8, H8⟩, ⟨%d9, %h9, H9⟩⟩
    isplitl [HΦ]; · iexact HΦ
    isplitl [Ho]; · iexact Ho
    isplitl [H0]
    · iexists _; isplitr; swap; · iexact H0
      ipureintro
      exact leaves_0 m c t _
    isplitl [H1]
    · iexists _; isplitr; swap; · iexact H1
      ipureintro
      exact leaves_1 m c t _
    isplitl [H2]
    · iexists _; isplitr; swap; · iexact H2
      ipureintro
      exact leaves_2 m c t _
    isplitl [H3]
    · iexists _; isplitr; swap; · iexact H3
      ipureintro
      exact leaves_3 m c t _
    isplitl [H4]
    · iexists _; isplitr; swap; · iexact H4
      ipureintro
      exact leaves_4 m c t _
    isplitl [H5]
    · iexists _; isplitr; swap; · iexact H5
      ipureintro
      rw [after_5]; exact h5
    isplitl [H6]
    · iexists _; isplitr; swap; · iexact H6
      ipureintro
      rw [after_6]; exact h6
    isplitl [H7]
    · iexists _; isplitr; swap; · iexact H7
      ipureintro
      rw [after_7]; exact h7
    isplitl [H8]
    · iexists _; isplitr; swap; · iexact H8
      ipureintro
      rw [after_8]; exact h8
    iexists _; isplitr; swap; · iexact H9
    ipureintro
    rw [after_9]; exact h9

/-! ## The run and the frame -/

/-- The scratch buffer and the generator register. -/
theorem PhiA0_eq (c : Dev nD) : (Pipeline.ΦA spec0 c : sProp 𝕄) = iprop((∃ d, owns (c : Thread nD τ) scM0_0 fullShare d) ∗ (∃ r, prngReg c r)) := by
  unfold Pipeline.ΦA; rw [scopedRest0_eq]
  simp only [scM0_0, owns_whole]
  try rfl

theorem hin (c : Dev nD) : Pipeline.ΦA spec0 c ⊢ (rd m c).Φ 0 := by
  show _ ⊢ PhiS m c 0
  rw [PhiA0_eq]; unfold PhiS
  iintro ⟨⟨%d0, S0⟩, Hr⟩
  isplitl [S0]
  · iexists _; isplitr; swap; · iexact S0
    ipureintro
    exact fun h => absurd rfl h
  iexact Hr

theorem hout (c : Dev nD) : (rd m c).Φ (Fin.last cfg0.N) ⊢ Pipeline.ΦA spec0 c := by
  show PhiS m c cfg0.N ⊢ _
  rw [PhiA0_eq]; unfold PhiS
  iintro ⟨⟨%d0, -, S0⟩, Hr⟩
  isplitl [S0]; · iexists _; iexact S0
  iexact Hr

set_option backward.isDefEq.respectTransparency.types false in
/-- THE RUN, and every semaphore counter at zero at its end. -/
theorem run_quiescent : θ_run defs (onTc (τ := τ) (main (F := F))) (s₀ m ρ)
    (fun r => (RDat.FramePost cfg0 (rd m) (V m)) r ∧ r.2.sem = fun _ => 0) :=
  RDat.θ_run_frame_track (Q' := _) cfgs (0 : Fin 1) launch0 defs₀ Variants.none (rd m) m ρ main
    (hbody := body_obligation m) (hshare := fun _ w => ite_self _) (howed := fun _ _ => rfl) (V := V m) (hmain := hmain m Variants.none)
    (hA := A_eq m) (hin := hin m) (hout := hout m)

/-- The run's post with the arguments read off it. -/
theorem run_main : θ_run defs (onTc (τ := τ) (main (F := F))) ⟨m, fun _ => 0, ρ⟩ (fun r => RDat.FramePost cfg0 (rd m) (V m) r
    ∧ (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
    ∧ r.2.sem = fun _ => 0) :=
  (θ_run defs _ _).mono (fun r h => ⟨h.1, fun c => ⟨
      (Eq.mp (congrFun ((rd m c).ArrAt_in 0 rfl cfg0.N) _) ((h.1 c).1 0)).trans ((A_eq m c 0).trans (V_main_arg0 m c)),
      (Eq.mp (congrFun ((rd m c).ArrAt_in 2 rfl cfg0.N) _) ((h.1 c).1 2)).trans ((A_eq m c 2).trans (V_main_arg1 m c)),
      (Eq.mp (congrFun ((rd m c).ArrAt_in 1 rfl cfg0.N) _) ((h.1 c).1 1)).trans ((A_eq m c 1).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_quiescent m ρ)

/-- THE FRAME: the arguments end unchanged and every counter at zero. -/
theorem frame_main : θ_run defs (onTc (τ := τ) (main (F := F))) ⟨m, fun _ => 0, ρ⟩ (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run defs _ _).mono (fun _ h => h.2) (run_main m ρ)

end Cert.Kernel5Ideal.Run

end
-- ==== Proof.ProjSa.Vals.lean ====
/-
  The sparse projection over the reals: each grid point's blocks read from the arguments, and what the result arrays hold at the end.
-/
module

public import proofs.«01_k».proof.Proof.ProjSa.Frame
public import proofs.«01_k».proof.Proof.Proj.Val
public import Idealize.ShloMosaic.Lib.Pointwise

@[expose] public section

set_option maxRecDepth 16384

noncomputable section

namespace Cert.Kernel5Ideal.Run

open Cert.Kernel5Ideal Cert.Kernel5Ideal.Gen Cert.Proj
open Cert.Mrg (normAt)
open Idealize.ShloMosaic Idealize.ShloMosaic.TcCoe
open Idealize.ShloMosaic.Pipeline (Dat RDat Cfg Window)

variable (m : (ℓ : Loc nD τ sig) → Buf (Elt Ideal) ℓ) (c : Dev nD)

/-! ## The normalised rows -/

/-- The normalisation of sixteen rows at an element. -/
theorem norm_apply (x : Vec Ideal S1x16x2048 .f32) (g : Vec Ideal S1x2048 .f32) (sc sh : Vec Ideal S1x1x2048 .f32) (r : Fin 16) (d : Fin 2048) :
    k0_pay15 (k0_pay8 g) (k0_pay9 sc) (k0_pay10 sh) x (ix2 r d) = normAt (fun k => x (ix3 0 r k)) (fun k => g (ix2 0 k)) (fun k => sc (ix3 0 0 k)) (fun k => sh (ix3 0 0 k)) d := by
  pointwise [k0_pay15, k0_pay8, k0_pay9, k0_pay10]
  rfl

/-- One store of sixteen normalised rows at the element it puts at row `r`, column `d` of the block. -/
theorem hOf_piece (x : Vec Ideal S1x512x2048 .f32) (g : Vec Ideal S1x2048 .f32) (sc sh : Vec Ideal S1x1x2048 .f32) (r : Fin 512) (d : Fin 2048)
    (o : ℕ) (inb : ∀ a, (![0, o, 0] : Fin 3 → ℕ) a + (![1, 16, 2048] : Fin 3 → ℕ) a ≤ S1x512x2048.size a) (z : S16x2048.Idx) (h0 : r.val = o + (z 0).val) (h1 : d.val = (z 1).val) :
    k0_pay15 (k0_pay8 g) (k0_pay9 sc) (k0_pay10 sh) (View.ld x (Rect.unit (s := S1x512x2048) ![0, o, 0] ![1, 16, 2048] inb)) z
      = normAt (fun k => x (ix3 0 r k)) (fun k => g (ix2 0 k)) (fun k => sc (ix3 0 0 k)) (fun k => sh (ix3 0 0 k)) d := by
  have hz : z = ix2 (z 0) (z 1) := by funext a; match a with | 0 => rfl | 1 => rfl
  refine (congrArg (k0_pay15 _ _ _ _) hz).trans ((norm_apply _ g sc sh (z 0) (z 1)).trans ?_)
  have e1 : z 1 = d := Fin.ext h1.symm
  have e2 : (fun k => View.ld x (Rect.unit (s := S1x512x2048) ![0, o, 0] ![1, 16, 2048] inb) (ix3 0 (z 0) k)) = fun k => x (ix3 0 r k) := by
    funext k
    refine congrArg x (funext fun a => Fin.ext ?_)
    match a with
    | 0 => rfl
    | 1 => show o + 1 * (z 0).val = r.val; omega
    | 2 => show 0 + 1 * k.val = k.val; omega
  rw [e2]
  exact congrArg _ e1

/-- The normalised rows at an element. -/
theorem hOf_apply (x : Vec Ideal S1x512x2048 .f32) (g : Vec Ideal S1x2048 .f32) (sc sh : Vec Ideal S1x1x2048 .f32) (r : Fin 512) (d : Fin 2048) :
    hOf x g sc sh (ix2 r d) = normAt (fun k => x (ix3 0 r k)) (fun k => g (ix2 0 k)) (fun k => sc (ix3 0 0 k)) (fun k => sh (ix3 0 0 k)) d := by
  unfold hOf
  canon_tiles z h
  all_goals first
    | exact hOf_piece x g sc sh r d _ _ z h0 h1
    | exact hOf_piece x g sc sh r d 0 _ z (by rw [Nat.zero_add]; exact h0) h1

/-! ## The blocks read from the arguments -/

/-- A point's batch row. -/
def bt (n : ℕ) : Fin 2 := ⟨n / 96 % 2, Nat.mod_lt _ (by decide)⟩
/-- A row of a point's block, in the array. -/
def rw' (n : ℕ) (r : Fin 512) : Fin 16384 := ⟨n / 3 % 32 * 512 + r.val, by omega⟩

theorem pt_mod (n : ℕ) : (pt n).val = n % 192 := by
  have h : cfg0.N = 192 := by decide
  unfold pt
  show n % cfg0.N = n % 192
  rw [h]

theorem index_0 : ∀ t : Fin cfg0.N, win0_0.index t 0 = t.val / 96 ∧ win0_0.index t 1 = t.val / 3 % 32 ∧ win0_0.index t 2 = 0 :=
  (by decide +kernel : ∀ t : Fin grid0.N, win0_0.index t 0 = t.val / 96 ∧ win0_0.index t 1 = t.val / 3 % 32 ∧ win0_0.index t 2 = 0)
theorem index_1 : ∀ t : Fin cfg0.N, win0_1.index t 0 = t.val / 96 ∧ win0_1.index t 1 = 0 ∧ win0_1.index t 2 = 0 :=
  (by decide +kernel : ∀ t : Fin grid0.N, win0_1.index t 0 = t.val / 96 ∧ win0_1.index t 1 = 0 ∧ win0_1.index t 2 = 0)
theorem index_2 : ∀ t : Fin cfg0.N, win0_2.index t 0 = t.val / 96 ∧ win0_2.index t 1 = 0 ∧ win0_2.index t 2 = 0 :=
  (by decide +kernel : ∀ t : Fin grid0.N, win0_2.index t 0 = t.val / 96 ∧ win0_2.index t 1 = 0 ∧ win0_2.index t 2 = 0)
theorem index_3 : ∀ t : Fin cfg0.N, win0_3.index t 0 = 0 ∧ win0_3.index t 1 = 0 :=
  (by decide +kernel : ∀ t : Fin grid0.N, win0_3.index t 0 = 0 ∧ win0_3.index t 1 = 0)
theorem index_4 : ∀ t : Fin cfg0.N, win0_4.index t 0 = 0 ∧ win0_4.index t 1 = t.val % 3 :=
  (by decide +kernel : ∀ t : Fin grid0.N, win0_4.index t 0 = 0 ∧ win0_4.index t 1 = t.val % 3)
theorem index_5 : ∀ t : Fin cfg0.N, win0_5.index t 0 = t.val / 96 ∧ win0_5.index t 1 = 0 ∧ win0_5.index t 2 = t.val / 3 % 32 :=
  (by decide +kernel : ∀ t : Fin grid0.N, win0_5.index t 0 = t.val / 96 ∧ win0_5.index t 1 = 0 ∧ win0_5.index t 2 = t.val / 3 % 32)
theorem index_6 : ∀ t : Fin cfg0.N, win0_6.index t 0 = t.val / 96 ∧ win0_6.index t 1 = t.val / 3 % 32 ∧ win0_6.index t 2 = 0 ∧ win0_6.index t 3 = 0 :=
  (by decide +kernel : ∀ t : Fin grid0.N, win0_6.index t 0 = t.val / 96 ∧ win0_6.index t 1 = t.val / 3 % 32 ∧ win0_6.index t 2 = 0 ∧ win0_6.index t 3 = 0)
theorem index_7 : ∀ t : Fin cfg0.N, win0_7.index t 0 = t.val / 96 ∧ win0_7.index t 1 = t.val / 3 % 32 ∧ win0_7.index t 2 = 0 :=
  (by decide +kernel : ∀ t : Fin grid0.N, win0_7.index t 0 = t.val / 96 ∧ win0_7.index t 1 = t.val / 3 % 32 ∧ win0_7.index t 2 = 0)
theorem index_8 : ∀ t : Fin cfg0.N, win0_8.index t 0 = t.val / 96 ∧ win0_8.index t 1 = t.val / 3 % 32 ∧ win0_8.index t 2 = 0 ∧ win0_8.index t 3 = 0 :=
  (by decide +kernel : ∀ t : Fin grid0.N, win0_8.index t 0 = t.val / 96 ∧ win0_8.index t 1 = t.val / 3 % 32 ∧ win0_8.index t 2 = 0 ∧ win0_8.index t 3 = 0)
theorem index_9 : ∀ t : Fin cfg0.N, win0_9.index t 0 = t.val / 96 ∧ win0_9.index t 1 = 0 ∧ win0_9.index t 2 = t.val / 3 % 32 :=
  (by decide +kernel : ∀ t : Fin grid0.N, win0_9.index t 0 = t.val / 96 ∧ win0_9.index t 1 = 0 ∧ win0_9.index t 2 = t.val / 3 % 32)

/-- A vector as the host lays it out. -/
theorem V_v1 (i : Fin 1) (j : Fin 2048) : V m c main_v1 (ix2 i j) = m ((c : Thread nD τ).loc main_arg3) (ix1 j) := by
  have h : V m c main_v1 = broadcastInDim S1x2048 ![1] bcast_S2048_S1x2048_1 (m ((c : Thread nD τ).loc main_arg3)) := by
    simp only [V, hostOps0]
    after_results_simp <;> rfl
  rw [h]
  pointwise

/-- The host's cast and cut of the weights: their columns from 3072 on. -/
theorem V_v2 (i : Fin 2048) (j : Fin 3072) : V m c main_v2 (ix2 i j) = m ((c : Thread nD τ).loc main_arg4) (ix2 i (col (3072 + j.val))) := by
  have h : V m c main_v2 = extractStridedSlice S2048x3072 ![0, 3072] (truncf (F := Ideal) .bf16 (m ((c : Thread nD τ).loc main_arg4)) bitsLt_bf16_f32) slices_S2048x7248_S2048x3072_0_3072 := by
    simp only [V, hostOps0]
    after_results_simp <;> rfl
  rw [h]
  pointwise
  refine congrArg (m ((c : Thread nD τ).loc main_arg4)) (funext fun a => Fin.ext ?_)
  match a with
  | 0 => rfl
  | 1 => show _ = (3072 + j.val) % 7248; have := j.isLt; show 3072 + j.val = (3072 + j.val) % 7248; omega

theorem b0_apply (n : ℕ) (r : Fin 512) (k : Fin 2048) : b0 m c n (ix3 0 r k) = m ((c : Thread nD τ).loc main_arg0) (ix3 (bt n) (rw' n r) k) := by
  unfold b0
  obtain ⟨e0, e1, e2⟩ := index_0 (pt n)
  blk_simp [iblk]
  rw [V_main_arg0]
  refine congrArg (m ((c : Thread nD τ).loc main_arg0)) (funext fun a => Fin.ext ?_)
  match a with
  | 0 => blk_simp; rw [e0, pt_mod]; show n % 192 / 96 + 0 = n / 96 % 2; omega
  | 1 => blk_simp; rw [e1, pt_mod]; show n % 192 / 3 % 32 * 512 + r.val = n / 3 % 32 * 512 + r.val; omega
  | 2 => blk_simp; rw [e2]; show 0 * 2048 + k.val = k.val; omega

theorem b1_apply (n : ℕ) (k : Fin 2048) : b1 m c n (ix3 0 0 k) = m ((c : Thread nD τ).loc main_arg2) (ix3 (bt n) 0 k) := by
  unfold b1
  obtain ⟨e0, e1, e2⟩ := index_1 (pt n)
  blk_simp [iblk]
  rw [V_main_arg2]
  refine congrArg (m ((c : Thread nD τ).loc main_arg2)) (funext fun a => Fin.ext ?_)
  match a with
  | 0 => blk_simp; rw [e0, pt_mod]; show n % 192 / 96 + 0 = n / 96 % 2; omega
  | 1 => blk_simp; rw [e1]; rfl
  | 2 => blk_simp; rw [e2]; show 0 * 2048 + k.val = k.val; omega

theorem b2_apply (n : ℕ) (k : Fin 2048) : b2 m c n (ix3 0 0 k) = m ((c : Thread nD τ).loc main_arg1) (ix3 (bt n) 0 k) := by
  unfold b2
  obtain ⟨e0, e1, e2⟩ := index_2 (pt n)
  blk_simp [iblk]
  rw [V_main_arg1]
  refine congrArg (m ((c : Thread nD τ).loc main_arg1)) (funext fun a => Fin.ext ?_)
  match a with
  | 0 => blk_simp; rw [e0, pt_mod]; show n % 192 / 96 + 0 = n / 96 % 2; omega
  | 1 => blk_simp; rw [e1]; rfl
  | 2 => blk_simp; rw [e2]; show 0 * 2048 + k.val = k.val; omega

theorem b3_apply (n : ℕ) (k : Fin 2048) : b3 m c n (ix2 0 k) = m ((c : Thread nD τ).loc main_arg3) (ix1 k) := by
  unfold b3
  obtain ⟨e0, e1⟩ := index_3 (pt n)
  blk_simp [iblk]
  have hi : (win0_3.blk (pt n)).view.emb (ix2 (0 : Fin 1) k) = ix2 ((win0_3.blk (pt n)).view.emb (ix2 (0 : Fin 1) k) 0) ((win0_3.blk (pt n)).view.emb (ix2 (0 : Fin 1) k) 1) := by
    funext a; match a with | 0 => rfl | 1 => rfl
  refine (congrArg (V m c main_v1) hi).trans ((V_v1 m c _ _).trans ?_)
  refine congrArg (m ((c : Thread nD τ).loc main_arg3)) (funext fun a => Fin.ext ?_)
  match a with
  | 0 => blk_simp; rw [e1]; show 0 * 2048 + k.val = k.val; omega

/-- A point's block of the weights. -/
theorem b4_apply (n : ℕ) (k : Fin 2048) (q : Fin 1024) : b4 m c n (ix2 k q) = m ((c : Thread nD τ).loc main_arg4) (ix2 k (col (3072 + (n % 3 * 1024 + q.val)))) := by
  unfold b4
  obtain ⟨e0, e1⟩ := index_4 (pt n)
  blk_simp [iblk]
  have hq : n % 3 * 1024 + q.val < 3072 := by omega
  have hi : (win0_4.blk (pt n)).view.emb (ix2 k q) = ix2 k (⟨n % 3 * 1024 + q.val, hq⟩ : Fin 3072) := by
    funext a
    refine Fin.ext ?_
    match a with
    | 0 => blk_simp; rw [e0]; show 0 * 2048 + k.val = k.val; omega
    | 1 => blk_simp; rw [e1, pt_mod]; show n % 192 % 3 * 1024 + q.val = n % 3 * 1024 + q.val; omega
  exact (congrArg (V m c main_v2) hi).trans (V_v2 m c k _)

/-! ## The points' values -/

/-- The projection of the arguments. -/
abbrev pM (b : Fin 2) (p : Fin 16384) (q : Fin 7248) : EReal :=
  pG (m ((c : Thread nD τ).loc main_arg0)) (m ((c : Thread nD τ).loc main_arg1)) (m ((c : Thread nD τ).loc main_arg2)) (m ((c : Thread nD τ).loc main_arg3)) (m ((c : Thread nD τ).loc main_arg4)) b p q

theorem bt_eq {n n' : ℕ} (h : n' / 96 = n / 96) : bt n' = bt n := Fin.ext (by show n' / 96 % 2 = n / 96 % 2; rw [h])
theorem rw_eq {n n' : ℕ} (h : n' / 3 = n / 3) (r : Fin 512) : rw' n' r = rw' n r := Fin.ext (by show n' / 3 % 32 * 512 + r.val = n / 3 % 32 * 512 + r.val; rw [h])

theorem hN_apply (n : ℕ) (r : Fin 512) (k : Fin 2048) :
    hN m c n (ix2 r k) = hG (m ((c : Thread nD τ).loc main_arg0)) (m ((c : Thread nD τ).loc main_arg1)) (m ((c : Thread nD τ).loc main_arg2)) (m ((c : Thread nD τ).loc main_arg3)) (bt n) (rw' n r) k := by
  unfold hN
  rw [hOf_apply]
  simp only [b0_apply, b1_apply, b2_apply, b3_apply]
  rw [bt_eq (n := n) (n' := n - n % 3) (by omega), rw_eq (n := n) (n' := n - n % 3) (by omega)]
  rfl

theorem pay2_apply (h : Vec Ideal S512x2048 .bf16) (w : Vec Ideal S2048x1024 .bf16) (r : Fin 512) (q : Fin 1024) :
    k0_pay2 h w (ix2 r q) = ∑ k, h (ix2 r k) * w (ix2 k q) := by
  pointwise [k0_pay2]

/-- A product of a point's normalised rows with a block of the weights, at an element. -/
theorem prod_apply (n j : ℕ) (hj : j < 3) (r : Fin 512) (q : Fin 1024) : k0_pay2 (hN m c n) (b4 m c (n - n % 3 + j)) (ix2 r q) = pM m c (bt n) (rw' n r) (col (3072 + (j * 1024 + q.val))) := by
  have e : (n - n % 3 + j) % 3 = j := by omega
  rw [pay2_apply]
  simp only [hN_apply]
  refine Finset.sum_congr rfl fun k _ => ?_
  rw [b4_apply m c _ k q, e]

/-- Output 0's block at an element, from the product. -/
theorem pay3_apply (h : Vec Ideal S512x2048 .bf16) (w : Vec Ideal S2048x1024 .bf16) (r : Fin 512) (q : Fin 1024) :
    k0_pay3 h w (ix3 0 q r) = k0_pay2 h w (ix2 r q) * Ideal.ofBits FTy.f32 0x3E0293EE#32 := by
  pointwise [k0_pay3]

/-- Result array 0 as the function of the arguments. -/
def out0 : S2x1024x16384.Idx → EReal := featScaled (m ((c : Thread nD τ).loc main_arg0)) (m ((c : Thread nD τ).loc main_arg1)) (m ((c : Thread nD τ).loc main_arg2)) (m ((c : Thread nD τ).loc main_arg3)) (m ((c : Thread nD τ).loc main_arg4)) 3072

/-- Result array 0 at the end. -/
theorem out0_eq (r : PUnit × MemSt nD τ sig (Elt Ideal)) (h : RDat.FramePost cfg0 (rd m) (V m) r) :
    r.2.mem ((c : Thread nD τ).loc main_v3_0) = out0 m c := by
  obtain ⟨after, hL, hA⟩ := RDat.FramePost.exists_exact h c
  refine (hA 5).trans ?_
  refine Dat.arrAt_eq_of_covers ((rd m c).withAfter after) 5 (out0 m c) (by decide +kernel) fun t hf y => ?_
  have ht : t.val % 3 = 2 := by
    have := (flush0_5 t).mp hf
    omega
  have hX : after 5 t = o5 m c t.val := by
    obtain ⟨Y, -, h'⟩ := hL 5 t hf
    rw [after_5] at h'
    exact h' (by omega)
  rw [RDat.withAfter_after]
  blk_simp
  rw [hX]
  obtain ⟨e0, e1, e2⟩ := index_5 t
  have hN : t.val < 192 := lt_of_lt_of_eq t.isLt (by decide)
  have hy0 : (y 0).val = 0 := by have : (y 0).val < 1 := (y 0).isLt; omega
  have hy : y = ix3 0 (y 1) (y 2) := by
    funext a
    match a with
    | 0 => exact Fin.ext hy0
    | 1 => rfl
    | 2 => rfl
  refine (congrArg _ hy).trans ((pay3_apply _ _ (y 2) (y 1)).trans ?_)
  refine (congrArg (· * Ideal.ofBits FTy.f32 0x3E0293EE#32) (prod_apply m c t.val 0 (by decide) (y 2) (y 1))).trans ?_
  unfold out0 featScaled
  refine congrArg (· * Ideal.ofBits FTy.f32 0x3E0293EE#32) (congr (congr (congrArg (pM m c) (Fin.ext ?_)) (Fin.ext ?_)) (congrArg col ?_))
  · blk_simp; rw [e0]; show t.val / 96 % 2 = t.val / 96; omega
  · blk_simp; rw [e2]; rfl
  · blk_simp; rw [e1]; show _ = 3072 + (0 * 1024 + (y 1).val); try dsimp only
    omega

/-- Output 1's block at an element, from the product. -/
theorem pay4_apply (h : Vec Ideal S512x2048 .bf16) (w : Vec Ideal S2048x1024 .bf16) (r : Fin 512) (a : Fin 8) (e : Fin 128) :
    k0_pay4 h w (ix4 0 r a e) = k0_pay2 h w (ix2 r ⟨a.val * 128 + e.val, by omega⟩) := by
  pointwise [k0_pay4]

/-- Result array 1 as the function of the arguments. -/
def out1 : S2x16384x8x128.Idx → EReal := headArr (m ((c : Thread nD τ).loc main_arg0)) (m ((c : Thread nD τ).loc main_arg1)) (m ((c : Thread nD τ).loc main_arg2)) (m ((c : Thread nD τ).loc main_arg3)) (m ((c : Thread nD τ).loc main_arg4)) 4096

/-- Result array 1 at the end. -/
theorem out1_eq (r : PUnit × MemSt nD τ sig (Elt Ideal)) (h : RDat.FramePost cfg0 (rd m) (V m) r) :
    r.2.mem ((c : Thread nD τ).loc main_v3_1) = out1 m c := by
  obtain ⟨after, hL, hA⟩ := RDat.FramePost.exists_exact h c
  refine (hA 6).trans ?_
  refine Dat.arrAt_eq_of_covers ((rd m c).withAfter after) 6 (out1 m c) (by decide +kernel) fun t hf y => ?_
  have ht : t.val % 3 = 2 := by
    have := (flush0_6 t).mp hf
    omega
  have hX : after 6 t = o6 m c t.val := by
    obtain ⟨Y, -, h'⟩ := hL 6 t hf
    rw [after_6] at h'
    exact h' (by omega)
  rw [RDat.withAfter_after]
  blk_simp
  rw [hX]
  obtain ⟨e0, e1, e2, e3⟩ := index_6 t
  have hN : t.val < 192 := lt_of_lt_of_eq t.isLt (by decide)
  have hy0 : (y 0).val = 0 := by have : (y 0).val < 1 := (y 0).isLt; omega
  have hy2 : (y 2).val < 8 := (y 2).isLt
  have hy3 : (y 3).val < 128 := (y 3).isLt
  have hy : y = ix4 0 (y 1) (y 2) (y 3) := by
    funext a
    match a with
    | 0 => exact Fin.ext hy0
    | 1 => rfl
    | 2 => rfl
    | 3 => rfl
  refine (congrArg _ hy).trans ((pay4_apply _ _ (y 1) (y 2) (y 3)).trans ?_)
  refine ((prod_apply m c t.val 1 (by decide) (y 1) ⟨(y 2).val * 128 + (y 3).val, by omega⟩)).trans ?_
  unfold out1 headArr
  refine (congr (congr (congrArg (pM m c) (Fin.ext ?_)) (Fin.ext ?_)) (congrArg col ?_))
  · blk_simp; rw [e0]; show t.val / 96 % 2 = t.val / 96; omega
  · blk_simp; rw [e1]; rfl
  · blk_simp; rw [e2, e3]; show _ = 4096 + ((0 * 8 + (y 2).val) * 128 + (0 * 128 + (y 3).val)); try dsimp only
    omega

/-- Output 2's block at an element, from the product. -/
theorem pay5_apply (h : Vec Ideal S512x2048 .bf16) (w : Vec Ideal S2048x1024 .bf16) (r : Fin 512) (q : Fin 1024) :
    k0_pay5 h w (ix3 0 r q) = k0_pay2 h w (ix2 r q) := by
  pointwise [k0_pay5]

/-- Result array 2 as the function of the arguments. -/
def out2 : S2x16384x1024.Idx → EReal := rowArr (m ((c : Thread nD τ).loc main_arg0)) (m ((c : Thread nD τ).loc main_arg1)) (m ((c : Thread nD τ).loc main_arg2)) (m ((c : Thread nD τ).loc main_arg3)) (m ((c : Thread nD τ).loc main_arg4)) 4096

/-- Result array 2 at the end. -/
theorem out2_eq (r : PUnit × MemSt nD τ sig (Elt Ideal)) (h : RDat.FramePost cfg0 (rd m) (V m) r) :
    r.2.mem ((c : Thread nD τ).loc main_v3_2) = out2 m c := by
  obtain ⟨after, hL, hA⟩ := RDat.FramePost.exists_exact h c
  refine (hA 7).trans ?_
  refine Dat.arrAt_eq_of_covers ((rd m c).withAfter after) 7 (out2 m c) (by decide +kernel) fun t hf y => ?_
  have ht : t.val % 3 = 2 := by
    have := (flush0_7 t).mp hf
    omega
  have hX : after 7 t = o7 m c t.val := by
    obtain ⟨Y, -, h'⟩ := hL 7 t hf
    rw [after_7] at h'
    exact h' (by omega)
  rw [RDat.withAfter_after]
  blk_simp
  rw [hX]
  obtain ⟨e0, e1, e2⟩ := index_7 t
  have hN : t.val < 192 := lt_of_lt_of_eq t.isLt (by decide)
  have hy0 : (y 0).val = 0 := by have : (y 0).val < 1 := (y 0).isLt; omega
  have hy : y = ix3 0 (y 1) (y 2) := by
    funext a
    match a with
    | 0 => exact Fin.ext hy0
    | 1 => rfl
    | 2 => rfl
  refine (congrArg _ hy).trans ((pay5_apply _ _ (y 1) (y 2)).trans ?_)
  refine ((prod_apply m c t.val 1 (by decide) (y 1) (y 2))).trans ?_
  unfold out2 rowArr
  refine (congr (congr (congrArg (pM m c) (Fin.ext ?_)) (Fin.ext ?_)) (congrArg col ?_))
  · blk_simp; rw [e0]; show t.val / 96 % 2 = t.val / 96; omega
  · blk_simp; rw [e1]; rfl
  · blk_simp; rw [e2]; show _ = 4096 + (0 * 1024 + (y 2).val); try dsimp only
    omega

/-- Output 3's block at an element, from the product. -/
theorem pay6_apply (h : Vec Ideal S512x2048 .bf16) (w : Vec Ideal S2048x1024 .bf16) (r : Fin 512) (a : Fin 8) (e : Fin 128) :
    k0_pay6 h w (ix4 0 r a e) = k0_pay2 h w (ix2 r ⟨a.val * 128 + e.val, by omega⟩) := by
  pointwise [k0_pay6]

/-- Result array 3 as the function of the arguments. -/
def out3 : S2x16384x8x128.Idx → EReal := headArr (m ((c : Thread nD τ).loc main_arg0)) (m ((c : Thread nD τ).loc main_arg1)) (m ((c : Thread nD τ).loc main_arg2)) (m ((c : Thread nD τ).loc main_arg3)) (m ((c : Thread nD τ).loc main_arg4)) 5120

/-- Result array 3 at the end. -/
theorem out3_eq (r : PUnit × MemSt nD τ sig (Elt Ideal)) (h : RDat.FramePost cfg0 (rd m) (V m) r) :
    r.2.mem ((c : Thread nD τ).loc main_v3_3) = out3 m c := by
  obtain ⟨after, hL, hA⟩ := RDat.FramePost.exists_exact h c
  refine (hA 8).trans ?_
  refine Dat.arrAt_eq_of_covers ((rd m c).withAfter after) 8 (out3 m c) (by decide +kernel) fun t hf y => ?_
  have ht : t.val % 3 = 2 := by
    have := (flush0_8 t).mp hf
    omega
  have hX : after 8 t = o8 m c t.val := by
    obtain ⟨Y, -, h'⟩ := hL 8 t hf
    rw [after_8] at h'
    exact h' (by omega)
  rw [RDat.withAfter_after]
  blk_simp
  rw [hX]
  obtain ⟨e0, e1, e2, e3⟩ := index_8 t
  have hN : t.val < 192 := lt_of_lt_of_eq t.isLt (by decide)
  have hy0 : (y 0).val = 0 := by have : (y 0).val < 1 := (y 0).isLt; omega
  have hy2 : (y 2).val < 8 := (y 2).isLt
  have hy3 : (y 3).val < 128 := (y 3).isLt
  have hy : y = ix4 0 (y 1) (y 2) (y 3) := by
    funext a
    match a with
    | 0 => exact Fin.ext hy0
    | 1 => rfl
    | 2 => rfl
    | 3 => rfl
  refine (congrArg _ hy).trans ((pay6_apply _ _ (y 1) (y 2) (y 3)).trans ?_)
  refine ((prod_apply m c t.val 2 (by decide) (y 1) ⟨(y 2).val * 128 + (y 3).val, by omega⟩)).trans ?_
  unfold out3 headArr
  refine (congr (congr (congrArg (pM m c) (Fin.ext ?_)) (Fin.ext ?_)) (congrArg col ?_))
  · blk_simp; rw [e0]; show t.val / 96 % 2 = t.val / 96; omega
  · blk_simp; rw [e1]; rfl
  · blk_simp; rw [e2, e3]; show _ = 5120 + ((0 * 8 + (y 2).val) * 128 + (0 * 128 + (y 3).val)); try dsimp only
    omega

/-- Output 4's block at an element, from the product. -/
theorem pay7_apply (h : Vec Ideal S512x2048 .bf16) (w : Vec Ideal S2048x1024 .bf16) (r : Fin 512) (q : Fin 1024) :
    k0_pay7 h w (ix3 0 q r) = k0_pay2 h w (ix2 r q) := by
  pointwise [k0_pay7]

/-- Result array 4 as the function of the arguments. -/
def out4 : S2x1024x16384.Idx → EReal := featArr (m ((c : Thread nD τ).loc main_arg0)) (m ((c : Thread nD τ).loc main_arg1)) (m ((c : Thread nD τ).loc main_arg2)) (m ((c : Thread nD τ).loc main_arg3)) (m ((c : Thread nD τ).loc main_arg4)) 5120

/-- Result array 4 at the end. -/
theorem out4_eq (r : PUnit × MemSt nD τ sig (Elt Ideal)) (h : RDat.FramePost cfg0 (rd m) (V m) r) :
    r.2.mem ((c : Thread nD τ).loc main_v3_4) = out4 m c := by
  obtain ⟨after, hL, hA⟩ := RDat.FramePost.exists_exact h c
  refine (hA 9).trans ?_
  refine Dat.arrAt_eq_of_covers ((rd m c).withAfter after) 9 (out4 m c) (by decide +kernel) fun t hf y => ?_
  have ht : t.val % 3 = 2 := by
    have := (flush0_9 t).mp hf
    omega
  have hX : after 9 t = o9 m c t.val := by
    obtain ⟨Y, -, h'⟩ := hL 9 t hf
    rw [after_9] at h'
    exact h' (by omega)
  rw [RDat.withAfter_after]
  blk_simp
  rw [hX]
  obtain ⟨e0, e1, e2⟩ := index_9 t
  have hN : t.val < 192 := lt_of_lt_of_eq t.isLt (by decide)
  have hy0 : (y 0).val = 0 := by have : (y 0).val < 1 := (y 0).isLt; omega
  have hy : y = ix3 0 (y 1) (y 2) := by
    funext a
    match a with
    | 0 => exact Fin.ext hy0
    | 1 => rfl
    | 2 => rfl
  refine (congrArg _ hy).trans ((pay7_apply _ _ (y 2) (y 1)).trans ?_)
  refine ((prod_apply m c t.val 2 (by decide) (y 2) (y 1))).trans ?_
  unfold out4 featArr
  refine (congr (congr (congrArg (pM m c) (Fin.ext ?_)) (Fin.ext ?_)) (congrArg col ?_))
  · blk_simp; rw [e0]; show t.val / 96 % 2 = t.val / 96; omega
  · blk_simp; rw [e2]; rfl
  · blk_simp; rw [e1]; show _ = 5120 + (0 * 1024 + (y 1).val); try dsimp only
    omega

end Cert.Kernel5Ideal.Run

end
-- ==== Proof.ProjSa.Ref.lean ====
/-
  The reference of the sparse projection at an element.
-/
module

public import Idealize.ShloMosaic.Lib.Pointwise
public import proofs.«01_k».proof.Proof.Gen.Reference5Ideal.Run
public import proofs.«01_k».proof.Proof.Proj.Val

@[expose] public section

set_option maxRecDepth 16384

noncomputable section

namespace Cert.Reference5Ideal.Value

open Cert.Reference5Ideal Cert.Reference5Ideal.Gen Cert.Proj
open Cert.Mrg (normAt)
open Idealize.ShloMosaic Idealize.ShloMosaic.TcCoe

/-- The inverse root mean square of each row, over the row. -/
def scaled (x : FVec Ideal S2x16384x2048 .f32) : FVec Ideal S2x16384x2048 .f32 :=
  broadcastInDim S2x16384x2048 ![0, 1, 2] bcast_S2x16384x1_S2x16384x2048_0_1_2
      (Host.rsqrt (addf (Host.divf (broadcastInDim S2x16384x1 ![0, 1] bcast_S2x16384_S2x16384x1_0_1
          (Host.reduceAdd (mulf x x) (constant S_ .f32 0x00000000#32) reducesTo_S2x16384x2048_S2x16384_d2 h_S_))
        (broadcastInDim S2x16384x1 ![] bcast_S_S2x16384x1 (constant S_ .f32 0x45000000#32)))
        (broadcastInDim S2x16384x1 ![] bcast_S_S2x16384x1 (constant S_ .f32 0x358637BD#32))))

/-- The activations normalised and scaled by the weights. -/
def rms (x : FVec Ideal S2x16384x2048 .f32) (g : FVec Ideal S2048 .f32) : FVec Ideal S2x16384x2048 .f32 :=
  mulf (mulf x (scaled x))
    (broadcastInDim S2x16384x2048 ![0, 1, 2] bcast_S1x1x2048_S2x16384x2048_0_1_2 (broadcastInDim S1x1x2048 ![2] bcast_S2048_S1x1x2048_2 g))

/-- The activations normalised, scaled by the weights and modulated. -/
def normed (x : FVec Ideal S2x16384x2048 .f32) (sh sc : FVec Ideal S2x1x2048 .f32) (g : FVec Ideal S2048 .f32) : FVec Ideal S2x16384x2048 .f32 :=
  addf (mulf (rms x g)
      (broadcastInDim S2x16384x2048 ![0, 1, 2] bcast_S2x1x2048_S2x16384x2048_0_1_2 (addf (broadcastInDim S2x1x2048 ![] bcast_S_S2x1x2048 (constant S_ .f32 0x3F800000#32)) sc)))
    (broadcastInDim S2x16384x2048 ![0, 1, 2] bcast_S2x1x2048_S2x16384x2048_0_1_2 sh)

/-- The product with the weights. -/
def cols (h : FVec Ideal S2x16384x2048 .f32) (w : FVec Ideal S2048x7248 .f32) : FVec Ideal S2x16384x7248 .f32 :=
  Host.dotGeneral dot_S2x16384x2048_S2048x7248_S2x16384x7248_2_0_01_1_n_n none h w

/-- Result 0, cut from the product. -/
def res0 (u : FVec Ideal S2x16384x7248 .f32) : FVec Ideal S2x1024x16384 .bf16 :=
  transpose S2x1024x16384 [0, 2, 1] (truncf .bf16 (mulf (extractStridedSlice S2x16384x1024 ![0, 0, 3072] u slices_S2x16384x7248_S2x16384x1024_0_0_3072) (broadcastInDim S2x16384x1024 ![] bcast_S_S2x16384x1024 (constant S_ .f32 0x3E0293EE#32))) bitsLt_bf16_f32) transposes_S2x16384x1024_S2x1024x16384_0_2_1

/-- Result 1, cut from the product. -/
def res1 (u : FVec Ideal S2x16384x7248 .f32) : FVec Ideal S2x16384x8x128 .f32 :=
  shapeCast _ (extractStridedSlice S2x16384x1024 ![0, 0, 4096] u slices_S2x16384x7248_S2x16384x1024_0_0_4096) shapeCasts_S2x16384x1024_S2x16384x8x128

/-- Result 2, cut from the product. -/
def res2 (u : FVec Ideal S2x16384x7248 .f32) : FVec Ideal S2x16384x1024 .bf16 :=
  truncf .bf16 (extractStridedSlice S2x16384x1024 ![0, 0, 4096] u slices_S2x16384x7248_S2x16384x1024_0_0_4096) bitsLt_bf16_f32

/-- Result 3, cut from the product. -/
def res3 (u : FVec Ideal S2x16384x7248 .f32) : FVec Ideal S2x16384x8x128 .f32 :=
  shapeCast _ (extractStridedSlice S2x16384x1024 ![0, 0, 5120] u slices_S2x16384x7248_S2x16384x1024_0_0_5120) shapeCasts_S2x16384x1024_S2x16384x8x128

/-- Result 4, cut from the product. -/
def res4 (u : FVec Ideal S2x16384x7248 .f32) : FVec Ideal S2x1024x16384 .bf16 :=
  transpose S2x1024x16384 [0, 2, 1] (truncf .bf16 (extractStridedSlice S2x16384x1024 ![0, 0, 5120] u slices_S2x16384x7248_S2x16384x1024_0_0_5120) bitsLt_bf16_f32) transposes_S2x16384x1024_S2x1024x16384_0_2_1

/-! ## At an element -/

theorem rms_apply (x : FVec Ideal S2x16384x2048 .f32) (g : FVec Ideal S2048 .f32) (b : Fin 2) (p : Fin 16384) (d : Fin 2048) :
    rms x g (ix3 b p d) = x (ix3 b p d) * Ideal.rsqrt (Ideal.div (∑ k, x (ix3 b p k) * x (ix3 b p k)) (Ideal.ofBits FTy.f32 1157627904#32) + Ideal.ofBits FTy.f32 897988541#32) * g (ix1 d) := by
  pointwise [rms, scaled]

theorem normed_apply (x : FVec Ideal S2x16384x2048 .f32) (sh sc : FVec Ideal S2x1x2048 .f32) (g : FVec Ideal S2048 .f32) (b : Fin 2) (p : Fin 16384) (d : Fin 2048) :
    normed x sh sc g (ix3 b p d) = hG x sh sc g b p d := by
  pointwise [normed]
  rw [rms_apply]
  rfl

theorem cols_apply (x : FVec Ideal S2x16384x2048 .f32) (sh sc : FVec Ideal S2x1x2048 .f32) (g : FVec Ideal S2048 .f32) (w : FVec Ideal S2048x7248 .f32)
    (b : Fin 2) (p : Fin 16384) (q : Fin 7248) : cols (normed x sh sc g) w (ix3 b p q) = pG x sh sc g w b p q := by
  pointwise [cols]
  simp only [normed_apply]
  rfl

variable (x : FVec Ideal S2x16384x2048 .f32) (sh sc : FVec Ideal S2x1x2048 .f32) (g : FVec Ideal S2048 .f32) (w : FVec Ideal S2048x7248 .f32)

/-- A column of the product under its number. -/
theorem col_eq (q : Fin 7248) (n : ℕ) (h : q.val = n) : q = col n := Fin.ext (by show q.val = n % 7248; have := q.isLt; omega)

theorem res0_apply (b : Fin 2) (q : Fin 1024) (p : Fin 16384) : res0 (cols (normed x sh sc g) w) (ix3 b q p) = featScaled x sh sc g w 3072 (ix3 b q p) := by
  pointwise [res0]
  rw [cols_apply]
  unfold featScaled
  exact congrArg (· * Ideal.ofBits FTy.f32 0x3E0293EE#32) (congrArg (pG x sh sc g w b p) (col_eq _ _ (by first | rfl | exact (Nat.zero_add _).symm)))

/-- The reference's result 0 is the kernel's function of its arguments. -/
theorem res0_eq : res0 (cols (normed x sh sc g) w) = featScaled x sh sc g w 3072 := by
  funext y
  have hy : y = ix3 (y 0) (y 1) (y 2) := by funext a; match a with | 0 => rfl | 1 => rfl | 2 => rfl
  exact (congrArg _ hy).trans ((res0_apply x sh sc g w (y 0) (y 1) (y 2)).trans (congrArg _ hy.symm))

theorem res1_apply (b : Fin 2) (p : Fin 16384) (a : Fin 8) (e : Fin 128) : res1 (cols (normed x sh sc g) w) (ix4 b p a e) = headArr x sh sc g w 4096 (ix4 b p a e) := by
  pointwise [res1]
  rw [cols_apply]
  unfold headArr
  exact congrArg (pG x sh sc g w b p) (col_eq _ _ (by first | rfl | exact (Nat.zero_add _).symm))

/-- The reference's result 1 is the kernel's function of its arguments. -/
theorem res1_eq : res1 (cols (normed x sh sc g) w) = headArr x sh sc g w 4096 := by
  funext y
  have hy : y = ix4 (y 0) (y 1) (y 2) (y 3) := by funext a; match a with | 0 => rfl | 1 => rfl | 2 => rfl | 3 => rfl
  exact (congrArg _ hy).trans ((res1_apply x sh sc g w (y 0) (y 1) (y 2) (y 3)).trans (congrArg _ hy.symm))

theorem res2_apply (b : Fin 2) (p : Fin 16384) (q : Fin 1024) : res2 (cols (normed x sh sc g) w) (ix3 b p q) = rowArr x sh sc g w 4096 (ix3 b p q) := by
  pointwise [res2]
  rw [cols_apply]
  unfold rowArr
  exact congrArg (pG x sh sc g w b p) (col_eq _ _ (by first | rfl | exact (Nat.zero_add _).symm))

/-- The reference's result 2 is the kernel's function of its arguments. -/
theorem res2_eq : res2 (cols (normed x sh sc g) w) = rowArr x sh sc g w 4096 := by
  funext y
  have hy : y = ix3 (y 0) (y 1) (y 2) := by funext a; match a with | 0 => rfl | 1 => rfl | 2 => rfl
  exact (congrArg _ hy).trans ((res2_apply x sh sc g w (y 0) (y 1) (y 2)).trans (congrArg _ hy.symm))

theorem res3_apply (b : Fin 2) (p : Fin 16384) (a : Fin 8) (e : Fin 128) : res3 (cols (normed x sh sc g) w) (ix4 b p a e) = headArr x sh sc g w 5120 (ix4 b p a e) := by
  pointwise [res3]
  rw [cols_apply]
  unfold headArr
  exact congrArg (pG x sh sc g w b p) (col_eq _ _ (by first | rfl | exact (Nat.zero_add _).symm))

/-- The reference's result 3 is the kernel's function of its arguments. -/
theorem res3_eq : res3 (cols (normed x sh sc g) w) = headArr x sh sc g w 5120 := by
  funext y
  have hy : y = ix4 (y 0) (y 1) (y 2) (y 3) := by funext a; match a with | 0 => rfl | 1 => rfl | 2 => rfl | 3 => rfl
  exact (congrArg _ hy).trans ((res3_apply x sh sc g w (y 0) (y 1) (y 2) (y 3)).trans (congrArg _ hy.symm))

theorem res4_apply (b : Fin 2) (q : Fin 1024) (p : Fin 16384) : res4 (cols (normed x sh sc g) w) (ix3 b q p) = featArr x sh sc g w 5120 (ix3 b q p) := by
  pointwise [res4]
  rw [cols_apply]
  unfold featArr
  exact congrArg (pG x sh sc g w b p) (col_eq _ _ (by first | rfl | exact (Nat.zero_add _).symm))

/-- The reference's result 4 is the kernel's function of its arguments. -/
theorem res4_eq : res4 (cols (normed x sh sc g) w) = featArr x sh sc g w 5120 := by
  funext y
  have hy : y = ix3 (y 0) (y 1) (y 2) := by funext a; match a with | 0 => rfl | 1 => rfl | 2 => rfl
  exact (congrArg _ hy).trans ((res4_apply x sh sc g w (y 0) (y 1) (y 2)).trans (congrArg _ hy.symm))

end Cert.Reference5Ideal.Value

end
-- ==== Proof.ProjSa.Same.lean ====
/-
  The sparse projection's program as it is printed and its ideal reading have the same text.
-/
module

public import proofs.«01_k».proof.Kernel5
public import proofs.«01_k».proof.Kernel5Ideal
public import proofs.«01_k».proof.Proof.Gen.Kernel5
public import proofs.«01_k».proof.Proof.Gen.Kernel5Ideal

@[expose] public section

set_option maxRecDepth 65536

namespace Cert.ProjSa.Same

open Idealize.ShloMosaic

variable {F : FTy → Type} [FloatOps F]

/-- The two programs' bodies are one function. -/
theorem body_eq : @Cert.Kernel5.cc0_proj_sa F _ _ = @Cert.Kernel5Ideal.cc0_proj_sa F _ _ := rfl

set_option maxHeartbeats 4000000 in
/-- The two programs' body tables are one table. -/
theorem bodies_eq : @Cert.Kernel5.defs₀ F _ _ = @Cert.Kernel5Ideal.defs₀ F _ _ := by
  unfold Cert.Kernel5.defs₀ Cert.Kernel5Ideal.defs₀
  rw [body_eq]
  generalize @Cert.Kernel5Ideal.cc0_proj_sa F _ _ = B
  refine congrArg Defs.onTc (funext fun l => funext fun x => ?_)
  match l, x with
  | 0, (t, s) => rfl

/-- The two programs' tables, with the pipeline's region, are one table. -/
theorem defs_eq : @Cert.Kernel5.defs F _ _ = @Cert.Kernel5Ideal.defs F _ _ := by
  unfold Cert.Kernel5.defs Cert.Kernel5Ideal.defs
  rw [bodies_eq]
  rfl

end Cert.ProjSa.Same

end
-- ==== Proof.ProjIx.Fun.lean ====
/-
  The indexer projection's body, its pieces as functions: the normalised rows, and each output's block at a grid point.
-/
module

public import proofs.«01_k».proof.Proof.Gen.Kernel6Ideal.Frame
public import proofs.«01_k».proof.Proof.Gen.Kernel6Ideal.Skeleton
public import Idealize.ShloMosaic.Lib.Pipeline.ValueKit

@[expose] public section

set_option maxRecDepth 16384

noncomputable section

namespace Cert.Kernel6Ideal.Run

open Cert.Kernel6Ideal Cert.Kernel6Ideal.Gen
open Idealize.ShloMosaic Idealize.ShloMosaic.TcCoe

variable {F : FTy → Type} [FloatOps F]

/-- The scratch of normalised rows after its thirty-two stores of sixteen rows each. -/
def hOf (x : Vec F S1x512x2048 .f32) (g : Vec F S1x2048 .f32) (sc sh : Vec F S1x1x2048 .f32) : Vec F S512x2048 .bf16 :=
  View.canon [
    ⟨Rect.unit (s := S512x2048) ![496, 0] ![16, 2048] inb_S512x2048_S16x2048_496_0, k0_pay1 ((k0_pay64 (k0_pay7 g) (k0_pay8 sc) (k0_pay9 sh) (View.ld x (Rect.unit (s := S1x512x2048) ![0, 496, 0] ![1, 16, 2048] inb_S1x512x2048_S1x16x2048_0_496_0))))⟩,
    ⟨Rect.unit (s := S512x2048) ![480, 0] ![16, 2048] inb_S512x2048_S16x2048_480_0, k0_pay63 (k0_pay7 g) (k0_pay8 sc) (k0_pay9 sh) (k0_pay61 (View.ld x (Rect.unit (s := S1x512x2048) ![0, 480, 0] ![1, 16, 2048] inb_S1x512x2048_S1x16x2048_0_480_0))) (k0_pay62 (View.ld x (Rect.unit (s := S1x512x2048) ![0, 480, 0] ![1, 16, 2048] inb_S1x512x2048_S1x16x2048_0_480_0))) (Scalar.ofBits .f32 0x358637BD#32)⟩,
    ⟨Rect.unit (s := S512x2048) ![464, 0] ![16, 2048] inb_S512x2048_S16x2048_464_0, k0_pay60 (k0_pay7 g) (k0_pay8 sc) (k0_pay9 sh) (View.ld x (Rect.unit (s := S1x512x2048) ![0, 464, 0] ![1, 16, 2048] inb_S1x512x2048_S1x16x2048_0_464_0))⟩,
    ⟨Rect.unit (s := S512x2048) ![448, 0] ![16, 2048] inb_S512x2048_S16x2048_448_0, k0_pay59 (k0_pay7 g) (k0_pay8 sc) (k0_pay9 sh) (k0_pay57 (View.ld x (Rect.unit (s := S1x512x2048) ![0, 448, 0] ![1, 16, 2048] inb_S1x512x2048_S1x16x2048_0_448_0))) (k0_pay58 (View.ld x (Rect.unit (s := S1x512x2048) ![0, 448, 0] ![1, 16, 2048] inb_S1x512x2048_S1x16x2048_0_448_0)))⟩,
    ⟨Rect.unit (s := S512x2048) ![432, 0] ![16, 2048] inb_S512x2048_S16x2048_432_0, k0_pay56 (k0_pay7 g) (k0_pay8 sc) (k0_pay9 sh) (View.ld x (Rect.unit (s := S1x512x2048) ![0, 432, 0] ![1, 16, 2048] inb_S1x512x2048_S1x16x2048_0_432_0))⟩,
    ⟨Rect.unit (s := S512x2048) ![416, 0] ![16, 2048] inb_S512x2048_S16x2048_416_0, k0_pay55 (k0_pay7 g) (k0_pay8 sc) (k0_pay9 sh) (k0_pay53 (View.ld x (Rect.unit (s := S1x512x2048) ![0, 416, 0] ![1, 16, 2048] inb_S1x512x2048_S1x16x2048_0_416_0))) (k0_pay54 (View.ld x (Rect.unit (s := S1x512x2048) ![0, 416, 0] ![1, 16, 2048] inb_S1x512x2048_S1x16x2048_0_416_0)))⟩,
    ⟨Rect.unit (s := S512x2048) ![400, 0] ![16, 2048] inb_S512x2048_S16x2048_400_0, k0_pay52 (k0_pay7 g) (k0_pay8 sc) (k0_pay9 sh) (View.ld x (Rect.unit (s := S1x512x2048) ![0, 400, 0] ![1, 16, 2048] inb_S1x512x2048_S1x16x2048_0_400_0))⟩,
    ⟨Rect.unit (s := S512x2048) ![384, 0] ![16, 2048] inb_S512x2048_S16x2048_384_0, k0_pay51 (k0_pay8 sc) (k0_pay9 sh) (k0_pay49 (View.ld x (Rect.unit (s := S1x512x2048) ![0, 384, 0] ![1, 16, 2048] inb_S1x512x2048_S1x16x2048_0_384_0))) (k0_pay50 (k0_pay7 g))⟩,
    ⟨Rect.unit (s := S512x2048) ![368, 0] ![16, 2048] inb_S512x2048_S16x2048_368_0, k0_pay48 (k0_pay7 g) (k0_pay8 sc) (k0_pay9 sh) (View.ld x (Rect.unit (s := S1x512x2048) ![0, 368, 0] ![1, 16, 2048] inb_S1x512x2048_S1x16x2048_0_368_0))⟩,
    ⟨Rect.unit (s := S512x2048) ![352, 0] ![16, 2048] inb_S512x2048_S16x2048_352_0, k0_pay47 (k0_pay9 sh) (k0_pay45 (k0_pay7 g) (View.ld x (Rect.unit (s := S1x512x2048) ![0, 352, 0] ![1, 16, 2048] inb_S1x512x2048_S1x16x2048_0_352_0))) (k0_pay46 (k0_pay8 sc))⟩,
    ⟨Rect.unit (s := S512x2048) ![336, 0] ![16, 2048] inb_S512x2048_S16x2048_336_0, k0_pay44 (k0_pay7 g) (k0_pay8 sc) (k0_pay9 sh) (View.ld x (Rect.unit (s := S1x512x2048) ![0, 336, 0] ![1, 16, 2048] inb_S1x512x2048_S1x16x2048_0_336_0))⟩,
    ⟨Rect.unit (s := S512x2048) ![320, 0] ![16, 2048] inb_S512x2048_S16x2048_320_0, k0_pay43 (k0_pay41 (k0_pay7 g) (k0_pay8 sc) (View.ld x (Rect.unit (s := S1x512x2048) ![0, 320, 0] ![1, 16, 2048] inb_S1x512x2048_S1x16x2048_0_320_0))) (k0_pay42 (k0_pay9 sh))⟩,
    ⟨Rect.unit (s := S512x2048) ![304, 0] ![16, 2048] inb_S512x2048_S16x2048_304_0, k0_pay40 (k0_pay7 g) (k0_pay8 sc) (k0_pay9 sh) (View.ld x (Rect.unit (s := S1x512x2048) ![0, 304, 0] ![1, 16, 2048] inb_S1x512x2048_S1x16x2048_0_304_0))⟩,
    ⟨Rect.unit (s := S512x2048) ![288, 0] ![16, 2048] inb_S512x2048_S16x2048_288_0, k0_pay39 (k0_pay38 (k0_pay7 g) (k0_pay8 sc) (k0_pay9 sh) (View.ld x (Rect.unit (s := S1x512x2048) ![0, 288, 0] ![1, 16, 2048] inb_S1x512x2048_S1x16x2048_0_288_0)))⟩,
    ⟨Rect.unit (s := S512x2048) ![272, 0] ![16, 2048] inb_S512x2048_S16x2048_272_0, k0_pay37 (k0_pay7 g) (k0_pay8 sc) (k0_pay9 sh) (View.ld x (Rect.unit (s := S1x512x2048) ![0, 272, 0] ![1, 16, 2048] inb_S1x512x2048_S1x16x2048_0_272_0))⟩,
    ⟨Rect.unit (s := S512x2048) ![256, 0] ![16, 2048] inb_S512x2048_S16x2048_256_0, k0_pay36 (k0_pay35 (k0_pay7 g) (k0_pay8 sc) (k0_pay9 sh) (View.ld x (Rect.unit (s := S1x512x2048) ![0, 256, 0] ![1, 16, 2048] inb_S1x512x2048_S1x16x2048_0_256_0)))⟩,
    ⟨Rect.unit (s := S512x2048) ![240, 0] ![16, 2048] inb_S512x2048_S16x2048_240_0, k0_pay34 (k0_pay7 g) (k0_pay8 sc) (k0_pay9 sh) (View.ld x (Rect.unit (s := S1x512x2048) ![0, 240, 0] ![1, 16, 2048] inb_S1x512x2048_S1x16x2048_0_240_0))⟩,
    ⟨Rect.unit (s := S512x2048) ![224, 0] ![16, 2048] inb_S512x2048_S16x2048_224_0, k0_pay33 (k0_pay32 (k0_pay7 g) (k0_pay8 sc) (k0_pay9 sh) (View.ld x (Rect.unit (s := S1x512x2048) ![0, 224, 0] ![1, 16, 2048] inb_S1x512x2048_S1x16x2048_0_224_0)))⟩,
    ⟨Rect.unit (s := S512x2048) ![208, 0] ![16, 2048] inb_S512x2048_S16x2048_208_0, k0_pay31 (k0_pay7 g) (k0_pay8 sc) (k0_pay9 sh) (View.ld x (Rect.unit (s := S1x512x2048) ![0, 208, 0] ![1, 16, 2048] inb_S1x512x2048_S1x16x2048_0_208_0))⟩,
    ⟨Rect.unit (s := S512x2048) ![192, 0] ![16, 2048] inb_S512x2048_S16x2048_192_0, k0_pay30 (k0_pay7 g) (k0_pay8 sc) (k0_pay9 sh) (View.ld x (Rect.unit (s := S1x512x2048) ![0, 192, 0] ![1, 16, 2048] inb_S1x512x2048_S1x16x2048_0_192_0))⟩,
    ⟨Rect.unit (s := S512x2048) ![176, 0] ![16, 2048] inb_S512x2048_S16x2048_176_0, k0_pay29 (k0_pay7 g) (k0_pay8 sc) (k0_pay9 sh) (View.ld x (Rect.unit (s := S1x512x2048) ![0, 176, 0] ![1, 16, 2048] inb_S1x512x2048_S1x16x2048_0_176_0))⟩,
    ⟨Rect.unit (s := S512x2048) ![160, 0] ![16, 2048] inb_S512x2048_S16x2048_160_0, k0_pay28 (k0_pay7 g) (k0_pay8 sc) (k0_pay9 sh) (View.ld x (Rect.unit (s := S1x512x2048) ![0, 160, 0] ![1, 16, 2048] inb_S1x512x2048_S1x16x2048_0_160_0))⟩,
    ⟨Rect.unit (s := S512x2048) ![144, 0] ![16, 2048] inb_S512x2048_S16x2048_144_0, k0_pay27 (k0_pay7 g) (k0_pay8 sc) (k0_pay9 sh) (View.ld x (Rect.unit (s := S1x512x2048) ![0, 144, 0] ![1, 16, 2048] inb_S1x512x2048_S1x16x2048_0_144_0))⟩,
    ⟨Rect.unit (s := S512x2048) ![128, 0] ![16, 2048] inb_S512x2048_S16x2048_128_0, k0_pay26 (k0_pay7 g) (k0_pay8 sc) (k0_pay9 sh) (View.ld x (Rect.unit (s := S1x512x2048) ![0, 128, 0] ![1, 16, 2048] inb_S1x512x2048_S1x16x2048_0_128_0))⟩,
    ⟨Rect.unit (s := S512x2048) ![112, 0] ![16, 2048] inb_S512x2048_S16x2048_112_0, k0_pay25 (k0_pay7 g) (k0_pay8 sc) (k0_pay9 sh) (k0_pay23 (View.ld x (Rect.unit (s := S1x512x2048) ![0, 112, 0] ![1, 16, 2048] inb_S1x512x2048_S1x16x2048_0_112_0))) (k0_pay24 (View.ld x (Rect.unit (s := S1x512x2048) ![0, 112, 0] ![1, 16, 2048] inb_S1x512x2048_S1x16x2048_0_112_0)))⟩,
    ⟨Rect.unit (s := S512x2048) ![96, 0] ![16, 2048] inb_S512x2048_S16x2048_96_0, k0_pay22 (k0_pay7 g) (k0_pay8 sc) (k0_pay9 sh) (View.ld x (Rect.unit (s := S1x512x2048) ![0, 96, 0] ![1, 16, 2048] inb_S1x512x2048_S1x16x2048_0_96_0))⟩,
    ⟨Rect.unit (s := S512x2048) ![80, 0] ![16, 2048] inb_S512x2048_S16x2048_80_0, k0_pay21 (k0_pay7 g) (k0_pay8 sc) (k0_pay9 sh) (k0_pay19 (View.ld x (Rect.unit (s := S1x512x2048) ![0, 80, 0] ![1, 16, 2048] inb_S1x512x2048_S1x16x2048_0_80_0))) (k0_pay20 (View.ld x (Rect.unit (s := S1x512x2048) ![0, 80, 0] ![1, 16, 2048] inb_S1x512x2048_S1x16x2048_0_80_0)))⟩,
    ⟨Rect.unit (s := S512x2048) ![64, 0] ![16, 2048] inb_S512x2048_S16x2048_64_0, k0_pay18 (k0_pay7 g) (k0_pay8 sc) (k0_pay9 sh) (View.ld x (Rect.unit (s := S1x512x2048) ![0, 64, 0] ![1, 16, 2048] inb_S1x512x2048_S1x16x2048_0_64_0))⟩,
    ⟨Rect.unit (s := S512x2048) ![48, 0] ![16, 2048] inb_S512x2048_S16x2048_48_0, k0_pay17 (k0_pay7 g) (k0_pay8 sc) (k0_pay9 sh) (k0_pay15 (View.ld x (Rect.unit (s := S1x512x2048) ![0, 48, 0] ![1, 16, 2048] inb_S1x512x2048_S1x16x2048_0_48_0))) (k0_pay16 (View.ld x (Rect.unit (s := S1x512x2048) ![0, 48, 0] ![1, 16, 2048] inb_S1x512x2048_S1x16x2048_0_48_0))) (Scalar.ofBits .f32 0x45000000#32)⟩,
    ⟨Rect.unit (s := S512x2048) ![32, 0] ![16, 2048] inb_S512x2048_S16x2048_32_0, k0_pay14 (k0_pay7 g) (k0_pay8 sc) (k0_pay9 sh) (View.ld x (Rect.unit (s := S1x512x2048) ![0, 32, 0] ![1, 16, 2048] inb_S1x512x2048_S1x16x2048_0_32_0))⟩,
    ⟨Rect.unit (s := S512x2048) ![16, 0] ![16, 2048] inb_S512x2048_S16x2048_16_0, k0_pay13 (k0_pay7 g) (k0_pay8 sc) (k0_pay9 sh) (k0_pay11 (View.ld x (Rect.unit (s := S1x512x2048) ![0, 16, 0] ![1, 16, 2048] inb_S1x512x2048_S1x16x2048_0_16_0))) (k0_pay12 (View.ld x (Rect.unit (s := S1x512x2048) ![0, 16, 0] ![1, 16, 2048] inb_S1x512x2048_S1x16x2048_0_16_0)))⟩,
    ⟨Rect.unit (s := S512x2048) ![0, 0] ![16, 2048] inb_S512x2048_S16x2048_0_0, k0_pay10 g sc sh (View.ld x (Rect.unit (s := S1x512x2048) ![0, 0, 0] ![1, 16, 2048] inb_S1x512x2048_S1x16x2048_0_0_0))⟩]

/-- The kernel's first test: the block of columns is the first. -/
abbrev cond0 (i : grid0.Coords) : Prop := (Scalar.cmpi .ne (Scalar.extui (Scalar.cmpi .eq (BitVec.ofNat 32 (i 2).val) 0#32)) 0#32) = 1#1

/-! ## The tests at a point -/

theorem cond0_iff : ∀ t : Fin cfg0.N, cond0 (grid0.coords t) ↔ t.val % 2 = 0 :=
  (by decide +kernel : ∀ t : Fin grid0.N, cond0 (grid0.coords t) ↔ t.val % 2 = 0)

theorem cond2_iff : ∀ t : Fin cfg0.N, k0_cond2 (grid0.coords t) = 1#1 ↔ t.val % 2 = 0 :=
  (by decide +kernel : ∀ t : Fin grid0.N, k0_cond2 (grid0.coords t) = 1#1 ↔ t.val % 2 = 0)

theorem cond3_iff : ∀ t : Fin cfg0.N, k0_cond3 (grid0.coords t) = 1#1 ↔ t.val % 2 = 1 :=
  (by decide +kernel : ∀ t : Fin grid0.N, k0_cond3 (grid0.coords t) = 1#1 ↔ t.val % 2 = 1)

theorem cond4_iff : ∀ t : Fin cfg0.N, k0_cond4 (grid0.coords t) = 1#1 ↔ t.val % 2 = 1 :=
  (by decide +kernel : ∀ t : Fin grid0.N, k0_cond4 (grid0.coords t) = 1#1 ↔ t.val % 2 = 1)

theorem cond5_iff : ∀ t : Fin cfg0.N, k0_cond5 (grid0.coords t) = 1#1 ↔ t.val % 2 = 1 :=
  (by decide +kernel : ∀ t : Fin grid0.N, k0_cond5 (grid0.coords t) = 1#1 ↔ t.val % 2 = 1)

/-! ## The points' values -/

variable (m : (ℓ : Loc nD τ sig) → Buf (Elt F) ℓ) (c : Dev nD)

/-- Point `n`, counted round the grid. -/
def pt (n : ℕ) : Fin cfg0.N := ⟨n % cfg0.N, Nat.mod_lt _ (by decide)⟩

theorem pt_val (t : Fin cfg0.N) : pt t.val = t := Fin.ext (Nat.mod_eq_of_lt t.isLt)

/-- The staged block of each input at point `n`. -/
def b0 (n : ℕ) : Vec F S1x512x2048 .f32 := iblk m c 0 (pt n)
@[inherit_doc b0] def b1 (n : ℕ) : Vec F S1x1x2048 .f32 := iblk m c 1 (pt n)
@[inherit_doc b0] def b2 (n : ℕ) : Vec F S1x1x2048 .f32 := iblk m c 2 (pt n)
@[inherit_doc b0] def b3 (n : ℕ) : Vec F S1x2048 .f32 := iblk m c 3 (pt n)
@[inherit_doc b0] def b4 (n : ℕ) : Vec F S2048x1024 .bf16 := iblk m c 4 (pt n)

/-- The normalised rows at point `n`: those of the first point of its block of rows. -/
def hN (n : ℕ) : Vec F S512x2048 .bf16 := hOf (b0 m c (n - n % 2)) (b3 m c (n - n % 2)) (b1 m c (n - n % 2)) (b2 m c (n - n % 2))

theorem hN_first (n : ℕ) (h : n % 2 = 0) : hOf (b0 m c n) (b3 m c n) (b1 m c n) (b2 m c n) = hN m c n := by
  unfold hN; rw [h, Nat.sub_zero]

theorem hN_next (n : ℕ) (h : n % 2 ≠ 0) : hN m c (n - 1) = hN m c n := by
  unfold hN
  have e : n - 1 - (n - 1) % 2 = n - n % 2 := by omega
  rw [e]

/-- The block of output 0 that point `n`'s block of rows writes. -/
def o5 (n : ℕ) : Vec F S1x1024x512 .bf16 := k0_pay3 (hN m c n) (b4 m c (n - n % 2 + 0))

theorem o5_here (n : ℕ) (h : n % 2 = 0) : k0_pay3 (hN m c n) (b4 m c n) = o5 m c n := by
  unfold o5
  have e : n - n % 2 + 0 = n := by omega
  rw [e]

theorem o5_next (n : ℕ) (h : n % 2 ≠ 0) : o5 m c (n - 1) = o5 m c n := by
  unfold o5
  have e : n - 1 - (n - 1) % 2 = n - n % 2 := by omega
  rw [hN_next m c n h, e]

/-- The block of output 1 that point `n`'s block of rows writes. -/
def o6 (n : ℕ) : Vec F S1x512x64 .f32 := k0_pay4 (hN m c n) (b4 m c (n - n % 2 + 1))

theorem o6_here (n : ℕ) (h : n % 2 = 1) : k0_pay4 (hN m c n) (b4 m c n) = o6 m c n := by
  unfold o6
  have e : n - n % 2 + 1 = n := by omega
  rw [e]

theorem o6_next (n : ℕ) (h : n % 2 ≠ 0) : o6 m c (n - 1) = o6 m c n := by
  unfold o6
  have e : n - 1 - (n - 1) % 2 = n - n % 2 := by omega
  rw [hN_next m c n h, e]

/-- The block of output 2 that point `n`'s block of rows writes. -/
def o7 (n : ℕ) : Vec F S1x512x64 .bf16 := k0_pay5 (hN m c n) (b4 m c (n - n % 2 + 1))

theorem o7_here (n : ℕ) (h : n % 2 = 1) : k0_pay5 (hN m c n) (b4 m c n) = o7 m c n := by
  unfold o7
  have e : n - n % 2 + 1 = n := by omega
  rw [e]

theorem o7_next (n : ℕ) (h : n % 2 ≠ 0) : o7 m c (n - 1) = o7 m c n := by
  unfold o7
  have e : n - 1 - (n - 1) % 2 = n - n % 2 := by omega
  rw [hN_next m c n h, e]

/-- The block of output 3 that point `n`'s block of rows writes. -/
def o8 (n : ℕ) : Vec F S1x16x512 .f32 := k0_pay6 (hN m c n) (b4 m c (n - n % 2 + 1))

theorem o8_here (n : ℕ) (h : n % 2 = 1) : k0_pay6 (hN m c n) (b4 m c n) = o8 m c n := by
  unfold o8
  have e : n - n % 2 + 1 = n := by omega
  rw [e]

theorem o8_next (n : ℕ) (h : n % 2 ≠ 0) : o8 m c (n - 1) = o8 m c n := by
  unfold o8
  have e : n - 1 - (n - 1) % 2 = n - n % 2 := by omega
  rw [hN_next m c n h, e]

end Cert.Kernel6Ideal.Run

end
-- ==== Proof.ProjIx.Cases.lean ====
/-
  The body of the indexer projection at a point of each block of columns.
-/
module

public import proofs.«01_k».proof.Proof.ProjIx.Fun

@[expose] public section

set_option maxRecDepth 16384

noncomputable section

namespace Cert.Kernel6Ideal.Run

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S1x512x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x1024 .bf16) (harg7 : arg7.IsWhole) (arg8 : Memref sig .tc .vmem S1x1024x512 .bf16) (harg8 : arg8.IsWhole) (arg9 : Memref sig .tc .vmem S1x512x64 .f32) (harg9 : arg9.IsWhole) (arg10 : Memref sig .tc .vmem S1x512x64 .bf16) (harg10 : arg10.IsWhole) (arg11 : Memref sig .tc .vmem S1x16x512 .f32) (harg11 : arg11.IsWhole) (arg12 : Memref sig .tc .vmem S512x2048 .bf16) (harg12 : arg12.IsWhole)
  (x0 : Vec F S1x512x2048 .f32) (x1 : Vec F S1x1x2048 .f32) (x2 : Vec F S1x1x2048 .f32) (x3 : Vec F S1x2048 .f32) (x4 : Vec F S2048x1024 .bf16) (y5 : Vec F S1x1024x512 .bf16) (y6 : Vec F S1x512x64 .f32) (y7 : Vec F S1x512x64 .bf16) (y8 : Vec F S1x16x512 .f32) (s0 : Vec F S512x2048 .bf16)

set_option maxHeartbeats 2000000 in
/-- The projection's body at a point of block of columns 0: what it leaves in each buffer. -/
theorem body_0 (E : Set ℕ) (K : PUnit → sProp 𝕄) (hc0 : cond0 i) (hc2 : k0_cond2 i = 1#1) (hc3 : ¬ k0_cond3 i = 1#1) (hc4 : ¬ k0_cond4 i = 1#1) (hc5 : ¬ k0_cond5 i = 1#1) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ owns (c : Thread nD τ) arg11 fullShare y8 ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay3 (hOf x0 x3 x1 x2) x4) ∗ owns (c : Thread nD τ) arg9 fullShare y6 ∗ owns (c : Thread nD τ) arg10 fullShare y7 ∗ owns (c : Thread nD τ) arg11 fullShare y8 ∗ owns (c : Thread nD τ) arg12 fullShare (hOf x0 x3 x1 x2)) -∗ K ⟨⟩))
      ⊢ wp frame (wpE (defs₀ (F := F)) Variants.none c none) E (cc0_proj_ix i arg3 harg3 arg4 harg4 arg5 harg5 arg6 harg6 arg7 harg7 arg8 harg8 arg9 harg9 arg10 harg10 arg11 harg11 arg12 harg12) K := by
  simp only [cc0_proj_ix_eq_skeleton]; unfold cc0_proj_ix_skel
  simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
  sl_exec (disch := first | sl_exact hc0 | sl_exact hc2 | sl_exact hc3 | sl_exact hc4 | sl_exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [View.read_writes_eq_canon _ _ _ (View.cover_of_tiledL _ ![1, 1024, 512] (by sl_kernel_rfl))]
    sl_unfold_words
    simp only [View.readAt_eq_ld, Memref.IsWhole.read_unread]
    simp (disch := decide) only [View.ld_unit_lit', View.canon_cons_unit_lit', View.readCov_eq_canon']
    have whole_h (L : List (View.Piece (Elt F) S512x2048 FTy.bf16.elt)) : (fun j => View.canon L ((Rect.unit (s := S512x2048) ![0, 0] ![512, 2048] inb_S512x2048_S512x2048_0_0).toLoadRect.idx j)) = View.canon L :=
      View.ld_unit_lit' inb_S512x2048_S512x2048_0_0 (View.canon L) (by decide)
    simp only [whole_h]
    rfl
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  iexists _; isplitr; swap; · iexact H9
  ipureintro
  rw [View.read_writes_eq_canon _ _ _ (View.cover_of_tiledL _ ![16, 2048] (by sl_kernel_rfl))]
  sl_unfold_words
  simp only [View.readAt_eq_ld, Memref.IsWhole.read_unread]
  simp (disch := decide) only [View.ld_unit_lit', View.canon_cons_unit_lit', View.readCov_eq_canon']
  rfl

set_option maxHeartbeats 2000000 in
/-- The projection's body at a point of block of columns 1: what it leaves in each buffer. -/
theorem body_1 (E : Set ℕ) (K : PUnit → sProp 𝕄) (hc0 : ¬ cond0 i) (hc2 : ¬ k0_cond2 i = 1#1) (hc3 : k0_cond3 i = 1#1) (hc4 : k0_cond4 i = 1#1) (hc5 : k0_cond5 i = 1#1) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ owns (c : Thread nD τ) arg11 fullShare y8 ∗ owns (c : Thread nD τ) arg12 fullShare s0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare (k0_pay4 s0 x4) ∗ owns (c : Thread nD τ) arg10 fullShare (k0_pay5 s0 x4) ∗ owns (c : Thread nD τ) arg11 fullShare (k0_pay6 s0 x4) ∗ owns (c : Thread nD τ) arg12 fullShare s0) -∗ K ⟨⟩))
      ⊢ wp frame (wpE (defs₀ (F := F)) Variants.none c none) E (cc0_proj_ix i arg3 harg3 arg4 harg4 arg5 harg5 arg6 harg6 arg7 harg7 arg8 harg8 arg9 harg9 arg10 harg10 arg11 harg11 arg12 harg12) K := by
  simp only [cc0_proj_ix_eq_skeleton]; unfold cc0_proj_ix_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
  sl_exec (disch := first | sl_exact hc0 | sl_exact hc2 | sl_exact hc3 | sl_exact hc4 | sl_exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [View.read_writes_eq_canon _ _ _ (View.cover_of_tiledL _ ![1, 512, 64] (by sl_kernel_rfl))]
    sl_unfold_words
    simp only [View.readAt_eq_ld, Memref.IsWhole.read_unread]
    simp (disch := decide) only [View.ld_unit_lit', View.canon_cons_unit_lit', View.readCov_eq_canon']
  isplitl [H7]
  · iexists _; isplitr; swap; · iexact H7
    ipureintro
    rw [View.read_writes_eq_canon _ _ _ (View.cover_of_tiledL _ ![1, 512, 64] (by sl_kernel_rfl))]
    sl_unfold_words
    simp only [View.readAt_eq_ld, Memref.IsWhole.read_unread]
    simp (disch := decide) only [View.ld_unit_lit', View.canon_cons_unit_lit', View.readCov_eq_canon']
  isplitl [H8]
  · iexists _; isplitr; swap; · iexact H8
    ipureintro
    rw [View.read_writes_eq_canon _ _ _ (View.cover_of_tiledL _ ![1, 16, 512] (by sl_kernel_rfl))]
    sl_unfold_words
    simp only [View.readAt_eq_ld, Memref.IsWhole.read_unread]
    simp (disch := decide) only [View.ld_unit_lit', View.canon_cons_unit_lit', View.readCov_eq_canon']
  iexists _; isplitr; · ipureintro; exact harg12.read_unread _
  iexact H9

end Cert.Kernel6Ideal.Run

end
-- ==== Proof.ProjIx.Steps.lean ====
/-
  The indexer projection's invariant between grid points, and its step over one point, case by case.
-/
module

public import proofs.«01_k».proof.Proof.ProjIx.Cases

@[expose] public section

set_option maxRecDepth 16384

noncomputable section

namespace Cert.Kernel6Ideal.Run

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- The scratch of normalised rows. -/
abbrev scM0_0 : Memref sig .tc .vmem S512x2048 .bf16 := Memref.whole cc0_scratch0

/-- Between grid points: the normalised rows are those of the point before unless a block of rows begins here. -/
def PhiS (n : ℕ) : sProp 𝕄 :=
  iprop((∃ d, ⌜n % 2 ≠ 0 → d = hN m c (n - 1)⌝ ∗ owns (c : Thread nD τ) scM0_0 fullShare d)
    ∗ (∃ r, prngReg c r))

/-- What the body is called with at point `t`: the inputs' blocks staged, the outputs' buffers at the `Y`s. -/
def stepPre (O : sProp 𝕄) (t : Fin cfg0.N) (Y5 : Vec F S1x1024x512 .bf16) (Y6 : Vec F S1x512x64 .f32) (Y7 : Vec F S1x512x64 .bf16) (Y8 : Vec F S1x16x512 .f32) : sProp 𝕄 :=
  iprop(PhiS m c t.val ∗ O ∗ owns (c : Thread nD τ) (st0_0 t) fullShare (b0 m c t.val) ∗ owns (c : Thread nD τ) (st0_1 t) fullShare (b1 m c t.val) ∗ owns (c : Thread nD τ) (st0_2 t) fullShare (b2 m c t.val) ∗ owns (c : Thread nD τ) (st0_3 t) fullShare (b3 m c t.val) ∗ owns (c : Thread nD τ) (st0_4 t) fullShare (b4 m c t.val) ∗ owns (c : Thread nD τ) (st0_5 t) fullShare Y5 ∗ owns (c : Thread nD τ) (st0_6 t) fullShare Y6 ∗ owns (c : Thread nD τ) (st0_7 t) fullShare Y7 ∗ owns (c : Thread nD τ) (st0_8 t) fullShare Y8)

/-- What the body leaves: the inputs' blocks kept, and each output's block in its buffer from its block of columns on. -/
def stepPost (O : sProp 𝕄) (t : Fin cfg0.N) : sProp 𝕄 :=
  iprop(PhiS m c (t.val + 1) ∗ O ∗ owns (c : Thread nD τ) (st0_0 t) fullShare (b0 m c t.val) ∗ owns (c : Thread nD τ) (st0_1 t) fullShare (b1 m c t.val) ∗ owns (c : Thread nD τ) (st0_2 t) fullShare (b2 m c t.val) ∗ owns (c : Thread nD τ) (st0_3 t) fullShare (b3 m c t.val) ∗ owns (c : Thread nD τ) (st0_4 t) fullShare (b4 m c t.val)
    ∗ (∃ X : Vec F S1x1024x512 .bf16, ⌜0 ≤ t.val % 2 → X = o5 m c t.val⌝ ∗ owns (c : Thread nD τ) (st0_5 t) fullShare X)
    ∗ (∃ X : Vec F S1x512x64 .f32, ⌜1 ≤ t.val % 2 → X = o6 m c t.val⌝ ∗ owns (c : Thread nD τ) (st0_6 t) fullShare X)
    ∗ (∃ X : Vec F S1x512x64 .bf16, ⌜1 ≤ t.val % 2 → X = o7 m c t.val⌝ ∗ owns (c : Thread nD τ) (st0_7 t) fullShare X)
    ∗ (∃ X : Vec F S1x16x512 .f32, ⌜1 ≤ t.val % 2 → X = o8 m c t.val⌝ ∗ owns (c : Thread nD τ) (st0_8 t) fullShare X))

/-- The step at a point of block of columns 0. -/
theorem step_0 (O : sProp 𝕄) (t : Fin cfg0.N) (Y5 : Vec F S1x1024x512 .bf16) (Y6 : Vec F S1x512x64 .f32) (Y7 : Vec F S1x512x64 .bf16) (Y8 : Vec F S1x16x512 .f32)
    (h0 : t.val % 2 = 0) (k5 : 0 < t.val % 2 → Y5 = o5 m c t.val) (k6 : 1 < t.val % 2 → Y6 = o6 m c t.val) (k7 : 1 < t.val % 2 → Y7 = o7 m c t.val) (k8 : 1 < t.val % 2 → Y8 = o8 m c t.val) :
    stepPre m c O t Y5 Y6 Y7 Y8 ⊢ wp frame (wpE (defs₀ (F := F)) Variants.none c none) Set.univ (bodyAt0 t) (fun _ => stepPost m c O t) := by
  unfold stepPre stepPost PhiS
  iintro ⟨⟨⟨%d0, %e0, S0⟩, Hr⟩, Ho, H0, H1, H2, H3, H4, H5, H6, H7, H8⟩
  have hh : hOf (b0 m c t.val) (b3 m c t.val) (b1 m c t.val) (b2 m c t.val) = hN m c t.val := hN_first m c _ h0
  iapply (body_0 c (grid0.coords t) _ _ _ _ _ _ _ _ _ _ _ _ _ _ _ _ _ _ _ _ (b0 m c t.val) (b1 m c t.val) (b2 m c t.val) (b3 m c t.val) (b4 m c t.val) Y5 Y6 Y7 Y8 Set.univ _ ((cond0_iff t).mpr h0) ((cond2_iff t).mpr h0) (fun h => absurd ((cond3_iff t).mp h) (by omega)) (fun h => absurd ((cond4_iff t).mp h) (by omega)) (fun h => absurd ((cond5_iff t).mp h) (by omega)))
  iframe H0 H1 H2 H3 H4 H5 H6 H7 H8
  isplitl [S0]; · iexists _; iexact S0
  iintro ⟨H0, H1, H2, H3, H4, H5, H6, H7, H8, S0⟩
  isplitl [S0 Hr]
  · isplitl [S0]
    · iexists _; isplitr; swap; · iexact S0
      ipureintro
      exact fun _ => hh
    iexact Hr
  iframe Ho H0 H1 H2 H3 H4
  isplitl [H5]
  · iexists _; isplitr; swap; · iexact H5
    ipureintro
    exact fun _ => (congrArg (fun h => k0_pay3 h (b4 m c t.val)) hh).trans (o5_here m c _ h0)
  isplitl [H6]
  · iexists _; isplitr; swap; · iexact H6
    ipureintro
    exact fun h => absurd h (by omega)
  isplitl [H7]
  · iexists _; isplitr; swap; · iexact H7
    ipureintro
    exact fun h => absurd h (by omega)
  iexists _; isplitr; swap; · iexact H8
  ipureintro
  exact fun h => absurd h (by omega)

/-- The step at a point of block of columns 1. -/
theorem step_1 (O : sProp 𝕄) (t : Fin cfg0.N) (Y5 : Vec F S1x1024x512 .bf16) (Y6 : Vec F S1x512x64 .f32) (Y7 : Vec F S1x512x64 .bf16) (Y8 : Vec F S1x16x512 .f32)
    (h0 : t.val % 2 = 1) (k5 : 0 < t.val % 2 → Y5 = o5 m c t.val) (k6 : 1 < t.val % 2 → Y6 = o6 m c t.val) (k7 : 1 < t.val % 2 → Y7 = o7 m c t.val) (k8 : 1 < t.val % 2 → Y8 = o8 m c t.val) :
    stepPre m c O t Y5 Y6 Y7 Y8 ⊢ wp frame (wpE (defs₀ (F := F)) Variants.none c none) Set.univ (bodyAt0 t) (fun _ => stepPost m c O t) := by
  unfold stepPre stepPost PhiS
  iintro ⟨⟨⟨%d0, %e0, S0⟩, Hr⟩, Ho, H0, H1, H2, H3, H4, H5, H6, H7, H8⟩
  obtain rfl : d0 = hN m c t.val := (e0 (by omega)).trans (hN_next m c _ (by omega))
  iapply (body_1 c (grid0.coords t) _ _ _ _ _ _ _ _ _ _ _ _ _ _ _ _ _ _ _ _ (b0 m c t.val) (b1 m c t.val) (b2 m c t.val) (b3 m c t.val) (b4 m c t.val) Y5 Y6 Y7 Y8 (hN m c t.val) Set.univ _ (fun h => absurd ((cond0_iff t).mp h) (by omega)) (fun h => absurd ((cond2_iff t).mp h) (by omega)) ((cond3_iff t).mpr h0) ((cond4_iff t).mpr h0) ((cond5_iff t).mpr h0))
  iframe H0 H1 H2 H3 H4 H5 H6 H7 H8
  isplitl [S0]; · iexact S0
  iintro ⟨H0, H1, H2, H3, H4, H5, H6, H7, H8, S0⟩
  isplitl [S0 Hr]
  · isplitl [S0]
    · iexists _; isplitr; swap; · iexact S0
      ipureintro
      exact fun _ => rfl
    iexact Hr
  iframe Ho H0 H1 H2 H3 H4
  isplitl [H5]
  · iexists _; isplitr; swap; · iexact H5
    ipureintro
    exact fun _ => k5 (by omega)
  isplitl [H6]
  · iexists _; isplitr; swap; · iexact H6
    ipureintro
    exact fun _ => (o6_here m c _ h0)
  isplitl [H7]
  · iexists _; isplitr; swap; · iexact H7
    ipureintro
    exact fun _ => (o7_here m c _ h0)
  iexists _; isplitr; swap; · iexact H8
  ipureintro
  exact fun _ => (o8_here m c _ h0)

/-- The step at any point. -/
theorem step_any (O : sProp 𝕄) (t : Fin cfg0.N) (Y5 : Vec F S1x1024x512 .bf16) (Y6 : Vec F S1x512x64 .f32) (Y7 : Vec F S1x512x64 .bf16) (Y8 : Vec F S1x16x512 .f32) (k5 : 0 < t.val % 2 → Y5 = o5 m c t.val) (k6 : 1 < t.val % 2 → Y6 = o6 m c t.val) (k7 : 1 < t.val % 2 → Y7 = o7 m c t.val) (k8 : 1 < t.val % 2 → Y8 = o8 m c t.val) :
    stepPre m c O t Y5 Y6 Y7 Y8 ⊢ wp frame (wpE (defs₀ (F := F)) Variants.none c none) Set.univ (bodyAt0 t) (fun _ => stepPost m c O t) := by
  obtain h | h : t.val % 2 = 0 ∨ t.val % 2 = 1 := by omega
  · exact step_0 m c O t Y5 Y6 Y7 Y8 h k5 k6 k7 k8
  · exact step_1 m c O t Y5 Y6 Y7 Y8 h k5 k6 k7 k8

end Cert.Kernel6Ideal.Run

end
-- ==== Proof.ProjIx.Frame.lean ====
/-
  The indexer projection's launch: the proof data that says what each point may leave, the run of @main, and the frame.
-/
module

public import proofs.«01_k».proof.Proof.ProjIx.Steps
public import Idealize.ShloMosaic.Lib.Claim
public import Idealize.ShloMosaic.Lib.Pipeline.Value
public import Idealize.ShloMosaic.Lib.Pipeline.ArrRel

@[expose] public section

set_option maxRecDepth 16384

noncomputable section

namespace Cert.Kernel6Ideal.Run

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Exact proof data of the inputs: each buffer at its block after the body; of the outputs nothing is used. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => o5 m c t.val
    | ⟨6, _⟩ => o6 m c t.val
    | ⟨7, _⟩ => o7 m c t.val
    | ⟨8, _⟩ => o8 m c t.val
  Φ t := PhiS m c t.val
  q _ := fullShare
  owed _ := 0

/-- Output 0's relation: from its block of columns on, its buffer is left at its block. -/
def R5 (c : Dev nD) (t : Fin cfg0.N) (_ X : Vec F S1x1024x512 .bf16) : Prop := 0 ≤ t.val % 2 → X = o5 m c t.val

/-- Output 1's relation: from its block of columns on, its buffer is left at its block. -/
def R6 (c : Dev nD) (t : Fin cfg0.N) (_ X : Vec F S1x512x64 .f32) : Prop := 1 ≤ t.val % 2 → X = o6 m c t.val

/-- Output 2's relation: from its block of columns on, its buffer is left at its block. -/
def R7 (c : Dev nD) (t : Fin cfg0.N) (_ X : Vec F S1x512x64 .bf16) : Prop := 1 ≤ t.val % 2 → X = o7 m c t.val

/-- Output 3's relation: from its block of columns on, its buffer is left at its block. -/
def R8 (c : Dev nD) (t : Fin cfg0.N) (_ X : Vec F S1x16x512 .f32) : Prop := 1 ≤ t.val % 2 → X = o8 m c t.val

/-- The outputs' relations. -/
def ovr (c : Dev nD) : (w : Fin cfg0.W) → Option (Fin cfg0.N → (Y X : (cfg0.win w).block.Idx → Elt F (cfg0.win w).elt) → Prop)
  | ⟨5, _⟩ => some (R5 m c)
  | ⟨6, _⟩ => some (R6 m c)
  | ⟨7, _⟩ => some (R7 m c)
  | ⟨8, _⟩ => some (R8 m c)
  | _ => none

/-- The proof data: the inputs' exact, the outputs' by their relations. -/
def rd (c : Dev nD) : RDat τ (Elt F) Unit ℕ (UR sig nD τ) ℕ cfg0 c := (dats m c).toR.override (ovr m c)

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]; try rfl
theorem after0_1 (c : Dev nD) (t : Fin cfg0.N) : (dats m c).after 1 t = iblk m c 1 t := by dsimp only [dats]; try rfl
theorem after0_2 (c : Dev nD) (t : Fin cfg0.N) : (dats m c).after 2 t = iblk m c 2 t := by dsimp only [dats]; try rfl
theorem after0_3 (c : Dev nD) (t : Fin cfg0.N) : (dats m c).after 3 t = iblk m c 3 t := by dsimp only [dats]; try rfl
theorem after0_4 (c : Dev nD) (t : Fin cfg0.N) : (dats m c).after 4 t = iblk m c 4 t := by dsimp only [dats]; try rfl

theorem finds_0 (c : Dev nD) (t : Fin cfg0.N) (X : (cfg0.win 0).block.Idx → Elt F (cfg0.win 0).elt) (h : (rd m c).Finds 0 t X) : X = b0 m c t.val := by
  obtain ⟨d, hd⟩ := (dats m c).toR_finds 0 t X (((dats m c).toR.override_finds (ovr := ovr m c) rfl t X).mp h)
  rw [hd, before0_0_of m (dats m c) (A_eq m c 0) (after0_0 m c) t d]
  unfold b0; rw [pt_val]

theorem leaves_0 (c : Dev nD) (t : Fin cfg0.N) (Y : (cfg0.win 0).block.Idx → Elt F (cfg0.win 0).elt) : (rd m c).after 0 t Y (b0 m c t.val) := by
  unfold rd
  rw [RDat.override_after_of_eq_none (rd := (dats m c).toR) (ovr := ovr m c) (w := 0) rfl]
  show (dats m c).Leaves 0 t _
  unfold b0; rw [pt_val, ← after0_0]
  rfl

theorem finds_1 (c : Dev nD) (t : Fin cfg0.N) (X : (cfg0.win 1).block.Idx → Elt F (cfg0.win 1).elt) (h : (rd m c).Finds 1 t X) : X = b1 m c t.val := by
  obtain ⟨d, hd⟩ := (dats m c).toR_finds 1 t X (((dats m c).toR.override_finds (ovr := ovr m c) rfl t X).mp h)
  rw [hd, before0_1_of m (dats m c) (A_eq m c 1) (after0_1 m c) t d]
  unfold b1; rw [pt_val]

theorem leaves_1 (c : Dev nD) (t : Fin cfg0.N) (Y : (cfg0.win 1).block.Idx → Elt F (cfg0.win 1).elt) : (rd m c).after 1 t Y (b1 m c t.val) := by
  unfold rd
  rw [RDat.override_after_of_eq_none (rd := (dats m c).toR) (ovr := ovr m c) (w := 1) rfl]
  show (dats m c).Leaves 1 t _
  unfold b1; rw [pt_val, ← after0_1]
  rfl

theorem finds_2 (c : Dev nD) (t : Fin cfg0.N) (X : (cfg0.win 2).block.Idx → Elt F (cfg0.win 2).elt) (h : (rd m c).Finds 2 t X) : X = b2 m c t.val := by
  obtain ⟨d, hd⟩ := (dats m c).toR_finds 2 t X (((dats m c).toR.override_finds (ovr := ovr m c) rfl t X).mp h)
  rw [hd, before0_2_of m (dats m c) (A_eq m c 2) (after0_2 m c) t d]
  unfold b2; rw [pt_val]

theorem leaves_2 (c : Dev nD) (t : Fin cfg0.N) (Y : (cfg0.win 2).block.Idx → Elt F (cfg0.win 2).elt) : (rd m c).after 2 t Y (b2 m c t.val) := by
  unfold rd
  rw [RDat.override_after_of_eq_none (rd := (dats m c).toR) (ovr := ovr m c) (w := 2) rfl]
  show (dats m c).Leaves 2 t _
  unfold b2; rw [pt_val, ← after0_2]
  rfl

theorem finds_3 (c : Dev nD) (t : Fin cfg0.N) (X : (cfg0.win 3).block.Idx → Elt F (cfg0.win 3).elt) (h : (rd m c).Finds 3 t X) : X = b3 m c t.val := by
  obtain ⟨d, hd⟩ := (dats m c).toR_finds 3 t X (((dats m c).toR.override_finds (ovr := ovr m c) rfl t X).mp h)
  rw [hd, before0_3_of m (dats m c) (A_eq m c 3) (after0_3 m c) t d]
  unfold b3; rw [pt_val]

theorem leaves_3 (c : Dev nD) (t : Fin cfg0.N) (Y : (cfg0.win 3).block.Idx → Elt F (cfg0.win 3).elt) : (rd m c).after 3 t Y (b3 m c t.val) := by
  unfold rd
  rw [RDat.override_after_of_eq_none (rd := (dats m c).toR) (ovr := ovr m c) (w := 3) rfl]
  show (dats m c).Leaves 3 t _
  unfold b3; rw [pt_val, ← after0_3]
  rfl

theorem finds_4 (c : Dev nD) (t : Fin cfg0.N) (X : (cfg0.win 4).block.Idx → Elt F (cfg0.win 4).elt) (h : (rd m c).Finds 4 t X) : X = b4 m c t.val := by
  obtain ⟨d, hd⟩ := (dats m c).toR_finds 4 t X (((dats m c).toR.override_finds (ovr := ovr m c) rfl t X).mp h)
  rw [hd, before0_4_of m (dats m c) (A_eq m c 4) (after0_4 m c) t d]
  unfold b4; rw [pt_val]

theorem leaves_4 (c : Dev nD) (t : Fin cfg0.N) (Y : (cfg0.win 4).block.Idx → Elt F (cfg0.win 4).elt) : (rd m c).after 4 t Y (b4 m c t.val) := by
  unfold rd
  rw [RDat.override_after_of_eq_none (rd := (dats m c).toR) (ovr := ovr m c) (w := 4) rfl]
  show (dats m c).Leaves 4 t _
  unfold b4; rw [pt_val, ← after0_4]
  rfl

theorem after_5 (c : Dev nD) : (rd m c).after 5 = R5 m c :=
  RDat.override_after_of_eq_some (rd := (dats m c).toR) (ovr := ovr m c) (w := 5) rfl

/-- What the output's buffer is found at, past its block of columns. -/
theorem finds_5 (c : Dev nD) (t : Fin cfg0.N) (X : Vec F S1x1024x512 .bf16) (h : (rd m c).Finds 5 t X) : 0 < t.val % 2 → X = o5 m c t.val := by
  intro hn
  have hlt := Nat.mod_lt t.val (show 0 < 2 by decide)
  rcases ((rd m c).finds_of_pos (w := 5) (t := t) rfl (by omega) X).mp h with hf | ⟨Y, -, hL⟩
  · have := (flush0_5 _).mp hf
    dsimp only at this; omega
  · rw [after_5] at hL
    have hL' : 0 ≤ (t.val - 1) % 2 → X = o5 m c (t.val - 1) := hL
    exact (hL' (by omega)).trans (o5_next m c _ (by omega))

theorem after_6 (c : Dev nD) : (rd m c).after 6 = R6 m c :=
  RDat.override_after_of_eq_some (rd := (dats m c).toR) (ovr := ovr m c) (w := 6) rfl

/-- What the output's buffer is found at, past its block of columns. -/
theorem finds_6 (c : Dev nD) (t : Fin cfg0.N) (X : Vec F S1x512x64 .f32) (h : (rd m c).Finds 6 t X) : 1 < t.val % 2 → X = o6 m c t.val := by
  intro hn
  have hlt := Nat.mod_lt t.val (show 0 < 2 by decide)
  rcases ((rd m c).finds_of_pos (w := 6) (t := t) rfl (by omega) X).mp h with hf | ⟨Y, -, hL⟩
  · have := (flush0_6 _).mp hf
    dsimp only at this; omega
  · rw [after_6] at hL
    have hL' : 1 ≤ (t.val - 1) % 2 → X = o6 m c (t.val - 1) := hL
    exact (hL' (by omega)).trans (o6_next m c _ (by omega))

theorem after_7 (c : Dev nD) : (rd m c).after 7 = R7 m c :=
  RDat.override_after_of_eq_some (rd := (dats m c).toR) (ovr := ovr m c) (w := 7) rfl

/-- What the output's buffer is found at, past its block of columns. -/
theorem finds_7 (c : Dev nD) (t : Fin cfg0.N) (X : Vec F S1x512x64 .bf16) (h : (rd m c).Finds 7 t X) : 1 < t.val % 2 → X = o7 m c t.val := by
  intro hn
  have hlt := Nat.mod_lt t.val (show 0 < 2 by decide)
  rcases ((rd m c).finds_of_pos (w := 7) (t := t) rfl (by omega) X).mp h with hf | ⟨Y, -, hL⟩
  · have := (flush0_7 _).mp hf
    dsimp only at this; omega
  · rw [after_7] at hL
    have hL' : 1 ≤ (t.val - 1) % 2 → X = o7 m c (t.val - 1) := hL
    exact (hL' (by omega)).trans (o7_next m c _ (by omega))

theorem after_8 (c : Dev nD) : (rd m c).after 8 = R8 m c :=
  RDat.override_after_of_eq_some (rd := (dats m c).toR) (ovr := ovr m c) (w := 8) rfl

/-- What the output's buffer is found at, past its block of columns. -/
theorem finds_8 (c : Dev nD) (t : Fin cfg0.N) (X : Vec F S1x16x512 .f32) (h : (rd m c).Finds 8 t X) : 1 < t.val % 2 → X = o8 m c t.val := by
  intro hn
  have hlt := Nat.mod_lt t.val (show 0 < 2 by decide)
  rcases ((rd m c).finds_of_pos (w := 8) (t := t) rfl (by omega) X).mp h with hf | ⟨Y, -, hL⟩
  · have := (flush0_8 _).mp hf
    dsimp only at this; omega
  · rw [after_8] at hL
    have hL' : 1 ≤ (t.val - 1) % 2 → X = o8 m c (t.val - 1) := hL
    exact (hL' (by omega)).trans (o8_next m c _ (by omega))

theorem defs_row (t : Fin cfg0.N) : defs₀ (F := F) .tc cfg0.body (cfg0.bodyArgs t (cfg0.slots t)) = bodyAt0 t := by
  unfold defs₀; rw [Defs.onTc_tc]

/-- The body obligation, from the step at any point. -/
theorem body_obligation (c : Dev nD) : (rd m c).BodyObligation (defs₀ (F := F)) Variants.none () Set.univ := fun t Y hY => by
  have e0 := finds_0 m c t (Y 0) (hY 0)
  have e1 := finds_1 m c t (Y 1) (hY 1)
  have e2 := finds_2 m c t (Y 2) (hY 2)
  have e3 := finds_3 m c t (Y 3) (hY 3)
  have e4 := finds_4 m c t (Y 4) (hY 4)
  have e5 := finds_5 m c t (Y 5) (hY 5)
  have e6 := finds_6 m c t (Y 6) (hY 6)
  have e7 := finds_7 m c t (Y 7) (hY 7)
  have e8 := finds_8 m c t (Y 8) (hY 8)
  rw [bigSep_W0, bigSep_W0, defs_row]
  refine triple_restated (step_any m c ((rd m c).owesAt () t.castSucc) t (Y 5) (Y 6) (Y 7) (Y 8) e5 e6 e7 e8) rfl ?_ fun _ => ?_
  · rw [e0, e1, e2, e3, e4]
    unfold stepPre
    exact .rfl
  · rw [show (rd m c).Φ t.succ = PhiS m c (t.val + 1) from rfl, show (rd m c).owesAt () t.succ = (rd m c).owesAt () t.castSucc from rfl]
    unfold stepPost
    iintro ⟨HΦ, Ho, H0, H1, H2, H3, H4, ⟨%d5, %h5, H5⟩, ⟨%d6, %h6, H6⟩, ⟨%d7, %h7, H7⟩, ⟨%d8, %h8, H8⟩⟩
    isplitl [HΦ]; · iexact HΦ
    isplitl [Ho]; · iexact Ho
    isplitl [H0]
    · iexists _; isplitr; swap; · iexact H0
      ipureintro
      exact leaves_0 m c t _
    isplitl [H1]
    · iexists _; isplitr; swap; · iexact H1
      ipureintro
      exact leaves_1 m c t _
    isplitl [H2]
    · iexists _; isplitr; swap; · iexact H2
      ipureintro
      exact leaves_2 m c t _
    isplitl [H3]
    · iexists _; isplitr; swap; · iexact H3
      ipureintro
      exact leaves_3 m c t _
    isplitl [H4]
    · iexists _; isplitr; swap; · iexact H4
      ipureintro
      exact leaves_4 m c t _
    isplitl [H5]
    · iexists _; isplitr; swap; · iexact H5
      ipureintro
      rw [after_5]; exact h5
    isplitl [H6]
    · iexists _; isplitr; swap; · iexact H6
      ipureintro
      rw [after_6]; exact h6
    isplitl [H7]
    · iexists _; isplitr; swap; · iexact H7
      ipureintro
      rw [after_7]; exact h7
    iexists _; isplitr; swap; · iexact H8
    ipureintro
    rw [after_8]; exact h8

/-! ## The run and the frame -/

/-- The scratch buffer and the generator register. -/
theorem PhiA0_eq (c : Dev nD) : (Pipeline.ΦA spec0 c : sProp 𝕄) = iprop((∃ d, owns (c : Thread nD τ) scM0_0 fullShare d) ∗ (∃ r, prngReg c r)) := by
  unfold Pipeline.ΦA; rw [scopedRest0_eq]
  simp only [scM0_0, owns_whole]
  try rfl

theorem hin (c : Dev nD) : Pipeline.ΦA spec0 c ⊢ (rd m c).Φ 0 := by
  show _ ⊢ PhiS m c 0
  rw [PhiA0_eq]; unfold PhiS
  iintro ⟨⟨%d0, S0⟩, Hr⟩
  isplitl [S0]
  · iexists _; isplitr; swap; · iexact S0
    ipureintro
    exact fun h => absurd rfl h
  iexact Hr

theorem hout (c : Dev nD) : (rd m c).Φ (Fin.last cfg0.N) ⊢ Pipeline.ΦA spec0 c := by
  show PhiS m c cfg0.N ⊢ _
  rw [PhiA0_eq]; unfold PhiS
  iintro ⟨⟨%d0, -, S0⟩, Hr⟩
  isplitl [S0]; · iexists _; iexact S0
  iexact Hr

set_option backward.isDefEq.respectTransparency.types false in
/-- THE RUN, and every semaphore counter at zero at its end. -/
theorem run_quiescent : θ_run defs (onTc (τ := τ) (main (F := F))) (s₀ m ρ)
    (fun r => (RDat.FramePost cfg0 (rd m) (V m)) r ∧ r.2.sem = fun _ => 0) :=
  RDat.θ_run_frame_track (Q' := _) cfgs (0 : Fin 1) launch0 defs₀ Variants.none (rd m) m ρ main
    (hbody := body_obligation m) (hshare := fun _ w => ite_self _) (howed := fun _ _ => rfl) (V := V m) (hmain := hmain m Variants.none)
    (hA := A_eq m) (hin := hin m) (hout := hout m)

/-- The run's post with the arguments read off it. -/
theorem run_main : θ_run defs (onTc (τ := τ) (main (F := F))) ⟨m, fun _ => 0, ρ⟩ (fun r => RDat.FramePost cfg0 (rd m) (V m) r
    ∧ (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
    ∧ r.2.sem = fun _ => 0) :=
  (θ_run defs _ _).mono (fun r h => ⟨h.1, fun c => ⟨
      (Eq.mp (congrFun ((rd m c).ArrAt_in 0 rfl cfg0.N) _) ((h.1 c).1 0)).trans ((A_eq m c 0).trans (V_main_arg0 m c)),
      (Eq.mp (congrFun ((rd m c).ArrAt_in 2 rfl cfg0.N) _) ((h.1 c).1 2)).trans ((A_eq m c 2).trans (V_main_arg1 m c)),
      (Eq.mp (congrFun ((rd m c).ArrAt_in 1 rfl cfg0.N) _) ((h.1 c).1 1)).trans ((A_eq m c 1).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_quiescent m ρ)

/-- THE FRAME: the arguments end unchanged and every counter at zero. -/
theorem frame_main : θ_run defs (onTc (τ := τ) (main (F := F))) ⟨m, fun _ => 0, ρ⟩ (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run defs _ _).mono (fun _ h => h.2) (run_main m ρ)

end Cert.Kernel6Ideal.Run

end
-- ==== Proof.ProjIx.Vals.lean ====
/-
  The indexer projection over the reals: each grid point's blocks read from the arguments, and what the result arrays hold at the end.
-/
module

public import proofs.«01_k».proof.Proof.ProjIx.Frame
public import proofs.«01_k».proof.Proof.Proj.Val
public import Idealize.ShloMosaic.Lib.Pointwise
public import Idealize.ShloMosaic.Lib.KernelVsHost

@[expose] public section

set_option maxRecDepth 16384

noncomputable section

namespace Cert.Kernel6Ideal.Run

open Cert.Kernel6Ideal Cert.Kernel6Ideal.Gen Cert.Proj
open Cert.Mrg (normAt)
open Idealize.ShloMosaic Idealize.ShloMosaic.TcCoe
open Idealize.ShloMosaic.Pipeline (Dat RDat Cfg Window)

variable (m : (ℓ : Loc nD τ sig) → Buf (Elt Ideal) ℓ) (c : Dev nD)

/-! ## The normalised rows -/

/-- The normalisation of sixteen rows at an element. -/
theorem norm_apply (x : Vec Ideal S1x16x2048 .f32) (g : Vec Ideal S1x2048 .f32) (sc sh : Vec Ideal S1x1x2048 .f32) (r : Fin 16) (d : Fin 2048) :
    k0_pay14 (k0_pay7 g) (k0_pay8 sc) (k0_pay9 sh) x (ix2 r d) = normAt (fun k => x (ix3 0 r k)) (fun k => g (ix2 0 k)) (fun k => sc (ix3 0 0 k)) (fun k => sh (ix3 0 0 k)) d := by
  pointwise [k0_pay14, k0_pay7, k0_pay8, k0_pay9]
  rfl

/-- One store of sixteen normalised rows at the element it puts at row `r`, column `d` of the block. -/
theorem hOf_piece (x : Vec Ideal S1x512x2048 .f32) (g : Vec Ideal S1x2048 .f32) (sc sh : Vec Ideal S1x1x2048 .f32) (r : Fin 512) (d : Fin 2048)
    (o : ℕ) (inb : ∀ a, (![0, o, 0] : Fin 3 → ℕ) a + (![1, 16, 2048] : Fin 3 → ℕ) a ≤ S1x512x2048.size a) (z : S16x2048.Idx) (h0 : r.val = o + (z 0).val) (h1 : d.val = (z 1).val) :
    k0_pay14 (k0_pay7 g) (k0_pay8 sc) (k0_pay9 sh) (View.ld x (Rect.unit (s := S1x512x2048) ![0, o, 0] ![1, 16, 2048] inb)) z
      = normAt (fun k => x (ix3 0 r k)) (fun k => g (ix2 0 k)) (fun k => sc (ix3 0 0 k)) (fun k => sh (ix3 0 0 k)) d := by
  have hz : z = ix2 (z 0) (z 1) := by funext a; match a with | 0 => rfl | 1 => rfl
  refine (congrArg (k0_pay14 _ _ _ _) hz).trans ((norm_apply _ g sc sh (z 0) (z 1)).trans ?_)
  have e1 : z 1 = d := Fin.ext h1.symm
  have e2 : (fun k => View.ld x (Rect.unit (s := S1x512x2048) ![0, o, 0] ![1, 16, 2048] inb) (ix3 0 (z 0) k)) = fun k => x (ix3 0 r k) := by
    funext k
    refine congrArg x (funext fun a => Fin.ext ?_)
    match a with
    | 0 => rfl
    | 1 => show o + 1 * (z 0).val = r.val; omega
    | 2 => show 0 + 1 * k.val = k.val; omega
  rw [e2]
  exact congrArg _ e1

/-- The normalised rows at an element. -/
theorem hOf_apply (x : Vec Ideal S1x512x2048 .f32) (g : Vec Ideal S1x2048 .f32) (sc sh : Vec Ideal S1x1x2048 .f32) (r : Fin 512) (d : Fin 2048) :
    hOf x g sc sh (ix2 r d) = normAt (fun k => x (ix3 0 r k)) (fun k => g (ix2 0 k)) (fun k => sc (ix3 0 0 k)) (fun k => sh (ix3 0 0 k)) d := by
  unfold hOf
  canon_tiles z h
  all_goals first
    | exact hOf_piece x g sc sh r d _ _ z h0 h1
    | exact hOf_piece x g sc sh r d 0 _ z (by rw [Nat.zero_add]; exact h0) h1

/-! ## The blocks read from the arguments -/

/-- A point's batch row. -/
def bt (n : ℕ) : Fin 2 := ⟨n / 64 % 2, Nat.mod_lt _ (by decide)⟩
/-- A row of a point's block, in the array. -/
def rw' (n : ℕ) (r : Fin 512) : Fin 16384 := ⟨n / 2 % 32 * 512 + r.val, by omega⟩

theorem pt_mod (n : ℕ) : (pt n).val = n % 128 := by
  have h : cfg0.N = 128 := by decide
  unfold pt
  show n % cfg0.N = n % 128
  rw [h]

theorem index_0 : ∀ t : Fin cfg0.N, win0_0.index t 0 = t.val / 64 ∧ win0_0.index t 1 = t.val / 2 % 32 ∧ win0_0.index t 2 = 0 :=
  (by decide +kernel : ∀ t : Fin grid0.N, win0_0.index t 0 = t.val / 64 ∧ win0_0.index t 1 = t.val / 2 % 32 ∧ win0_0.index t 2 = 0)
theorem index_1 : ∀ t : Fin cfg0.N, win0_1.index t 0 = t.val / 64 ∧ win0_1.index t 1 = 0 ∧ win0_1.index t 2 = 0 :=
  (by decide +kernel : ∀ t : Fin grid0.N, win0_1.index t 0 = t.val / 64 ∧ win0_1.index t 1 = 0 ∧ win0_1.index t 2 = 0)
theorem index_2 : ∀ t : Fin cfg0.N, win0_2.index t 0 = t.val / 64 ∧ win0_2.index t 1 = 0 ∧ win0_2.index t 2 = 0 :=
  (by decide +kernel : ∀ t : Fin grid0.N, win0_2.index t 0 = t.val / 64 ∧ win0_2.index t 1 = 0 ∧ win0_2.index t 2 = 0)
theorem index_3 : ∀ t : Fin cfg0.N, win0_3.index t 0 = 0 ∧ win0_3.index t 1 = 0 :=
  (by decide +kernel : ∀ t : Fin grid0.N, win0_3.index t 0 = 0 ∧ win0_3.index t 1 = 0)
theorem index_4 : ∀ t : Fin cfg0.N, win0_4.index t 0 = 0 ∧ win0_4.index t 1 = t.val % 2 :=
  (by decide +kernel : ∀ t : Fin grid0.N, win0_4.index t 0 = 0 ∧ win0_4.index t 1 = t.val % 2)
theorem index_5 : ∀ t : Fin cfg0.N, win0_5.index t 0 = t.val / 64 ∧ win0_5.index t 1 = 0 ∧ win0_5.index t 2 = t.val / 2 % 32 :=
  (by decide +kernel : ∀ t : Fin grid0.N, win0_5.index t 0 = t.val / 64 ∧ win0_5.index t 1 = 0 ∧ win0_5.index t 2 = t.val / 2 % 32)
theorem index_6 : ∀ t : Fin cfg0.N, win0_6.index t 0 = t.val / 64 ∧ win0_6.index t 1 = t.val / 2 % 32 ∧ win0_6.index t 2 = 0 :=
  (by decide +kernel : ∀ t : Fin grid0.N, win0_6.index t 0 = t.val / 64 ∧ win0_6.index t 1 = t.val / 2 % 32 ∧ win0_6.index t 2 = 0)
theorem index_7 : ∀ t : Fin cfg0.N, win0_7.index t 0 = t.val / 64 ∧ win0_7.index t 1 = t.val / 2 % 32 ∧ win0_7.index t 2 = 0 :=
  (by decide +kernel : ∀ t : Fin grid0.N, win0_7.index t 0 = t.val / 64 ∧ win0_7.index t 1 = t.val / 2 % 32 ∧ win0_7.index t 2 = 0)
theorem index_8 : ∀ t : Fin cfg0.N, win0_8.index t 0 = t.val / 64 ∧ win0_8.index t 1 = 0 ∧ win0_8.index t 2 = t.val / 2 % 32 :=
  (by decide +kernel : ∀ t : Fin grid0.N, win0_8.index t 0 = t.val / 64 ∧ win0_8.index t 1 = 0 ∧ win0_8.index t 2 = t.val / 2 % 32)

/-- A vector as the host lays it out. -/
theorem V_v1 (i : Fin 1) (j : Fin 2048) : V m c main_v1 (ix2 i j) = m ((c : Thread nD τ).loc main_arg3) (ix1 j) := by
  have h : V m c main_v1 = broadcastInDim S1x2048 ![1] bcast_S2048_S1x2048_1 (m ((c : Thread nD τ).loc main_arg3)) := by
    simp only [V, hostOps0, hostOps0_1, List.flatten_cons, List.flatten_nil, List.append_nil, List.cons_append, List.nil_append]
    after_results_simp <;> rfl
  rw [h]
  pointwise

/-- The host's cast, cut and padding of the weights: their columns from 6144 on, before the padding. -/
theorem V_v3 (i j : Fin 2048) (hj : j.val < 1104) : V m c main_v3 (ix2 i j) = m ((c : Thread nD τ).loc main_arg4) (ix2 i (col (6144 + j.val))) := by
  have h : V m c main_v3 = pad S2048x2048 ![0, 0] ![0, 944] ![0, 0] (extractStridedSlice S2048x1104 ![0, 6144] (truncf (F := Ideal) .bf16 (m ((c : Thread nD τ).loc main_arg4)) bitsLt_bf16_f32) slices_S2048x7248_S2048x1104_0_6144)
      (sitofp (F := Ideal) .bf16 (constantI S_ 32 0#32)) pads_S2048x1104_S2048x2048_000_09440 h_S_ := by
    simp only [V, hostOps0, hostOps0_1, List.flatten_cons, List.flatten_nil, List.append_nil, List.cons_append, List.nil_append]
    after_results_simp <;> rfl
  rw [h]
  refine (pad_apply_of_inside _ _ _ _ _ _ _ (ix2 i j) (ix2 i ⟨j.val, hj⟩) fun a => ?_).trans ?_
  · match a with
    | 0 => show i.val = 0 + i.val * (0 + 1); omega
    | 1 => show j.val = 0 + j.val * (0 + 1); omega
  pointwise
  refine congrArg (m ((c : Thread nD τ).loc main_arg4)) (funext fun a => Fin.ext ?_)
  match a with
  | 0 => rfl
  | 1 => show 6144 + j.val = (6144 + j.val) % 7248; omega

theorem b0_apply (n : ℕ) (r : Fin 512) (k : Fin 2048) : b0 m c n (ix3 0 r k) = m ((c : Thread nD τ).loc main_arg0) (ix3 (bt n) (rw' n r) k) := by
  unfold b0
  obtain ⟨e0, e1, e2⟩ := index_0 (pt n)
  blk_simp [iblk]
  rw [V_main_arg0]
  refine congrArg (m ((c : Thread nD τ).loc main_arg0)) (funext fun a => Fin.ext ?_)
  match a with
  | 0 => blk_simp; rw [e0, pt_mod]; show n % 128 / 64 + 0 = n / 64 % 2; omega
  | 1 => blk_simp; rw [e1, pt_mod]; show n % 128 / 2 % 32 * 512 + r.val = n / 2 % 32 * 512 + r.val; omega
  | 2 => blk_simp; rw [e2]; show 0 * 2048 + k.val = k.val; omega

theorem b1_apply (n : ℕ) (k : Fin 2048) : b1 m c n (ix3 0 0 k) = m ((c : Thread nD τ).loc main_arg2) (ix3 (bt n) 0 k) := by
  unfold b1
  obtain ⟨e0, e1, e2⟩ := index_1 (pt n)
  blk_simp [iblk]
  rw [V_main_arg2]
  refine congrArg (m ((c : Thread nD τ).loc main_arg2)) (funext fun a => Fin.ext ?_)
  match a with
  | 0 => blk_simp; rw [e0, pt_mod]; show n % 128 / 64 + 0 = n / 64 % 2; omega
  | 1 => blk_simp; rw [e1]; rfl
  | 2 => blk_simp; rw [e2]; show 0 * 2048 + k.val = k.val; omega

theorem b2_apply (n : ℕ) (k : Fin 2048) : b2 m c n (ix3 0 0 k) = m ((c : Thread nD τ).loc main_arg1) (ix3 (bt n) 0 k) := by
  unfold b2
  obtain ⟨e0, e1, e2⟩ := index_2 (pt n)
  blk_simp [iblk]
  rw [V_main_arg1]
  refine congrArg (m ((c : Thread nD τ).loc main_arg1)) (funext fun a => Fin.ext ?_)
  match a with
  | 0 => blk_simp; rw [e0, pt_mod]; show n % 128 / 64 + 0 = n / 64 % 2; omega
  | 1 => blk_simp; rw [e1]; rfl
  | 2 => blk_simp; rw [e2]; show 0 * 2048 + k.val = k.val; omega

theorem b3_apply (n : ℕ) (k : Fin 2048) : b3 m c n (ix2 0 k) = m ((c : Thread nD τ).loc main_arg3) (ix1 k) := by
  unfold b3
  obtain ⟨e0, e1⟩ := index_3 (pt n)
  blk_simp [iblk]
  have hi : (win0_3.blk (pt n)).view.emb (ix2 (0 : Fin 1) k) = ix2 ((win0_3.blk (pt n)).view.emb (ix2 (0 : Fin 1) k) 0) ((win0_3.blk (pt n)).view.emb (ix2 (0 : Fin 1) k) 1) := by
    funext a; match a with | 0 => rfl | 1 => rfl
  refine (congrArg (V m c main_v1) hi).trans ((V_v1 m c _ _).trans ?_)
  refine congrArg (m ((c : Thread nD τ).loc main_arg3)) (funext fun a => Fin.ext ?_)
  match a with
  | 0 => blk_simp; rw [e1]; show 0 * 2048 + k.val = k.val; omega

/-- A point's block of the weights. -/
theorem b4_apply (n : ℕ) (k : Fin 2048) (q : Fin 1024) (hn : n % 2 * 1024 + q.val < 1104) : b4 m c n (ix2 k q) = m ((c : Thread nD τ).loc main_arg4) (ix2 k (col (6144 + (n % 2 * 1024 + q.val)))) := by
  unfold b4
  obtain ⟨e0, e1⟩ := index_4 (pt n)
  blk_simp [iblk]
  have hq : n % 2 * 1024 + q.val < 2048 := by omega
  have hi : (win0_4.blk (pt n)).view.emb (ix2 k q) = ix2 k (⟨n % 2 * 1024 + q.val, hq⟩ : Fin 2048) := by
    funext a
    refine Fin.ext ?_
    match a with
    | 0 => blk_simp; rw [e0]; show 0 * 2048 + k.val = k.val; omega
    | 1 => blk_simp; rw [e1, pt_mod]; show n % 128 % 2 * 1024 + q.val = n % 2 * 1024 + q.val; omega
  exact (congrArg (V m c main_v3) hi).trans (V_v3 m c k _ hn)

/-! ## The points' values -/

/-- The projection of the arguments. -/
abbrev pM (b : Fin 2) (p : Fin 16384) (q : Fin 7248) : EReal :=
  pG (m ((c : Thread nD τ).loc main_arg0)) (m ((c : Thread nD τ).loc main_arg1)) (m ((c : Thread nD τ).loc main_arg2)) (m ((c : Thread nD τ).loc main_arg3)) (m ((c : Thread nD τ).loc main_arg4)) b p q

theorem bt_eq {n n' : ℕ} (h : n' / 64 = n / 64) : bt n' = bt n := Fin.ext (by show n' / 64 % 2 = n / 64 % 2; rw [h])
theorem rw_eq {n n' : ℕ} (h : n' / 2 = n / 2) (r : Fin 512) : rw' n' r = rw' n r := Fin.ext (by show n' / 2 % 32 * 512 + r.val = n / 2 % 32 * 512 + r.val; rw [h])

theorem hN_apply (n : ℕ) (r : Fin 512) (k : Fin 2048) :
    hN m c n (ix2 r k) = hG (m ((c : Thread nD τ).loc main_arg0)) (m ((c : Thread nD τ).loc main_arg1)) (m ((c : Thread nD τ).loc main_arg2)) (m ((c : Thread nD τ).loc main_arg3)) (bt n) (rw' n r) k := by
  unfold hN
  rw [hOf_apply]
  simp only [b0_apply, b1_apply, b2_apply, b3_apply]
  rw [bt_eq (n := n) (n' := n - n % 2) (by omega), rw_eq (n := n) (n' := n - n % 2) (by omega)]
  rfl

theorem pay2_apply (h : Vec Ideal S512x2048 .bf16) (w : Vec Ideal S2048x1024 .bf16) (r : Fin 512) (q : Fin 1024) :
    k0_pay2 h w (ix2 r q) = ∑ k, h (ix2 r k) * w (ix2 k q) := by
  pointwise [k0_pay2]

/-- A product of a point's normalised rows with a block of the weights, at an element. -/
theorem prod_apply (n j : ℕ) (hj : j < 2) (r : Fin 512) (q : Fin 1024) (hq : j * 1024 + q.val < 1104) : k0_pay2 (hN m c n) (b4 m c (n - n % 2 + j)) (ix2 r q) = pM m c (bt n) (rw' n r) (col (6144 + (j * 1024 + q.val))) := by
  have e : (n - n % 2 + j) % 2 = j := by omega
  rw [pay2_apply]
  simp only [hN_apply]
  refine Finset.sum_congr rfl fun k _ => ?_
  rw [b4_apply m c _ k q (by omega), e]

/-- Output 0's block at an element, from the product. -/
theorem pay3_apply (h : Vec Ideal S512x2048 .bf16) (w : Vec Ideal S2048x1024 .bf16) (r : Fin 512) (q : Fin 1024) :
    k0_pay3 h w (ix3 0 q r) = k0_pay2 h w (ix2 r q) := by
  pointwise [k0_pay3]

/-- Result array 0 as the function of the arguments. -/
def out0 : S2x1024x16384.Idx → EReal := featArr (m ((c : Thread nD τ).loc main_arg0)) (m ((c : Thread nD τ).loc main_arg1)) (m ((c : Thread nD τ).loc main_arg2)) (m ((c : Thread nD τ).loc main_arg3)) (m ((c : Thread nD τ).loc main_arg4)) 6144

/-- Result array 0 at the end. -/
theorem out0_eq (r : PUnit × MemSt nD τ sig (Elt Ideal)) (h : RDat.FramePost cfg0 (rd m) (V m) r) :
    r.2.mem ((c : Thread nD τ).loc main_v4_0) = out0 m c := by
  obtain ⟨after, hL, hA⟩ := RDat.FramePost.exists_exact h c
  refine (hA 5).trans ?_
  refine Dat.arrAt_eq_of_covers ((rd m c).withAfter after) 5 (out0 m c) (by decide +kernel) fun t hf y => ?_
  have ht : t.val % 2 = 1 := by
    have := (flush0_5 t).mp hf
    omega
  have hX : after 5 t = o5 m c t.val := by
    obtain ⟨Y, -, h'⟩ := hL 5 t hf
    rw [after_5] at h'
    exact h' (by omega)
  rw [RDat.withAfter_after]
  blk_simp
  rw [hX]
  obtain ⟨e0, e1, e2⟩ := index_5 t
  have hN : t.val < 128 := lt_of_lt_of_eq t.isLt (by decide)
  have hy0 : (y 0).val = 0 := by have : (y 0).val < 1 := (y 0).isLt; omega
  have hy1 : (y 1).val < 1024 := (y 1).isLt
  have hy : y = ix3 0 (y 1) (y 2) := by
    funext a
    match a with
    | 0 => exact Fin.ext hy0
    | 1 => rfl
    | 2 => rfl
  refine (congrArg _ hy).trans ((pay3_apply _ _ (y 2) (y 1)).trans ?_)
  refine ((prod_apply m c t.val 0 (by decide) (y 2) (y 1) (by show 0 * 1024 + (y 1).val < 1104; omega))).trans ?_
  unfold out0 featArr
  refine (congr (congr (congrArg (pM m c) (Fin.ext ?_)) (Fin.ext ?_)) (congrArg col ?_))
  · blk_simp; rw [e0]; show t.val / 64 % 2 = t.val / 64; omega
  · blk_simp; rw [e2]; rfl
  · blk_simp; rw [e1]; show _ = 6144 + (0 * 1024 + (y 1).val); try dsimp only
    omega

/-- Output 1's block at an element, from the product. -/
theorem pay4_apply (h : Vec Ideal S512x2048 .bf16) (w : Vec Ideal S2048x1024 .bf16) (r : Fin 512) (q : Fin 64) :
    k0_pay4 h w (ix3 0 r q) = k0_pay2 h w (ix2 r ⟨q.val, by omega⟩) := by
  pointwise [k0_pay4]

/-- Result array 1 as the function of the arguments. -/
def out1 : S2x16384x64.Idx → EReal := narrowArr (m ((c : Thread nD τ).loc main_arg0)) (m ((c : Thread nD τ).loc main_arg1)) (m ((c : Thread nD τ).loc main_arg2)) (m ((c : Thread nD τ).loc main_arg3)) (m ((c : Thread nD τ).loc main_arg4)) 7168

/-- Result array 1 at the end. -/
theorem out1_eq (r : PUnit × MemSt nD τ sig (Elt Ideal)) (h : RDat.FramePost cfg0 (rd m) (V m) r) :
    r.2.mem ((c : Thread nD τ).loc main_v4_1) = out1 m c := by
  obtain ⟨after, hL, hA⟩ := RDat.FramePost.exists_exact h c
  refine (hA 6).trans ?_
  refine Dat.arrAt_eq_of_covers ((rd m c).withAfter after) 6 (out1 m c) (by decide +kernel) fun t hf y => ?_
  have ht : t.val % 2 = 1 := by
    have := (flush0_6 t).mp hf
    omega
  have hX : after 6 t = o6 m c t.val := by
    obtain ⟨Y, -, h'⟩ := hL 6 t hf
    rw [after_6] at h'
    exact h' (by omega)
  rw [RDat.withAfter_after]
  blk_simp
  rw [hX]
  obtain ⟨e0, e1, e2⟩ := index_6 t
  have hN : t.val < 128 := lt_of_lt_of_eq t.isLt (by decide)
  have hy0 : (y 0).val = 0 := by have : (y 0).val < 1 := (y 0).isLt; omega
  have hy2 : (y 2).val < 64 := (y 2).isLt
  have hy : y = ix3 0 (y 1) (y 2) := by
    funext a
    match a with
    | 0 => exact Fin.ext hy0
    | 1 => rfl
    | 2 => rfl
  refine (congrArg _ hy).trans ((pay4_apply _ _ (y 1) (y 2)).trans ?_)
  refine ((prod_apply m c t.val 1 (by decide) (y 1) ⟨(y 2).val, by omega⟩ (by show 1 * 1024 + (y 2).val < 1104; omega))).trans ?_
  unfold out1 narrowArr
  refine (congr (congr (congrArg (pM m c) (Fin.ext ?_)) (Fin.ext ?_)) (congrArg col ?_))
  · blk_simp; rw [e0]; show t.val / 64 % 2 = t.val / 64; omega
  · blk_simp; rw [e1]; rfl
  · blk_simp; rw [e2]; show _ = 7168 + (0 * 64 + (y 2).val); try dsimp only
    omega

/-- Output 2's block at an element, from the product. -/
theorem pay5_apply (h : Vec Ideal S512x2048 .bf16) (w : Vec Ideal S2048x1024 .bf16) (r : Fin 512) (q : Fin 64) :
    k0_pay5 h w (ix3 0 r q) = k0_pay2 h w (ix2 r ⟨q.val, by omega⟩) := by
  pointwise [k0_pay5]

/-- Result array 2 as the function of the arguments. -/
def out2 : S2x16384x64.Idx → EReal := narrowArr (m ((c : Thread nD τ).loc main_arg0)) (m ((c : Thread nD τ).loc main_arg1)) (m ((c : Thread nD τ).loc main_arg2)) (m ((c : Thread nD τ).loc main_arg3)) (m ((c : Thread nD τ).loc main_arg4)) 7168

/-- Result array 2 at the end. -/
theorem out2_eq (r : PUnit × MemSt nD τ sig (Elt Ideal)) (h : RDat.FramePost cfg0 (rd m) (V m) r) :
    r.2.mem ((c : Thread nD τ).loc main_v4_2) = out2 m c := by
  obtain ⟨after, hL, hA⟩ := RDat.FramePost.exists_exact h c
  refine (hA 7).trans ?_
  refine Dat.arrAt_eq_of_covers ((rd m c).withAfter after) 7 (out2 m c) (by decide +kernel) fun t hf y => ?_
  have ht : t.val % 2 = 1 := by
    have := (flush0_7 t).mp hf
    omega
  have hX : after 7 t = o7 m c t.val := by
    obtain ⟨Y, -, h'⟩ := hL 7 t hf
    rw [after_7] at h'
    exact h' (by omega)
  rw [RDat.withAfter_after]
  blk_simp
  rw [hX]
  obtain ⟨e0, e1, e2⟩ := index_7 t
  have hN : t.val < 128 := lt_of_lt_of_eq t.isLt (by decide)
  have hy0 : (y 0).val = 0 := by have : (y 0).val < 1 := (y 0).isLt; omega
  have hy2 : (y 2).val < 64 := (y 2).isLt
  have hy : y = ix3 0 (y 1) (y 2) := by
    funext a
    match a with
    | 0 => exact Fin.ext hy0
    | 1 => rfl
    | 2 => rfl
  refine (congrArg _ hy).trans ((pay5_apply _ _ (y 1) (y 2)).trans ?_)
  refine ((prod_apply m c t.val 1 (by decide) (y 1) ⟨(y 2).val, by omega⟩ (by show 1 * 1024 + (y 2).val < 1104; omega))).trans ?_
  unfold out2 narrowArr
  refine (congr (congr (congrArg (pM m c) (Fin.ext ?_)) (Fin.ext ?_)) (congrArg col ?_))
  · blk_simp; rw [e0]; show t.val / 64 % 2 = t.val / 64; omega
  · blk_simp; rw [e1]; rfl
  · blk_simp; rw [e2]; show _ = 7168 + (0 * 64 + (y 2).val); try dsimp only
    omega

/-- Output 3's block at an element, from the product. -/
theorem pay6_apply (h : Vec Ideal S512x2048 .bf16) (w : Vec Ideal S2048x1024 .bf16) (r : Fin 512) (q : Fin 16) :
    k0_pay6 h w (ix3 0 q r) = k0_pay2 h w (ix2 r ⟨64 + q.val, by omega⟩) := by
  pointwise [k0_pay6]

/-- Result array 3 as the function of the arguments. -/
def out3 : S2x16x16384.Idx → EReal := thinArr (m ((c : Thread nD τ).loc main_arg0)) (m ((c : Thread nD τ).loc main_arg1)) (m ((c : Thread nD τ).loc main_arg2)) (m ((c : Thread nD τ).loc main_arg3)) (m ((c : Thread nD τ).loc main_arg4)) 7232

/-- Result array 3 at the end. -/
theorem out3_eq (r : PUnit × MemSt nD τ sig (Elt Ideal)) (h : RDat.FramePost cfg0 (rd m) (V m) r) :
    r.2.mem ((c : Thread nD τ).loc main_v4_3) = out3 m c := by
  obtain ⟨after, hL, hA⟩ := RDat.FramePost.exists_exact h c
  refine (hA 8).trans ?_
  refine Dat.arrAt_eq_of_covers ((rd m c).withAfter after) 8 (out3 m c) (by decide +kernel) fun t hf y => ?_
  have ht : t.val % 2 = 1 := by
    have := (flush0_8 t).mp hf
    omega
  have hX : after 8 t = o8 m c t.val := by
    obtain ⟨Y, -, h'⟩ := hL 8 t hf
    rw [after_8] at h'
    exact h' (by omega)
  rw [RDat.withAfter_after]
  blk_simp
  rw [hX]
  obtain ⟨e0, e1, e2⟩ := index_8 t
  have hN : t.val < 128 := lt_of_lt_of_eq t.isLt (by decide)
  have hy0 : (y 0).val = 0 := by have : (y 0).val < 1 := (y 0).isLt; omega
  have hy1 : (y 1).val < 16 := (y 1).isLt
  have hy : y = ix3 0 (y 1) (y 2) := by
    funext a
    match a with
    | 0 => exact Fin.ext hy0
    | 1 => rfl
    | 2 => rfl
  refine (congrArg _ hy).trans ((pay6_apply _ _ (y 2) (y 1)).trans ?_)
  refine ((prod_apply m c t.val 1 (by decide) (y 2) ⟨64 + (y 1).val, by omega⟩ (by show 1 * 1024 + (64 + (y 1).val) < 1104; omega))).trans ?_
  unfold out3 thinArr
  refine (congr (congr (congrArg (pM m c) (Fin.ext ?_)) (Fin.ext ?_)) (congrArg col ?_))
  · blk_simp; rw [e0]; show t.val / 64 % 2 = t.val / 64; omega
  · blk_simp; rw [e2]; rfl
  · blk_simp; rw [e1]; show _ = 7232 + (0 * 16 + (y 1).val); try dsimp only
    omega

end Cert.Kernel6Ideal.Run

end
-- ==== Proof.ProjIx.Ref.lean ====
/-
  The reference of the indexer projection at an element.
-/
module

public import Idealize.ShloMosaic.Lib.Pointwise
public import proofs.«01_k».proof.Proof.Gen.Reference6Ideal.Run
public import proofs.«01_k».proof.Proof.Proj.Val

@[expose] public section

set_option maxRecDepth 16384

noncomputable section

namespace Cert.Reference6Ideal.Value

open Cert.Reference6Ideal Cert.Reference6Ideal.Gen Cert.Proj
open Cert.Mrg (normAt)
open Idealize.ShloMosaic Idealize.ShloMosaic.TcCoe

/-- The inverse root mean square of each row, over the row. -/
def scaled (x : FVec Ideal S2x16384x2048 .f32) : FVec Ideal S2x16384x2048 .f32 :=
  broadcastInDim S2x16384x2048 ![0, 1, 2] bcast_S2x16384x1_S2x16384x2048_0_1_2
      (Host.rsqrt (addf (Host.divf (broadcastInDim S2x16384x1 ![0, 1] bcast_S2x16384_S2x16384x1_0_1
          (Host.reduceAdd (mulf x x) (constant S_ .f32 0x00000000#32) reducesTo_S2x16384x2048_S2x16384_d2 h_S_))
        (broadcastInDim S2x16384x1 ![] bcast_S_S2x16384x1 (constant S_ .f32 0x45000000#32)))
        (broadcastInDim S2x16384x1 ![] bcast_S_S2x16384x1 (constant S_ .f32 0x358637BD#32))))

/-- The activations normalised and scaled by the weights. -/
def rms (x : FVec Ideal S2x16384x2048 .f32) (g : FVec Ideal S2048 .f32) : FVec Ideal S2x16384x2048 .f32 :=
  mulf (mulf x (scaled x))
    (broadcastInDim S2x16384x2048 ![0, 1, 2] bcast_S1x1x2048_S2x16384x2048_0_1_2 (broadcastInDim S1x1x2048 ![2] bcast_S2048_S1x1x2048_2 g))

/-- The activations normalised, scaled by the weights and modulated. -/
def normed (x : FVec Ideal S2x16384x2048 .f32) (sh sc : FVec Ideal S2x1x2048 .f32) (g : FVec Ideal S2048 .f32) : FVec Ideal S2x16384x2048 .f32 :=
  addf (mulf (rms x g)
      (broadcastInDim S2x16384x2048 ![0, 1, 2] bcast_S2x1x2048_S2x16384x2048_0_1_2 (addf (broadcastInDim S2x1x2048 ![] bcast_S_S2x1x2048 (constant S_ .f32 0x3F800000#32)) sc)))
    (broadcastInDim S2x16384x2048 ![0, 1, 2] bcast_S2x1x2048_S2x16384x2048_0_1_2 sh)

/-- The product with the weights. -/
def cols (h : FVec Ideal S2x16384x2048 .f32) (w : FVec Ideal S2048x7248 .f32) : FVec Ideal S2x16384x7248 .f32 :=
  Host.dotGeneral dot_S2x16384x2048_S2048x7248_S2x16384x7248_2_0_01_1_n_n none h w

/-- Result 0, cut from the product. -/
def res0 (u : FVec Ideal S2x16384x7248 .f32) : FVec Ideal S2x1024x16384 .bf16 :=
  transpose S2x1024x16384 [0, 2, 1] (truncf .bf16 (extractStridedSlice S2x16384x1024 ![0, 0, 6144] u slices_S2x16384x7248_S2x16384x1024_0_0_6144) bitsLt_bf16_f32) transposes_S2x16384x1024_S2x1024x16384_0_2_1

/-- Result 1, cut from the product. -/
def res1 (u : FVec Ideal S2x16384x7248 .f32) : FVec Ideal S2x16384x64 .f32 :=
  extractStridedSlice S2x16384x64 ![0, 0, 7168] u slices_S2x16384x7248_S2x16384x64_0_0_7168

/-- Result 2, cut from the product. -/
def res2 (u : FVec Ideal S2x16384x7248 .f32) : FVec Ideal S2x16384x64 .bf16 :=
  truncf .bf16 (extractStridedSlice S2x16384x64 ![0, 0, 7168] u slices_S2x16384x7248_S2x16384x64_0_0_7168) bitsLt_bf16_f32

/-- Result 3, cut from the product. -/
def res3 (u : FVec Ideal S2x16384x7248 .f32) : FVec Ideal S2x16x16384 .f32 :=
  transpose S2x16x16384 [0, 2, 1] (extractStridedSlice S2x16384x16 ![0, 0, 7232] u slices_S2x16384x7248_S2x16384x16_0_0_7232) transposes_S2x16384x16_S2x16x16384_0_2_1

/-! ## At an element -/

theorem rms_apply (x : FVec Ideal S2x16384x2048 .f32) (g : FVec Ideal S2048 .f32) (b : Fin 2) (p : Fin 16384) (d : Fin 2048) :
    rms x g (ix3 b p d) = x (ix3 b p d) * Ideal.rsqrt (Ideal.div (∑ k, x (ix3 b p k) * x (ix3 b p k)) (Ideal.ofBits FTy.f32 1157627904#32) + Ideal.ofBits FTy.f32 897988541#32) * g (ix1 d) := by
  pointwise [rms, scaled]

theorem normed_apply (x : FVec Ideal S2x16384x2048 .f32) (sh sc : FVec Ideal S2x1x2048 .f32) (g : FVec Ideal S2048 .f32) (b : Fin 2) (p : Fin 16384) (d : Fin 2048) :
    normed x sh sc g (ix3 b p d) = hG x sh sc g b p d := by
  pointwise [normed]
  rw [rms_apply]
  rfl

theorem cols_apply (x : FVec Ideal S2x16384x2048 .f32) (sh sc : FVec Ideal S2x1x2048 .f32) (g : FVec Ideal S2048 .f32) (w : FVec Ideal S2048x7248 .f32)
    (b : Fin 2) (p : Fin 16384) (q : Fin 7248) : cols (normed x sh sc g) w (ix3 b p q) = pG x sh sc g w b p q := by
  pointwise [cols]
  simp only [normed_apply]
  rfl

variable (x : FVec Ideal S2x16384x2048 .f32) (sh sc : FVec Ideal S2x1x2048 .f32) (g : FVec Ideal S2048 .f32) (w : FVec Ideal S2048x7248 .f32)

/-- A column of the product under its number. -/
theorem col_eq (q : Fin 7248) (n : ℕ) (h : q.val = n) : q = col n := Fin.ext (by show q.val = n % 7248; have := q.isLt; omega)

theorem res0_apply (b : Fin 2) (q : Fin 1024) (p : Fin 16384) : res0 (cols (normed x sh sc g) w) (ix3 b q p) = featArr x sh sc g w 6144 (ix3 b q p) := by
  pointwise [res0]
  rw [cols_apply]
  unfold featArr
  exact congrArg (pG x sh sc g w b p) (col_eq _ _ (by first | rfl | exact (Nat.zero_add _).symm))

/-- The reference's result 0 is the kernel's function of its arguments. -/
theorem res0_eq : res0 (cols (normed x sh sc g) w) = featArr x sh sc g w 6144 := by
  funext y
  have hy : y = ix3 (y 0) (y 1) (y 2) := by funext a; match a with | 0 => rfl | 1 => rfl | 2 => rfl
  exact (congrArg _ hy).trans ((res0_apply x sh sc g w (y 0) (y 1) (y 2)).trans (congrArg _ hy.symm))

theorem res1_apply (b : Fin 2) (p : Fin 16384) (q : Fin 64) : res1 (cols (normed x sh sc g) w) (ix3 b p q) = narrowArr x sh sc g w 7168 (ix3 b p q) := by
  pointwise [res1]
  rw [cols_apply]
  unfold narrowArr
  exact congrArg (pG x sh sc g w b p) (col_eq _ _ (by first | rfl | exact (Nat.zero_add _).symm))

/-- The reference's result 1 is the kernel's function of its arguments. -/
theorem res1_eq : res1 (cols (normed x sh sc g) w) = narrowArr x sh sc g w 7168 := by
  funext y
  have hy : y = ix3 (y 0) (y 1) (y 2) := by funext a; match a with | 0 => rfl | 1 => rfl | 2 => rfl
  exact (congrArg _ hy).trans ((res1_apply x sh sc g w (y 0) (y 1) (y 2)).trans (congrArg _ hy.symm))

theorem res2_apply (b : Fin 2) (p : Fin 16384) (q : Fin 64) : res2 (cols (normed x sh sc g) w) (ix3 b p q) = narrowArr x sh sc g w 7168 (ix3 b p q) := by
  pointwise [res2]
  rw [cols_apply]
  unfold narrowArr
  exact congrArg (pG x sh sc g w b p) (col_eq _ _ (by first | rfl | exact (Nat.zero_add _).symm))

/-- The reference's result 2 is the kernel's function of its arguments. -/
theorem res2_eq : res2 (cols (normed x sh sc g) w) = narrowArr x sh sc g w 7168 := by
  funext y
  have hy : y = ix3 (y 0) (y 1) (y 2) := by funext a; match a with | 0 => rfl | 1 => rfl | 2 => rfl
  exact (congrArg _ hy).trans ((res2_apply x sh sc g w (y 0) (y 1) (y 2)).trans (congrArg _ hy.symm))

theorem res3_apply (b : Fin 2) (q : Fin 16) (p : Fin 16384) : res3 (cols (normed x sh sc g) w) (ix3 b q p) = thinArr x sh sc g w 7232 (ix3 b q p) := by
  pointwise [res3]
  rw [cols_apply]
  unfold thinArr
  exact congrArg (pG x sh sc g w b p) (col_eq _ _ (by first | rfl | exact (Nat.zero_add _).symm))

/-- The reference's result 3 is the kernel's function of its arguments. -/
theorem res3_eq : res3 (cols (normed x sh sc g) w) = thinArr x sh sc g w 7232 := by
  funext y
  have hy : y = ix3 (y 0) (y 1) (y 2) := by funext a; match a with | 0 => rfl | 1 => rfl | 2 => rfl
  exact (congrArg _ hy).trans ((res3_apply x sh sc g w (y 0) (y 1) (y 2)).trans (congrArg _ hy.symm))

end Cert.Reference6Ideal.Value

end
-- ==== Proof.ProjIx.Same.lean ====
/-
  The indexer projection's program as it is printed and its ideal reading have the same text.
-/
module

public import proofs.«01_k».proof.Kernel6
public import proofs.«01_k».proof.Kernel6Ideal
public import proofs.«01_k».proof.Proof.Gen.Kernel6
public import proofs.«01_k».proof.Proof.Gen.Kernel6Ideal

@[expose] public section

set_option maxRecDepth 65536

namespace Cert.ProjIx.Same

open Idealize.ShloMosaic

variable {F : FTy → Type} [FloatOps F]

/-- The two programs' bodies are one function. -/
theorem body_eq : @Cert.Kernel6.cc0_proj_ix F _ _ = @Cert.Kernel6Ideal.cc0_proj_ix F _ _ := rfl

set_option maxHeartbeats 4000000 in
/-- The two programs' body tables are one table. -/
theorem bodies_eq : @Cert.Kernel6.defs₀ F _ _ = @Cert.Kernel6Ideal.defs₀ F _ _ := by
  unfold Cert.Kernel6.defs₀ Cert.Kernel6Ideal.defs₀
  rw [body_eq]
  generalize @Cert.Kernel6Ideal.cc0_proj_ix F _ _ = B
  refine congrArg Defs.onTc (funext fun l => funext fun x => ?_)
  match l, x with
  | 0, (t, s) => rfl

/-- The two programs' tables, with the pipeline's region, are one table. -/
theorem defs_eq : @Cert.Kernel6.defs F _ _ = @Cert.Kernel6Ideal.defs F _ _ := by
  unfold Cert.Kernel6.defs Cert.Kernel6Ideal.defs
  rw [bodies_eq]
  rfl

end Cert.ProjIx.Same

end
-- ==== Proof.lean ====
/-
  The claim: each program runs and leaves its arguments and its semaphores as they were; the ideal kernel is the
  kernel with three constants named; over real queries and keys the ideal
  kernel's result is the reference's; and the ideal merge's and the ideal feed-forward call's results are their
  references' on any arguments.
-/
module

public import proofs.«01_k».proof.Defs
public import proofs.«01_k».proof.Proof.Gen.ReferenceIdeal.Run
public import proofs.«01_k».proof.Proof.Ideal.Frame
public import proofs.«01_k».proof.Proof.Bits.Frame
public import proofs.«01_k».proof.Proof.Gen.Pre_finite_qk
public import proofs.«01_k».proof.Proof.Sb.Array
public import proofs.«01_k».proof.Proof.Sb.Ref
public import proofs.«01_k».proof.Proof.Sb.Pre
public import proofs.«01_k».proof.Proof.Gen.Kernel2.Frame
public import proofs.«01_k».proof.Proof.Mrg.Ref
public import proofs.«01_k».proof.Proof.Gen.Kernel3
public import proofs.«01_k».proof.Proof.Gen.Kernel3Ideal.Frame
public import proofs.«01_k».proof.Proof.Gen.Kernel3Ideal.Skeleton
public import proofs.«01_k».proof.Proof.Gen.Reference3Ideal.Run
public import proofs.«01_k».proof.Proof.Ffn.Ref
public import proofs.«01_k».proof.Proof.Ffn.Same
public import proofs.«01_k».proof.Proof.Gen.Kernel4
public import proofs.«01_k».proof.Proof.Gen.Kernel4Ideal.Frame
public import proofs.«01_k».proof.Proof.Gen.Kernel4Ideal.Skeleton
public import proofs.«01_k».proof.Proof.Gen.Reference4Ideal.Run
public import proofs.«01_k».proof.Proof.ProjSb.Vals
public import proofs.«01_k».proof.Proof.ProjSb.Ref
public import proofs.«01_k».proof.Proof.ProjSb.Same
public import proofs.«01_k».proof.Proof.Gen.Kernel5
public import proofs.«01_k».proof.Proof.Gen.Kernel5Ideal.Frame
public import proofs.«01_k».proof.Proof.Gen.Kernel5Ideal.Skeleton
public import proofs.«01_k».proof.Proof.Gen.Reference5Ideal.Run
public import proofs.«01_k».proof.Proof.ProjSa.Vals
public import proofs.«01_k».proof.Proof.ProjSa.Ref
public import proofs.«01_k».proof.Proof.ProjSa.Same
public import proofs.«01_k».proof.Proof.Gen.Kernel6
public import proofs.«01_k».proof.Proof.Gen.Kernel6Ideal.Frame
public import proofs.«01_k».proof.Proof.Gen.Kernel6Ideal.Skeleton
public import proofs.«01_k».proof.Proof.Gen.Reference6Ideal.Run
public import proofs.«01_k».proof.Proof.ProjIx.Vals
public import proofs.«01_k».proof.Proof.ProjIx.Ref
public import proofs.«01_k».proof.Proof.ProjIx.Same
public import Idealize.ShloMosaic.Adequacy
public import Idealize.ShloMosaic.Lib.Quiescent
public import Idealize.ShloMosaic.Init

@[expose] public section

noncomputable section

namespace Cert.Proof

open Idealize.ShloMosaic Idealize.SL.Sem

/-- The three named constants are what they are said to be. -/
theorem preserves : Cert.preserves_Kernel_KernelIdeal :=
  ⟨IdealRules.named_const.statement Cert.KernelIdeal.κ "scale_log2e" .f32 0x3E0293EE#32 (((Real.sqrt 128)⁻¹ * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "dead" .f32 0xC3160A50#32 ⊥ rfl⟩

/-- The reference runs and leaves its arguments as they were; it has no semaphores. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Over real queries and keys the ideal kernel and the reference end with the same array: the layer's attention. -/
theorem algebraic : Cert.algebraic_KernelIdeal_ReferenceIdeal_pre_finite_qk (hPre_finite_qk := Cert.Pre_finite_qk.Gen.facts) := fun m ρ m' ρ' hpre hargs => by
  have hreal := fun c => Cert.Sb.real_of_pre _ _ _ (hpre c)
  refine ⟨_, (θ_run Cert.KernelIdeal.defs _ _).mono (fun _ h => h.1) (Cert.KernelIdeal.Run.run_main m ρ),
    (θ_run Cert.ReferenceIdeal.defs _ _).mono (fun _ h c => ⟨(h c).1.trans ?_, (h c).2⟩) (Cert.ReferenceIdeal.Value.run (F := Ideal) m' ρ')⟩
  exact (Cert.ReferenceIdeal.Value.reference_eq m' c _ _ _ (hargs c).1 (hargs c).2.1 (hargs c).2.2 (hreal c).1 (hreal c).2).trans
    (Cert.KernelIdeal.Run.array_eq m c (hreal c).1 (hreal c).2).symm

/-- The merge's reference runs and leaves its arguments as they were; it has no semaphores. -/
theorem frame_reference2 : Cert.quiescent_Reference2Ideal := fun m ρ _ =>
  (θ_run Cert.Reference2Ideal.defs _ _).mono (fun r h => ⟨fun c => (h c).2, sem_eq_zero_of_no_sems rfl r.2⟩)
    (Cert.Reference2Ideal.Value.run (F := Ideal) m ρ)

/-- On any arguments the merge's ideal kernel and its reference end with the same array. -/
theorem algebraic2 : Cert.algebraic_Kernel2Ideal_Reference2Ideal := fun m ρ m' ρ' _ hargs => by
  refine ⟨_, (θ_run Cert.Kernel2Ideal.defs _ _).mono (fun _ h => h) (Cert.Kernel2Ideal.Value.run_blocks m ρ),
    (θ_run Cert.Reference2Ideal.defs _ _).mono (fun _ h c => ⟨(h c).1.trans ?_, (h c).2⟩) (Cert.Reference2Ideal.Value.run (F := Ideal) m' ρ')⟩
  refine Eq.trans ?_ (Cert.Kernel2Ideal.Run.array_eq m c).symm
  obtain ⟨h0, h1, h2, h3, h4, h5, h6, h7, h8, h9, h10⟩ := hargs c
  refine (Cert.Reference2Ideal.Value.added_eq _ _ _ _ _ _ _ _ _ _ _).trans ?_
  rw [h0, h1, h2, h3, h4, h5, h6, h7, h8, h9, h10]

/-- The feed-forward call as it is printed runs and leaves its arguments as they were: its text is the ideal call's. -/
theorem frame_kernel3 : Cert.quiescent_Kernel3 := fun m ρ _ => by
  rw [Cert.Ffn.Same.defs_eq]
  exact (θ_run Cert.Kernel3Ideal.defs _ _).mono (fun _ h => h) (Cert.Kernel3Ideal.Run.frame_main (F := Bits) m ρ)

/-- The feed-forward part's reference runs and leaves its arguments as they were; it has no semaphores. -/
theorem frame_reference3 : Cert.quiescent_Reference3Ideal := fun m ρ _ =>
  (θ_run Cert.Reference3Ideal.defs _ _).mono (fun r h => ⟨fun c => (h c).2.2, sem_eq_zero_of_no_sems rfl r.2⟩)
    (Cert.Reference3Ideal.Value.run (F := Ideal) m ρ)

/-- On any arguments the ideal feed-forward call and its reference end with the same two arrays. -/
theorem algebraic3 : Cert.algebraic_Kernel3Ideal_Reference3Ideal := fun m ρ m' ρ' _ hargs => by
  refine ⟨fun c => Cert.Kernel3Ideal.Run.outM m c, fun c => Cert.Kernel3Ideal.Run.stM m c,
    (θ_run Cert.Kernel3Ideal.defs _ _).mono (fun r h c => ⟨Cert.Kernel3Ideal.Run.out_eq m c r h.1, Cert.Kernel3Ideal.Run.st_eq m c r h.1, h.2.1 c⟩) (Cert.Kernel3Ideal.Run.run_main m ρ),
    (θ_run Cert.Reference3Ideal.defs _ _).mono (fun _ h c => ⟨(h c).1.trans ?_, (h c).2.1.trans ?_, (h c).2.2⟩) (Cert.Reference3Ideal.Value.run (F := Ideal) m' ρ')⟩
  · obtain ⟨h0, h1, h2, h3, h4, h5, h6, h7, h8, h9⟩ := hargs c
    refine (Cert.Reference3Ideal.Value.out_eq _ _ _ _ _ _ _ _ _ _).trans ?_
    rw [h0, h1, h2, h3, h4, h5, h6, h7, h8, h9]
    rfl
  · obtain ⟨h0, h1, h2, h3, h4, h5, h6, h7, h8, h9⟩ := hargs c
    refine (Cert.Reference3Ideal.Value.st_eq _ _ _ _ _).trans ?_
    rw [h0, h1, h2, h4, h5]
    rfl

/-- The stick-breaking projection as it is printed runs and leaves its arguments as they were: its text is the ideal call's. -/
theorem frame_kernel4 : Cert.quiescent_Kernel4 := fun m ρ _ => by
  rw [Cert.ProjSb.Same.defs_eq]
  exact (θ_run Cert.Kernel4Ideal.defs _ _).mono (fun _ h => h) (Cert.Kernel4Ideal.Run.frame_main (F := Bits) m ρ)

/-- The stick-breaking projection's reference runs and leaves its arguments as they were; it has no semaphores. -/
theorem frame_reference4 : Cert.quiescent_Reference4Ideal := fun m ρ _ =>
  (θ_run Cert.Reference4Ideal.defs _ _).mono (fun r h => ⟨fun c => (h c).2.2.2.2.2, sem_eq_zero_of_no_sems rfl r.2⟩)
    (Cert.Reference4Ideal.Value.run (F := Ideal) m ρ)

/-- On any arguments the ideal stick-breaking projection and its reference end with the same arrays. -/
theorem algebraic4 : Cert.algebraic_Kernel4Ideal_Reference4Ideal := fun m ρ m' ρ' _ hargs => by
  refine ⟨fun c => Cert.Kernel4Ideal.Run.out0 m c, fun c => Cert.Kernel4Ideal.Run.out1 m c, fun c => Cert.Kernel4Ideal.Run.out2 m c, fun c => Cert.Kernel4Ideal.Run.out3 m c, fun c => Cert.Kernel4Ideal.Run.out4 m c,
    (θ_run Cert.Kernel4Ideal.defs _ _).mono (fun r h c => ⟨Cert.Kernel4Ideal.Run.out0_eq m c r h.1, Cert.Kernel4Ideal.Run.out1_eq m c r h.1, Cert.Kernel4Ideal.Run.out2_eq m c r h.1, Cert.Kernel4Ideal.Run.out3_eq m c r h.1, Cert.Kernel4Ideal.Run.out4_eq m c r h.1, h.2.1 c⟩) (Cert.Kernel4Ideal.Run.run_main m ρ),
    (θ_run Cert.Reference4Ideal.defs _ _).mono (fun _ h c => ⟨(h c).1.trans ?_, (h c).2.1.trans ?_, (h c).2.2.1.trans ?_, (h c).2.2.2.1.trans ?_, (h c).2.2.2.2.1.trans ?_, (h c).2.2.2.2.2⟩) (Cert.Reference4Ideal.Value.run (F := Ideal) m' ρ')⟩
  · obtain ⟨h0, h1, h2, h3, h4⟩ := hargs c
    refine (Cert.Reference4Ideal.Value.res0_eq _ _ _ _ _).trans ?_
    rw [h0, h1, h2, h3, h4]
    rfl
  · obtain ⟨h0, h1, h2, h3, h4⟩ := hargs c
    refine (Cert.Reference4Ideal.Value.res1_eq _ _ _ _ _).trans ?_
    rw [h0, h1, h2, h3, h4]
    rfl
  · obtain ⟨h0, h1, h2, h3, h4⟩ := hargs c
    refine (Cert.Reference4Ideal.Value.res2_eq _ _ _ _ _).trans ?_
    rw [h0, h1, h2, h3, h4]
    rfl
  · obtain ⟨h0, h1, h2, h3, h4⟩ := hargs c
    refine (Cert.Reference4Ideal.Value.res3_eq _ _ _ _ _).trans ?_
    rw [h0, h1, h2, h3, h4]
    rfl
  · obtain ⟨h0, h1, h2, h3, h4⟩ := hargs c
    refine (Cert.Reference4Ideal.Value.res4_eq _ _ _ _ _).trans ?_
    rw [h0, h1, h2, h3, h4]
    rfl

/-- The sparse projection as it is printed runs and leaves its arguments as they were: its text is the ideal call's. -/
theorem frame_kernel5 : Cert.quiescent_Kernel5 := fun m ρ _ => by
  rw [Cert.ProjSa.Same.defs_eq]
  exact (θ_run Cert.Kernel5Ideal.defs _ _).mono (fun _ h => h) (Cert.Kernel5Ideal.Run.frame_main (F := Bits) m ρ)

/-- The sparse projection's reference runs and leaves its arguments as they were; it has no semaphores. -/
theorem frame_reference5 : Cert.quiescent_Reference5Ideal := fun m ρ _ =>
  (θ_run Cert.Reference5Ideal.defs _ _).mono (fun r h => ⟨fun c => (h c).2.2.2.2.2, sem_eq_zero_of_no_sems rfl r.2⟩)
    (Cert.Reference5Ideal.Value.run (F := Ideal) m ρ)

/-- On any arguments the ideal sparse projection and its reference end with the same arrays. -/
theorem algebraic5 : Cert.algebraic_Kernel5Ideal_Reference5Ideal := fun m ρ m' ρ' _ hargs => by
  refine ⟨fun c => Cert.Kernel5Ideal.Run.out0 m c, fun c => Cert.Kernel5Ideal.Run.out1 m c, fun c => Cert.Kernel5Ideal.Run.out2 m c, fun c => Cert.Kernel5Ideal.Run.out3 m c, fun c => Cert.Kernel5Ideal.Run.out4 m c,
    (θ_run Cert.Kernel5Ideal.defs _ _).mono (fun r h c => ⟨Cert.Kernel5Ideal.Run.out0_eq m c r h.1, Cert.Kernel5Ideal.Run.out1_eq m c r h.1, Cert.Kernel5Ideal.Run.out2_eq m c r h.1, Cert.Kernel5Ideal.Run.out3_eq m c r h.1, Cert.Kernel5Ideal.Run.out4_eq m c r h.1, h.2.1 c⟩) (Cert.Kernel5Ideal.Run.run_main m ρ),
    (θ_run Cert.Reference5Ideal.defs _ _).mono (fun _ h c => ⟨(h c).1.trans ?_, (h c).2.1.trans ?_, (h c).2.2.1.trans ?_, (h c).2.2.2.1.trans ?_, (h c).2.2.2.2.1.trans ?_, (h c).2.2.2.2.2⟩) (Cert.Reference5Ideal.Value.run (F := Ideal) m' ρ')⟩
  · obtain ⟨h0, h1, h2, h3, h4⟩ := hargs c
    refine (Cert.Reference5Ideal.Value.res0_eq _ _ _ _ _).trans ?_
    rw [h0, h1, h2, h3, h4]
    rfl
  · obtain ⟨h0, h1, h2, h3, h4⟩ := hargs c
    refine (Cert.Reference5Ideal.Value.res1_eq _ _ _ _ _).trans ?_
    rw [h0, h1, h2, h3, h4]
    rfl
  · obtain ⟨h0, h1, h2, h3, h4⟩ := hargs c
    refine (Cert.Reference5Ideal.Value.res2_eq _ _ _ _ _).trans ?_
    rw [h0, h1, h2, h3, h4]
    rfl
  · obtain ⟨h0, h1, h2, h3, h4⟩ := hargs c
    refine (Cert.Reference5Ideal.Value.res3_eq _ _ _ _ _).trans ?_
    rw [h0, h1, h2, h3, h4]
    rfl
  · obtain ⟨h0, h1, h2, h3, h4⟩ := hargs c
    refine (Cert.Reference5Ideal.Value.res4_eq _ _ _ _ _).trans ?_
    rw [h0, h1, h2, h3, h4]
    rfl

/-- The indexer projection as it is printed runs and leaves its arguments as they were: its text is the ideal call's. -/
theorem frame_kernel6 : Cert.quiescent_Kernel6 := fun m ρ _ => by
  rw [Cert.ProjIx.Same.defs_eq]
  exact (θ_run Cert.Kernel6Ideal.defs _ _).mono (fun _ h => h) (Cert.Kernel6Ideal.Run.frame_main (F := Bits) m ρ)

/-- The indexer projection's reference runs and leaves its arguments as they were; it has no semaphores. -/
theorem frame_reference6 : Cert.quiescent_Reference6Ideal := fun m ρ _ =>
  (θ_run Cert.Reference6Ideal.defs _ _).mono (fun r h => ⟨fun c => (h c).2.2.2.2, sem_eq_zero_of_no_sems rfl r.2⟩)
    (Cert.Reference6Ideal.Value.run (F := Ideal) m ρ)

/-- On any arguments the ideal indexer projection and its reference end with the same arrays. -/
theorem algebraic6 : Cert.algebraic_Kernel6Ideal_Reference6Ideal := fun m ρ m' ρ' _ hargs => by
  refine ⟨fun c => Cert.Kernel6Ideal.Run.out0 m c, fun c => Cert.Kernel6Ideal.Run.out1 m c, fun c => Cert.Kernel6Ideal.Run.out2 m c, fun c => Cert.Kernel6Ideal.Run.out3 m c,
    (θ_run Cert.Kernel6Ideal.defs _ _).mono (fun r h c => ⟨Cert.Kernel6Ideal.Run.out0_eq m c r h.1, Cert.Kernel6Ideal.Run.out1_eq m c r h.1, Cert.Kernel6Ideal.Run.out2_eq m c r h.1, Cert.Kernel6Ideal.Run.out3_eq m c r h.1, h.2.1 c⟩) (Cert.Kernel6Ideal.Run.run_main m ρ),
    (θ_run Cert.Reference6Ideal.defs _ _).mono (fun _ h c => ⟨(h c).1.trans ?_, (h c).2.1.trans ?_, (h c).2.2.1.trans ?_, (h c).2.2.2.1.trans ?_, (h c).2.2.2.2⟩) (Cert.Reference6Ideal.Value.run (F := Ideal) m' ρ')⟩
  · obtain ⟨h0, h1, h2, h3, h4⟩ := hargs c
    refine (Cert.Reference6Ideal.Value.res0_eq _ _ _ _ _).trans ?_
    rw [h0, h1, h2, h3, h4]
    rfl
  · obtain ⟨h0, h1, h2, h3, h4⟩ := hargs c
    refine (Cert.Reference6Ideal.Value.res1_eq _ _ _ _ _).trans ?_
    rw [h0, h1, h2, h3, h4]
    rfl
  · obtain ⟨h0, h1, h2, h3, h4⟩ := hargs c
    refine (Cert.Reference6Ideal.Value.res2_eq _ _ _ _ _).trans ?_
    rw [h0, h1, h2, h3, h4]
    rfl
  · obtain ⟨h0, h1, h2, h3, h4⟩ := hargs c
    refine (Cert.Reference6Ideal.Value.res3_eq _ _ _ _ _).trans ?_
    rw [h0, h1, h2, h3, h4]
    rfl

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite_qk.Gen.facts,
  fun m ρ _ => Cert.Kernel.Run.frame_main m ρ,
  fun m ρ _ => Cert.KernelIdeal.Run.frame_main m ρ,
  fun m ρ _ => Cert.KernelIdeal.Run.frame_main m ρ,
  frame_reference,
  fun m ρ _ => frame_reference m ρ trivial,
  fun m ρ _ => Cert.Kernel2.Gen.frame m ρ,
  fun m ρ _ => Cert.Kernel2Ideal.Gen.frame m ρ,
  frame_reference2,
  frame_kernel3,
  fun m ρ _ => Cert.Kernel3Ideal.Run.frame_main m ρ,
  frame_reference3,
  frame_kernel4,
  fun m ρ _ => Cert.Kernel4Ideal.Run.frame_main m ρ,
  frame_reference4,
  frame_kernel5,
  fun m ρ _ => Cert.Kernel5Ideal.Run.frame_main m ρ,
  frame_reference5,
  frame_kernel6,
  fun m ρ _ => Cert.Kernel6Ideal.Run.frame_main m ρ,
  frame_reference6,
  preserves,
  algebraic,
  trivial,
  algebraic2,
  trivial,
  algebraic3,
  trivial,
  algebraic4,
  trivial,
  algebraic5,
  trivial,
  algebraic6⟩

end Cert.Proof

end
